-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) (main_arg2 : FVec F S1024 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S100000x1024 : Shape := ⟨2, ![100000, 1024]⟩
abbrev S8x128 : Shape := ⟨2, ![8, 128]⟩
abbrev S1x1 : Shape := ⟨2, ![1, 1]⟩
abbrev S1024x128 : Shape := ⟨2, ![1024, 128]⟩
abbrev S_ : Shape := ⟨0, ![]⟩
abbrev S1 : Shape := ⟨1, ![1]⟩
abbrev S1x128 : Shape := ⟨2, ![1, 128]⟩
abbrev S8x128x128 : Shape := ⟨3, ![8, 128, 128]⟩
abbrev S1x8x128 : Shape := ⟨3, ![1, 8, 128]⟩
abbrev S1x1x1 : Shape := ⟨3, ![1, 1, 1]⟩

abbrev nBuf : Space → Nat
  | .hbm => 7
  | .vmem => 2
  | .smem => 2
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .f32⟩
  | .hbm, ⟨3, _⟩ => ⟨S100000x1024, .f32⟩
  | .hbm, ⟨4, _⟩ => ⟨S8x128, .f32⟩
  | .hbm, ⟨5, _⟩ => ⟨S1x1, .f32⟩
  | .hbm, ⟨6, _⟩ => ⟨S_, .f32⟩
  | .local _ .vmem, ⟨0, _⟩ => ⟨S8x128, .f32⟩
  | .local _ .vmem, ⟨1, _⟩ => ⟨S1024x128, .f32⟩
  | .local _ .smem, ⟨0, _⟩ => ⟨S1024, .i32⟩
  | .local _ .smem, ⟨1, _⟩ => ⟨S1x1, .f32⟩
  | _, _ => ⟨S1024x100000, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 (v0 : BitVec 32) : Fin 2 → Nat :=
  let c0_i32_1 : BitVec 32 := 0#32
  ![v0.toNat, 0]

def k0_chk1 (v0 : BitVec 32) : Prop :=
  (∀ a, (k0_off1 v0) a + S1x128.size a ≤ S100000x1024.size a)
theorem k0_off1_inb : ∀ (v0 : BitVec 32) (k0_hw1 : k0_chk1 v0), ∀ a, (k0_off1 v0) a + S1x128.size a ≤ S100000x1024.size a := fun v0 k0_hw1 => k0_hw1

def k0_off2 (v3 : BitVec 32) : Fin 2 → Nat :=
  let c0_i32_3 : BitVec 32 := 0#32
  ![v3.toNat, 0]

def k0_chk2 (v3 : BitVec 32) : Prop :=
  (∀ a, (k0_off2 v3) a + S1x128.size a ≤ S100000x1024.size a)
theorem k0_off2_inb : ∀ (v3 : BitVec 32) (k0_hw2 : k0_chk2 v3), ∀ a, (k0_off2 v3) a + S1x128.size a ≤ S100000x1024.size a := fun v3 k0_hw2 => k0_hw2

def k0_off3 (v6 : BitVec 32) : Fin 2 → Nat :=
  let c0_i32_5 : BitVec 32 := 0#32
  ![v6.toNat, 0]

def k0_chk3 (v6 : BitVec 32) : Prop :=
  (∀ a, (k0_off3 v6) a + S1x128.size a ≤ S100000x1024.size a)
theorem k0_off3_inb : ∀ (v6 : BitVec 32) (k0_hw3 : k0_chk3 v6), ∀ a, (k0_off3 v6) a + S1x128.size a ≤ S100000x1024.size a := fun v6 k0_hw3 => k0_hw3

def k0_off4 (v9 : BitVec 32) : Fin 2 → Nat :=
  let c0_i32_7 : BitVec 32 := 0#32
  ![v9.toNat, 0]

def k0_chk4 (v9 : BitVec 32) : Prop :=
  (∀ a, (k0_off4 v9) a + S1x128.size a ≤ S100000x1024.size a)
theorem k0_off4_inb : ∀ (v9 : BitVec 32) (k0_hw4 : k0_chk4 v9), ∀ a, (k0_off4 v9) a + S1x128.size a ≤ S100000x1024.size a := fun v9 k0_hw4 => k0_hw4

def k0_off5 (v12 : BitVec 32) : Fin 2 → Nat :=
  let c0_i32_9 : BitVec 32 := 0#32
  ![v12.toNat, 0]

def k0_chk5 (v12 : BitVec 32) : Prop :=
  (∀ a, (k0_off5 v12) a + S1x128.size a ≤ S100000x1024.size a)
theorem k0_off5_inb : ∀ (v12 : BitVec 32) (k0_hw5 : k0_chk5 v12), ∀ a, (k0_off5 v12) a + S1x128.size a ≤ S100000x1024.size a := fun v12 k0_hw5 => k0_hw5

def k0_off6 (v15 : BitVec 32) : Fin 2 → Nat :=
  let c0_i32_11 : BitVec 32 := 0#32
  ![v15.toNat, 0]

def k0_chk6 (v15 : BitVec 32) : Prop :=
  (∀ a, (k0_off6 v15) a + S1x128.size a ≤ S100000x1024.size a)
theorem k0_off6_inb : ∀ (v15 : BitVec 32) (k0_hw6 : k0_chk6 v15), ∀ a, (k0_off6 v15) a + S1x128.size a ≤ S100000x1024.size a := fun v15 k0_hw6 => k0_hw6

def k0_off7 (v18 : BitVec 32) : Fin 2 → Nat :=
  let c0_i32_13 : BitVec 32 := 0#32
  ![v18.toNat, 0]

def k0_chk7 (v18 : BitVec 32) : Prop :=
  (∀ a, (k0_off7 v18) a + S1x128.size a ≤ S100000x1024.size a)
theorem k0_off7_inb : ∀ (v18 : BitVec 32) (k0_hw7 : k0_chk7 v18), ∀ a, (k0_off7 v18) a + S1x128.size a ≤ S100000x1024.size a := fun v18 k0_hw7 => k0_hw7

def k0_off8 (v21 : BitVec 32) : Fin 2 → Nat :=
  let c0_i32_15 : BitVec 32 := 0#32
  ![v21.toNat, 0]

def k0_chk8 (v21 : BitVec 32) : Prop :=
  (∀ a, (k0_off8 v21) a + S1x128.size a ≤ S100000x1024.size a)
theorem k0_off8_inb : ∀ (v21 : BitVec 32) (k0_hw8 : k0_chk8 v21), ∀ a, (k0_off8 v21) a + S1x128.size a ≤ S100000x1024.size a := fun v21 k0_hw8 => k0_hw8

def k0_off9 (v24 : BitVec 32) : Fin 2 → Nat :=
  let c0_i32_17 : BitVec 32 := 0#32
  ![v24.toNat, 0]

def k0_chk9 (v24 : BitVec 32) : Prop :=
  (∀ a, (k0_off9 v24) a + S1x128.size a ≤ S100000x1024.size a)
theorem k0_off9_inb : ∀ (v24 : BitVec 32) (k0_hw9 : k0_chk9 v24), ∀ a, (k0_off9 v24) a + S1x128.size a ≤ S100000x1024.size a := fun v24 k0_hw9 => k0_hw9

def k0_off10 (v27 : BitVec 32) : Fin 2 → Nat :=
  let c0_i32_19 : BitVec 32 := 0#32
  ![v27.toNat, 0]

def k0_chk10 (v27 : BitVec 32) : Prop :=
  (∀ a, (k0_off10 v27) a + S1x128.size a ≤ S100000x1024.size a)
theorem k0_off10_inb : ∀ (v27 : BitVec 32) (k0_hw10 : k0_chk10 v27), ∀ a, (k0_off10 v27) a + S1x128.size a ≤ S100000x1024.size a := fun v27 k0_hw10 => k0_hw10

def k0_off11 (v30 : BitVec 32) : Fin 2 → Nat :=
  let c0_i32_21 : BitVec 32 := 0#32
  ![v30.toNat, 0]

def k0_chk11 (v30 : BitVec 32) : Prop :=
  (∀ a, (k0_off11 v30) a + S1x128.size a ≤ S100000x1024.size a)
theorem k0_off11_inb : ∀ (v30 : BitVec 32) (k0_hw11 : k0_chk11 v30), ∀ a, (k0_off11 v30) a + S1x128.size a ≤ S100000x1024.size a := fun v30 k0_hw11 => k0_hw11

def k0_off12 (v33 : BitVec 32) : Fin 2 → Nat :=
  let c0_i32_23 : BitVec 32 := 0#32
  ![v33.toNat, 0]

def k0_chk12 (v33 : BitVec 32) : Prop :=
  (∀ a, (k0_off12 v33) a + S1x128.size a ≤ S100000x1024.size a)
theorem k0_off12_inb : ∀ (v33 : BitVec 32) (k0_hw12 : k0_chk12 v33), ∀ a, (k0_off12 v33) a + S1x128.size a ≤ S100000x1024.size a := fun v33 k0_hw12 => k0_hw12

def k0_off13 (v36 : BitVec 32) : Fin 2 → Nat :=
  let c0_i32_25 : BitVec 32 := 0#32
  ![v36.toNat, 0]

def k0_chk13 (v36 : BitVec 32) : Prop :=
  (∀ a, (k0_off13 v36) a + S1x128.size a ≤ S100000x1024.size a)
theorem k0_off13_inb : ∀ (v36 : BitVec 32) (k0_hw13 : k0_chk13 v36), ∀ a, (k0_off13 v36) a + S1x128.size a ≤ S100000x1024.size a := fun v36 k0_hw13 => k0_hw13

def k0_off14 (v39 : BitVec 32) : Fin 2 → Nat :=
  let c0_i32_27 : BitVec 32 := 0#32
  ![v39.toNat, 0]

def k0_chk14 (v39 : BitVec 32) : Prop :=
  (∀ a, (k0_off14 v39) a + S1x128.size a ≤ S100000x1024.size a)
theorem k0_off14_inb : ∀ (v39 : BitVec 32) (k0_hw14 : k0_chk14 v39), ∀ a, (k0_off14 v39) a + S1x128.size a ≤ S100000x1024.size a := fun v39 k0_hw14 => k0_hw14

def k0_off15 (v42 : BitVec 32) : Fin 2 → Nat :=
  let c0_i32_29 : BitVec 32 := 0#32
  ![v42.toNat, 0]

def k0_chk15 (v42 : BitVec 32) : Prop :=
  (∀ a, (k0_off15 v42) a + S1x128.size a ≤ S100000x1024.size a)
theorem k0_off15_inb : ∀ (v42 : BitVec 32) (k0_hw15 : k0_chk15 v42), ∀ a, (k0_off15 v42) a + S1x128.size a ≤ S100000x1024.size a := fun v42 k0_hw15 => k0_hw15

def k0_off16 (v45 : BitVec 32) : Fin 2 → Nat :=
  let c0_i32_31 : BitVec 32 := 0#32
  ![v45.toNat, 0]

def k0_chk16 (v45 : BitVec 32) : Prop :=
  (∀ a, (k0_off16 v45) a + S1x128.size a ≤ S100000x1024.size a)
theorem k0_off16_inb : ∀ (v45 : BitVec 32) (k0_hw16 : k0_chk16 v45), ∀ a, (k0_off16 v45) a + S1x128.size a ≤ S100000x1024.size a := fun v45 k0_hw16 => k0_hw16

def k0_off17 (v48 : BitVec 32) : Fin 2 → Nat :=
  let c0_i32_33 : BitVec 32 := 0#32
  ![v48.toNat, 0]

def k0_chk17 (v48 : BitVec 32) : Prop :=
  (∀ a, (k0_off17 v48) a + S1x128.size a ≤ S100000x1024.size a)
theorem k0_off17_inb : ∀ (v48 : BitVec 32) (k0_hw17 : k0_chk17 v48), ∀ a, (k0_off17 v48) a + S1x128.size a ≤ S100000x1024.size a := fun v48 k0_hw17 => k0_hw17

def k0_off18 (v51 : BitVec 32) : Fin 2 → Nat :=
  let c0_i32_35 : BitVec 32 := 0#32
  ![v51.toNat, 0]

def k0_chk18 (v51 : BitVec 32) : Prop :=
  (∀ a, (k0_off18 v51) a + S1x128.size a ≤ S100000x1024.size a)
theorem k0_off18_inb : ∀ (v51 : BitVec 32) (k0_hw18 : k0_chk18 v51), ∀ a, (k0_off18 v51) a + S1x128.size a ≤ S100000x1024.size a := fun v51 k0_hw18 => k0_hw18

def k0_off19 (v54 : BitVec 32) : Fin 2 → Nat :=
  let c0_i32_37 : BitVec 32 := 0#32
  ![v54.toNat, 0]

def k0_chk19 (v54 : BitVec 32) : Prop :=
  (∀ a, (k0_off19 v54) a + S1x128.size a ≤ S100000x1024.size a)
theorem k0_off19_inb : ∀ (v54 : BitVec 32) (k0_hw19 : k0_chk19 v54), ∀ a, (k0_off19 v54) a + S1x128.size a ≤ S100000x1024.size a := fun v54 k0_hw19 => k0_hw19

def k0_off20 (v57 : BitVec 32) : Fin 2 → Nat :=
  let c0_i32_39 : BitVec 32 := 0#32
  ![v57.toNat, 0]

def k0_chk20 (v57 : BitVec 32) : Prop :=
  (∀ a, (k0_off20 v57) a + S1x128.size a ≤ S100000x1024.size a)
theorem k0_off20_inb : ∀ (v57 : BitVec 32) (k0_hw20 : k0_chk20 v57), ∀ a, (k0_off20 v57) a + S1x128.size a ≤ S100000x1024.size a := fun v57 k0_hw20 => k0_hw20

def k0_off21 (v60 : BitVec 32) : Fin 2 → Nat :=
  let c0_i32_41 : BitVec 32 := 0#32
  ![v60.toNat, 0]

def k0_chk21 (v60 : BitVec 32) : Prop :=
  (∀ a, (k0_off21 v60) a + S1x128.size a ≤ S100000x1024.size a)
theorem k0_off21_inb : ∀ (v60 : BitVec 32) (k0_hw21 : k0_chk21 v60), ∀ a, (k0_off21 v60) a + S1x128.size a ≤ S100000x1024.size a := fun v60 k0_hw21 => k0_hw21

def k0_off22 (v63 : BitVec 32) : Fin 2 → Nat :=
  let c0_i32_43 : BitVec 32 := 0#32
  ![v63.toNat, 0]

def k0_chk22 (v63 : BitVec 32) : Prop :=
  (∀ a, (k0_off22 v63) a + S1x128.size a ≤ S100000x1024.size a)
theorem k0_off22_inb : ∀ (v63 : BitVec 32) (k0_hw22 : k0_chk22 v63), ∀ a, (k0_off22 v63) a + S1x128.size a ≤ S100000x1024.size a := fun v63 k0_hw22 => k0_hw22

def k0_off23 (v66 : BitVec 32) : Fin 2 → Nat :=
  let c0_i32_45 : BitVec 32 := 0#32
  ![v66.toNat, 0]

def k0_chk23 (v66 : BitVec 32) : Prop :=
  (∀ a, (k0_off23 v66) a + S1x128.size a ≤ S100000x1024.size a)
theorem k0_off23_inb : ∀ (v66 : BitVec 32) (k0_hw23 : k0_chk23 v66), ∀ a, (k0_off23 v66) a + S1x128.size a ≤ S100000x1024.size a := fun v66 k0_hw23 => k0_hw23

def k0_off24 (v69 : BitVec 32) : Fin 2 → Nat :=
  let c0_i32_47 : BitVec 32 := 0#32
  ![v69.toNat, 0]

def k0_chk24 (v69 : BitVec 32) : Prop :=
  (∀ a, (k0_off24 v69) a + S1x128.size a ≤ S100000x1024.size a)
theorem k0_off24_inb : ∀ (v69 : BitVec 32) (k0_hw24 : k0_chk24 v69), ∀ a, (k0_off24 v69) a + S1x128.size a ≤ S100000x1024.size a := fun v69 k0_hw24 => k0_hw24

def k0_off25 (v72 : BitVec 32) : Fin 2 → Nat :=
  let c0_i32_49 : BitVec 32 := 0#32
  ![v72.toNat, 0]

def k0_chk25 (v72 : BitVec 32) : Prop :=
  (∀ a, (k0_off25 v72) a + S1x128.size a ≤ S100000x1024.size a)
theorem k0_off25_inb : ∀ (v72 : BitVec 32) (k0_hw25 : k0_chk25 v72), ∀ a, (k0_off25 v72) a + S1x128.size a ≤ S100000x1024.size a := fun v72 k0_hw25 => k0_hw25

def k0_off26 (v75 : BitVec 32) : Fin 2 → Nat :=
  let c0_i32_51 : BitVec 32 := 0#32
  ![v75.toNat, 0]

def k0_chk26 (v75 : BitVec 32) : Prop :=
  (∀ a, (k0_off26 v75) a + S1x128.size a ≤ S100000x1024.size a)
theorem k0_off26_inb : ∀ (v75 : BitVec 32) (k0_hw26 : k0_chk26 v75), ∀ a, (k0_off26 v75) a + S1x128.size a ≤ S100000x1024.size a := fun v75 k0_hw26 => k0_hw26

def k0_off27 (v78 : BitVec 32) : Fin 2 → Nat :=
  let c0_i32_53 : BitVec 32 := 0#32
  ![v78.toNat, 0]

def k0_chk27 (v78 : BitVec 32) : Prop :=
  (∀ a, (k0_off27 v78) a + S1x128.size a ≤ S100000x1024.size a)
theorem k0_off27_inb : ∀ (v78 : BitVec 32) (k0_hw27 : k0_chk27 v78), ∀ a, (k0_off27 v78) a + S1x128.size a ≤ S100000x1024.size a := fun v78 k0_hw27 => k0_hw27

def k0_off28 (v81 : BitVec 32) : Fin 2 → Nat :=
  let c0_i32_55 : BitVec 32 := 0#32
  ![v81.toNat, 0]

def k0_chk28 (v81 : BitVec 32) : Prop :=
  (∀ a, (k0_off28 v81) a + S1x128.size a ≤ S100000x1024.size a)
theorem k0_off28_inb : ∀ (v81 : BitVec 32) (k0_hw28 : k0_chk28 v81), ∀ a, (k0_off28 v81) a + S1x128.size a ≤ S100000x1024.size a := fun v81 k0_hw28 => k0_hw28

def k0_off29 (v84 : BitVec 32) : Fin 2 → Nat :=
  let c0_i32_57 : BitVec 32 := 0#32
  ![v84.toNat, 0]

def k0_chk29 (v84 : BitVec 32) : Prop :=
  (∀ a, (k0_off29 v84) a + S1x128.size a ≤ S100000x1024.size a)
theorem k0_off29_inb : ∀ (v84 : BitVec 32) (k0_hw29 : k0_chk29 v84), ∀ a, (k0_off29 v84) a + S1x128.size a ≤ S100000x1024.size a := fun v84 k0_hw29 => k0_hw29

def k0_off30 (v87 : BitVec 32) : Fin 2 → Nat :=
  let c0_i32_59 : BitVec 32 := 0#32
  ![v87.toNat, 0]

def k0_chk30 (v87 : BitVec 32) : Prop :=
  (∀ a, (k0_off30 v87) a + S1x128.size a ≤ S100000x1024.size a)
theorem k0_off30_inb : ∀ (v87 : BitVec 32) (k0_hw30 : k0_chk30 v87), ∀ a, (k0_off30 v87) a + S1x128.size a ≤ S100000x1024.size a := fun v87 k0_hw30 => k0_hw30

def k0_off31 (v90 : BitVec 32) : Fin 2 → Nat :=
  let c0_i32_61 : BitVec 32 := 0#32
  ![v90.toNat, 0]

def k0_chk31 (v90 : BitVec 32) : Prop :=
  (∀ a, (k0_off31 v90) a + S1x128.size a ≤ S100000x1024.size a)
theorem k0_off31_inb : ∀ (v90 : BitVec 32) (k0_hw31 : k0_chk31 v90), ∀ a, (k0_off31 v90) a + S1x128.size a ≤ S100000x1024.size a := fun v90 k0_hw31 => k0_hw31

def k0_off32 (v93 : BitVec 32) : Fin 2 → Nat :=
  let c0_i32_63 : BitVec 32 := 0#32
  ![v93.toNat, 0]

def k0_chk32 (v93 : BitVec 32) : Prop :=
  (∀ a, (k0_off32 v93) a + S1x128.size a ≤ S100000x1024.size a)
theorem k0_off32_inb : ∀ (v93 : BitVec 32) (k0_hw32 : k0_chk32 v93), ∀ a, (k0_off32 v93) a + S1x128.size a ≤ S100000x1024.size a := fun v93 k0_hw32 => k0_hw32

def k0_off33 (v96 : BitVec 32) : Fin 2 → Nat :=
  let c0_i32_65 : BitVec 32 := 0#32
  ![v96.toNat, 0]

def k0_chk33 (v96 : BitVec 32) : Prop :=
  (∀ a, (k0_off33 v96) a + S1x128.size a ≤ S100000x1024.size a)
theorem k0_off33_inb : ∀ (v96 : BitVec 32) (k0_hw33 : k0_chk33 v96), ∀ a, (k0_off33 v96) a + S1x128.size a ≤ S100000x1024.size a := fun v96 k0_hw33 => k0_hw33

def k0_off34 (v99 : BitVec 32) : Fin 2 → Nat :=
  let c0_i32_67 : BitVec 32 := 0#32
  ![v99.toNat, 0]

def k0_chk34 (v99 : BitVec 32) : Prop :=
  (∀ a, (k0_off34 v99) a + S1x128.size a ≤ S100000x1024.size a)
theorem k0_off34_inb : ∀ (v99 : BitVec 32) (k0_hw34 : k0_chk34 v99), ∀ a, (k0_off34 v99) a + S1x128.size a ≤ S100000x1024.size a := fun v99 k0_hw34 => k0_hw34

def k0_off35 (v102 : BitVec 32) : Fin 2 → Nat :=
  let c0_i32_69 : BitVec 32 := 0#32
  ![v102.toNat, 0]

def k0_chk35 (v102 : BitVec 32) : Prop :=
  (∀ a, (k0_off35 v102) a + S1x128.size a ≤ S100000x1024.size a)
theorem k0_off35_inb : ∀ (v102 : BitVec 32) (k0_hw35 : k0_chk35 v102), ∀ a, (k0_off35 v102) a + S1x128.size a ≤ S100000x1024.size a := fun v102 k0_hw35 => k0_hw35

def k0_off36 (v105 : BitVec 32) : Fin 2 → Nat :=
  let c0_i32_71 : BitVec 32 := 0#32
  ![v105.toNat, 0]

def k0_chk36 (v105 : BitVec 32) : Prop :=
  (∀ a, (k0_off36 v105) a + S1x128.size a ≤ S100000x1024.size a)
theorem k0_off36_inb : ∀ (v105 : BitVec 32) (k0_hw36 : k0_chk36 v105), ∀ a, (k0_off36 v105) a + S1x128.size a ≤ S100000x1024.size a := fun v105 k0_hw36 => k0_hw36

def k0_off37 (v108 : BitVec 32) : Fin 2 → Nat :=
  let c0_i32_73 : BitVec 32 := 0#32
  ![v108.toNat, 0]

def k0_chk37 (v108 : BitVec 32) : Prop :=
  (∀ a, (k0_off37 v108) a + S1x128.size a ≤ S100000x1024.size a)
theorem k0_off37_inb : ∀ (v108 : BitVec 32) (k0_hw37 : k0_chk37 v108), ∀ a, (k0_off37 v108) a + S1x128.size a ≤ S100000x1024.size a := fun v108 k0_hw37 => k0_hw37

def k0_off38 (v111 : BitVec 32) : Fin 2 → Nat :=
  let c0_i32_75 : BitVec 32 := 0#32
  ![v111.toNat, 0]

def k0_chk38 (v111 : BitVec 32) : Prop :=
  (∀ a, (k0_off38 v111) a + S1x128.size a ≤ S100000x1024.size a)
theorem k0_off38_inb : ∀ (v111 : BitVec 32) (k0_hw38 : k0_chk38 v111), ∀ a, (k0_off38 v111) a + S1x128.size a ≤ S100000x1024.size a := fun v111 k0_hw38 => k0_hw38

def k0_off39 (v114 : BitVec 32) : Fin 2 → Nat :=
  let c0_i32_77 : BitVec 32 := 0#32
  ![v114.toNat, 0]

def k0_chk39 (v114 : BitVec 32) : Prop :=
  (∀ a, (k0_off39 v114) a + S1x128.size a ≤ S100000x1024.size a)
theorem k0_off39_inb : ∀ (v114 : BitVec 32) (k0_hw39 : k0_chk39 v114), ∀ a, (k0_off39 v114) a + S1x128.size a ≤ S100000x1024.size a := fun v114 k0_hw39 => k0_hw39

def k0_off40 (v117 : BitVec 32) : Fin 2 → Nat :=
  let c0_i32_79 : BitVec 32 := 0#32
  ![v117.toNat, 0]

def k0_chk40 (v117 : BitVec 32) : Prop :=
  (∀ a, (k0_off40 v117) a + S1x128.size a ≤ S100000x1024.size a)
theorem k0_off40_inb : ∀ (v117 : BitVec 32) (k0_hw40 : k0_chk40 v117), ∀ a, (k0_off40 v117) a + S1x128.size a ≤ S100000x1024.size a := fun v117 k0_hw40 => k0_hw40

def k0_off41 (v120 : BitVec 32) : Fin 2 → Nat :=
  let c0_i32_81 : BitVec 32 := 0#32
  ![v120.toNat, 0]

def k0_chk41 (v120 : BitVec 32) : Prop :=
  (∀ a, (k0_off41 v120) a + S1x128.size a ≤ S100000x1024.size a)
theorem k0_off41_inb : ∀ (v120 : BitVec 32) (k0_hw41 : k0_chk41 v120), ∀ a, (k0_off41 v120) a + S1x128.size a ≤ S100000x1024.size a := fun v120 k0_hw41 => k0_hw41

def k0_off42 (v123 : BitVec 32) : Fin 2 → Nat :=
  let c0_i32_83 : BitVec 32 := 0#32
  ![v123.toNat, 0]

def k0_chk42 (v123 : BitVec 32) : Prop :=
  (∀ a, (k0_off42 v123) a + S1x128.size a ≤ S100000x1024.size a)
theorem k0_off42_inb : ∀ (v123 : BitVec 32) (k0_hw42 : k0_chk42 v123), ∀ a, (k0_off42 v123) a + S1x128.size a ≤ S100000x1024.size a := fun v123 k0_hw42 => k0_hw42

def k0_off43 (v126 : BitVec 32) : Fin 2 → Nat :=
  let c0_i32_85 : BitVec 32 := 0#32
  ![v126.toNat, 0]

def k0_chk43 (v126 : BitVec 32) : Prop :=
  (∀ a, (k0_off43 v126) a + S1x128.size a ≤ S100000x1024.size a)
theorem k0_off43_inb : ∀ (v126 : BitVec 32) (k0_hw43 : k0_chk43 v126), ∀ a, (k0_off43 v126) a + S1x128.size a ≤ S100000x1024.size a := fun v126 k0_hw43 => k0_hw43

def k0_off44 (v129 : BitVec 32) : Fin 2 → Nat :=
  let c0_i32_87 : BitVec 32 := 0#32
  ![v129.toNat, 0]

def k0_chk44 (v129 : BitVec 32) : Prop :=
  (∀ a, (k0_off44 v129) a + S1x128.size a ≤ S100000x1024.size a)
theorem k0_off44_inb : ∀ (v129 : BitVec 32) (k0_hw44 : k0_chk44 v129), ∀ a, (k0_off44 v129) a + S1x128.size a ≤ S100000x1024.size a := fun v129 k0_hw44 => k0_hw44

def k0_off45 (v132 : BitVec 32) : Fin 2 → Nat :=
  let c0_i32_89 : BitVec 32 := 0#32
  ![v132.toNat, 0]

def k0_chk45 (v132 : BitVec 32) : Prop :=
  (∀ a, (k0_off45 v132) a + S1x128.size a ≤ S100000x1024.size a)
theorem k0_off45_inb : ∀ (v132 : BitVec 32) (k0_hw45 : k0_chk45 v132), ∀ a, (k0_off45 v132) a + S1x128.size a ≤ S100000x1024.size a := fun v132 k0_hw45 => k0_hw45

def k0_off46 (v135 : BitVec 32) : Fin 2 → Nat :=
  let c0_i32_91 : BitVec 32 := 0#32
  ![v135.toNat, 0]

def k0_chk46 (v135 : BitVec 32) : Prop :=
  (∀ a, (k0_off46 v135) a + S1x128.size a ≤ S100000x1024.size a)
theorem k0_off46_inb : ∀ (v135 : BitVec 32) (k0_hw46 : k0_chk46 v135), ∀ a, (k0_off46 v135) a + S1x128.size a ≤ S100000x1024.size a := fun v135 k0_hw46 => k0_hw46

def k0_off47 (v138 : BitVec 32) : Fin 2 → Nat :=
  let c0_i32_93 : BitVec 32 := 0#32
  ![v138.toNat, 0]

def k0_chk47 (v138 : BitVec 32) : Prop :=
  (∀ a, (k0_off47 v138) a + S1x128.size a ≤ S100000x1024.size a)
theorem k0_off47_inb : ∀ (v138 : BitVec 32) (k0_hw47 : k0_chk47 v138), ∀ a, (k0_off47 v138) a + S1x128.size a ≤ S100000x1024.size a := fun v138 k0_hw47 => k0_hw47

def k0_off48 (v141 : BitVec 32) : Fin 2 → Nat :=
  let c0_i32_95 : BitVec 32 := 0#32
  ![v141.toNat, 0]

def k0_chk48 (v141 : BitVec 32) : Prop :=
  (∀ a, (k0_off48 v141) a + S1x128.size a ≤ S100000x1024.size a)
theorem k0_off48_inb : ∀ (v141 : BitVec 32) (k0_hw48 : k0_chk48 v141), ∀ a, (k0_off48 v141) a + S1x128.size a ≤ S100000x1024.size a := fun v141 k0_hw48 => k0_hw48

def k0_off49 (v144 : BitVec 32) : Fin 2 → Nat :=
  let c0_i32_97 : BitVec 32 := 0#32
  ![v144.toNat, 0]

def k0_chk49 (v144 : BitVec 32) : Prop :=
  (∀ a, (k0_off49 v144) a + S1x128.size a ≤ S100000x1024.size a)
theorem k0_off49_inb : ∀ (v144 : BitVec 32) (k0_hw49 : k0_chk49 v144), ∀ a, (k0_off49 v144) a + S1x128.size a ≤ S100000x1024.size a := fun v144 k0_hw49 => k0_hw49

def k0_off50 (v147 : BitVec 32) : Fin 2 → Nat :=
  let c0_i32_99 : BitVec 32 := 0#32
  ![v147.toNat, 0]

def k0_chk50 (v147 : BitVec 32) : Prop :=
  (∀ a, (k0_off50 v147) a + S1x128.size a ≤ S100000x1024.size a)
theorem k0_off50_inb : ∀ (v147 : BitVec 32) (k0_hw50 : k0_chk50 v147), ∀ a, (k0_off50 v147) a + S1x128.size a ≤ S100000x1024.size a := fun v147 k0_hw50 => k0_hw50

def k0_off51 (v150 : BitVec 32) : Fin 2 → Nat :=
  let c0_i32_101 : BitVec 32 := 0#32
  ![v150.toNat, 0]

def k0_chk51 (v150 : BitVec 32) : Prop :=
  (∀ a, (k0_off51 v150) a + S1x128.size a ≤ S100000x1024.size a)
theorem k0_off51_inb : ∀ (v150 : BitVec 32) (k0_hw51 : k0_chk51 v150), ∀ a, (k0_off51 v150) a + S1x128.size a ≤ S100000x1024.size a := fun v150 k0_hw51 => k0_hw51

def k0_off52 (v153 : BitVec 32) : Fin 2 → Nat :=
  let c0_i32_103 : BitVec 32 := 0#32
  ![v153.toNat, 0]

def k0_chk52 (v153 : BitVec 32) : Prop :=
  (∀ a, (k0_off52 v153) a + S1x128.size a ≤ S100000x1024.size a)
theorem k0_off52_inb : ∀ (v153 : BitVec 32) (k0_hw52 : k0_chk52 v153), ∀ a, (k0_off52 v153) a + S1x128.size a ≤ S100000x1024.size a := fun v153 k0_hw52 => k0_hw52

def k0_off53 (v156 : BitVec 32) : Fin 2 → Nat :=
  let c0_i32_105 : BitVec 32 := 0#32
  ![v156.toNat, 0]

def k0_chk53 (v156 : BitVec 32) : Prop :=
  (∀ a, (k0_off53 v156) a + S1x128.size a ≤ S100000x1024.size a)
theorem k0_off53_inb : ∀ (v156 : BitVec 32) (k0_hw53 : k0_chk53 v156), ∀ a, (k0_off53 v156) a + S1x128.size a ≤ S100000x1024.size a := fun v156 k0_hw53 => k0_hw53

def k0_off54 (v159 : BitVec 32) : Fin 2 → Nat :=
  let c0_i32_107 : BitVec 32 := 0#32
  ![v159.toNat, 0]

def k0_chk54 (v159 : BitVec 32) : Prop :=
  (∀ a, (k0_off54 v159) a + S1x128.size a ≤ S100000x1024.size a)
theorem k0_off54_inb : ∀ (v159 : BitVec 32) (k0_hw54 : k0_chk54 v159), ∀ a, (k0_off54 v159) a + S1x128.size a ≤ S100000x1024.size a := fun v159 k0_hw54 => k0_hw54

def k0_off55 (v162 : BitVec 32) : Fin 2 → Nat :=
  let c0_i32_109 : BitVec 32 := 0#32
  ![v162.toNat, 0]

def k0_chk55 (v162 : BitVec 32) : Prop :=
  (∀ a, (k0_off55 v162) a + S1x128.size a ≤ S100000x1024.size a)
theorem k0_off55_inb : ∀ (v162 : BitVec 32) (k0_hw55 : k0_chk55 v162), ∀ a, (k0_off55 v162) a + S1x128.size a ≤ S100000x1024.size a := fun v162 k0_hw55 => k0_hw55

def k0_off56 (v165 : BitVec 32) : Fin 2 → Nat :=
  let c0_i32_111 : BitVec 32 := 0#32
  ![v165.toNat, 0]

def k0_chk56 (v165 : BitVec 32) : Prop :=
  (∀ a, (k0_off56 v165) a + S1x128.size a ≤ S100000x1024.size a)
theorem k0_off56_inb : ∀ (v165 : BitVec 32) (k0_hw56 : k0_chk56 v165), ∀ a, (k0_off56 v165) a + S1x128.size a ≤ S100000x1024.size a := fun v165 k0_hw56 => k0_hw56

def k0_off57 (v168 : BitVec 32) : Fin 2 → Nat :=
  let c0_i32_113 : BitVec 32 := 0#32
  ![v168.toNat, 0]

def k0_chk57 (v168 : BitVec 32) : Prop :=
  (∀ a, (k0_off57 v168) a + S1x128.size a ≤ S100000x1024.size a)
theorem k0_off57_inb : ∀ (v168 : BitVec 32) (k0_hw57 : k0_chk57 v168), ∀ a, (k0_off57 v168) a + S1x128.size a ≤ S100000x1024.size a := fun v168 k0_hw57 => k0_hw57

def k0_off58 (v171 : BitVec 32) : Fin 2 → Nat :=
  let c0_i32_115 : BitVec 32 := 0#32
  ![v171.toNat, 0]

def k0_chk58 (v171 : BitVec 32) : Prop :=
  (∀ a, (k0_off58 v171) a + S1x128.size a ≤ S100000x1024.size a)
theorem k0_off58_inb : ∀ (v171 : BitVec 32) (k0_hw58 : k0_chk58 v171), ∀ a, (k0_off58 v171) a + S1x128.size a ≤ S100000x1024.size a := fun v171 k0_hw58 => k0_hw58

def k0_off59 (v174 : BitVec 32) : Fin 2 → Nat :=
  let c0_i32_117 : BitVec 32 := 0#32
  ![v174.toNat, 0]

def k0_chk59 (v174 : BitVec 32) : Prop :=
  (∀ a, (k0_off59 v174) a + S1x128.size a ≤ S100000x1024.size a)
theorem k0_off59_inb : ∀ (v174 : BitVec 32) (k0_hw59 : k0_chk59 v174), ∀ a, (k0_off59 v174) a + S1x128.size a ≤ S100000x1024.size a := fun v174 k0_hw59 => k0_hw59

def k0_off60 (v177 : BitVec 32) : Fin 2 → Nat :=
  let c0_i32_119 : BitVec 32 := 0#32
  ![v177.toNat, 0]

def k0_chk60 (v177 : BitVec 32) : Prop :=
  (∀ a, (k0_off60 v177) a + S1x128.size a ≤ S100000x1024.size a)
theorem k0_off60_inb : ∀ (v177 : BitVec 32) (k0_hw60 : k0_chk60 v177), ∀ a, (k0_off60 v177) a + S1x128.size a ≤ S100000x1024.size a := fun v177 k0_hw60 => k0_hw60

def k0_off61 (v180 : BitVec 32) : Fin 2 → Nat :=
  let c0_i32_121 : BitVec 32 := 0#32
  ![v180.toNat, 0]

def k0_chk61 (v180 : BitVec 32) : Prop :=
  (∀ a, (k0_off61 v180) a + S1x128.size a ≤ S100000x1024.size a)
theorem k0_off61_inb : ∀ (v180 : BitVec 32) (k0_hw61 : k0_chk61 v180), ∀ a, (k0_off61 v180) a + S1x128.size a ≤ S100000x1024.size a := fun v180 k0_hw61 => k0_hw61

def k0_off62 (v183 : BitVec 32) : Fin 2 → Nat :=
  let c0_i32_123 : BitVec 32 := 0#32
  ![v183.toNat, 0]

def k0_chk62 (v183 : BitVec 32) : Prop :=
  (∀ a, (k0_off62 v183) a + S1x128.size a ≤ S100000x1024.size a)
theorem k0_off62_inb : ∀ (v183 : BitVec 32) (k0_hw62 : k0_chk62 v183), ∀ a, (k0_off62 v183) a + S1x128.size a ≤ S100000x1024.size a := fun v183 k0_hw62 => k0_hw62

def k0_off63 (v186 : BitVec 32) : Fin 2 → Nat :=
  let c0_i32_125 : BitVec 32 := 0#32
  ![v186.toNat, 0]

def k0_chk63 (v186 : BitVec 32) : Prop :=
  (∀ a, (k0_off63 v186) a + S1x128.size a ≤ S100000x1024.size a)
theorem k0_off63_inb : ∀ (v186 : BitVec 32) (k0_hw63 : k0_chk63 v186), ∀ a, (k0_off63 v186) a + S1x128.size a ≤ S100000x1024.size a := fun v186 k0_hw63 => k0_hw63

def k0_off64 (v189 : BitVec 32) : Fin 2 → Nat :=
  let c0_i32_127 : BitVec 32 := 0#32
  ![v189.toNat, 0]

def k0_chk64 (v189 : BitVec 32) : Prop :=
  (∀ a, (k0_off64 v189) a + S1x128.size a ≤ S100000x1024.size a)
theorem k0_off64_inb : ∀ (v189 : BitVec 32) (k0_hw64 : k0_chk64 v189), ∀ a, (k0_off64 v189) a + S1x128.size a ≤ S100000x1024.size a := fun v189 k0_hw64 => k0_hw64

def k0_off65 (v192 : BitVec 32) : Fin 2 → Nat :=
  let c0_i32_129 : BitVec 32 := 0#32
  ![v192.toNat, 0]

def k0_chk65 (v192 : BitVec 32) : Prop :=
  (∀ a, (k0_off65 v192) a + S1x128.size a ≤ S100000x1024.size a)
theorem k0_off65_inb : ∀ (v192 : BitVec 32) (k0_hw65 : k0_chk65 v192), ∀ a, (k0_off65 v192) a + S1x128.size a ≤ S100000x1024.size a := fun v192 k0_hw65 => k0_hw65

def k0_off66 (v195 : BitVec 32) : Fin 2 → Nat :=
  let c0_i32_131 : BitVec 32 := 0#32
  ![v195.toNat, 0]

def k0_chk66 (v195 : BitVec 32) : Prop :=
  (∀ a, (k0_off66 v195) a + S1x128.size a ≤ S100000x1024.size a)
theorem k0_off66_inb : ∀ (v195 : BitVec 32) (k0_hw66 : k0_chk66 v195), ∀ a, (k0_off66 v195) a + S1x128.size a ≤ S100000x1024.size a := fun v195 k0_hw66 => k0_hw66

def k0_off67 (v198 : BitVec 32) : Fin 2 → Nat :=
  let c0_i32_133 : BitVec 32 := 0#32
  ![v198.toNat, 0]

def k0_chk67 (v198 : BitVec 32) : Prop :=
  (∀ a, (k0_off67 v198) a + S1x128.size a ≤ S100000x1024.size a)
theorem k0_off67_inb : ∀ (v198 : BitVec 32) (k0_hw67 : k0_chk67 v198), ∀ a, (k0_off67 v198) a + S1x128.size a ≤ S100000x1024.size a := fun v198 k0_hw67 => k0_hw67

def k0_off68 (v201 : BitVec 32) : Fin 2 → Nat :=
  let c0_i32_135 : BitVec 32 := 0#32
  ![v201.toNat, 0]

def k0_chk68 (v201 : BitVec 32) : Prop :=
  (∀ a, (k0_off68 v201) a + S1x128.size a ≤ S100000x1024.size a)
theorem k0_off68_inb : ∀ (v201 : BitVec 32) (k0_hw68 : k0_chk68 v201), ∀ a, (k0_off68 v201) a + S1x128.size a ≤ S100000x1024.size a := fun v201 k0_hw68 => k0_hw68

def k0_off69 (v204 : BitVec 32) : Fin 2 → Nat :=
  let c0_i32_137 : BitVec 32 := 0#32
  ![v204.toNat, 0]

def k0_chk69 (v204 : BitVec 32) : Prop :=
  (∀ a, (k0_off69 v204) a + S1x128.size a ≤ S100000x1024.size a)
theorem k0_off69_inb : ∀ (v204 : BitVec 32) (k0_hw69 : k0_chk69 v204), ∀ a, (k0_off69 v204) a + S1x128.size a ≤ S100000x1024.size a := fun v204 k0_hw69 => k0_hw69

def k0_off70 (v207 : BitVec 32) : Fin 2 → Nat :=
  let c0_i32_139 : BitVec 32 := 0#32
  ![v207.toNat, 0]

def k0_chk70 (v207 : BitVec 32) : Prop :=
  (∀ a, (k0_off70 v207) a + S1x128.size a ≤ S100000x1024.size a)
theorem k0_off70_inb : ∀ (v207 : BitVec 32) (k0_hw70 : k0_chk70 v207), ∀ a, (k0_off70 v207) a + S1x128.size a ≤ S100000x1024.size a := fun v207 k0_hw70 => k0_hw70

def k0_off71 (v210 : BitVec 32) : Fin 2 → Nat :=
  let c0_i32_141 : BitVec 32 := 0#32
  ![v210.toNat, 0]

def k0_chk71 (v210 : BitVec 32) : Prop :=
  (∀ a, (k0_off71 v210) a + S1x128.size a ≤ S100000x1024.size a)
theorem k0_off71_inb : ∀ (v210 : BitVec 32) (k0_hw71 : k0_chk71 v210), ∀ a, (k0_off71 v210) a + S1x128.size a ≤ S100000x1024.size a := fun v210 k0_hw71 => k0_hw71

def k0_off72 (v213 : BitVec 32) : Fin 2 → Nat :=
  let c0_i32_143 : BitVec 32 := 0#32
  ![v213.toNat, 0]

def k0_chk72 (v213 : BitVec 32) : Prop :=
  (∀ a, (k0_off72 v213) a + S1x128.size a ≤ S100000x1024.size a)
theorem k0_off72_inb : ∀ (v213 : BitVec 32) (k0_hw72 : k0_chk72 v213), ∀ a, (k0_off72 v213) a + S1x128.size a ≤ S100000x1024.size a := fun v213 k0_hw72 => k0_hw72

def k0_off73 (v216 : BitVec 32) : Fin 2 → Nat :=
  let c0_i32_145 : BitVec 32 := 0#32
  ![v216.toNat, 0]

def k0_chk73 (v216 : BitVec 32) : Prop :=
  (∀ a, (k0_off73 v216) a + S1x128.size a ≤ S100000x1024.size a)
theorem k0_off73_inb : ∀ (v216 : BitVec 32) (k0_hw73 : k0_chk73 v216), ∀ a, (k0_off73 v216) a + S1x128.size a ≤ S100000x1024.size a := fun v216 k0_hw73 => k0_hw73

def k0_off74 (v219 : BitVec 32) : Fin 2 → Nat :=
  let c0_i32_147 : BitVec 32 := 0#32
  ![v219.toNat, 0]

def k0_chk74 (v219 : BitVec 32) : Prop :=
  (∀ a, (k0_off74 v219) a + S1x128.size a ≤ S100000x1024.size a)
theorem k0_off74_inb : ∀ (v219 : BitVec 32) (k0_hw74 : k0_chk74 v219), ∀ a, (k0_off74 v219) a + S1x128.size a ≤ S100000x1024.size a := fun v219 k0_hw74 => k0_hw74

def k0_off75 (v222 : BitVec 32) : Fin 2 → Nat :=
  let c0_i32_149 : BitVec 32 := 0#32
  ![v222.toNat, 0]

def k0_chk75 (v222 : BitVec 32) : Prop :=
  (∀ a, (k0_off75 v222) a + S1x128.size a ≤ S100000x1024.size a)
theorem k0_off75_inb : ∀ (v222 : BitVec 32) (k0_hw75 : k0_chk75 v222), ∀ a, (k0_off75 v222) a + S1x128.size a ≤ S100000x1024.size a := fun v222 k0_hw75 => k0_hw75

def k0_off76 (v225 : BitVec 32) : Fin 2 → Nat :=
  let c0_i32_151 : BitVec 32 := 0#32
  ![v225.toNat, 0]

def k0_chk76 (v225 : BitVec 32) : Prop :=
  (∀ a, (k0_off76 v225) a + S1x128.size a ≤ S100000x1024.size a)
theorem k0_off76_inb : ∀ (v225 : BitVec 32) (k0_hw76 : k0_chk76 v225), ∀ a, (k0_off76 v225) a + S1x128.size a ≤ S100000x1024.size a := fun v225 k0_hw76 => k0_hw76

def k0_off77 (v228 : BitVec 32) : Fin 2 → Nat :=
  let c0_i32_153 : BitVec 32 := 0#32
  ![v228.toNat, 0]

def k0_chk77 (v228 : BitVec 32) : Prop :=
  (∀ a, (k0_off77 v228) a + S1x128.size a ≤ S100000x1024.size a)
theorem k0_off77_inb : ∀ (v228 : BitVec 32) (k0_hw77 : k0_chk77 v228), ∀ a, (k0_off77 v228) a + S1x128.size a ≤ S100000x1024.size a := fun v228 k0_hw77 => k0_hw77

def k0_off78 (v231 : BitVec 32) : Fin 2 → Nat :=
  let c0_i32_155 : BitVec 32 := 0#32
  ![v231.toNat, 0]

def k0_chk78 (v231 : BitVec 32) : Prop :=
  (∀ a, (k0_off78 v231) a + S1x128.size a ≤ S100000x1024.size a)
theorem k0_off78_inb : ∀ (v231 : BitVec 32) (k0_hw78 : k0_chk78 v231), ∀ a, (k0_off78 v231) a + S1x128.size a ≤ S100000x1024.size a := fun v231 k0_hw78 => k0_hw78

def k0_off79 (v234 : BitVec 32) : Fin 2 → Nat :=
  let c0_i32_157 : BitVec 32 := 0#32
  ![v234.toNat, 0]

def k0_chk79 (v234 : BitVec 32) : Prop :=
  (∀ a, (k0_off79 v234) a + S1x128.size a ≤ S100000x1024.size a)
theorem k0_off79_inb : ∀ (v234 : BitVec 32) (k0_hw79 : k0_chk79 v234), ∀ a, (k0_off79 v234) a + S1x128.size a ≤ S100000x1024.size a := fun v234 k0_hw79 => k0_hw79

def k0_off80 (v237 : BitVec 32) : Fin 2 → Nat :=
  let c0_i32_159 : BitVec 32 := 0#32
  ![v237.toNat, 0]

def k0_chk80 (v237 : BitVec 32) : Prop :=
  (∀ a, (k0_off80 v237) a + S1x128.size a ≤ S100000x1024.size a)
theorem k0_off80_inb : ∀ (v237 : BitVec 32) (k0_hw80 : k0_chk80 v237), ∀ a, (k0_off80 v237) a + S1x128.size a ≤ S100000x1024.size a := fun v237 k0_hw80 => k0_hw80

def k0_off81 (v240 : BitVec 32) : Fin 2 → Nat :=
  let c0_i32_161 : BitVec 32 := 0#32
  ![v240.toNat, 0]

def k0_chk81 (v240 : BitVec 32) : Prop :=
  (∀ a, (k0_off81 v240) a + S1x128.size a ≤ S100000x1024.size a)
theorem k0_off81_inb : ∀ (v240 : BitVec 32) (k0_hw81 : k0_chk81 v240), ∀ a, (k0_off81 v240) a + S1x128.size a ≤ S100000x1024.size a := fun v240 k0_hw81 => k0_hw81

def k0_off82 (v243 : BitVec 32) : Fin 2 → Nat :=
  let c0_i32_163 : BitVec 32 := 0#32
  ![v243.toNat, 0]

def k0_chk82 (v243 : BitVec 32) : Prop :=
  (∀ a, (k0_off82 v243) a + S1x128.size a ≤ S100000x1024.size a)
theorem k0_off82_inb : ∀ (v243 : BitVec 32) (k0_hw82 : k0_chk82 v243), ∀ a, (k0_off82 v243) a + S1x128.size a ≤ S100000x1024.size a := fun v243 k0_hw82 => k0_hw82

def k0_off83 (v246 : BitVec 32) : Fin 2 → Nat :=
  let c0_i32_165 : BitVec 32 := 0#32
  ![v246.toNat, 0]

def k0_chk83 (v246 : BitVec 32) : Prop :=
  (∀ a, (k0_off83 v246) a + S1x128.size a ≤ S100000x1024.size a)
theorem k0_off83_inb : ∀ (v246 : BitVec 32) (k0_hw83 : k0_chk83 v246), ∀ a, (k0_off83 v246) a + S1x128.size a ≤ S100000x1024.size a := fun v246 k0_hw83 => k0_hw83

def k0_off84 (v249 : BitVec 32) : Fin 2 → Nat :=
  let c0_i32_167 : BitVec 32 := 0#32
  ![v249.toNat, 0]

def k0_chk84 (v249 : BitVec 32) : Prop :=
  (∀ a, (k0_off84 v249) a + S1x128.size a ≤ S100000x1024.size a)
theorem k0_off84_inb : ∀ (v249 : BitVec 32) (k0_hw84 : k0_chk84 v249), ∀ a, (k0_off84 v249) a + S1x128.size a ≤ S100000x1024.size a := fun v249 k0_hw84 => k0_hw84

def k0_off85 (v252 : BitVec 32) : Fin 2 → Nat :=
  let c0_i32_169 : BitVec 32 := 0#32
  ![v252.toNat, 0]

def k0_chk85 (v252 : BitVec 32) : Prop :=
  (∀ a, (k0_off85 v252) a + S1x128.size a ≤ S100000x1024.size a)
theorem k0_off85_inb : ∀ (v252 : BitVec 32) (k0_hw85 : k0_chk85 v252), ∀ a, (k0_off85 v252) a + S1x128.size a ≤ S100000x1024.size a := fun v252 k0_hw85 => k0_hw85

def k0_off86 (v255 : BitVec 32) : Fin 2 → Nat :=
  let c0_i32_171 : BitVec 32 := 0#32
  ![v255.toNat, 0]

def k0_chk86 (v255 : BitVec 32) : Prop :=
  (∀ a, (k0_off86 v255) a + S1x128.size a ≤ S100000x1024.size a)
theorem k0_off86_inb : ∀ (v255 : BitVec 32) (k0_hw86 : k0_chk86 v255), ∀ a, (k0_off86 v255) a + S1x128.size a ≤ S100000x1024.size a := fun v255 k0_hw86 => k0_hw86

def k0_off87 (v258 : BitVec 32) : Fin 2 → Nat :=
  let c0_i32_173 : BitVec 32 := 0#32
  ![v258.toNat, 0]

def k0_chk87 (v258 : BitVec 32) : Prop :=
  (∀ a, (k0_off87 v258) a + S1x128.size a ≤ S100000x1024.size a)
theorem k0_off87_inb : ∀ (v258 : BitVec 32) (k0_hw87 : k0_chk87 v258), ∀ a, (k0_off87 v258) a + S1x128.size a ≤ S100000x1024.size a := fun v258 k0_hw87 => k0_hw87

def k0_off88 (v261 : BitVec 32) : Fin 2 → Nat :=
  let c0_i32_175 : BitVec 32 := 0#32
  ![v261.toNat, 0]

def k0_chk88 (v261 : BitVec 32) : Prop :=
  (∀ a, (k0_off88 v261) a + S1x128.size a ≤ S100000x1024.size a)
theorem k0_off88_inb : ∀ (v261 : BitVec 32) (k0_hw88 : k0_chk88 v261), ∀ a, (k0_off88 v261) a + S1x128.size a ≤ S100000x1024.size a := fun v261 k0_hw88 => k0_hw88

def k0_off89 (v264 : BitVec 32) : Fin 2 → Nat :=
  let c0_i32_177 : BitVec 32 := 0#32
  ![v264.toNat, 0]

def k0_chk89 (v264 : BitVec 32) : Prop :=
  (∀ a, (k0_off89 v264) a + S1x128.size a ≤ S100000x1024.size a)
theorem k0_off89_inb : ∀ (v264 : BitVec 32) (k0_hw89 : k0_chk89 v264), ∀ a, (k0_off89 v264) a + S1x128.size a ≤ S100000x1024.size a := fun v264 k0_hw89 => k0_hw89

def k0_off90 (v267 : BitVec 32) : Fin 2 → Nat :=
  let c0_i32_179 : BitVec 32 := 0#32
  ![v267.toNat, 0]

def k0_chk90 (v267 : BitVec 32) : Prop :=
  (∀ a, (k0_off90 v267) a + S1x128.size a ≤ S100000x1024.size a)
theorem k0_off90_inb : ∀ (v267 : BitVec 32) (k0_hw90 : k0_chk90 v267), ∀ a, (k0_off90 v267) a + S1x128.size a ≤ S100000x1024.size a := fun v267 k0_hw90 => k0_hw90

def k0_off91 (v270 : BitVec 32) : Fin 2 → Nat :=
  let c0_i32_181 : BitVec 32 := 0#32
  ![v270.toNat, 0]

def k0_chk91 (v270 : BitVec 32) : Prop :=
  (∀ a, (k0_off91 v270) a + S1x128.size a ≤ S100000x1024.size a)
theorem k0_off91_inb : ∀ (v270 : BitVec 32) (k0_hw91 : k0_chk91 v270), ∀ a, (k0_off91 v270) a + S1x128.size a ≤ S100000x1024.size a := fun v270 k0_hw91 => k0_hw91

def k0_off92 (v273 : BitVec 32) : Fin 2 → Nat :=
  let c0_i32_183 : BitVec 32 := 0#32
  ![v273.toNat, 0]

def k0_chk92 (v273 : BitVec 32) : Prop :=
  (∀ a, (k0_off92 v273) a + S1x128.size a ≤ S100000x1024.size a)
theorem k0_off92_inb : ∀ (v273 : BitVec 32) (k0_hw92 : k0_chk92 v273), ∀ a, (k0_off92 v273) a + S1x128.size a ≤ S100000x1024.size a := fun v273 k0_hw92 => k0_hw92

def k0_off93 (v276 : BitVec 32) : Fin 2 → Nat :=
  let c0_i32_185 : BitVec 32 := 0#32
  ![v276.toNat, 0]

def k0_chk93 (v276 : BitVec 32) : Prop :=
  (∀ a, (k0_off93 v276) a + S1x128.size a ≤ S100000x1024.size a)
theorem k0_off93_inb : ∀ (v276 : BitVec 32) (k0_hw93 : k0_chk93 v276), ∀ a, (k0_off93 v276) a + S1x128.size a ≤ S100000x1024.size a := fun v276 k0_hw93 => k0_hw93

def k0_off94 (v279 : BitVec 32) : Fin 2 → Nat :=
  let c0_i32_187 : BitVec 32 := 0#32
  ![v279.toNat, 0]

def k0_chk94 (v279 : BitVec 32) : Prop :=
  (∀ a, (k0_off94 v279) a + S1x128.size a ≤ S100000x1024.size a)
theorem k0_off94_inb : ∀ (v279 : BitVec 32) (k0_hw94 : k0_chk94 v279), ∀ a, (k0_off94 v279) a + S1x128.size a ≤ S100000x1024.size a := fun v279 k0_hw94 => k0_hw94

def k0_off95 (v282 : BitVec 32) : Fin 2 → Nat :=
  let c0_i32_189 : BitVec 32 := 0#32
  ![v282.toNat, 0]

def k0_chk95 (v282 : BitVec 32) : Prop :=
  (∀ a, (k0_off95 v282) a + S1x128.size a ≤ S100000x1024.size a)
theorem k0_off95_inb : ∀ (v282 : BitVec 32) (k0_hw95 : k0_chk95 v282), ∀ a, (k0_off95 v282) a + S1x128.size a ≤ S100000x1024.size a := fun v282 k0_hw95 => k0_hw95

def k0_off96 (v285 : BitVec 32) : Fin 2 → Nat :=
  let c0_i32_191 : BitVec 32 := 0#32
  ![v285.toNat, 0]

def k0_chk96 (v285 : BitVec 32) : Prop :=
  (∀ a, (k0_off96 v285) a + S1x128.size a ≤ S100000x1024.size a)
theorem k0_off96_inb : ∀ (v285 : BitVec 32) (k0_hw96 : k0_chk96 v285), ∀ a, (k0_off96 v285) a + S1x128.size a ≤ S100000x1024.size a := fun v285 k0_hw96 => k0_hw96

def k0_off97 (v288 : BitVec 32) : Fin 2 → Nat :=
  let c0_i32_193 : BitVec 32 := 0#32
  ![v288.toNat, 0]

def k0_chk97 (v288 : BitVec 32) : Prop :=
  (∀ a, (k0_off97 v288) a + S1x128.size a ≤ S100000x1024.size a)
theorem k0_off97_inb : ∀ (v288 : BitVec 32) (k0_hw97 : k0_chk97 v288), ∀ a, (k0_off97 v288) a + S1x128.size a ≤ S100000x1024.size a := fun v288 k0_hw97 => k0_hw97

def k0_off98 (v291 : BitVec 32) : Fin 2 → Nat :=
  let c0_i32_195 : BitVec 32 := 0#32
  ![v291.toNat, 0]

def k0_chk98 (v291 : BitVec 32) : Prop :=
  (∀ a, (k0_off98 v291) a + S1x128.size a ≤ S100000x1024.size a)
theorem k0_off98_inb : ∀ (v291 : BitVec 32) (k0_hw98 : k0_chk98 v291), ∀ a, (k0_off98 v291) a + S1x128.size a ≤ S100000x1024.size a := fun v291 k0_hw98 => k0_hw98

def k0_off99 (v294 : BitVec 32) : Fin 2 → Nat :=
  let c0_i32_197 : BitVec 32 := 0#32
  ![v294.toNat, 0]

def k0_chk99 (v294 : BitVec 32) : Prop :=
  (∀ a, (k0_off99 v294) a + S1x128.size a ≤ S100000x1024.size a)
theorem k0_off99_inb : ∀ (v294 : BitVec 32) (k0_hw99 : k0_chk99 v294), ∀ a, (k0_off99 v294) a + S1x128.size a ≤ S100000x1024.size a := fun v294 k0_hw99 => k0_hw99

def k0_off100 (v297 : BitVec 32) : Fin 2 → Nat :=
  let c0_i32_199 : BitVec 32 := 0#32
  ![v297.toNat, 0]

def k0_chk100 (v297 : BitVec 32) : Prop :=
  (∀ a, (k0_off100 v297) a + S1x128.size a ≤ S100000x1024.size a)
theorem k0_off100_inb : ∀ (v297 : BitVec 32) (k0_hw100 : k0_chk100 v297), ∀ a, (k0_off100 v297) a + S1x128.size a ≤ S100000x1024.size a := fun v297 k0_hw100 => k0_hw100

def k0_off101 (v300 : BitVec 32) : Fin 2 → Nat :=
  let c0_i32_201 : BitVec 32 := 0#32
  ![v300.toNat, 0]

def k0_chk101 (v300 : BitVec 32) : Prop :=
  (∀ a, (k0_off101 v300) a + S1x128.size a ≤ S100000x1024.size a)
theorem k0_off101_inb : ∀ (v300 : BitVec 32) (k0_hw101 : k0_chk101 v300), ∀ a, (k0_off101 v300) a + S1x128.size a ≤ S100000x1024.size a := fun v300 k0_hw101 => k0_hw101

def k0_off102 (v303 : BitVec 32) : Fin 2 → Nat :=
  let c0_i32_203 : BitVec 32 := 0#32
  ![v303.toNat, 0]

def k0_chk102 (v303 : BitVec 32) : Prop :=
  (∀ a, (k0_off102 v303) a + S1x128.size a ≤ S100000x1024.size a)
theorem k0_off102_inb : ∀ (v303 : BitVec 32) (k0_hw102 : k0_chk102 v303), ∀ a, (k0_off102 v303) a + S1x128.size a ≤ S100000x1024.size a := fun v303 k0_hw102 => k0_hw102

def k0_off103 (v306 : BitVec 32) : Fin 2 → Nat :=
  let c0_i32_205 : BitVec 32 := 0#32
  ![v306.toNat, 0]

def k0_chk103 (v306 : BitVec 32) : Prop :=
  (∀ a, (k0_off103 v306) a + S1x128.size a ≤ S100000x1024.size a)
theorem k0_off103_inb : ∀ (v306 : BitVec 32) (k0_hw103 : k0_chk103 v306), ∀ a, (k0_off103 v306) a + S1x128.size a ≤ S100000x1024.size a := fun v306 k0_hw103 => k0_hw103

def k0_off104 (v309 : BitVec 32) : Fin 2 → Nat :=
  let c0_i32_207 : BitVec 32 := 0#32
  ![v309.toNat, 0]

def k0_chk104 (v309 : BitVec 32) : Prop :=
  (∀ a, (k0_off104 v309) a + S1x128.size a ≤ S100000x1024.size a)
theorem k0_off104_inb : ∀ (v309 : BitVec 32) (k0_hw104 : k0_chk104 v309), ∀ a, (k0_off104 v309) a + S1x128.size a ≤ S100000x1024.size a := fun v309 k0_hw104 => k0_hw104

def k0_off105 (v312 : BitVec 32) : Fin 2 → Nat :=
  let c0_i32_209 : BitVec 32 := 0#32
  ![v312.toNat, 0]

def k0_chk105 (v312 : BitVec 32) : Prop :=
  (∀ a, (k0_off105 v312) a + S1x128.size a ≤ S100000x1024.size a)
theorem k0_off105_inb : ∀ (v312 : BitVec 32) (k0_hw105 : k0_chk105 v312), ∀ a, (k0_off105 v312) a + S1x128.size a ≤ S100000x1024.size a := fun v312 k0_hw105 => k0_hw105

def k0_off106 (v315 : BitVec 32) : Fin 2 → Nat :=
  let c0_i32_211 : BitVec 32 := 0#32
  ![v315.toNat, 0]

def k0_chk106 (v315 : BitVec 32) : Prop :=
  (∀ a, (k0_off106 v315) a + S1x128.size a ≤ S100000x1024.size a)
theorem k0_off106_inb : ∀ (v315 : BitVec 32) (k0_hw106 : k0_chk106 v315), ∀ a, (k0_off106 v315) a + S1x128.size a ≤ S100000x1024.size a := fun v315 k0_hw106 => k0_hw106

def k0_off107 (v318 : BitVec 32) : Fin 2 → Nat :=
  let c0_i32_213 : BitVec 32 := 0#32
  ![v318.toNat, 0]

def k0_chk107 (v318 : BitVec 32) : Prop :=
  (∀ a, (k0_off107 v318) a + S1x128.size a ≤ S100000x1024.size a)
theorem k0_off107_inb : ∀ (v318 : BitVec 32) (k0_hw107 : k0_chk107 v318), ∀ a, (k0_off107 v318) a + S1x128.size a ≤ S100000x1024.size a := fun v318 k0_hw107 => k0_hw107

def k0_off108 (v321 : BitVec 32) : Fin 2 → Nat :=
  let c0_i32_215 : BitVec 32 := 0#32
  ![v321.toNat, 0]

def k0_chk108 (v321 : BitVec 32) : Prop :=
  (∀ a, (k0_off108 v321) a + S1x128.size a ≤ S100000x1024.size a)
theorem k0_off108_inb : ∀ (v321 : BitVec 32) (k0_hw108 : k0_chk108 v321), ∀ a, (k0_off108 v321) a + S1x128.size a ≤ S100000x1024.size a := fun v321 k0_hw108 => k0_hw108

def k0_off109 (v324 : BitVec 32) : Fin 2 → Nat :=
  let c0_i32_217 : BitVec 32 := 0#32
  ![v324.toNat, 0]

def k0_chk109 (v324 : BitVec 32) : Prop :=
  (∀ a, (k0_off109 v324) a + S1x128.size a ≤ S100000x1024.size a)
theorem k0_off109_inb : ∀ (v324 : BitVec 32) (k0_hw109 : k0_chk109 v324), ∀ a, (k0_off109 v324) a + S1x128.size a ≤ S100000x1024.size a := fun v324 k0_hw109 => k0_hw109

def k0_off110 (v327 : BitVec 32) : Fin 2 → Nat :=
  let c0_i32_219 : BitVec 32 := 0#32
  ![v327.toNat, 0]

def k0_chk110 (v327 : BitVec 32) : Prop :=
  (∀ a, (k0_off110 v327) a + S1x128.size a ≤ S100000x1024.size a)
theorem k0_off110_inb : ∀ (v327 : BitVec 32) (k0_hw110 : k0_chk110 v327), ∀ a, (k0_off110 v327) a + S1x128.size a ≤ S100000x1024.size a := fun v327 k0_hw110 => k0_hw110

def k0_off111 (v330 : BitVec 32) : Fin 2 → Nat :=
  let c0_i32_221 : BitVec 32 := 0#32
  ![v330.toNat, 0]

def k0_chk111 (v330 : BitVec 32) : Prop :=
  (∀ a, (k0_off111 v330) a + S1x128.size a ≤ S100000x1024.size a)
theorem k0_off111_inb : ∀ (v330 : BitVec 32) (k0_hw111 : k0_chk111 v330), ∀ a, (k0_off111 v330) a + S1x128.size a ≤ S100000x1024.size a := fun v330 k0_hw111 => k0_hw111

def k0_off112 (v333 : BitVec 32) : Fin 2 → Nat :=
  let c0_i32_223 : BitVec 32 := 0#32
  ![v333.toNat, 0]

def k0_chk112 (v333 : BitVec 32) : Prop :=
  (∀ a, (k0_off112 v333) a + S1x128.size a ≤ S100000x1024.size a)
theorem k0_off112_inb : ∀ (v333 : BitVec 32) (k0_hw112 : k0_chk112 v333), ∀ a, (k0_off112 v333) a + S1x128.size a ≤ S100000x1024.size a := fun v333 k0_hw112 => k0_hw112

def k0_off113 (v336 : BitVec 32) : Fin 2 → Nat :=
  let c0_i32_225 : BitVec 32 := 0#32
  ![v336.toNat, 0]

def k0_chk113 (v336 : BitVec 32) : Prop :=
  (∀ a, (k0_off113 v336) a + S1x128.size a ≤ S100000x1024.size a)
theorem k0_off113_inb : ∀ (v336 : BitVec 32) (k0_hw113 : k0_chk113 v336), ∀ a, (k0_off113 v336) a + S1x128.size a ≤ S100000x1024.size a := fun v336 k0_hw113 => k0_hw113

def k0_off114 (v339 : BitVec 32) : Fin 2 → Nat :=
  let c0_i32_227 : BitVec 32 := 0#32
  ![v339.toNat, 0]

def k0_chk114 (v339 : BitVec 32) : Prop :=
  (∀ a, (k0_off114 v339) a + S1x128.size a ≤ S100000x1024.size a)
theorem k0_off114_inb : ∀ (v339 : BitVec 32) (k0_hw114 : k0_chk114 v339), ∀ a, (k0_off114 v339) a + S1x128.size a ≤ S100000x1024.size a := fun v339 k0_hw114 => k0_hw114

def k0_off115 (v342 : BitVec 32) : Fin 2 → Nat :=
  let c0_i32_229 : BitVec 32 := 0#32
  ![v342.toNat, 0]

def k0_chk115 (v342 : BitVec 32) : Prop :=
  (∀ a, (k0_off115 v342) a + S1x128.size a ≤ S100000x1024.size a)
theorem k0_off115_inb : ∀ (v342 : BitVec 32) (k0_hw115 : k0_chk115 v342), ∀ a, (k0_off115 v342) a + S1x128.size a ≤ S100000x1024.size a := fun v342 k0_hw115 => k0_hw115

def k0_off116 (v345 : BitVec 32) : Fin 2 → Nat :=
  let c0_i32_231 : BitVec 32 := 0#32
  ![v345.toNat, 0]

def k0_chk116 (v345 : BitVec 32) : Prop :=
  (∀ a, (k0_off116 v345) a + S1x128.size a ≤ S100000x1024.size a)
theorem k0_off116_inb : ∀ (v345 : BitVec 32) (k0_hw116 : k0_chk116 v345), ∀ a, (k0_off116 v345) a + S1x128.size a ≤ S100000x1024.size a := fun v345 k0_hw116 => k0_hw116

def k0_off117 (v348 : BitVec 32) : Fin 2 → Nat :=
  let c0_i32_233 : BitVec 32 := 0#32
  ![v348.toNat, 0]

def k0_chk117 (v348 : BitVec 32) : Prop :=
  (∀ a, (k0_off117 v348) a + S1x128.size a ≤ S100000x1024.size a)
theorem k0_off117_inb : ∀ (v348 : BitVec 32) (k0_hw117 : k0_chk117 v348), ∀ a, (k0_off117 v348) a + S1x128.size a ≤ S100000x1024.size a := fun v348 k0_hw117 => k0_hw117

def k0_off118 (v351 : BitVec 32) : Fin 2 → Nat :=
  let c0_i32_235 : BitVec 32 := 0#32
  ![v351.toNat, 0]

def k0_chk118 (v351 : BitVec 32) : Prop :=
  (∀ a, (k0_off118 v351) a + S1x128.size a ≤ S100000x1024.size a)
theorem k0_off118_inb : ∀ (v351 : BitVec 32) (k0_hw118 : k0_chk118 v351), ∀ a, (k0_off118 v351) a + S1x128.size a ≤ S100000x1024.size a := fun v351 k0_hw118 => k0_hw118

def k0_off119 (v354 : BitVec 32) : Fin 2 → Nat :=
  let c0_i32_237 : BitVec 32 := 0#32
  ![v354.toNat, 0]

def k0_chk119 (v354 : BitVec 32) : Prop :=
  (∀ a, (k0_off119 v354) a + S1x128.size a ≤ S100000x1024.size a)
theorem k0_off119_inb : ∀ (v354 : BitVec 32) (k0_hw119 : k0_chk119 v354), ∀ a, (k0_off119 v354) a + S1x128.size a ≤ S100000x1024.size a := fun v354 k0_hw119 => k0_hw119

def k0_off120 (v357 : BitVec 32) : Fin 2 → Nat :=
  let c0_i32_239 : BitVec 32 := 0#32
  ![v357.toNat, 0]

def k0_chk120 (v357 : BitVec 32) : Prop :=
  (∀ a, (k0_off120 v357) a + S1x128.size a ≤ S100000x1024.size a)
theorem k0_off120_inb : ∀ (v357 : BitVec 32) (k0_hw120 : k0_chk120 v357), ∀ a, (k0_off120 v357) a + S1x128.size a ≤ S100000x1024.size a := fun v357 k0_hw120 => k0_hw120

def k0_off121 (v360 : BitVec 32) : Fin 2 → Nat :=
  let c0_i32_241 : BitVec 32 := 0#32
  ![v360.toNat, 0]

def k0_chk121 (v360 : BitVec 32) : Prop :=
  (∀ a, (k0_off121 v360) a + S1x128.size a ≤ S100000x1024.size a)
theorem k0_off121_inb : ∀ (v360 : BitVec 32) (k0_hw121 : k0_chk121 v360), ∀ a, (k0_off121 v360) a + S1x128.size a ≤ S100000x1024.size a := fun v360 k0_hw121 => k0_hw121

def k0_off122 (v363 : BitVec 32) : Fin 2 → Nat :=
  let c0_i32_243 : BitVec 32 := 0#32
  ![v363.toNat, 0]

def k0_chk122 (v363 : BitVec 32) : Prop :=
  (∀ a, (k0_off122 v363) a + S1x128.size a ≤ S100000x1024.size a)
theorem k0_off122_inb : ∀ (v363 : BitVec 32) (k0_hw122 : k0_chk122 v363), ∀ a, (k0_off122 v363) a + S1x128.size a ≤ S100000x1024.size a := fun v363 k0_hw122 => k0_hw122

def k0_off123 (v366 : BitVec 32) : Fin 2 → Nat :=
  let c0_i32_245 : BitVec 32 := 0#32
  ![v366.toNat, 0]

def k0_chk123 (v366 : BitVec 32) : Prop :=
  (∀ a, (k0_off123 v366) a + S1x128.size a ≤ S100000x1024.size a)
theorem k0_off123_inb : ∀ (v366 : BitVec 32) (k0_hw123 : k0_chk123 v366), ∀ a, (k0_off123 v366) a + S1x128.size a ≤ S100000x1024.size a := fun v366 k0_hw123 => k0_hw123

def k0_off124 (v369 : BitVec 32) : Fin 2 → Nat :=
  let c0_i32_247 : BitVec 32 := 0#32
  ![v369.toNat, 0]

def k0_chk124 (v369 : BitVec 32) : Prop :=
  (∀ a, (k0_off124 v369) a + S1x128.size a ≤ S100000x1024.size a)
theorem k0_off124_inb : ∀ (v369 : BitVec 32) (k0_hw124 : k0_chk124 v369), ∀ a, (k0_off124 v369) a + S1x128.size a ≤ S100000x1024.size a := fun v369 k0_hw124 => k0_hw124

def k0_off125 (v372 : BitVec 32) : Fin 2 → Nat :=
  let c0_i32_249 : BitVec 32 := 0#32
  ![v372.toNat, 0]

def k0_chk125 (v372 : BitVec 32) : Prop :=
  (∀ a, (k0_off125 v372) a + S1x128.size a ≤ S100000x1024.size a)
theorem k0_off125_inb : ∀ (v372 : BitVec 32) (k0_hw125 : k0_chk125 v372), ∀ a, (k0_off125 v372) a + S1x128.size a ≤ S100000x1024.size a := fun v372 k0_hw125 => k0_hw125

def k0_off126 (v375 : BitVec 32) : Fin 2 → Nat :=
  let c0_i32_251 : BitVec 32 := 0#32
  ![v375.toNat, 0]

def k0_chk126 (v375 : BitVec 32) : Prop :=
  (∀ a, (k0_off126 v375) a + S1x128.size a ≤ S100000x1024.size a)
theorem k0_off126_inb : ∀ (v375 : BitVec 32) (k0_hw126 : k0_chk126 v375), ∀ a, (k0_off126 v375) a + S1x128.size a ≤ S100000x1024.size a := fun v375 k0_hw126 => k0_hw126

def k0_off127 (v378 : BitVec 32) : Fin 2 → Nat :=
  let c0_i32_253 : BitVec 32 := 0#32
  ![v378.toNat, 0]

def k0_chk127 (v378 : BitVec 32) : Prop :=
  (∀ a, (k0_off127 v378) a + S1x128.size a ≤ S100000x1024.size a)
theorem k0_off127_inb : ∀ (v378 : BitVec 32) (k0_hw127 : k0_chk127 v378), ∀ a, (k0_off127 v378) a + S1x128.size a ≤ S100000x1024.size a := fun v378 k0_hw127 => k0_hw127

def k0_off128 (v381 : BitVec 32) : Fin 2 → Nat :=
  let c0_i32_255 : BitVec 32 := 0#32
  ![v381.toNat, 0]

def k0_chk128 (v381 : BitVec 32) : Prop :=
  (∀ a, (k0_off128 v381) a + S1x128.size a ≤ S100000x1024.size a)
theorem k0_off128_inb : ∀ (v381 : BitVec 32) (k0_hw128 : k0_chk128 v381), ∀ a, (k0_off128 v381) a + S1x128.size a ≤ S100000x1024.size a := fun v381 k0_hw128 => k0_hw128

def k0_off129 (v384 : BitVec 32) : Fin 2 → Nat :=
  let c128_i32_257 : BitVec 32 := 128#32
  ![v384.toNat, 128]

def k0_chk129 (v384 : BitVec 32) : Prop :=
  (∀ a, (k0_off129 v384) a + S1x128.size a ≤ S100000x1024.size a)
theorem k0_off129_inb : ∀ (v384 : BitVec 32) (k0_hw129 : k0_chk129 v384), ∀ a, (k0_off129 v384) a + S1x128.size a ≤ S100000x1024.size a := fun v384 k0_hw129 => k0_hw129

def k0_off130 (v387 : BitVec 32) : Fin 2 → Nat :=
  let c128_i32_259 : BitVec 32 := 128#32
  ![v387.toNat, 128]

def k0_chk130 (v387 : BitVec 32) : Prop :=
  (∀ a, (k0_off130 v387) a + S1x128.size a ≤ S100000x1024.size a)
theorem k0_off130_inb : ∀ (v387 : BitVec 32) (k0_hw130 : k0_chk130 v387), ∀ a, (k0_off130 v387) a + S1x128.size a ≤ S100000x1024.size a := fun v387 k0_hw130 => k0_hw130

def k0_off131 (v390 : BitVec 32) : Fin 2 → Nat :=
  let c128_i32_261 : BitVec 32 := 128#32
  ![v390.toNat, 128]

def k0_chk131 (v390 : BitVec 32) : Prop :=
  (∀ a, (k0_off131 v390) a + S1x128.size a ≤ S100000x1024.size a)
theorem k0_off131_inb : ∀ (v390 : BitVec 32) (k0_hw131 : k0_chk131 v390), ∀ a, (k0_off131 v390) a + S1x128.size a ≤ S100000x1024.size a := fun v390 k0_hw131 => k0_hw131

def k0_off132 (v393 : BitVec 32) : Fin 2 → Nat :=
  let c128_i32_263 : BitVec 32 := 128#32
  ![v393.toNat, 128]

def k0_chk132 (v393 : BitVec 32) : Prop :=
  (∀ a, (k0_off132 v393) a + S1x128.size a ≤ S100000x1024.size a)
theorem k0_off132_inb : ∀ (v393 : BitVec 32) (k0_hw132 : k0_chk132 v393), ∀ a, (k0_off132 v393) a + S1x128.size a ≤ S100000x1024.size a := fun v393 k0_hw132 => k0_hw132

def k0_off133 (v396 : BitVec 32) : Fin 2 → Nat :=
  let c128_i32_265 : BitVec 32 := 128#32
  ![v396.toNat, 128]

def k0_chk133 (v396 : BitVec 32) : Prop :=
  (∀ a, (k0_off133 v396) a + S1x128.size a ≤ S100000x1024.size a)
theorem k0_off133_inb : ∀ (v396 : BitVec 32) (k0_hw133 : k0_chk133 v396), ∀ a, (k0_off133 v396) a + S1x128.size a ≤ S100000x1024.size a := fun v396 k0_hw133 => k0_hw133

def k0_off134 (v399 : BitVec 32) : Fin 2 → Nat :=
  let c128_i32_267 : BitVec 32 := 128#32
  ![v399.toNat, 128]

def k0_chk134 (v399 : BitVec 32) : Prop :=
  (∀ a, (k0_off134 v399) a + S1x128.size a ≤ S100000x1024.size a)
theorem k0_off134_inb : ∀ (v399 : BitVec 32) (k0_hw134 : k0_chk134 v399), ∀ a, (k0_off134 v399) a + S1x128.size a ≤ S100000x1024.size a := fun v399 k0_hw134 => k0_hw134

def k0_off135 (v402 : BitVec 32) : Fin 2 → Nat :=
  let c128_i32_269 : BitVec 32 := 128#32
  ![v402.toNat, 128]

def k0_chk135 (v402 : BitVec 32) : Prop :=
  (∀ a, (k0_off135 v402) a + S1x128.size a ≤ S100000x1024.size a)
theorem k0_off135_inb : ∀ (v402 : BitVec 32) (k0_hw135 : k0_chk135 v402), ∀ a, (k0_off135 v402) a + S1x128.size a ≤ S100000x1024.size a := fun v402 k0_hw135 => k0_hw135

def k0_off136 (v405 : BitVec 32) : Fin 2 → Nat :=
  let c128_i32_271 : BitVec 32 := 128#32
  ![v405.toNat, 128]

def k0_chk136 (v405 : BitVec 32) : Prop :=
  (∀ a, (k0_off136 v405) a + S1x128.size a ≤ S100000x1024.size a)
theorem k0_off136_inb : ∀ (v405 : BitVec 32) (k0_hw136 : k0_chk136 v405), ∀ a, (k0_off136 v405) a + S1x128.size a ≤ S100000x1024.size a := fun v405 k0_hw136 => k0_hw136

def k0_off137 (v408 : BitVec 32) : Fin 2 → Nat :=
  let c128_i32_273 : BitVec 32 := 128#32
  ![v408.toNat, 128]

def k0_chk137 (v408 : BitVec 32) : Prop :=
  (∀ a, (k0_off137 v408) a + S1x128.size a ≤ S100000x1024.size a)
theorem k0_off137_inb : ∀ (v408 : BitVec 32) (k0_hw137 : k0_chk137 v408), ∀ a, (k0_off137 v408) a + S1x128.size a ≤ S100000x1024.size a := fun v408 k0_hw137 => k0_hw137

def k0_off138 (v411 : BitVec 32) : Fin 2 → Nat :=
  let c128_i32_275 : BitVec 32 := 128#32
  ![v411.toNat, 128]

def k0_chk138 (v411 : BitVec 32) : Prop :=
  (∀ a, (k0_off138 v411) a + S1x128.size a ≤ S100000x1024.size a)
theorem k0_off138_inb : ∀ (v411 : BitVec 32) (k0_hw138 : k0_chk138 v411), ∀ a, (k0_off138 v411) a + S1x128.size a ≤ S100000x1024.size a := fun v411 k0_hw138 => k0_hw138

def k0_off139 (v414 : BitVec 32) : Fin 2 → Nat :=
  let c128_i32_277 : BitVec 32 := 128#32
  ![v414.toNat, 128]

def k0_chk139 (v414 : BitVec 32) : Prop :=
  (∀ a, (k0_off139 v414) a + S1x128.size a ≤ S100000x1024.size a)
theorem k0_off139_inb : ∀ (v414 : BitVec 32) (k0_hw139 : k0_chk139 v414), ∀ a, (k0_off139 v414) a + S1x128.size a ≤ S100000x1024.size a := fun v414 k0_hw139 => k0_hw139

def k0_off140 (v417 : BitVec 32) : Fin 2 → Nat :=
  let c128_i32_279 : BitVec 32 := 128#32
  ![v417.toNat, 128]

def k0_chk140 (v417 : BitVec 32) : Prop :=
  (∀ a, (k0_off140 v417) a + S1x128.size a ≤ S100000x1024.size a)
theorem k0_off140_inb : ∀ (v417 : BitVec 32) (k0_hw140 : k0_chk140 v417), ∀ a, (k0_off140 v417) a + S1x128.size a ≤ S100000x1024.size a := fun v417 k0_hw140 => k0_hw140

def k0_off141 (v420 : BitVec 32) : Fin 2 → Nat :=
  let c128_i32_281 : BitVec 32 := 128#32
  ![v420.toNat, 128]

def k0_chk141 (v420 : BitVec 32) : Prop :=
  (∀ a, (k0_off141 v420) a + S1x128.size a ≤ S100000x1024.size a)
theorem k0_off141_inb : ∀ (v420 : BitVec 32) (k0_hw141 : k0_chk141 v420), ∀ a, (k0_off141 v420) a + S1x128.size a ≤ S100000x1024.size a := fun v420 k0_hw141 => k0_hw141

def k0_off142 (v423 : BitVec 32) : Fin 2 → Nat :=
  let c128_i32_283 : BitVec 32 := 128#32
  ![v423.toNat, 128]

def k0_chk142 (v423 : BitVec 32) : Prop :=
  (∀ a, (k0_off142 v423) a + S1x128.size a ≤ S100000x1024.size a)
theorem k0_off142_inb : ∀ (v423 : BitVec 32) (k0_hw142 : k0_chk142 v423), ∀ a, (k0_off142 v423) a + S1x128.size a ≤ S100000x1024.size a := fun v423 k0_hw142 => k0_hw142

def k0_off143 (v426 : BitVec 32) : Fin 2 → Nat :=
  let c128_i32_285 : BitVec 32 := 128#32
  ![v426.toNat, 128]

def k0_chk143 (v426 : BitVec 32) : Prop :=
  (∀ a, (k0_off143 v426) a + S1x128.size a ≤ S100000x1024.size a)
theorem k0_off143_inb : ∀ (v426 : BitVec 32) (k0_hw143 : k0_chk143 v426), ∀ a, (k0_off143 v426) a + S1x128.size a ≤ S100000x1024.size a := fun v426 k0_hw143 => k0_hw143

def k0_off144 (v429 : BitVec 32) : Fin 2 → Nat :=
  let c128_i32_287 : BitVec 32 := 128#32
  ![v429.toNat, 128]

def k0_chk144 (v429 : BitVec 32) : Prop :=
  (∀ a, (k0_off144 v429) a + S1x128.size a ≤ S100000x1024.size a)
theorem k0_off144_inb : ∀ (v429 : BitVec 32) (k0_hw144 : k0_chk144 v429), ∀ a, (k0_off144 v429) a + S1x128.size a ≤ S100000x1024.size a := fun v429 k0_hw144 => k0_hw144

def k0_off145 (v432 : BitVec 32) : Fin 2 → Nat :=
  let c128_i32_289 : BitVec 32 := 128#32
  ![v432.toNat, 128]

def k0_chk145 (v432 : BitVec 32) : Prop :=
  (∀ a, (k0_off145 v432) a + S1x128.size a ≤ S100000x1024.size a)
theorem k0_off145_inb : ∀ (v432 : BitVec 32) (k0_hw145 : k0_chk145 v432), ∀ a, (k0_off145 v432) a + S1x128.size a ≤ S100000x1024.size a := fun v432 k0_hw145 => k0_hw145

def k0_off146 (v435 : BitVec 32) : Fin 2 → Nat :=
  let c128_i32_291 : BitVec 32 := 128#32
  ![v435.toNat, 128]

def k0_chk146 (v435 : BitVec 32) : Prop :=
  (∀ a, (k0_off146 v435) a + S1x128.size a ≤ S100000x1024.size a)
theorem k0_off146_inb : ∀ (v435 : BitVec 32) (k0_hw146 : k0_chk146 v435), ∀ a, (k0_off146 v435) a + S1x128.size a ≤ S100000x1024.size a := fun v435 k0_hw146 => k0_hw146

def k0_off147 (v438 : BitVec 32) : Fin 2 → Nat :=
  let c128_i32_293 : BitVec 32 := 128#32
  ![v438.toNat, 128]

def k0_chk147 (v438 : BitVec 32) : Prop :=
  (∀ a, (k0_off147 v438) a + S1x128.size a ≤ S100000x1024.size a)
theorem k0_off147_inb : ∀ (v438 : BitVec 32) (k0_hw147 : k0_chk147 v438), ∀ a, (k0_off147 v438) a + S1x128.size a ≤ S100000x1024.size a := fun v438 k0_hw147 => k0_hw147

def k0_off148 (v441 : BitVec 32) : Fin 2 → Nat :=
  let c128_i32_295 : BitVec 32 := 128#32
  ![v441.toNat, 128]

def k0_chk148 (v441 : BitVec 32) : Prop :=
  (∀ a, (k0_off148 v441) a + S1x128.size a ≤ S100000x1024.size a)
theorem k0_off148_inb : ∀ (v441 : BitVec 32) (k0_hw148 : k0_chk148 v441), ∀ a, (k0_off148 v441) a + S1x128.size a ≤ S100000x1024.size a := fun v441 k0_hw148 => k0_hw148

def k0_off149 (v444 : BitVec 32) : Fin 2 → Nat :=
  let c128_i32_297 : BitVec 32 := 128#32
  ![v444.toNat, 128]

def k0_chk149 (v444 : BitVec 32) : Prop :=
  (∀ a, (k0_off149 v444) a + S1x128.size a ≤ S100000x1024.size a)
theorem k0_off149_inb : ∀ (v444 : BitVec 32) (k0_hw149 : k0_chk149 v444), ∀ a, (k0_off149 v444) a + S1x128.size a ≤ S100000x1024.size a := fun v444 k0_hw149 => k0_hw149

def k0_off150 (v447 : BitVec 32) : Fin 2 → Nat :=
  let c128_i32_299 : BitVec 32 := 128#32
  ![v447.toNat, 128]

def k0_chk150 (v447 : BitVec 32) : Prop :=
  (∀ a, (k0_off150 v447) a + S1x128.size a ≤ S100000x1024.size a)
theorem k0_off150_inb : ∀ (v447 : BitVec 32) (k0_hw150 : k0_chk150 v447), ∀ a, (k0_off150 v447) a + S1x128.size a ≤ S100000x1024.size a := fun v447 k0_hw150 => k0_hw150

def k0_off151 (v450 : BitVec 32) : Fin 2 → Nat :=
  let c128_i32_301 : BitVec 32 := 128#32
  ![v450.toNat, 128]

def k0_chk151 (v450 : BitVec 32) : Prop :=
  (∀ a, (k0_off151 v450) a + S1x128.size a ≤ S100000x1024.size a)
theorem k0_off151_inb : ∀ (v450 : BitVec 32) (k0_hw151 : k0_chk151 v450), ∀ a, (k0_off151 v450) a + S1x128.size a ≤ S100000x1024.size a := fun v450 k0_hw151 => k0_hw151

def k0_off152 (v453 : BitVec 32) : Fin 2 → Nat :=
  let c128_i32_303 : BitVec 32 := 128#32
  ![v453.toNat, 128]

def k0_chk152 (v453 : BitVec 32) : Prop :=
  (∀ a, (k0_off152 v453) a + S1x128.size a ≤ S100000x1024.size a)
theorem k0_off152_inb : ∀ (v453 : BitVec 32) (k0_hw152 : k0_chk152 v453), ∀ a, (k0_off152 v453) a + S1x128.size a ≤ S100000x1024.size a := fun v453 k0_hw152 => k0_hw152

def k0_off153 (v456 : BitVec 32) : Fin 2 → Nat :=
  let c128_i32_305 : BitVec 32 := 128#32
  ![v456.toNat, 128]

def k0_chk153 (v456 : BitVec 32) : Prop :=
  (∀ a, (k0_off153 v456) a + S1x128.size a ≤ S100000x1024.size a)
theorem k0_off153_inb : ∀ (v456 : BitVec 32) (k0_hw153 : k0_chk153 v456), ∀ a, (k0_off153 v456) a + S1x128.size a ≤ S100000x1024.size a := fun v456 k0_hw153 => k0_hw153

def k0_off154 (v459 : BitVec 32) : Fin 2 → Nat :=
  let c128_i32_307 : BitVec 32 := 128#32
  ![v459.toNat, 128]

def k0_chk154 (v459 : BitVec 32) : Prop :=
  (∀ a, (k0_off154 v459) a + S1x128.size a ≤ S100000x1024.size a)
theorem k0_off154_inb : ∀ (v459 : BitVec 32) (k0_hw154 : k0_chk154 v459), ∀ a, (k0_off154 v459) a + S1x128.size a ≤ S100000x1024.size a := fun v459 k0_hw154 => k0_hw154

def k0_off155 (v462 : BitVec 32) : Fin 2 → Nat :=
  let c128_i32_309 : BitVec 32 := 128#32
  ![v462.toNat, 128]

def k0_chk155 (v462 : BitVec 32) : Prop :=
  (∀ a, (k0_off155 v462) a + S1x128.size a ≤ S100000x1024.size a)
theorem k0_off155_inb : ∀ (v462 : BitVec 32) (k0_hw155 : k0_chk155 v462), ∀ a, (k0_off155 v462) a + S1x128.size a ≤ S100000x1024.size a := fun v462 k0_hw155 => k0_hw155

def k0_off156 (v465 : BitVec 32) : Fin 2 → Nat :=
  let c128_i32_311 : BitVec 32 := 128#32
  ![v465.toNat, 128]

def k0_chk156 (v465 : BitVec 32) : Prop :=
  (∀ a, (k0_off156 v465) a + S1x128.size a ≤ S100000x1024.size a)
theorem k0_off156_inb : ∀ (v465 : BitVec 32) (k0_hw156 : k0_chk156 v465), ∀ a, (k0_off156 v465) a + S1x128.size a ≤ S100000x1024.size a := fun v465 k0_hw156 => k0_hw156

def k0_off157 (v468 : BitVec 32) : Fin 2 → Nat :=
  let c128_i32_313 : BitVec 32 := 128#32
  ![v468.toNat, 128]

def k0_chk157 (v468 : BitVec 32) : Prop :=
  (∀ a, (k0_off157 v468) a + S1x128.size a ≤ S100000x1024.size a)
theorem k0_off157_inb : ∀ (v468 : BitVec 32) (k0_hw157 : k0_chk157 v468), ∀ a, (k0_off157 v468) a + S1x128.size a ≤ S100000x1024.size a := fun v468 k0_hw157 => k0_hw157

def k0_off158 (v471 : BitVec 32) : Fin 2 → Nat :=
  let c128_i32_315 : BitVec 32 := 128#32
  ![v471.toNat, 128]

def k0_chk158 (v471 : BitVec 32) : Prop :=
  (∀ a, (k0_off158 v471) a + S1x128.size a ≤ S100000x1024.size a)
theorem k0_off158_inb : ∀ (v471 : BitVec 32) (k0_hw158 : k0_chk158 v471), ∀ a, (k0_off158 v471) a + S1x128.size a ≤ S100000x1024.size a := fun v471 k0_hw158 => k0_hw158

def k0_off159 (v474 : BitVec 32) : Fin 2 → Nat :=
  let c128_i32_317 : BitVec 32 := 128#32
  ![v474.toNat, 128]

def k0_chk159 (v474 : BitVec 32) : Prop :=
  (∀ a, (k0_off159 v474) a + S1x128.size a ≤ S100000x1024.size a)
theorem k0_off159_inb : ∀ (v474 : BitVec 32) (k0_hw159 : k0_chk159 v474), ∀ a, (k0_off159 v474) a + S1x128.size a ≤ S100000x1024.size a := fun v474 k0_hw159 => k0_hw159

def k0_off160 (v477 : BitVec 32) : Fin 2 → Nat :=
  let c128_i32_319 : BitVec 32 := 128#32
  ![v477.toNat, 128]

def k0_chk160 (v477 : BitVec 32) : Prop :=
  (∀ a, (k0_off160 v477) a + S1x128.size a ≤ S100000x1024.size a)
theorem k0_off160_inb : ∀ (v477 : BitVec 32) (k0_hw160 : k0_chk160 v477), ∀ a, (k0_off160 v477) a + S1x128.size a ≤ S100000x1024.size a := fun v477 k0_hw160 => k0_hw160

def k0_off161 (v480 : BitVec 32) : Fin 2 → Nat :=
  let c128_i32_321 : BitVec 32 := 128#32
  ![v480.toNat, 128]

def k0_chk161 (v480 : BitVec 32) : Prop :=
  (∀ a, (k0_off161 v480) a + S1x128.size a ≤ S100000x1024.size a)
theorem k0_off161_inb : ∀ (v480 : BitVec 32) (k0_hw161 : k0_chk161 v480), ∀ a, (k0_off161 v480) a + S1x128.size a ≤ S100000x1024.size a := fun v480 k0_hw161 => k0_hw161

def k0_off162 (v483 : BitVec 32) : Fin 2 → Nat :=
  let c128_i32_323 : BitVec 32 := 128#32
  ![v483.toNat, 128]

def k0_chk162 (v483 : BitVec 32) : Prop :=
  (∀ a, (k0_off162 v483) a + S1x128.size a ≤ S100000x1024.size a)
theorem k0_off162_inb : ∀ (v483 : BitVec 32) (k0_hw162 : k0_chk162 v483), ∀ a, (k0_off162 v483) a + S1x128.size a ≤ S100000x1024.size a := fun v483 k0_hw162 => k0_hw162

def k0_off163 (v486 : BitVec 32) : Fin 2 → Nat :=
  let c128_i32_325 : BitVec 32 := 128#32
  ![v486.toNat, 128]

def k0_chk163 (v486 : BitVec 32) : Prop :=
  (∀ a, (k0_off163 v486) a + S1x128.size a ≤ S100000x1024.size a)
theorem k0_off163_inb : ∀ (v486 : BitVec 32) (k0_hw163 : k0_chk163 v486), ∀ a, (k0_off163 v486) a + S1x128.size a ≤ S100000x1024.size a := fun v486 k0_hw163 => k0_hw163

def k0_off164 (v489 : BitVec 32) : Fin 2 → Nat :=
  let c128_i32_327 : BitVec 32 := 128#32
  ![v489.toNat, 128]

def k0_chk164 (v489 : BitVec 32) : Prop :=
  (∀ a, (k0_off164 v489) a + S1x128.size a ≤ S100000x1024.size a)
theorem k0_off164_inb : ∀ (v489 : BitVec 32) (k0_hw164 : k0_chk164 v489), ∀ a, (k0_off164 v489) a + S1x128.size a ≤ S100000x1024.size a := fun v489 k0_hw164 => k0_hw164

def k0_off165 (v492 : BitVec 32) : Fin 2 → Nat :=
  let c128_i32_329 : BitVec 32 := 128#32
  ![v492.toNat, 128]

def k0_chk165 (v492 : BitVec 32) : Prop :=
  (∀ a, (k0_off165 v492) a + S1x128.size a ≤ S100000x1024.size a)
theorem k0_off165_inb : ∀ (v492 : BitVec 32) (k0_hw165 : k0_chk165 v492), ∀ a, (k0_off165 v492) a + S1x128.size a ≤ S100000x1024.size a := fun v492 k0_hw165 => k0_hw165

def k0_off166 (v495 : BitVec 32) : Fin 2 → Nat :=
  let c128_i32_331 : BitVec 32 := 128#32
  ![v495.toNat, 128]

def k0_chk166 (v495 : BitVec 32) : Prop :=
  (∀ a, (k0_off166 v495) a + S1x128.size a ≤ S100000x1024.size a)
theorem k0_off166_inb : ∀ (v495 : BitVec 32) (k0_hw166 : k0_chk166 v495), ∀ a, (k0_off166 v495) a + S1x128.size a ≤ S100000x1024.size a := fun v495 k0_hw166 => k0_hw166

def k0_off167 (v498 : BitVec 32) : Fin 2 → Nat :=
  let c128_i32_333 : BitVec 32 := 128#32
  ![v498.toNat, 128]

def k0_chk167 (v498 : BitVec 32) : Prop :=
  (∀ a, (k0_off167 v498) a + S1x128.size a ≤ S100000x1024.size a)
theorem k0_off167_inb : ∀ (v498 : BitVec 32) (k0_hw167 : k0_chk167 v498), ∀ a, (k0_off167 v498) a + S1x128.size a ≤ S100000x1024.size a := fun v498 k0_hw167 => k0_hw167

def k0_off168 (v501 : BitVec 32) : Fin 2 → Nat :=
  let c128_i32_335 : BitVec 32 := 128#32
  ![v501.toNat, 128]

def k0_chk168 (v501 : BitVec 32) : Prop :=
  (∀ a, (k0_off168 v501) a + S1x128.size a ≤ S100000x1024.size a)
theorem k0_off168_inb : ∀ (v501 : BitVec 32) (k0_hw168 : k0_chk168 v501), ∀ a, (k0_off168 v501) a + S1x128.size a ≤ S100000x1024.size a := fun v501 k0_hw168 => k0_hw168

def k0_off169 (v504 : BitVec 32) : Fin 2 → Nat :=
  let c128_i32_337 : BitVec 32 := 128#32
  ![v504.toNat, 128]

def k0_chk169 (v504 : BitVec 32) : Prop :=
  (∀ a, (k0_off169 v504) a + S1x128.size a ≤ S100000x1024.size a)
theorem k0_off169_inb : ∀ (v504 : BitVec 32) (k0_hw169 : k0_chk169 v504), ∀ a, (k0_off169 v504) a + S1x128.size a ≤ S100000x1024.size a := fun v504 k0_hw169 => k0_hw169

def k0_off170 (v507 : BitVec 32) : Fin 2 → Nat :=
  let c128_i32_339 : BitVec 32 := 128#32
  ![v507.toNat, 128]

def k0_chk170 (v507 : BitVec 32) : Prop :=
  (∀ a, (k0_off170 v507) a + S1x128.size a ≤ S100000x1024.size a)
theorem k0_off170_inb : ∀ (v507 : BitVec 32) (k0_hw170 : k0_chk170 v507), ∀ a, (k0_off170 v507) a + S1x128.size a ≤ S100000x1024.size a := fun v507 k0_hw170 => k0_hw170

def k0_off171 (v510 : BitVec 32) : Fin 2 → Nat :=
  let c128_i32_341 : BitVec 32 := 128#32
  ![v510.toNat, 128]

def k0_chk171 (v510 : BitVec 32) : Prop :=
  (∀ a, (k0_off171 v510) a + S1x128.size a ≤ S100000x1024.size a)
theorem k0_off171_inb : ∀ (v510 : BitVec 32) (k0_hw171 : k0_chk171 v510), ∀ a, (k0_off171 v510) a + S1x128.size a ≤ S100000x1024.size a := fun v510 k0_hw171 => k0_hw171

def k0_off172 (v513 : BitVec 32) : Fin 2 → Nat :=
  let c128_i32_343 : BitVec 32 := 128#32
  ![v513.toNat, 128]

def k0_chk172 (v513 : BitVec 32) : Prop :=
  (∀ a, (k0_off172 v513) a + S1x128.size a ≤ S100000x1024.size a)
theorem k0_off172_inb : ∀ (v513 : BitVec 32) (k0_hw172 : k0_chk172 v513), ∀ a, (k0_off172 v513) a + S1x128.size a ≤ S100000x1024.size a := fun v513 k0_hw172 => k0_hw172

def k0_off173 (v516 : BitVec 32) : Fin 2 → Nat :=
  let c128_i32_345 : BitVec 32 := 128#32
  ![v516.toNat, 128]

def k0_chk173 (v516 : BitVec 32) : Prop :=
  (∀ a, (k0_off173 v516) a + S1x128.size a ≤ S100000x1024.size a)
theorem k0_off173_inb : ∀ (v516 : BitVec 32) (k0_hw173 : k0_chk173 v516), ∀ a, (k0_off173 v516) a + S1x128.size a ≤ S100000x1024.size a := fun v516 k0_hw173 => k0_hw173

def k0_off174 (v519 : BitVec 32) : Fin 2 → Nat :=
  let c128_i32_347 : BitVec 32 := 128#32
  ![v519.toNat, 128]

def k0_chk174 (v519 : BitVec 32) : Prop :=
  (∀ a, (k0_off174 v519) a + S1x128.size a ≤ S100000x1024.size a)
theorem k0_off174_inb : ∀ (v519 : BitVec 32) (k0_hw174 : k0_chk174 v519), ∀ a, (k0_off174 v519) a + S1x128.size a ≤ S100000x1024.size a := fun v519 k0_hw174 => k0_hw174

def k0_off175 (v522 : BitVec 32) : Fin 2 → Nat :=
  let c128_i32_349 : BitVec 32 := 128#32
  ![v522.toNat, 128]

def k0_chk175 (v522 : BitVec 32) : Prop :=
  (∀ a, (k0_off175 v522) a + S1x128.size a ≤ S100000x1024.size a)
theorem k0_off175_inb : ∀ (v522 : BitVec 32) (k0_hw175 : k0_chk175 v522), ∀ a, (k0_off175 v522) a + S1x128.size a ≤ S100000x1024.size a := fun v522 k0_hw175 => k0_hw175

def k0_off176 (v525 : BitVec 32) : Fin 2 → Nat :=
  let c128_i32_351 : BitVec 32 := 128#32
  ![v525.toNat, 128]

def k0_chk176 (v525 : BitVec 32) : Prop :=
  (∀ a, (k0_off176 v525) a + S1x128.size a ≤ S100000x1024.size a)
theorem k0_off176_inb : ∀ (v525 : BitVec 32) (k0_hw176 : k0_chk176 v525), ∀ a, (k0_off176 v525) a + S1x128.size a ≤ S100000x1024.size a := fun v525 k0_hw176 => k0_hw176

def k0_off177 (v528 : BitVec 32) : Fin 2 → Nat :=
  let c128_i32_353 : BitVec 32 := 128#32
  ![v528.toNat, 128]

def k0_chk177 (v528 : BitVec 32) : Prop :=
  (∀ a, (k0_off177 v528) a + S1x128.size a ≤ S100000x1024.size a)
theorem k0_off177_inb : ∀ (v528 : BitVec 32) (k0_hw177 : k0_chk177 v528), ∀ a, (k0_off177 v528) a + S1x128.size a ≤ S100000x1024.size a := fun v528 k0_hw177 => k0_hw177

def k0_off178 (v531 : BitVec 32) : Fin 2 → Nat :=
  let c128_i32_355 : BitVec 32 := 128#32
  ![v531.toNat, 128]

def k0_chk178 (v531 : BitVec 32) : Prop :=
  (∀ a, (k0_off178 v531) a + S1x128.size a ≤ S100000x1024.size a)
theorem k0_off178_inb : ∀ (v531 : BitVec 32) (k0_hw178 : k0_chk178 v531), ∀ a, (k0_off178 v531) a + S1x128.size a ≤ S100000x1024.size a := fun v531 k0_hw178 => k0_hw178

def k0_off179 (v534 : BitVec 32) : Fin 2 → Nat :=
  let c128_i32_357 : BitVec 32 := 128#32
  ![v534.toNat, 128]

def k0_chk179 (v534 : BitVec 32) : Prop :=
  (∀ a, (k0_off179 v534) a + S1x128.size a ≤ S100000x1024.size a)
theorem k0_off179_inb : ∀ (v534 : BitVec 32) (k0_hw179 : k0_chk179 v534), ∀ a, (k0_off179 v534) a + S1x128.size a ≤ S100000x1024.size a := fun v534 k0_hw179 => k0_hw179

def k0_off180 (v537 : BitVec 32) : Fin 2 → Nat :=
  let c128_i32_359 : BitVec 32 := 128#32
  ![v537.toNat, 128]

def k0_chk180 (v537 : BitVec 32) : Prop :=
  (∀ a, (k0_off180 v537) a + S1x128.size a ≤ S100000x1024.size a)
theorem k0_off180_inb : ∀ (v537 : BitVec 32) (k0_hw180 : k0_chk180 v537), ∀ a, (k0_off180 v537) a + S1x128.size a ≤ S100000x1024.size a := fun v537 k0_hw180 => k0_hw180

def k0_off181 (v540 : BitVec 32) : Fin 2 → Nat :=
  let c128_i32_361 : BitVec 32 := 128#32
  ![v540.toNat, 128]

def k0_chk181 (v540 : BitVec 32) : Prop :=
  (∀ a, (k0_off181 v540) a + S1x128.size a ≤ S100000x1024.size a)
theorem k0_off181_inb : ∀ (v540 : BitVec 32) (k0_hw181 : k0_chk181 v540), ∀ a, (k0_off181 v540) a + S1x128.size a ≤ S100000x1024.size a := fun v540 k0_hw181 => k0_hw181

def k0_off182 (v543 : BitVec 32) : Fin 2 → Nat :=
  let c128_i32_363 : BitVec 32 := 128#32
  ![v543.toNat, 128]

def k0_chk182 (v543 : BitVec 32) : Prop :=
  (∀ a, (k0_off182 v543) a + S1x128.size a ≤ S100000x1024.size a)
theorem k0_off182_inb : ∀ (v543 : BitVec 32) (k0_hw182 : k0_chk182 v543), ∀ a, (k0_off182 v543) a + S1x128.size a ≤ S100000x1024.size a := fun v543 k0_hw182 => k0_hw182

def k0_off183 (v546 : BitVec 32) : Fin 2 → Nat :=
  let c128_i32_365 : BitVec 32 := 128#32
  ![v546.toNat, 128]

def k0_chk183 (v546 : BitVec 32) : Prop :=
  (∀ a, (k0_off183 v546) a + S1x128.size a ≤ S100000x1024.size a)
theorem k0_off183_inb : ∀ (v546 : BitVec 32) (k0_hw183 : k0_chk183 v546), ∀ a, (k0_off183 v546) a + S1x128.size a ≤ S100000x1024.size a := fun v546 k0_hw183 => k0_hw183

def k0_off184 (v549 : BitVec 32) : Fin 2 → Nat :=
  let c128_i32_367 : BitVec 32 := 128#32
  ![v549.toNat, 128]

def k0_chk184 (v549 : BitVec 32) : Prop :=
  (∀ a, (k0_off184 v549) a + S1x128.size a ≤ S100000x1024.size a)
theorem k0_off184_inb : ∀ (v549 : BitVec 32) (k0_hw184 : k0_chk184 v549), ∀ a, (k0_off184 v549) a + S1x128.size a ≤ S100000x1024.size a := fun v549 k0_hw184 => k0_hw184

def k0_off185 (v552 : BitVec 32) : Fin 2 → Nat :=
  let c128_i32_369 : BitVec 32 := 128#32
  ![v552.toNat, 128]

def k0_chk185 (v552 : BitVec 32) : Prop :=
  (∀ a, (k0_off185 v552) a + S1x128.size a ≤ S100000x1024.size a)
theorem k0_off185_inb : ∀ (v552 : BitVec 32) (k0_hw185 : k0_chk185 v552), ∀ a, (k0_off185 v552) a + S1x128.size a ≤ S100000x1024.size a := fun v552 k0_hw185 => k0_hw185

def k0_off186 (v555 : BitVec 32) : Fin 2 → Nat :=
  let c128_i32_371 : BitVec 32 := 128#32
  ![v555.toNat, 128]

def k0_chk186 (v555 : BitVec 32) : Prop :=
  (∀ a, (k0_off186 v555) a + S1x128.size a ≤ S100000x1024.size a)
theorem k0_off186_inb : ∀ (v555 : BitVec 32) (k0_hw186 : k0_chk186 v555), ∀ a, (k0_off186 v555) a + S1x128.size a ≤ S100000x1024.size a := fun v555 k0_hw186 => k0_hw186

def k0_off187 (v558 : BitVec 32) : Fin 2 → Nat :=
  let c128_i32_373 : BitVec 32 := 128#32
  ![v558.toNat, 128]

def k0_chk187 (v558 : BitVec 32) : Prop :=
  (∀ a, (k0_off187 v558) a + S1x128.size a ≤ S100000x1024.size a)
theorem k0_off187_inb : ∀ (v558 : BitVec 32) (k0_hw187 : k0_chk187 v558), ∀ a, (k0_off187 v558) a + S1x128.size a ≤ S100000x1024.size a := fun v558 k0_hw187 => k0_hw187

def k0_off188 (v561 : BitVec 32) : Fin 2 → Nat :=
  let c128_i32_375 : BitVec 32 := 128#32
  ![v561.toNat, 128]

def k0_chk188 (v561 : BitVec 32) : Prop :=
  (∀ a, (k0_off188 v561) a + S1x128.size a ≤ S100000x1024.size a)
theorem k0_off188_inb : ∀ (v561 : BitVec 32) (k0_hw188 : k0_chk188 v561), ∀ a, (k0_off188 v561) a + S1x128.size a ≤ S100000x1024.size a := fun v561 k0_hw188 => k0_hw188

def k0_off189 (v564 : BitVec 32) : Fin 2 → Nat :=
  let c128_i32_377 : BitVec 32 := 128#32
  ![v564.toNat, 128]

def k0_chk189 (v564 : BitVec 32) : Prop :=
  (∀ a, (k0_off189 v564) a + S1x128.size a ≤ S100000x1024.size a)
theorem k0_off189_inb : ∀ (v564 : BitVec 32) (k0_hw189 : k0_chk189 v564), ∀ a, (k0_off189 v564) a + S1x128.size a ≤ S100000x1024.size a := fun v564 k0_hw189 => k0_hw189

def k0_off190 (v567 : BitVec 32) : Fin 2 → Nat :=
  let c128_i32_379 : BitVec 32 := 128#32
  ![v567.toNat, 128]

def k0_chk190 (v567 : BitVec 32) : Prop :=
  (∀ a, (k0_off190 v567) a + S1x128.size a ≤ S100000x1024.size a)
theorem k0_off190_inb : ∀ (v567 : BitVec 32) (k0_hw190 : k0_chk190 v567), ∀ a, (k0_off190 v567) a + S1x128.size a ≤ S100000x1024.size a := fun v567 k0_hw190 => k0_hw190

def k0_off191 (v570 : BitVec 32) : Fin 2 → Nat :=
  let c128_i32_381 : BitVec 32 := 128#32
  ![v570.toNat, 128]

def k0_chk191 (v570 : BitVec 32) : Prop :=
  (∀ a, (k0_off191 v570) a + S1x128.size a ≤ S100000x1024.size a)
theorem k0_off191_inb : ∀ (v570 : BitVec 32) (k0_hw191 : k0_chk191 v570), ∀ a, (k0_off191 v570) a + S1x128.size a ≤ S100000x1024.size a := fun v570 k0_hw191 => k0_hw191

def k0_off192 (v573 : BitVec 32) : Fin 2 → Nat :=
  let c128_i32_383 : BitVec 32 := 128#32
  ![v573.toNat, 128]

def k0_chk192 (v573 : BitVec 32) : Prop :=
  (∀ a, (k0_off192 v573) a + S1x128.size a ≤ S100000x1024.size a)
theorem k0_off192_inb : ∀ (v573 : BitVec 32) (k0_hw192 : k0_chk192 v573), ∀ a, (k0_off192 v573) a + S1x128.size a ≤ S100000x1024.size a := fun v573 k0_hw192 => k0_hw192

def k0_off193 (v576 : BitVec 32) : Fin 2 → Nat :=
  let c128_i32_385 : BitVec 32 := 128#32
  ![v576.toNat, 128]

def k0_chk193 (v576 : BitVec 32) : Prop :=
  (∀ a, (k0_off193 v576) a + S1x128.size a ≤ S100000x1024.size a)
theorem k0_off193_inb : ∀ (v576 : BitVec 32) (k0_hw193 : k0_chk193 v576), ∀ a, (k0_off193 v576) a + S1x128.size a ≤ S100000x1024.size a := fun v576 k0_hw193 => k0_hw193

def k0_off194 (v579 : BitVec 32) : Fin 2 → Nat :=
  let c128_i32_387 : BitVec 32 := 128#32
  ![v579.toNat, 128]

def k0_chk194 (v579 : BitVec 32) : Prop :=
  (∀ a, (k0_off194 v579) a + S1x128.size a ≤ S100000x1024.size a)
theorem k0_off194_inb : ∀ (v579 : BitVec 32) (k0_hw194 : k0_chk194 v579), ∀ a, (k0_off194 v579) a + S1x128.size a ≤ S100000x1024.size a := fun v579 k0_hw194 => k0_hw194

def k0_off195 (v582 : BitVec 32) : Fin 2 → Nat :=
  let c128_i32_389 : BitVec 32 := 128#32
  ![v582.toNat, 128]

def k0_chk195 (v582 : BitVec 32) : Prop :=
  (∀ a, (k0_off195 v582) a + S1x128.size a ≤ S100000x1024.size a)
theorem k0_off195_inb : ∀ (v582 : BitVec 32) (k0_hw195 : k0_chk195 v582), ∀ a, (k0_off195 v582) a + S1x128.size a ≤ S100000x1024.size a := fun v582 k0_hw195 => k0_hw195

def k0_off196 (v585 : BitVec 32) : Fin 2 → Nat :=
  let c128_i32_391 : BitVec 32 := 128#32
  ![v585.toNat, 128]

def k0_chk196 (v585 : BitVec 32) : Prop :=
  (∀ a, (k0_off196 v585) a + S1x128.size a ≤ S100000x1024.size a)
theorem k0_off196_inb : ∀ (v585 : BitVec 32) (k0_hw196 : k0_chk196 v585), ∀ a, (k0_off196 v585) a + S1x128.size a ≤ S100000x1024.size a := fun v585 k0_hw196 => k0_hw196

def k0_off197 (v588 : BitVec 32) : Fin 2 → Nat :=
  let c128_i32_393 : BitVec 32 := 128#32
  ![v588.toNat, 128]

def k0_chk197 (v588 : BitVec 32) : Prop :=
  (∀ a, (k0_off197 v588) a + S1x128.size a ≤ S100000x1024.size a)
theorem k0_off197_inb : ∀ (v588 : BitVec 32) (k0_hw197 : k0_chk197 v588), ∀ a, (k0_off197 v588) a + S1x128.size a ≤ S100000x1024.size a := fun v588 k0_hw197 => k0_hw197

def k0_off198 (v591 : BitVec 32) : Fin 2 → Nat :=
  let c128_i32_395 : BitVec 32 := 128#32
  ![v591.toNat, 128]

def k0_chk198 (v591 : BitVec 32) : Prop :=
  (∀ a, (k0_off198 v591) a + S1x128.size a ≤ S100000x1024.size a)
theorem k0_off198_inb : ∀ (v591 : BitVec 32) (k0_hw198 : k0_chk198 v591), ∀ a, (k0_off198 v591) a + S1x128.size a ≤ S100000x1024.size a := fun v591 k0_hw198 => k0_hw198

def k0_off199 (v594 : BitVec 32) : Fin 2 → Nat :=
  let c128_i32_397 : BitVec 32 := 128#32
  ![v594.toNat, 128]

def k0_chk199 (v594 : BitVec 32) : Prop :=
  (∀ a, (k0_off199 v594) a + S1x128.size a ≤ S100000x1024.size a)
theorem k0_off199_inb : ∀ (v594 : BitVec 32) (k0_hw199 : k0_chk199 v594), ∀ a, (k0_off199 v594) a + S1x128.size a ≤ S100000x1024.size a := fun v594 k0_hw199 => k0_hw199

def k0_off200 (v597 : BitVec 32) : Fin 2 → Nat :=
  let c128_i32_399 : BitVec 32 := 128#32
  ![v597.toNat, 128]

def k0_chk200 (v597 : BitVec 32) : Prop :=
  (∀ a, (k0_off200 v597) a + S1x128.size a ≤ S100000x1024.size a)
theorem k0_off200_inb : ∀ (v597 : BitVec 32) (k0_hw200 : k0_chk200 v597), ∀ a, (k0_off200 v597) a + S1x128.size a ≤ S100000x1024.size a := fun v597 k0_hw200 => k0_hw200

def k0_off201 (v600 : BitVec 32) : Fin 2 → Nat :=
  let c128_i32_401 : BitVec 32 := 128#32
  ![v600.toNat, 128]

def k0_chk201 (v600 : BitVec 32) : Prop :=
  (∀ a, (k0_off201 v600) a + S1x128.size a ≤ S100000x1024.size a)
theorem k0_off201_inb : ∀ (v600 : BitVec 32) (k0_hw201 : k0_chk201 v600), ∀ a, (k0_off201 v600) a + S1x128.size a ≤ S100000x1024.size a := fun v600 k0_hw201 => k0_hw201

def k0_off202 (v603 : BitVec 32) : Fin 2 → Nat :=
  let c128_i32_403 : BitVec 32 := 128#32
  ![v603.toNat, 128]

def k0_chk202 (v603 : BitVec 32) : Prop :=
  (∀ a, (k0_off202 v603) a + S1x128.size a ≤ S100000x1024.size a)
theorem k0_off202_inb : ∀ (v603 : BitVec 32) (k0_hw202 : k0_chk202 v603), ∀ a, (k0_off202 v603) a + S1x128.size a ≤ S100000x1024.size a := fun v603 k0_hw202 => k0_hw202

def k0_off203 (v606 : BitVec 32) : Fin 2 → Nat :=
  let c128_i32_405 : BitVec 32 := 128#32
  ![v606.toNat, 128]

def k0_chk203 (v606 : BitVec 32) : Prop :=
  (∀ a, (k0_off203 v606) a + S1x128.size a ≤ S100000x1024.size a)
theorem k0_off203_inb : ∀ (v606 : BitVec 32) (k0_hw203 : k0_chk203 v606), ∀ a, (k0_off203 v606) a + S1x128.size a ≤ S100000x1024.size a := fun v606 k0_hw203 => k0_hw203

def k0_off204 (v609 : BitVec 32) : Fin 2 → Nat :=
  let c128_i32_407 : BitVec 32 := 128#32
  ![v609.toNat, 128]

def k0_chk204 (v609 : BitVec 32) : Prop :=
  (∀ a, (k0_off204 v609) a + S1x128.size a ≤ S100000x1024.size a)
theorem k0_off204_inb : ∀ (v609 : BitVec 32) (k0_hw204 : k0_chk204 v609), ∀ a, (k0_off204 v609) a + S1x128.size a ≤ S100000x1024.size a := fun v609 k0_hw204 => k0_hw204

def k0_off205 (v612 : BitVec 32) : Fin 2 → Nat :=
  let c128_i32_409 : BitVec 32 := 128#32
  ![v612.toNat, 128]

def k0_chk205 (v612 : BitVec 32) : Prop :=
  (∀ a, (k0_off205 v612) a + S1x128.size a ≤ S100000x1024.size a)
theorem k0_off205_inb : ∀ (v612 : BitVec 32) (k0_hw205 : k0_chk205 v612), ∀ a, (k0_off205 v612) a + S1x128.size a ≤ S100000x1024.size a := fun v612 k0_hw205 => k0_hw205

def k0_off206 (v615 : BitVec 32) : Fin 2 → Nat :=
  let c128_i32_411 : BitVec 32 := 128#32
  ![v615.toNat, 128]

def k0_chk206 (v615 : BitVec 32) : Prop :=
  (∀ a, (k0_off206 v615) a + S1x128.size a ≤ S100000x1024.size a)
theorem k0_off206_inb : ∀ (v615 : BitVec 32) (k0_hw206 : k0_chk206 v615), ∀ a, (k0_off206 v615) a + S1x128.size a ≤ S100000x1024.size a := fun v615 k0_hw206 => k0_hw206

def k0_off207 (v618 : BitVec 32) : Fin 2 → Nat :=
  let c128_i32_413 : BitVec 32 := 128#32
  ![v618.toNat, 128]

def k0_chk207 (v618 : BitVec 32) : Prop :=
  (∀ a, (k0_off207 v618) a + S1x128.size a ≤ S100000x1024.size a)
theorem k0_off207_inb : ∀ (v618 : BitVec 32) (k0_hw207 : k0_chk207 v618), ∀ a, (k0_off207 v618) a + S1x128.size a ≤ S100000x1024.size a := fun v618 k0_hw207 => k0_hw207

def k0_off208 (v621 : BitVec 32) : Fin 2 → Nat :=
  let c128_i32_415 : BitVec 32 := 128#32
  ![v621.toNat, 128]

def k0_chk208 (v621 : BitVec 32) : Prop :=
  (∀ a, (k0_off208 v621) a + S1x128.size a ≤ S100000x1024.size a)
theorem k0_off208_inb : ∀ (v621 : BitVec 32) (k0_hw208 : k0_chk208 v621), ∀ a, (k0_off208 v621) a + S1x128.size a ≤ S100000x1024.size a := fun v621 k0_hw208 => k0_hw208

def k0_off209 (v624 : BitVec 32) : Fin 2 → Nat :=
  let c128_i32_417 : BitVec 32 := 128#32
  ![v624.toNat, 128]

def k0_chk209 (v624 : BitVec 32) : Prop :=
  (∀ a, (k0_off209 v624) a + S1x128.size a ≤ S100000x1024.size a)
theorem k0_off209_inb : ∀ (v624 : BitVec 32) (k0_hw209 : k0_chk209 v624), ∀ a, (k0_off209 v624) a + S1x128.size a ≤ S100000x1024.size a := fun v624 k0_hw209 => k0_hw209

def k0_off210 (v627 : BitVec 32) : Fin 2 → Nat :=
  let c128_i32_419 : BitVec 32 := 128#32
  ![v627.toNat, 128]

def k0_chk210 (v627 : BitVec 32) : Prop :=
  (∀ a, (k0_off210 v627) a + S1x128.size a ≤ S100000x1024.size a)
theorem k0_off210_inb : ∀ (v627 : BitVec 32) (k0_hw210 : k0_chk210 v627), ∀ a, (k0_off210 v627) a + S1x128.size a ≤ S100000x1024.size a := fun v627 k0_hw210 => k0_hw210

def k0_off211 (v630 : BitVec 32) : Fin 2 → Nat :=
  let c128_i32_421 : BitVec 32 := 128#32
  ![v630.toNat, 128]

def k0_chk211 (v630 : BitVec 32) : Prop :=
  (∀ a, (k0_off211 v630) a + S1x128.size a ≤ S100000x1024.size a)
theorem k0_off211_inb : ∀ (v630 : BitVec 32) (k0_hw211 : k0_chk211 v630), ∀ a, (k0_off211 v630) a + S1x128.size a ≤ S100000x1024.size a := fun v630 k0_hw211 => k0_hw211

def k0_off212 (v633 : BitVec 32) : Fin 2 → Nat :=
  let c128_i32_423 : BitVec 32 := 128#32
  ![v633.toNat, 128]

def k0_chk212 (v633 : BitVec 32) : Prop :=
  (∀ a, (k0_off212 v633) a + S1x128.size a ≤ S100000x1024.size a)
theorem k0_off212_inb : ∀ (v633 : BitVec 32) (k0_hw212 : k0_chk212 v633), ∀ a, (k0_off212 v633) a + S1x128.size a ≤ S100000x1024.size a := fun v633 k0_hw212 => k0_hw212

def k0_off213 (v636 : BitVec 32) : Fin 2 → Nat :=
  let c128_i32_425 : BitVec 32 := 128#32
  ![v636.toNat, 128]

def k0_chk213 (v636 : BitVec 32) : Prop :=
  (∀ a, (k0_off213 v636) a + S1x128.size a ≤ S100000x1024.size a)
theorem k0_off213_inb : ∀ (v636 : BitVec 32) (k0_hw213 : k0_chk213 v636), ∀ a, (k0_off213 v636) a + S1x128.size a ≤ S100000x1024.size a := fun v636 k0_hw213 => k0_hw213

def k0_off214 (v639 : BitVec 32) : Fin 2 → Nat :=
  let c128_i32_427 : BitVec 32 := 128#32
  ![v639.toNat, 128]

def k0_chk214 (v639 : BitVec 32) : Prop :=
  (∀ a, (k0_off214 v639) a + S1x128.size a ≤ S100000x1024.size a)
theorem k0_off214_inb : ∀ (v639 : BitVec 32) (k0_hw214 : k0_chk214 v639), ∀ a, (k0_off214 v639) a + S1x128.size a ≤ S100000x1024.size a := fun v639 k0_hw214 => k0_hw214

def k0_off215 (v642 : BitVec 32) : Fin 2 → Nat :=
  let c128_i32_429 : BitVec 32 := 128#32
  ![v642.toNat, 128]

def k0_chk215 (v642 : BitVec 32) : Prop :=
  (∀ a, (k0_off215 v642) a + S1x128.size a ≤ S100000x1024.size a)
theorem k0_off215_inb : ∀ (v642 : BitVec 32) (k0_hw215 : k0_chk215 v642), ∀ a, (k0_off215 v642) a + S1x128.size a ≤ S100000x1024.size a := fun v642 k0_hw215 => k0_hw215

def k0_off216 (v645 : BitVec 32) : Fin 2 → Nat :=
  let c128_i32_431 : BitVec 32 := 128#32
  ![v645.toNat, 128]

def k0_chk216 (v645 : BitVec 32) : Prop :=
  (∀ a, (k0_off216 v645) a + S1x128.size a ≤ S100000x1024.size a)
theorem k0_off216_inb : ∀ (v645 : BitVec 32) (k0_hw216 : k0_chk216 v645), ∀ a, (k0_off216 v645) a + S1x128.size a ≤ S100000x1024.size a := fun v645 k0_hw216 => k0_hw216

def k0_off217 (v648 : BitVec 32) : Fin 2 → Nat :=
  let c128_i32_433 : BitVec 32 := 128#32
  ![v648.toNat, 128]

def k0_chk217 (v648 : BitVec 32) : Prop :=
  (∀ a, (k0_off217 v648) a + S1x128.size a ≤ S100000x1024.size a)
theorem k0_off217_inb : ∀ (v648 : BitVec 32) (k0_hw217 : k0_chk217 v648), ∀ a, (k0_off217 v648) a + S1x128.size a ≤ S100000x1024.size a := fun v648 k0_hw217 => k0_hw217

def k0_off218 (v651 : BitVec 32) : Fin 2 → Nat :=
  let c128_i32_435 : BitVec 32 := 128#32
  ![v651.toNat, 128]

def k0_chk218 (v651 : BitVec 32) : Prop :=
  (∀ a, (k0_off218 v651) a + S1x128.size a ≤ S100000x1024.size a)
theorem k0_off218_inb : ∀ (v651 : BitVec 32) (k0_hw218 : k0_chk218 v651), ∀ a, (k0_off218 v651) a + S1x128.size a ≤ S100000x1024.size a := fun v651 k0_hw218 => k0_hw218

def k0_off219 (v654 : BitVec 32) : Fin 2 → Nat :=
  let c128_i32_437 : BitVec 32 := 128#32
  ![v654.toNat, 128]

def k0_chk219 (v654 : BitVec 32) : Prop :=
  (∀ a, (k0_off219 v654) a + S1x128.size a ≤ S100000x1024.size a)
theorem k0_off219_inb : ∀ (v654 : BitVec 32) (k0_hw219 : k0_chk219 v654), ∀ a, (k0_off219 v654) a + S1x128.size a ≤ S100000x1024.size a := fun v654 k0_hw219 => k0_hw219

def k0_off220 (v657 : BitVec 32) : Fin 2 → Nat :=
  let c128_i32_439 : BitVec 32 := 128#32
  ![v657.toNat, 128]

def k0_chk220 (v657 : BitVec 32) : Prop :=
  (∀ a, (k0_off220 v657) a + S1x128.size a ≤ S100000x1024.size a)
theorem k0_off220_inb : ∀ (v657 : BitVec 32) (k0_hw220 : k0_chk220 v657), ∀ a, (k0_off220 v657) a + S1x128.size a ≤ S100000x1024.size a := fun v657 k0_hw220 => k0_hw220

def k0_off221 (v660 : BitVec 32) : Fin 2 → Nat :=
  let c128_i32_441 : BitVec 32 := 128#32
  ![v660.toNat, 128]

def k0_chk221 (v660 : BitVec 32) : Prop :=
  (∀ a, (k0_off221 v660) a + S1x128.size a ≤ S100000x1024.size a)
theorem k0_off221_inb : ∀ (v660 : BitVec 32) (k0_hw221 : k0_chk221 v660), ∀ a, (k0_off221 v660) a + S1x128.size a ≤ S100000x1024.size a := fun v660 k0_hw221 => k0_hw221

def k0_off222 (v663 : BitVec 32) : Fin 2 → Nat :=
  let c128_i32_443 : BitVec 32 := 128#32
  ![v663.toNat, 128]

def k0_chk222 (v663 : BitVec 32) : Prop :=
  (∀ a, (k0_off222 v663) a + S1x128.size a ≤ S100000x1024.size a)
theorem k0_off222_inb : ∀ (v663 : BitVec 32) (k0_hw222 : k0_chk222 v663), ∀ a, (k0_off222 v663) a + S1x128.size a ≤ S100000x1024.size a := fun v663 k0_hw222 => k0_hw222

def k0_off223 (v666 : BitVec 32) : Fin 2 → Nat :=
  let c128_i32_445 : BitVec 32 := 128#32
  ![v666.toNat, 128]

def k0_chk223 (v666 : BitVec 32) : Prop :=
  (∀ a, (k0_off223 v666) a + S1x128.size a ≤ S100000x1024.size a)
theorem k0_off223_inb : ∀ (v666 : BitVec 32) (k0_hw223 : k0_chk223 v666), ∀ a, (k0_off223 v666) a + S1x128.size a ≤ S100000x1024.size a := fun v666 k0_hw223 => k0_hw223

def k0_off224 (v669 : BitVec 32) : Fin 2 → Nat :=
  let c128_i32_447 : BitVec 32 := 128#32
  ![v669.toNat, 128]

def k0_chk224 (v669 : BitVec 32) : Prop :=
  (∀ a, (k0_off224 v669) a + S1x128.size a ≤ S100000x1024.size a)
theorem k0_off224_inb : ∀ (v669 : BitVec 32) (k0_hw224 : k0_chk224 v669), ∀ a, (k0_off224 v669) a + S1x128.size a ≤ S100000x1024.size a := fun v669 k0_hw224 => k0_hw224

def k0_off225 (v672 : BitVec 32) : Fin 2 → Nat :=
  let c128_i32_449 : BitVec 32 := 128#32
  ![v672.toNat, 128]

def k0_chk225 (v672 : BitVec 32) : Prop :=
  (∀ a, (k0_off225 v672) a + S1x128.size a ≤ S100000x1024.size a)
theorem k0_off225_inb : ∀ (v672 : BitVec 32) (k0_hw225 : k0_chk225 v672), ∀ a, (k0_off225 v672) a + S1x128.size a ≤ S100000x1024.size a := fun v672 k0_hw225 => k0_hw225

def k0_off226 (v675 : BitVec 32) : Fin 2 → Nat :=
  let c128_i32_451 : BitVec 32 := 128#32
  ![v675.toNat, 128]

def k0_chk226 (v675 : BitVec 32) : Prop :=
  (∀ a, (k0_off226 v675) a + S1x128.size a ≤ S100000x1024.size a)
theorem k0_off226_inb : ∀ (v675 : BitVec 32) (k0_hw226 : k0_chk226 v675), ∀ a, (k0_off226 v675) a + S1x128.size a ≤ S100000x1024.size a := fun v675 k0_hw226 => k0_hw226

def k0_off227 (v678 : BitVec 32) : Fin 2 → Nat :=
  let c128_i32_453 : BitVec 32 := 128#32
  ![v678.toNat, 128]

def k0_chk227 (v678 : BitVec 32) : Prop :=
  (∀ a, (k0_off227 v678) a + S1x128.size a ≤ S100000x1024.size a)
theorem k0_off227_inb : ∀ (v678 : BitVec 32) (k0_hw227 : k0_chk227 v678), ∀ a, (k0_off227 v678) a + S1x128.size a ≤ S100000x1024.size a := fun v678 k0_hw227 => k0_hw227

def k0_off228 (v681 : BitVec 32) : Fin 2 → Nat :=
  let c128_i32_455 : BitVec 32 := 128#32
  ![v681.toNat, 128]

def k0_chk228 (v681 : BitVec 32) : Prop :=
  (∀ a, (k0_off228 v681) a + S1x128.size a ≤ S100000x1024.size a)
theorem k0_off228_inb : ∀ (v681 : BitVec 32) (k0_hw228 : k0_chk228 v681), ∀ a, (k0_off228 v681) a + S1x128.size a ≤ S100000x1024.size a := fun v681 k0_hw228 => k0_hw228

def k0_off229 (v684 : BitVec 32) : Fin 2 → Nat :=
  let c128_i32_457 : BitVec 32 := 128#32
  ![v684.toNat, 128]

def k0_chk229 (v684 : BitVec 32) : Prop :=
  (∀ a, (k0_off229 v684) a + S1x128.size a ≤ S100000x1024.size a)
theorem k0_off229_inb : ∀ (v684 : BitVec 32) (k0_hw229 : k0_chk229 v684), ∀ a, (k0_off229 v684) a + S1x128.size a ≤ S100000x1024.size a := fun v684 k0_hw229 => k0_hw229

def k0_off230 (v687 : BitVec 32) : Fin 2 → Nat :=
  let c128_i32_459 : BitVec 32 := 128#32
  ![v687.toNat, 128]

def k0_chk230 (v687 : BitVec 32) : Prop :=
  (∀ a, (k0_off230 v687) a + S1x128.size a ≤ S100000x1024.size a)
theorem k0_off230_inb : ∀ (v687 : BitVec 32) (k0_hw230 : k0_chk230 v687), ∀ a, (k0_off230 v687) a + S1x128.size a ≤ S100000x1024.size a := fun v687 k0_hw230 => k0_hw230

def k0_off231 (v690 : BitVec 32) : Fin 2 → Nat :=
  let c128_i32_461 : BitVec 32 := 128#32
  ![v690.toNat, 128]

def k0_chk231 (v690 : BitVec 32) : Prop :=
  (∀ a, (k0_off231 v690) a + S1x128.size a ≤ S100000x1024.size a)
theorem k0_off231_inb : ∀ (v690 : BitVec 32) (k0_hw231 : k0_chk231 v690), ∀ a, (k0_off231 v690) a + S1x128.size a ≤ S100000x1024.size a := fun v690 k0_hw231 => k0_hw231

def k0_off232 (v693 : BitVec 32) : Fin 2 → Nat :=
  let c128_i32_463 : BitVec 32 := 128#32
  ![v693.toNat, 128]

def k0_chk232 (v693 : BitVec 32) : Prop :=
  (∀ a, (k0_off232 v693) a + S1x128.size a ≤ S100000x1024.size a)
theorem k0_off232_inb : ∀ (v693 : BitVec 32) (k0_hw232 : k0_chk232 v693), ∀ a, (k0_off232 v693) a + S1x128.size a ≤ S100000x1024.size a := fun v693 k0_hw232 => k0_hw232

def k0_off233 (v696 : BitVec 32) : Fin 2 → Nat :=
  let c128_i32_465 : BitVec 32 := 128#32
  ![v696.toNat, 128]

def k0_chk233 (v696 : BitVec 32) : Prop :=
  (∀ a, (k0_off233 v696) a + S1x128.size a ≤ S100000x1024.size a)
theorem k0_off233_inb : ∀ (v696 : BitVec 32) (k0_hw233 : k0_chk233 v696), ∀ a, (k0_off233 v696) a + S1x128.size a ≤ S100000x1024.size a := fun v696 k0_hw233 => k0_hw233

def k0_off234 (v699 : BitVec 32) : Fin 2 → Nat :=
  let c128_i32_467 : BitVec 32 := 128#32
  ![v699.toNat, 128]

def k0_chk234 (v699 : BitVec 32) : Prop :=
  (∀ a, (k0_off234 v699) a + S1x128.size a ≤ S100000x1024.size a)
theorem k0_off234_inb : ∀ (v699 : BitVec 32) (k0_hw234 : k0_chk234 v699), ∀ a, (k0_off234 v699) a + S1x128.size a ≤ S100000x1024.size a := fun v699 k0_hw234 => k0_hw234

def k0_off235 (v702 : BitVec 32) : Fin 2 → Nat :=
  let c128_i32_469 : BitVec 32 := 128#32
  ![v702.toNat, 128]

def k0_chk235 (v702 : BitVec 32) : Prop :=
  (∀ a, (k0_off235 v702) a + S1x128.size a ≤ S100000x1024.size a)
theorem k0_off235_inb : ∀ (v702 : BitVec 32) (k0_hw235 : k0_chk235 v702), ∀ a, (k0_off235 v702) a + S1x128.size a ≤ S100000x1024.size a := fun v702 k0_hw235 => k0_hw235

def k0_off236 (v705 : BitVec 32) : Fin 2 → Nat :=
  let c128_i32_471 : BitVec 32 := 128#32
  ![v705.toNat, 128]

def k0_chk236 (v705 : BitVec 32) : Prop :=
  (∀ a, (k0_off236 v705) a + S1x128.size a ≤ S100000x1024.size a)
theorem k0_off236_inb : ∀ (v705 : BitVec 32) (k0_hw236 : k0_chk236 v705), ∀ a, (k0_off236 v705) a + S1x128.size a ≤ S100000x1024.size a := fun v705 k0_hw236 => k0_hw236

def k0_off237 (v708 : BitVec 32) : Fin 2 → Nat :=
  let c128_i32_473 : BitVec 32 := 128#32
  ![v708.toNat, 128]

def k0_chk237 (v708 : BitVec 32) : Prop :=
  (∀ a, (k0_off237 v708) a + S1x128.size a ≤ S100000x1024.size a)
theorem k0_off237_inb : ∀ (v708 : BitVec 32) (k0_hw237 : k0_chk237 v708), ∀ a, (k0_off237 v708) a + S1x128.size a ≤ S100000x1024.size a := fun v708 k0_hw237 => k0_hw237

def k0_off238 (v711 : BitVec 32) : Fin 2 → Nat :=
  let c128_i32_475 : BitVec 32 := 128#32
  ![v711.toNat, 128]

def k0_chk238 (v711 : BitVec 32) : Prop :=
  (∀ a, (k0_off238 v711) a + S1x128.size a ≤ S100000x1024.size a)
theorem k0_off238_inb : ∀ (v711 : BitVec 32) (k0_hw238 : k0_chk238 v711), ∀ a, (k0_off238 v711) a + S1x128.size a ≤ S100000x1024.size a := fun v711 k0_hw238 => k0_hw238

def k0_off239 (v714 : BitVec 32) : Fin 2 → Nat :=
  let c128_i32_477 : BitVec 32 := 128#32
  ![v714.toNat, 128]

def k0_chk239 (v714 : BitVec 32) : Prop :=
  (∀ a, (k0_off239 v714) a + S1x128.size a ≤ S100000x1024.size a)
theorem k0_off239_inb : ∀ (v714 : BitVec 32) (k0_hw239 : k0_chk239 v714), ∀ a, (k0_off239 v714) a + S1x128.size a ≤ S100000x1024.size a := fun v714 k0_hw239 => k0_hw239

def k0_off240 (v717 : BitVec 32) : Fin 2 → Nat :=
  let c128_i32_479 : BitVec 32 := 128#32
  ![v717.toNat, 128]

def k0_chk240 (v717 : BitVec 32) : Prop :=
  (∀ a, (k0_off240 v717) a + S1x128.size a ≤ S100000x1024.size a)
theorem k0_off240_inb : ∀ (v717 : BitVec 32) (k0_hw240 : k0_chk240 v717), ∀ a, (k0_off240 v717) a + S1x128.size a ≤ S100000x1024.size a := fun v717 k0_hw240 => k0_hw240

def k0_off241 (v720 : BitVec 32) : Fin 2 → Nat :=
  let c128_i32_481 : BitVec 32 := 128#32
  ![v720.toNat, 128]

def k0_chk241 (v720 : BitVec 32) : Prop :=
  (∀ a, (k0_off241 v720) a + S1x128.size a ≤ S100000x1024.size a)
theorem k0_off241_inb : ∀ (v720 : BitVec 32) (k0_hw241 : k0_chk241 v720), ∀ a, (k0_off241 v720) a + S1x128.size a ≤ S100000x1024.size a := fun v720 k0_hw241 => k0_hw241

def k0_off242 (v723 : BitVec 32) : Fin 2 → Nat :=
  let c128_i32_483 : BitVec 32 := 128#32
  ![v723.toNat, 128]

def k0_chk242 (v723 : BitVec 32) : Prop :=
  (∀ a, (k0_off242 v723) a + S1x128.size a ≤ S100000x1024.size a)
theorem k0_off242_inb : ∀ (v723 : BitVec 32) (k0_hw242 : k0_chk242 v723), ∀ a, (k0_off242 v723) a + S1x128.size a ≤ S100000x1024.size a := fun v723 k0_hw242 => k0_hw242

def k0_off243 (v726 : BitVec 32) : Fin 2 → Nat :=
  let c128_i32_485 : BitVec 32 := 128#32
  ![v726.toNat, 128]

def k0_chk243 (v726 : BitVec 32) : Prop :=
  (∀ a, (k0_off243 v726) a + S1x128.size a ≤ S100000x1024.size a)
theorem k0_off243_inb : ∀ (v726 : BitVec 32) (k0_hw243 : k0_chk243 v726), ∀ a, (k0_off243 v726) a + S1x128.size a ≤ S100000x1024.size a := fun v726 k0_hw243 => k0_hw243

def k0_off244 (v729 : BitVec 32) : Fin 2 → Nat :=
  let c128_i32_487 : BitVec 32 := 128#32
  ![v729.toNat, 128]

def k0_chk244 (v729 : BitVec 32) : Prop :=
  (∀ a, (k0_off244 v729) a + S1x128.size a ≤ S100000x1024.size a)
theorem k0_off244_inb : ∀ (v729 : BitVec 32) (k0_hw244 : k0_chk244 v729), ∀ a, (k0_off244 v729) a + S1x128.size a ≤ S100000x1024.size a := fun v729 k0_hw244 => k0_hw244

def k0_off245 (v732 : BitVec 32) : Fin 2 → Nat :=
  let c128_i32_489 : BitVec 32 := 128#32
  ![v732.toNat, 128]

def k0_chk245 (v732 : BitVec 32) : Prop :=
  (∀ a, (k0_off245 v732) a + S1x128.size a ≤ S100000x1024.size a)
theorem k0_off245_inb : ∀ (v732 : BitVec 32) (k0_hw245 : k0_chk245 v732), ∀ a, (k0_off245 v732) a + S1x128.size a ≤ S100000x1024.size a := fun v732 k0_hw245 => k0_hw245

def k0_off246 (v735 : BitVec 32) : Fin 2 → Nat :=
  let c128_i32_491 : BitVec 32 := 128#32
  ![v735.toNat, 128]

def k0_chk246 (v735 : BitVec 32) : Prop :=
  (∀ a, (k0_off246 v735) a + S1x128.size a ≤ S100000x1024.size a)
theorem k0_off246_inb : ∀ (v735 : BitVec 32) (k0_hw246 : k0_chk246 v735), ∀ a, (k0_off246 v735) a + S1x128.size a ≤ S100000x1024.size a := fun v735 k0_hw246 => k0_hw246

def k0_off247 (v738 : BitVec 32) : Fin 2 → Nat :=
  let c128_i32_493 : BitVec 32 := 128#32
  ![v738.toNat, 128]

def k0_chk247 (v738 : BitVec 32) : Prop :=
  (∀ a, (k0_off247 v738) a + S1x128.size a ≤ S100000x1024.size a)
theorem k0_off247_inb : ∀ (v738 : BitVec 32) (k0_hw247 : k0_chk247 v738), ∀ a, (k0_off247 v738) a + S1x128.size a ≤ S100000x1024.size a := fun v738 k0_hw247 => k0_hw247

def k0_off248 (v741 : BitVec 32) : Fin 2 → Nat :=
  let c128_i32_495 : BitVec 32 := 128#32
  ![v741.toNat, 128]

def k0_chk248 (v741 : BitVec 32) : Prop :=
  (∀ a, (k0_off248 v741) a + S1x128.size a ≤ S100000x1024.size a)
theorem k0_off248_inb : ∀ (v741 : BitVec 32) (k0_hw248 : k0_chk248 v741), ∀ a, (k0_off248 v741) a + S1x128.size a ≤ S100000x1024.size a := fun v741 k0_hw248 => k0_hw248

def k0_off249 (v744 : BitVec 32) : Fin 2 → Nat :=
  let c128_i32_497 : BitVec 32 := 128#32
  ![v744.toNat, 128]

def k0_chk249 (v744 : BitVec 32) : Prop :=
  (∀ a, (k0_off249 v744) a + S1x128.size a ≤ S100000x1024.size a)
theorem k0_off249_inb : ∀ (v744 : BitVec 32) (k0_hw249 : k0_chk249 v744), ∀ a, (k0_off249 v744) a + S1x128.size a ≤ S100000x1024.size a := fun v744 k0_hw249 => k0_hw249

def k0_off250 (v747 : BitVec 32) : Fin 2 → Nat :=
  let c128_i32_499 : BitVec 32 := 128#32
  ![v747.toNat, 128]

def k0_chk250 (v747 : BitVec 32) : Prop :=
  (∀ a, (k0_off250 v747) a + S1x128.size a ≤ S100000x1024.size a)
theorem k0_off250_inb : ∀ (v747 : BitVec 32) (k0_hw250 : k0_chk250 v747), ∀ a, (k0_off250 v747) a + S1x128.size a ≤ S100000x1024.size a := fun v747 k0_hw250 => k0_hw250

def k0_off251 (v750 : BitVec 32) : Fin 2 → Nat :=
  let c128_i32_501 : BitVec 32 := 128#32
  ![v750.toNat, 128]

def k0_chk251 (v750 : BitVec 32) : Prop :=
  (∀ a, (k0_off251 v750) a + S1x128.size a ≤ S100000x1024.size a)
theorem k0_off251_inb : ∀ (v750 : BitVec 32) (k0_hw251 : k0_chk251 v750), ∀ a, (k0_off251 v750) a + S1x128.size a ≤ S100000x1024.size a := fun v750 k0_hw251 => k0_hw251

def k0_off252 (v753 : BitVec 32) : Fin 2 → Nat :=
  let c128_i32_503 : BitVec 32 := 128#32
  ![v753.toNat, 128]

def k0_chk252 (v753 : BitVec 32) : Prop :=
  (∀ a, (k0_off252 v753) a + S1x128.size a ≤ S100000x1024.size a)
theorem k0_off252_inb : ∀ (v753 : BitVec 32) (k0_hw252 : k0_chk252 v753), ∀ a, (k0_off252 v753) a + S1x128.size a ≤ S100000x1024.size a := fun v753 k0_hw252 => k0_hw252

def k0_off253 (v756 : BitVec 32) : Fin 2 → Nat :=
  let c128_i32_505 : BitVec 32 := 128#32
  ![v756.toNat, 128]

def k0_chk253 (v756 : BitVec 32) : Prop :=
  (∀ a, (k0_off253 v756) a + S1x128.size a ≤ S100000x1024.size a)
theorem k0_off253_inb : ∀ (v756 : BitVec 32) (k0_hw253 : k0_chk253 v756), ∀ a, (k0_off253 v756) a + S1x128.size a ≤ S100000x1024.size a := fun v756 k0_hw253 => k0_hw253

def k0_off254 (v759 : BitVec 32) : Fin 2 → Nat :=
  let c128_i32_507 : BitVec 32 := 128#32
  ![v759.toNat, 128]

def k0_chk254 (v759 : BitVec 32) : Prop :=
  (∀ a, (k0_off254 v759) a + S1x128.size a ≤ S100000x1024.size a)
theorem k0_off254_inb : ∀ (v759 : BitVec 32) (k0_hw254 : k0_chk254 v759), ∀ a, (k0_off254 v759) a + S1x128.size a ≤ S100000x1024.size a := fun v759 k0_hw254 => k0_hw254

def k0_off255 (v762 : BitVec 32) : Fin 2 → Nat :=
  let c128_i32_509 : BitVec 32 := 128#32
  ![v762.toNat, 128]

def k0_chk255 (v762 : BitVec 32) : Prop :=
  (∀ a, (k0_off255 v762) a + S1x128.size a ≤ S100000x1024.size a)
theorem k0_off255_inb : ∀ (v762 : BitVec 32) (k0_hw255 : k0_chk255 v762), ∀ a, (k0_off255 v762) a + S1x128.size a ≤ S100000x1024.size a := fun v762 k0_hw255 => k0_hw255

def k0_off256 (v765 : BitVec 32) : Fin 2 → Nat :=
  let c128_i32_511 : BitVec 32 := 128#32
  ![v765.toNat, 128]

def k0_chk256 (v765 : BitVec 32) : Prop :=
  (∀ a, (k0_off256 v765) a + S1x128.size a ≤ S100000x1024.size a)
theorem k0_off256_inb : ∀ (v765 : BitVec 32) (k0_hw256 : k0_chk256 v765), ∀ a, (k0_off256 v765) a + S1x128.size a ≤ S100000x1024.size a := fun v765 k0_hw256 => k0_hw256

def k0_off257 (v768 : BitVec 32) : Fin 2 → Nat :=
  let c256_i32_513 : BitVec 32 := 256#32
  ![v768.toNat, 256]

def k0_chk257 (v768 : BitVec 32) : Prop :=
  (∀ a, (k0_off257 v768) a + S1x128.size a ≤ S100000x1024.size a)
theorem k0_off257_inb : ∀ (v768 : BitVec 32) (k0_hw257 : k0_chk257 v768), ∀ a, (k0_off257 v768) a + S1x128.size a ≤ S100000x1024.size a := fun v768 k0_hw257 => k0_hw257

def k0_off258 (v771 : BitVec 32) : Fin 2 → Nat :=
  let c256_i32_515 : BitVec 32 := 256#32
  ![v771.toNat, 256]

def k0_chk258 (v771 : BitVec 32) : Prop :=
  (∀ a, (k0_off258 v771) a + S1x128.size a ≤ S100000x1024.size a)
theorem k0_off258_inb : ∀ (v771 : BitVec 32) (k0_hw258 : k0_chk258 v771), ∀ a, (k0_off258 v771) a + S1x128.size a ≤ S100000x1024.size a := fun v771 k0_hw258 => k0_hw258

def k0_off259 (v774 : BitVec 32) : Fin 2 → Nat :=
  let c256_i32_517 : BitVec 32 := 256#32
  ![v774.toNat, 256]

def k0_chk259 (v774 : BitVec 32) : Prop :=
  (∀ a, (k0_off259 v774) a + S1x128.size a ≤ S100000x1024.size a)
theorem k0_off259_inb : ∀ (v774 : BitVec 32) (k0_hw259 : k0_chk259 v774), ∀ a, (k0_off259 v774) a + S1x128.size a ≤ S100000x1024.size a := fun v774 k0_hw259 => k0_hw259

def k0_off260 (v777 : BitVec 32) : Fin 2 → Nat :=
  let c256_i32_519 : BitVec 32 := 256#32
  ![v777.toNat, 256]

def k0_chk260 (v777 : BitVec 32) : Prop :=
  (∀ a, (k0_off260 v777) a + S1x128.size a ≤ S100000x1024.size a)
theorem k0_off260_inb : ∀ (v777 : BitVec 32) (k0_hw260 : k0_chk260 v777), ∀ a, (k0_off260 v777) a + S1x128.size a ≤ S100000x1024.size a := fun v777 k0_hw260 => k0_hw260

def k0_off261 (v780 : BitVec 32) : Fin 2 → Nat :=
  let c256_i32_521 : BitVec 32 := 256#32
  ![v780.toNat, 256]

def k0_chk261 (v780 : BitVec 32) : Prop :=
  (∀ a, (k0_off261 v780) a + S1x128.size a ≤ S100000x1024.size a)
theorem k0_off261_inb : ∀ (v780 : BitVec 32) (k0_hw261 : k0_chk261 v780), ∀ a, (k0_off261 v780) a + S1x128.size a ≤ S100000x1024.size a := fun v780 k0_hw261 => k0_hw261

def k0_off262 (v783 : BitVec 32) : Fin 2 → Nat :=
  let c256_i32_523 : BitVec 32 := 256#32
  ![v783.toNat, 256]

def k0_chk262 (v783 : BitVec 32) : Prop :=
  (∀ a, (k0_off262 v783) a + S1x128.size a ≤ S100000x1024.size a)
theorem k0_off262_inb : ∀ (v783 : BitVec 32) (k0_hw262 : k0_chk262 v783), ∀ a, (k0_off262 v783) a + S1x128.size a ≤ S100000x1024.size a := fun v783 k0_hw262 => k0_hw262

def k0_off263 (v786 : BitVec 32) : Fin 2 → Nat :=
  let c256_i32_525 : BitVec 32 := 256#32
  ![v786.toNat, 256]

def k0_chk263 (v786 : BitVec 32) : Prop :=
  (∀ a, (k0_off263 v786) a + S1x128.size a ≤ S100000x1024.size a)
theorem k0_off263_inb : ∀ (v786 : BitVec 32) (k0_hw263 : k0_chk263 v786), ∀ a, (k0_off263 v786) a + S1x128.size a ≤ S100000x1024.size a := fun v786 k0_hw263 => k0_hw263

def k0_off264 (v789 : BitVec 32) : Fin 2 → Nat :=
  let c256_i32_527 : BitVec 32 := 256#32
  ![v789.toNat, 256]

def k0_chk264 (v789 : BitVec 32) : Prop :=
  (∀ a, (k0_off264 v789) a + S1x128.size a ≤ S100000x1024.size a)
theorem k0_off264_inb : ∀ (v789 : BitVec 32) (k0_hw264 : k0_chk264 v789), ∀ a, (k0_off264 v789) a + S1x128.size a ≤ S100000x1024.size a := fun v789 k0_hw264 => k0_hw264

def k0_off265 (v792 : BitVec 32) : Fin 2 → Nat :=
  let c256_i32_529 : BitVec 32 := 256#32
  ![v792.toNat, 256]

def k0_chk265 (v792 : BitVec 32) : Prop :=
  (∀ a, (k0_off265 v792) a + S1x128.size a ≤ S100000x1024.size a)
theorem k0_off265_inb : ∀ (v792 : BitVec 32) (k0_hw265 : k0_chk265 v792), ∀ a, (k0_off265 v792) a + S1x128.size a ≤ S100000x1024.size a := fun v792 k0_hw265 => k0_hw265

def k0_off266 (v795 : BitVec 32) : Fin 2 → Nat :=
  let c256_i32_531 : BitVec 32 := 256#32
  ![v795.toNat, 256]

def k0_chk266 (v795 : BitVec 32) : Prop :=
  (∀ a, (k0_off266 v795) a + S1x128.size a ≤ S100000x1024.size a)
theorem k0_off266_inb : ∀ (v795 : BitVec 32) (k0_hw266 : k0_chk266 v795), ∀ a, (k0_off266 v795) a + S1x128.size a ≤ S100000x1024.size a := fun v795 k0_hw266 => k0_hw266

def k0_off267 (v798 : BitVec 32) : Fin 2 → Nat :=
  let c256_i32_533 : BitVec 32 := 256#32
  ![v798.toNat, 256]

def k0_chk267 (v798 : BitVec 32) : Prop :=
  (∀ a, (k0_off267 v798) a + S1x128.size a ≤ S100000x1024.size a)
theorem k0_off267_inb : ∀ (v798 : BitVec 32) (k0_hw267 : k0_chk267 v798), ∀ a, (k0_off267 v798) a + S1x128.size a ≤ S100000x1024.size a := fun v798 k0_hw267 => k0_hw267

def k0_off268 (v801 : BitVec 32) : Fin 2 → Nat :=
  let c256_i32_535 : BitVec 32 := 256#32
  ![v801.toNat, 256]

def k0_chk268 (v801 : BitVec 32) : Prop :=
  (∀ a, (k0_off268 v801) a + S1x128.size a ≤ S100000x1024.size a)
theorem k0_off268_inb : ∀ (v801 : BitVec 32) (k0_hw268 : k0_chk268 v801), ∀ a, (k0_off268 v801) a + S1x128.size a ≤ S100000x1024.size a := fun v801 k0_hw268 => k0_hw268

def k0_off269 (v804 : BitVec 32) : Fin 2 → Nat :=
  let c256_i32_537 : BitVec 32 := 256#32
  ![v804.toNat, 256]

def k0_chk269 (v804 : BitVec 32) : Prop :=
  (∀ a, (k0_off269 v804) a + S1x128.size a ≤ S100000x1024.size a)
theorem k0_off269_inb : ∀ (v804 : BitVec 32) (k0_hw269 : k0_chk269 v804), ∀ a, (k0_off269 v804) a + S1x128.size a ≤ S100000x1024.size a := fun v804 k0_hw269 => k0_hw269

def k0_off270 (v807 : BitVec 32) : Fin 2 → Nat :=
  let c256_i32_539 : BitVec 32 := 256#32
  ![v807.toNat, 256]

def k0_chk270 (v807 : BitVec 32) : Prop :=
  (∀ a, (k0_off270 v807) a + S1x128.size a ≤ S100000x1024.size a)
theorem k0_off270_inb : ∀ (v807 : BitVec 32) (k0_hw270 : k0_chk270 v807), ∀ a, (k0_off270 v807) a + S1x128.size a ≤ S100000x1024.size a := fun v807 k0_hw270 => k0_hw270

def k0_off271 (v810 : BitVec 32) : Fin 2 → Nat :=
  let c256_i32_541 : BitVec 32 := 256#32
  ![v810.toNat, 256]

def k0_chk271 (v810 : BitVec 32) : Prop :=
  (∀ a, (k0_off271 v810) a + S1x128.size a ≤ S100000x1024.size a)
theorem k0_off271_inb : ∀ (v810 : BitVec 32) (k0_hw271 : k0_chk271 v810), ∀ a, (k0_off271 v810) a + S1x128.size a ≤ S100000x1024.size a := fun v810 k0_hw271 => k0_hw271

def k0_off272 (v813 : BitVec 32) : Fin 2 → Nat :=
  let c256_i32_543 : BitVec 32 := 256#32
  ![v813.toNat, 256]

def k0_chk272 (v813 : BitVec 32) : Prop :=
  (∀ a, (k0_off272 v813) a + S1x128.size a ≤ S100000x1024.size a)
theorem k0_off272_inb : ∀ (v813 : BitVec 32) (k0_hw272 : k0_chk272 v813), ∀ a, (k0_off272 v813) a + S1x128.size a ≤ S100000x1024.size a := fun v813 k0_hw272 => k0_hw272

def k0_off273 (v816 : BitVec 32) : Fin 2 → Nat :=
  let c256_i32_545 : BitVec 32 := 256#32
  ![v816.toNat, 256]

def k0_chk273 (v816 : BitVec 32) : Prop :=
  (∀ a, (k0_off273 v816) a + S1x128.size a ≤ S100000x1024.size a)
theorem k0_off273_inb : ∀ (v816 : BitVec 32) (k0_hw273 : k0_chk273 v816), ∀ a, (k0_off273 v816) a + S1x128.size a ≤ S100000x1024.size a := fun v816 k0_hw273 => k0_hw273

def k0_off274 (v819 : BitVec 32) : Fin 2 → Nat :=
  let c256_i32_547 : BitVec 32 := 256#32
  ![v819.toNat, 256]

def k0_chk274 (v819 : BitVec 32) : Prop :=
  (∀ a, (k0_off274 v819) a + S1x128.size a ≤ S100000x1024.size a)
theorem k0_off274_inb : ∀ (v819 : BitVec 32) (k0_hw274 : k0_chk274 v819), ∀ a, (k0_off274 v819) a + S1x128.size a ≤ S100000x1024.size a := fun v819 k0_hw274 => k0_hw274

def k0_off275 (v822 : BitVec 32) : Fin 2 → Nat :=
  let c256_i32_549 : BitVec 32 := 256#32
  ![v822.toNat, 256]

def k0_chk275 (v822 : BitVec 32) : Prop :=
  (∀ a, (k0_off275 v822) a + S1x128.size a ≤ S100000x1024.size a)
theorem k0_off275_inb : ∀ (v822 : BitVec 32) (k0_hw275 : k0_chk275 v822), ∀ a, (k0_off275 v822) a + S1x128.size a ≤ S100000x1024.size a := fun v822 k0_hw275 => k0_hw275

def k0_off276 (v825 : BitVec 32) : Fin 2 → Nat :=
  let c256_i32_551 : BitVec 32 := 256#32
  ![v825.toNat, 256]

def k0_chk276 (v825 : BitVec 32) : Prop :=
  (∀ a, (k0_off276 v825) a + S1x128.size a ≤ S100000x1024.size a)
theorem k0_off276_inb : ∀ (v825 : BitVec 32) (k0_hw276 : k0_chk276 v825), ∀ a, (k0_off276 v825) a + S1x128.size a ≤ S100000x1024.size a := fun v825 k0_hw276 => k0_hw276

def k0_off277 (v828 : BitVec 32) : Fin 2 → Nat :=
  let c256_i32_553 : BitVec 32 := 256#32
  ![v828.toNat, 256]

def k0_chk277 (v828 : BitVec 32) : Prop :=
  (∀ a, (k0_off277 v828) a + S1x128.size a ≤ S100000x1024.size a)
theorem k0_off277_inb : ∀ (v828 : BitVec 32) (k0_hw277 : k0_chk277 v828), ∀ a, (k0_off277 v828) a + S1x128.size a ≤ S100000x1024.size a := fun v828 k0_hw277 => k0_hw277

def k0_off278 (v831 : BitVec 32) : Fin 2 → Nat :=
  let c256_i32_555 : BitVec 32 := 256#32
  ![v831.toNat, 256]

def k0_chk278 (v831 : BitVec 32) : Prop :=
  (∀ a, (k0_off278 v831) a + S1x128.size a ≤ S100000x1024.size a)
theorem k0_off278_inb : ∀ (v831 : BitVec 32) (k0_hw278 : k0_chk278 v831), ∀ a, (k0_off278 v831) a + S1x128.size a ≤ S100000x1024.size a := fun v831 k0_hw278 => k0_hw278

def k0_off279 (v834 : BitVec 32) : Fin 2 → Nat :=
  let c256_i32_557 : BitVec 32 := 256#32
  ![v834.toNat, 256]

def k0_chk279 (v834 : BitVec 32) : Prop :=
  (∀ a, (k0_off279 v834) a + S1x128.size a ≤ S100000x1024.size a)
theorem k0_off279_inb : ∀ (v834 : BitVec 32) (k0_hw279 : k0_chk279 v834), ∀ a, (k0_off279 v834) a + S1x128.size a ≤ S100000x1024.size a := fun v834 k0_hw279 => k0_hw279

def k0_off280 (v837 : BitVec 32) : Fin 2 → Nat :=
  let c256_i32_559 : BitVec 32 := 256#32
  ![v837.toNat, 256]

def k0_chk280 (v837 : BitVec 32) : Prop :=
  (∀ a, (k0_off280 v837) a + S1x128.size a ≤ S100000x1024.size a)
theorem k0_off280_inb : ∀ (v837 : BitVec 32) (k0_hw280 : k0_chk280 v837), ∀ a, (k0_off280 v837) a + S1x128.size a ≤ S100000x1024.size a := fun v837 k0_hw280 => k0_hw280

def k0_off281 (v840 : BitVec 32) : Fin 2 → Nat :=
  let c256_i32_561 : BitVec 32 := 256#32
  ![v840.toNat, 256]

def k0_chk281 (v840 : BitVec 32) : Prop :=
  (∀ a, (k0_off281 v840) a + S1x128.size a ≤ S100000x1024.size a)
theorem k0_off281_inb : ∀ (v840 : BitVec 32) (k0_hw281 : k0_chk281 v840), ∀ a, (k0_off281 v840) a + S1x128.size a ≤ S100000x1024.size a := fun v840 k0_hw281 => k0_hw281

def k0_off282 (v843 : BitVec 32) : Fin 2 → Nat :=
  let c256_i32_563 : BitVec 32 := 256#32
  ![v843.toNat, 256]

def k0_chk282 (v843 : BitVec 32) : Prop :=
  (∀ a, (k0_off282 v843) a + S1x128.size a ≤ S100000x1024.size a)
theorem k0_off282_inb : ∀ (v843 : BitVec 32) (k0_hw282 : k0_chk282 v843), ∀ a, (k0_off282 v843) a + S1x128.size a ≤ S100000x1024.size a := fun v843 k0_hw282 => k0_hw282

def k0_off283 (v846 : BitVec 32) : Fin 2 → Nat :=
  let c256_i32_565 : BitVec 32 := 256#32
  ![v846.toNat, 256]

def k0_chk283 (v846 : BitVec 32) : Prop :=
  (∀ a, (k0_off283 v846) a + S1x128.size a ≤ S100000x1024.size a)
theorem k0_off283_inb : ∀ (v846 : BitVec 32) (k0_hw283 : k0_chk283 v846), ∀ a, (k0_off283 v846) a + S1x128.size a ≤ S100000x1024.size a := fun v846 k0_hw283 => k0_hw283

def k0_off284 (v849 : BitVec 32) : Fin 2 → Nat :=
  let c256_i32_567 : BitVec 32 := 256#32
  ![v849.toNat, 256]

def k0_chk284 (v849 : BitVec 32) : Prop :=
  (∀ a, (k0_off284 v849) a + S1x128.size a ≤ S100000x1024.size a)
theorem k0_off284_inb : ∀ (v849 : BitVec 32) (k0_hw284 : k0_chk284 v849), ∀ a, (k0_off284 v849) a + S1x128.size a ≤ S100000x1024.size a := fun v849 k0_hw284 => k0_hw284

def k0_off285 (v852 : BitVec 32) : Fin 2 → Nat :=
  let c256_i32_569 : BitVec 32 := 256#32
  ![v852.toNat, 256]

def k0_chk285 (v852 : BitVec 32) : Prop :=
  (∀ a, (k0_off285 v852) a + S1x128.size a ≤ S100000x1024.size a)
theorem k0_off285_inb : ∀ (v852 : BitVec 32) (k0_hw285 : k0_chk285 v852), ∀ a, (k0_off285 v852) a + S1x128.size a ≤ S100000x1024.size a := fun v852 k0_hw285 => k0_hw285

def k0_off286 (v855 : BitVec 32) : Fin 2 → Nat :=
  let c256_i32_571 : BitVec 32 := 256#32
  ![v855.toNat, 256]

def k0_chk286 (v855 : BitVec 32) : Prop :=
  (∀ a, (k0_off286 v855) a + S1x128.size a ≤ S100000x1024.size a)
theorem k0_off286_inb : ∀ (v855 : BitVec 32) (k0_hw286 : k0_chk286 v855), ∀ a, (k0_off286 v855) a + S1x128.size a ≤ S100000x1024.size a := fun v855 k0_hw286 => k0_hw286

def k0_off287 (v858 : BitVec 32) : Fin 2 → Nat :=
  let c256_i32_573 : BitVec 32 := 256#32
  ![v858.toNat, 256]

def k0_chk287 (v858 : BitVec 32) : Prop :=
  (∀ a, (k0_off287 v858) a + S1x128.size a ≤ S100000x1024.size a)
theorem k0_off287_inb : ∀ (v858 : BitVec 32) (k0_hw287 : k0_chk287 v858), ∀ a, (k0_off287 v858) a + S1x128.size a ≤ S100000x1024.size a := fun v858 k0_hw287 => k0_hw287

def k0_off288 (v861 : BitVec 32) : Fin 2 → Nat :=
  let c256_i32_575 : BitVec 32 := 256#32
  ![v861.toNat, 256]

def k0_chk288 (v861 : BitVec 32) : Prop :=
  (∀ a, (k0_off288 v861) a + S1x128.size a ≤ S100000x1024.size a)
theorem k0_off288_inb : ∀ (v861 : BitVec 32) (k0_hw288 : k0_chk288 v861), ∀ a, (k0_off288 v861) a + S1x128.size a ≤ S100000x1024.size a := fun v861 k0_hw288 => k0_hw288

def k0_off289 (v864 : BitVec 32) : Fin 2 → Nat :=
  let c256_i32_577 : BitVec 32 := 256#32
  ![v864.toNat, 256]

def k0_chk289 (v864 : BitVec 32) : Prop :=
  (∀ a, (k0_off289 v864) a + S1x128.size a ≤ S100000x1024.size a)
theorem k0_off289_inb : ∀ (v864 : BitVec 32) (k0_hw289 : k0_chk289 v864), ∀ a, (k0_off289 v864) a + S1x128.size a ≤ S100000x1024.size a := fun v864 k0_hw289 => k0_hw289

def k0_off290 (v867 : BitVec 32) : Fin 2 → Nat :=
  let c256_i32_579 : BitVec 32 := 256#32
  ![v867.toNat, 256]

def k0_chk290 (v867 : BitVec 32) : Prop :=
  (∀ a, (k0_off290 v867) a + S1x128.size a ≤ S100000x1024.size a)
theorem k0_off290_inb : ∀ (v867 : BitVec 32) (k0_hw290 : k0_chk290 v867), ∀ a, (k0_off290 v867) a + S1x128.size a ≤ S100000x1024.size a := fun v867 k0_hw290 => k0_hw290

def k0_off291 (v870 : BitVec 32) : Fin 2 → Nat :=
  let c256_i32_581 : BitVec 32 := 256#32
  ![v870.toNat, 256]

def k0_chk291 (v870 : BitVec 32) : Prop :=
  (∀ a, (k0_off291 v870) a + S1x128.size a ≤ S100000x1024.size a)
theorem k0_off291_inb : ∀ (v870 : BitVec 32) (k0_hw291 : k0_chk291 v870), ∀ a, (k0_off291 v870) a + S1x128.size a ≤ S100000x1024.size a := fun v870 k0_hw291 => k0_hw291

def k0_off292 (v873 : BitVec 32) : Fin 2 → Nat :=
  let c256_i32_583 : BitVec 32 := 256#32
  ![v873.toNat, 256]

def k0_chk292 (v873 : BitVec 32) : Prop :=
  (∀ a, (k0_off292 v873) a + S1x128.size a ≤ S100000x1024.size a)
theorem k0_off292_inb : ∀ (v873 : BitVec 32) (k0_hw292 : k0_chk292 v873), ∀ a, (k0_off292 v873) a + S1x128.size a ≤ S100000x1024.size a := fun v873 k0_hw292 => k0_hw292

def k0_off293 (v876 : BitVec 32) : Fin 2 → Nat :=
  let c256_i32_585 : BitVec 32 := 256#32
  ![v876.toNat, 256]

def k0_chk293 (v876 : BitVec 32) : Prop :=
  (∀ a, (k0_off293 v876) a + S1x128.size a ≤ S100000x1024.size a)
theorem k0_off293_inb : ∀ (v876 : BitVec 32) (k0_hw293 : k0_chk293 v876), ∀ a, (k0_off293 v876) a + S1x128.size a ≤ S100000x1024.size a := fun v876 k0_hw293 => k0_hw293

def k0_off294 (v879 : BitVec 32) : Fin 2 → Nat :=
  let c256_i32_587 : BitVec 32 := 256#32
  ![v879.toNat, 256]

def k0_chk294 (v879 : BitVec 32) : Prop :=
  (∀ a, (k0_off294 v879) a + S1x128.size a ≤ S100000x1024.size a)
theorem k0_off294_inb : ∀ (v879 : BitVec 32) (k0_hw294 : k0_chk294 v879), ∀ a, (k0_off294 v879) a + S1x128.size a ≤ S100000x1024.size a := fun v879 k0_hw294 => k0_hw294

def k0_off295 (v882 : BitVec 32) : Fin 2 → Nat :=
  let c256_i32_589 : BitVec 32 := 256#32
  ![v882.toNat, 256]

def k0_chk295 (v882 : BitVec 32) : Prop :=
  (∀ a, (k0_off295 v882) a + S1x128.size a ≤ S100000x1024.size a)
theorem k0_off295_inb : ∀ (v882 : BitVec 32) (k0_hw295 : k0_chk295 v882), ∀ a, (k0_off295 v882) a + S1x128.size a ≤ S100000x1024.size a := fun v882 k0_hw295 => k0_hw295

def k0_off296 (v885 : BitVec 32) : Fin 2 → Nat :=
  let c256_i32_591 : BitVec 32 := 256#32
  ![v885.toNat, 256]

def k0_chk296 (v885 : BitVec 32) : Prop :=
  (∀ a, (k0_off296 v885) a + S1x128.size a ≤ S100000x1024.size a)
theorem k0_off296_inb : ∀ (v885 : BitVec 32) (k0_hw296 : k0_chk296 v885), ∀ a, (k0_off296 v885) a + S1x128.size a ≤ S100000x1024.size a := fun v885 k0_hw296 => k0_hw296

def k0_off297 (v888 : BitVec 32) : Fin 2 → Nat :=
  let c256_i32_593 : BitVec 32 := 256#32
  ![v888.toNat, 256]

def k0_chk297 (v888 : BitVec 32) : Prop :=
  (∀ a, (k0_off297 v888) a + S1x128.size a ≤ S100000x1024.size a)
theorem k0_off297_inb : ∀ (v888 : BitVec 32) (k0_hw297 : k0_chk297 v888), ∀ a, (k0_off297 v888) a + S1x128.size a ≤ S100000x1024.size a := fun v888 k0_hw297 => k0_hw297

def k0_off298 (v891 : BitVec 32) : Fin 2 → Nat :=
  let c256_i32_595 : BitVec 32 := 256#32
  ![v891.toNat, 256]

def k0_chk298 (v891 : BitVec 32) : Prop :=
  (∀ a, (k0_off298 v891) a + S1x128.size a ≤ S100000x1024.size a)
theorem k0_off298_inb : ∀ (v891 : BitVec 32) (k0_hw298 : k0_chk298 v891), ∀ a, (k0_off298 v891) a + S1x128.size a ≤ S100000x1024.size a := fun v891 k0_hw298 => k0_hw298

def k0_off299 (v894 : BitVec 32) : Fin 2 → Nat :=
  let c256_i32_597 : BitVec 32 := 256#32
  ![v894.toNat, 256]

def k0_chk299 (v894 : BitVec 32) : Prop :=
  (∀ a, (k0_off299 v894) a + S1x128.size a ≤ S100000x1024.size a)
theorem k0_off299_inb : ∀ (v894 : BitVec 32) (k0_hw299 : k0_chk299 v894), ∀ a, (k0_off299 v894) a + S1x128.size a ≤ S100000x1024.size a := fun v894 k0_hw299 => k0_hw299

def k0_off300 (v897 : BitVec 32) : Fin 2 → Nat :=
  let c256_i32_599 : BitVec 32 := 256#32
  ![v897.toNat, 256]

def k0_chk300 (v897 : BitVec 32) : Prop :=
  (∀ a, (k0_off300 v897) a + S1x128.size a ≤ S100000x1024.size a)
theorem k0_off300_inb : ∀ (v897 : BitVec 32) (k0_hw300 : k0_chk300 v897), ∀ a, (k0_off300 v897) a + S1x128.size a ≤ S100000x1024.size a := fun v897 k0_hw300 => k0_hw300

def k0_off301 (v900 : BitVec 32) : Fin 2 → Nat :=
  let c256_i32_601 : BitVec 32 := 256#32
  ![v900.toNat, 256]

def k0_chk301 (v900 : BitVec 32) : Prop :=
  (∀ a, (k0_off301 v900) a + S1x128.size a ≤ S100000x1024.size a)
theorem k0_off301_inb : ∀ (v900 : BitVec 32) (k0_hw301 : k0_chk301 v900), ∀ a, (k0_off301 v900) a + S1x128.size a ≤ S100000x1024.size a := fun v900 k0_hw301 => k0_hw301

def k0_off302 (v903 : BitVec 32) : Fin 2 → Nat :=
  let c256_i32_603 : BitVec 32 := 256#32
  ![v903.toNat, 256]

def k0_chk302 (v903 : BitVec 32) : Prop :=
  (∀ a, (k0_off302 v903) a + S1x128.size a ≤ S100000x1024.size a)
theorem k0_off302_inb : ∀ (v903 : BitVec 32) (k0_hw302 : k0_chk302 v903), ∀ a, (k0_off302 v903) a + S1x128.size a ≤ S100000x1024.size a := fun v903 k0_hw302 => k0_hw302

def k0_off303 (v906 : BitVec 32) : Fin 2 → Nat :=
  let c256_i32_605 : BitVec 32 := 256#32
  ![v906.toNat, 256]

def k0_chk303 (v906 : BitVec 32) : Prop :=
  (∀ a, (k0_off303 v906) a + S1x128.size a ≤ S100000x1024.size a)
theorem k0_off303_inb : ∀ (v906 : BitVec 32) (k0_hw303 : k0_chk303 v906), ∀ a, (k0_off303 v906) a + S1x128.size a ≤ S100000x1024.size a := fun v906 k0_hw303 => k0_hw303

def k0_off304 (v909 : BitVec 32) : Fin 2 → Nat :=
  let c256_i32_607 : BitVec 32 := 256#32
  ![v909.toNat, 256]

def k0_chk304 (v909 : BitVec 32) : Prop :=
  (∀ a, (k0_off304 v909) a + S1x128.size a ≤ S100000x1024.size a)
theorem k0_off304_inb : ∀ (v909 : BitVec 32) (k0_hw304 : k0_chk304 v909), ∀ a, (k0_off304 v909) a + S1x128.size a ≤ S100000x1024.size a := fun v909 k0_hw304 => k0_hw304

def k0_off305 (v912 : BitVec 32) : Fin 2 → Nat :=
  let c256_i32_609 : BitVec 32 := 256#32
  ![v912.toNat, 256]

def k0_chk305 (v912 : BitVec 32) : Prop :=
  (∀ a, (k0_off305 v912) a + S1x128.size a ≤ S100000x1024.size a)
theorem k0_off305_inb : ∀ (v912 : BitVec 32) (k0_hw305 : k0_chk305 v912), ∀ a, (k0_off305 v912) a + S1x128.size a ≤ S100000x1024.size a := fun v912 k0_hw305 => k0_hw305

def k0_off306 (v915 : BitVec 32) : Fin 2 → Nat :=
  let c256_i32_611 : BitVec 32 := 256#32
  ![v915.toNat, 256]

def k0_chk306 (v915 : BitVec 32) : Prop :=
  (∀ a, (k0_off306 v915) a + S1x128.size a ≤ S100000x1024.size a)
theorem k0_off306_inb : ∀ (v915 : BitVec 32) (k0_hw306 : k0_chk306 v915), ∀ a, (k0_off306 v915) a + S1x128.size a ≤ S100000x1024.size a := fun v915 k0_hw306 => k0_hw306

def k0_off307 (v918 : BitVec 32) : Fin 2 → Nat :=
  let c256_i32_613 : BitVec 32 := 256#32
  ![v918.toNat, 256]

def k0_chk307 (v918 : BitVec 32) : Prop :=
  (∀ a, (k0_off307 v918) a + S1x128.size a ≤ S100000x1024.size a)
theorem k0_off307_inb : ∀ (v918 : BitVec 32) (k0_hw307 : k0_chk307 v918), ∀ a, (k0_off307 v918) a + S1x128.size a ≤ S100000x1024.size a := fun v918 k0_hw307 => k0_hw307

def k0_off308 (v921 : BitVec 32) : Fin 2 → Nat :=
  let c256_i32_615 : BitVec 32 := 256#32
  ![v921.toNat, 256]

def k0_chk308 (v921 : BitVec 32) : Prop :=
  (∀ a, (k0_off308 v921) a + S1x128.size a ≤ S100000x1024.size a)
theorem k0_off308_inb : ∀ (v921 : BitVec 32) (k0_hw308 : k0_chk308 v921), ∀ a, (k0_off308 v921) a + S1x128.size a ≤ S100000x1024.size a := fun v921 k0_hw308 => k0_hw308

def k0_off309 (v924 : BitVec 32) : Fin 2 → Nat :=
  let c256_i32_617 : BitVec 32 := 256#32
  ![v924.toNat, 256]

def k0_chk309 (v924 : BitVec 32) : Prop :=
  (∀ a, (k0_off309 v924) a + S1x128.size a ≤ S100000x1024.size a)
theorem k0_off309_inb : ∀ (v924 : BitVec 32) (k0_hw309 : k0_chk309 v924), ∀ a, (k0_off309 v924) a + S1x128.size a ≤ S100000x1024.size a := fun v924 k0_hw309 => k0_hw309

def k0_off310 (v927 : BitVec 32) : Fin 2 → Nat :=
  let c256_i32_619 : BitVec 32 := 256#32
  ![v927.toNat, 256]

def k0_chk310 (v927 : BitVec 32) : Prop :=
  (∀ a, (k0_off310 v927) a + S1x128.size a ≤ S100000x1024.size a)
theorem k0_off310_inb : ∀ (v927 : BitVec 32) (k0_hw310 : k0_chk310 v927), ∀ a, (k0_off310 v927) a + S1x128.size a ≤ S100000x1024.size a := fun v927 k0_hw310 => k0_hw310

def k0_off311 (v930 : BitVec 32) : Fin 2 → Nat :=
  let c256_i32_621 : BitVec 32 := 256#32
  ![v930.toNat, 256]

def k0_chk311 (v930 : BitVec 32) : Prop :=
  (∀ a, (k0_off311 v930) a + S1x128.size a ≤ S100000x1024.size a)
theorem k0_off311_inb : ∀ (v930 : BitVec 32) (k0_hw311 : k0_chk311 v930), ∀ a, (k0_off311 v930) a + S1x128.size a ≤ S100000x1024.size a := fun v930 k0_hw311 => k0_hw311

def k0_off312 (v933 : BitVec 32) : Fin 2 → Nat :=
  let c256_i32_623 : BitVec 32 := 256#32
  ![v933.toNat, 256]

def k0_chk312 (v933 : BitVec 32) : Prop :=
  (∀ a, (k0_off312 v933) a + S1x128.size a ≤ S100000x1024.size a)
theorem k0_off312_inb : ∀ (v933 : BitVec 32) (k0_hw312 : k0_chk312 v933), ∀ a, (k0_off312 v933) a + S1x128.size a ≤ S100000x1024.size a := fun v933 k0_hw312 => k0_hw312

def k0_off313 (v936 : BitVec 32) : Fin 2 → Nat :=
  let c256_i32_625 : BitVec 32 := 256#32
  ![v936.toNat, 256]

def k0_chk313 (v936 : BitVec 32) : Prop :=
  (∀ a, (k0_off313 v936) a + S1x128.size a ≤ S100000x1024.size a)
theorem k0_off313_inb : ∀ (v936 : BitVec 32) (k0_hw313 : k0_chk313 v936), ∀ a, (k0_off313 v936) a + S1x128.size a ≤ S100000x1024.size a := fun v936 k0_hw313 => k0_hw313

def k0_off314 (v939 : BitVec 32) : Fin 2 → Nat :=
  let c256_i32_627 : BitVec 32 := 256#32
  ![v939.toNat, 256]

def k0_chk314 (v939 : BitVec 32) : Prop :=
  (∀ a, (k0_off314 v939) a + S1x128.size a ≤ S100000x1024.size a)
theorem k0_off314_inb : ∀ (v939 : BitVec 32) (k0_hw314 : k0_chk314 v939), ∀ a, (k0_off314 v939) a + S1x128.size a ≤ S100000x1024.size a := fun v939 k0_hw314 => k0_hw314

def k0_off315 (v942 : BitVec 32) : Fin 2 → Nat :=
  let c256_i32_629 : BitVec 32 := 256#32
  ![v942.toNat, 256]

def k0_chk315 (v942 : BitVec 32) : Prop :=
  (∀ a, (k0_off315 v942) a + S1x128.size a ≤ S100000x1024.size a)
theorem k0_off315_inb : ∀ (v942 : BitVec 32) (k0_hw315 : k0_chk315 v942), ∀ a, (k0_off315 v942) a + S1x128.size a ≤ S100000x1024.size a := fun v942 k0_hw315 => k0_hw315

def k0_off316 (v945 : BitVec 32) : Fin 2 → Nat :=
  let c256_i32_631 : BitVec 32 := 256#32
  ![v945.toNat, 256]

def k0_chk316 (v945 : BitVec 32) : Prop :=
  (∀ a, (k0_off316 v945) a + S1x128.size a ≤ S100000x1024.size a)
theorem k0_off316_inb : ∀ (v945 : BitVec 32) (k0_hw316 : k0_chk316 v945), ∀ a, (k0_off316 v945) a + S1x128.size a ≤ S100000x1024.size a := fun v945 k0_hw316 => k0_hw316

def k0_off317 (v948 : BitVec 32) : Fin 2 → Nat :=
  let c256_i32_633 : BitVec 32 := 256#32
  ![v948.toNat, 256]

def k0_chk317 (v948 : BitVec 32) : Prop :=
  (∀ a, (k0_off317 v948) a + S1x128.size a ≤ S100000x1024.size a)
theorem k0_off317_inb : ∀ (v948 : BitVec 32) (k0_hw317 : k0_chk317 v948), ∀ a, (k0_off317 v948) a + S1x128.size a ≤ S100000x1024.size a := fun v948 k0_hw317 => k0_hw317

def k0_off318 (v951 : BitVec 32) : Fin 2 → Nat :=
  let c256_i32_635 : BitVec 32 := 256#32
  ![v951.toNat, 256]

def k0_chk318 (v951 : BitVec 32) : Prop :=
  (∀ a, (k0_off318 v951) a + S1x128.size a ≤ S100000x1024.size a)
theorem k0_off318_inb : ∀ (v951 : BitVec 32) (k0_hw318 : k0_chk318 v951), ∀ a, (k0_off318 v951) a + S1x128.size a ≤ S100000x1024.size a := fun v951 k0_hw318 => k0_hw318

def k0_off319 (v954 : BitVec 32) : Fin 2 → Nat :=
  let c256_i32_637 : BitVec 32 := 256#32
  ![v954.toNat, 256]

def k0_chk319 (v954 : BitVec 32) : Prop :=
  (∀ a, (k0_off319 v954) a + S1x128.size a ≤ S100000x1024.size a)
theorem k0_off319_inb : ∀ (v954 : BitVec 32) (k0_hw319 : k0_chk319 v954), ∀ a, (k0_off319 v954) a + S1x128.size a ≤ S100000x1024.size a := fun v954 k0_hw319 => k0_hw319

def k0_off320 (v957 : BitVec 32) : Fin 2 → Nat :=
  let c256_i32_639 : BitVec 32 := 256#32
  ![v957.toNat, 256]

def k0_chk320 (v957 : BitVec 32) : Prop :=
  (∀ a, (k0_off320 v957) a + S1x128.size a ≤ S100000x1024.size a)
theorem k0_off320_inb : ∀ (v957 : BitVec 32) (k0_hw320 : k0_chk320 v957), ∀ a, (k0_off320 v957) a + S1x128.size a ≤ S100000x1024.size a := fun v957 k0_hw320 => k0_hw320

def k0_off321 (v960 : BitVec 32) : Fin 2 → Nat :=
  let c256_i32_641 : BitVec 32 := 256#32
  ![v960.toNat, 256]

def k0_chk321 (v960 : BitVec 32) : Prop :=
  (∀ a, (k0_off321 v960) a + S1x128.size a ≤ S100000x1024.size a)
theorem k0_off321_inb : ∀ (v960 : BitVec 32) (k0_hw321 : k0_chk321 v960), ∀ a, (k0_off321 v960) a + S1x128.size a ≤ S100000x1024.size a := fun v960 k0_hw321 => k0_hw321

def k0_off322 (v963 : BitVec 32) : Fin 2 → Nat :=
  let c256_i32_643 : BitVec 32 := 256#32
  ![v963.toNat, 256]

def k0_chk322 (v963 : BitVec 32) : Prop :=
  (∀ a, (k0_off322 v963) a + S1x128.size a ≤ S100000x1024.size a)
theorem k0_off322_inb : ∀ (v963 : BitVec 32) (k0_hw322 : k0_chk322 v963), ∀ a, (k0_off322 v963) a + S1x128.size a ≤ S100000x1024.size a := fun v963 k0_hw322 => k0_hw322

def k0_off323 (v966 : BitVec 32) : Fin 2 → Nat :=
  let c256_i32_645 : BitVec 32 := 256#32
  ![v966.toNat, 256]

def k0_chk323 (v966 : BitVec 32) : Prop :=
  (∀ a, (k0_off323 v966) a + S1x128.size a ≤ S100000x1024.size a)
theorem k0_off323_inb : ∀ (v966 : BitVec 32) (k0_hw323 : k0_chk323 v966), ∀ a, (k0_off323 v966) a + S1x128.size a ≤ S100000x1024.size a := fun v966 k0_hw323 => k0_hw323

def k0_off324 (v969 : BitVec 32) : Fin 2 → Nat :=
  let c256_i32_647 : BitVec 32 := 256#32
  ![v969.toNat, 256]

def k0_chk324 (v969 : BitVec 32) : Prop :=
  (∀ a, (k0_off324 v969) a + S1x128.size a ≤ S100000x1024.size a)
theorem k0_off324_inb : ∀ (v969 : BitVec 32) (k0_hw324 : k0_chk324 v969), ∀ a, (k0_off324 v969) a + S1x128.size a ≤ S100000x1024.size a := fun v969 k0_hw324 => k0_hw324

def k0_off325 (v972 : BitVec 32) : Fin 2 → Nat :=
  let c256_i32_649 : BitVec 32 := 256#32
  ![v972.toNat, 256]

def k0_chk325 (v972 : BitVec 32) : Prop :=
  (∀ a, (k0_off325 v972) a + S1x128.size a ≤ S100000x1024.size a)
theorem k0_off325_inb : ∀ (v972 : BitVec 32) (k0_hw325 : k0_chk325 v972), ∀ a, (k0_off325 v972) a + S1x128.size a ≤ S100000x1024.size a := fun v972 k0_hw325 => k0_hw325

def k0_off326 (v975 : BitVec 32) : Fin 2 → Nat :=
  let c256_i32_651 : BitVec 32 := 256#32
  ![v975.toNat, 256]

def k0_chk326 (v975 : BitVec 32) : Prop :=
  (∀ a, (k0_off326 v975) a + S1x128.size a ≤ S100000x1024.size a)
theorem k0_off326_inb : ∀ (v975 : BitVec 32) (k0_hw326 : k0_chk326 v975), ∀ a, (k0_off326 v975) a + S1x128.size a ≤ S100000x1024.size a := fun v975 k0_hw326 => k0_hw326

def k0_off327 (v978 : BitVec 32) : Fin 2 → Nat :=
  let c256_i32_653 : BitVec 32 := 256#32
  ![v978.toNat, 256]

def k0_chk327 (v978 : BitVec 32) : Prop :=
  (∀ a, (k0_off327 v978) a + S1x128.size a ≤ S100000x1024.size a)
theorem k0_off327_inb : ∀ (v978 : BitVec 32) (k0_hw327 : k0_chk327 v978), ∀ a, (k0_off327 v978) a + S1x128.size a ≤ S100000x1024.size a := fun v978 k0_hw327 => k0_hw327

def k0_off328 (v981 : BitVec 32) : Fin 2 → Nat :=
  let c256_i32_655 : BitVec 32 := 256#32
  ![v981.toNat, 256]

def k0_chk328 (v981 : BitVec 32) : Prop :=
  (∀ a, (k0_off328 v981) a + S1x128.size a ≤ S100000x1024.size a)
theorem k0_off328_inb : ∀ (v981 : BitVec 32) (k0_hw328 : k0_chk328 v981), ∀ a, (k0_off328 v981) a + S1x128.size a ≤ S100000x1024.size a := fun v981 k0_hw328 => k0_hw328

def k0_off329 (v984 : BitVec 32) : Fin 2 → Nat :=
  let c256_i32_657 : BitVec 32 := 256#32
  ![v984.toNat, 256]

def k0_chk329 (v984 : BitVec 32) : Prop :=
  (∀ a, (k0_off329 v984) a + S1x128.size a ≤ S100000x1024.size a)
theorem k0_off329_inb : ∀ (v984 : BitVec 32) (k0_hw329 : k0_chk329 v984), ∀ a, (k0_off329 v984) a + S1x128.size a ≤ S100000x1024.size a := fun v984 k0_hw329 => k0_hw329

def k0_off330 (v987 : BitVec 32) : Fin 2 → Nat :=
  let c256_i32_659 : BitVec 32 := 256#32
  ![v987.toNat, 256]

def k0_chk330 (v987 : BitVec 32) : Prop :=
  (∀ a, (k0_off330 v987) a + S1x128.size a ≤ S100000x1024.size a)
theorem k0_off330_inb : ∀ (v987 : BitVec 32) (k0_hw330 : k0_chk330 v987), ∀ a, (k0_off330 v987) a + S1x128.size a ≤ S100000x1024.size a := fun v987 k0_hw330 => k0_hw330

def k0_off331 (v990 : BitVec 32) : Fin 2 → Nat :=
  let c256_i32_661 : BitVec 32 := 256#32
  ![v990.toNat, 256]

def k0_chk331 (v990 : BitVec 32) : Prop :=
  (∀ a, (k0_off331 v990) a + S1x128.size a ≤ S100000x1024.size a)
theorem k0_off331_inb : ∀ (v990 : BitVec 32) (k0_hw331 : k0_chk331 v990), ∀ a, (k0_off331 v990) a + S1x128.size a ≤ S100000x1024.size a := fun v990 k0_hw331 => k0_hw331

def k0_off332 (v993 : BitVec 32) : Fin 2 → Nat :=
  let c256_i32_663 : BitVec 32 := 256#32
  ![v993.toNat, 256]

def k0_chk332 (v993 : BitVec 32) : Prop :=
  (∀ a, (k0_off332 v993) a + S1x128.size a ≤ S100000x1024.size a)
theorem k0_off332_inb : ∀ (v993 : BitVec 32) (k0_hw332 : k0_chk332 v993), ∀ a, (k0_off332 v993) a + S1x128.size a ≤ S100000x1024.size a := fun v993 k0_hw332 => k0_hw332

def k0_off333 (v996 : BitVec 32) : Fin 2 → Nat :=
  let c256_i32_665 : BitVec 32 := 256#32
  ![v996.toNat, 256]

def k0_chk333 (v996 : BitVec 32) : Prop :=
  (∀ a, (k0_off333 v996) a + S1x128.size a ≤ S100000x1024.size a)
theorem k0_off333_inb : ∀ (v996 : BitVec 32) (k0_hw333 : k0_chk333 v996), ∀ a, (k0_off333 v996) a + S1x128.size a ≤ S100000x1024.size a := fun v996 k0_hw333 => k0_hw333

def k0_off334 (v999 : BitVec 32) : Fin 2 → Nat :=
  let c256_i32_667 : BitVec 32 := 256#32
  ![v999.toNat, 256]

def k0_chk334 (v999 : BitVec 32) : Prop :=
  (∀ a, (k0_off334 v999) a + S1x128.size a ≤ S100000x1024.size a)
theorem k0_off334_inb : ∀ (v999 : BitVec 32) (k0_hw334 : k0_chk334 v999), ∀ a, (k0_off334 v999) a + S1x128.size a ≤ S100000x1024.size a := fun v999 k0_hw334 => k0_hw334

def k0_off335 (v1002 : BitVec 32) : Fin 2 → Nat :=
  let c256_i32_669 : BitVec 32 := 256#32
  ![v1002.toNat, 256]

def k0_chk335 (v1002 : BitVec 32) : Prop :=
  (∀ a, (k0_off335 v1002) a + S1x128.size a ≤ S100000x1024.size a)
theorem k0_off335_inb : ∀ (v1002 : BitVec 32) (k0_hw335 : k0_chk335 v1002), ∀ a, (k0_off335 v1002) a + S1x128.size a ≤ S100000x1024.size a := fun v1002 k0_hw335 => k0_hw335

def k0_off336 (v1005 : BitVec 32) : Fin 2 → Nat :=
  let c256_i32_671 : BitVec 32 := 256#32
  ![v1005.toNat, 256]

def k0_chk336 (v1005 : BitVec 32) : Prop :=
  (∀ a, (k0_off336 v1005) a + S1x128.size a ≤ S100000x1024.size a)
theorem k0_off336_inb : ∀ (v1005 : BitVec 32) (k0_hw336 : k0_chk336 v1005), ∀ a, (k0_off336 v1005) a + S1x128.size a ≤ S100000x1024.size a := fun v1005 k0_hw336 => k0_hw336

def k0_off337 (v1008 : BitVec 32) : Fin 2 → Nat :=
  let c256_i32_673 : BitVec 32 := 256#32
  ![v1008.toNat, 256]

def k0_chk337 (v1008 : BitVec 32) : Prop :=
  (∀ a, (k0_off337 v1008) a + S1x128.size a ≤ S100000x1024.size a)
theorem k0_off337_inb : ∀ (v1008 : BitVec 32) (k0_hw337 : k0_chk337 v1008), ∀ a, (k0_off337 v1008) a + S1x128.size a ≤ S100000x1024.size a := fun v1008 k0_hw337 => k0_hw337

def k0_off338 (v1011 : BitVec 32) : Fin 2 → Nat :=
  let c256_i32_675 : BitVec 32 := 256#32
  ![v1011.toNat, 256]

def k0_chk338 (v1011 : BitVec 32) : Prop :=
  (∀ a, (k0_off338 v1011) a + S1x128.size a ≤ S100000x1024.size a)
theorem k0_off338_inb : ∀ (v1011 : BitVec 32) (k0_hw338 : k0_chk338 v1011), ∀ a, (k0_off338 v1011) a + S1x128.size a ≤ S100000x1024.size a := fun v1011 k0_hw338 => k0_hw338

def k0_off339 (v1014 : BitVec 32) : Fin 2 → Nat :=
  let c256_i32_677 : BitVec 32 := 256#32
  ![v1014.toNat, 256]

def k0_chk339 (v1014 : BitVec 32) : Prop :=
  (∀ a, (k0_off339 v1014) a + S1x128.size a ≤ S100000x1024.size a)
theorem k0_off339_inb : ∀ (v1014 : BitVec 32) (k0_hw339 : k0_chk339 v1014), ∀ a, (k0_off339 v1014) a + S1x128.size a ≤ S100000x1024.size a := fun v1014 k0_hw339 => k0_hw339

def k0_off340 (v1017 : BitVec 32) : Fin 2 → Nat :=
  let c256_i32_679 : BitVec 32 := 256#32
  ![v1017.toNat, 256]

def k0_chk340 (v1017 : BitVec 32) : Prop :=
  (∀ a, (k0_off340 v1017) a + S1x128.size a ≤ S100000x1024.size a)
theorem k0_off340_inb : ∀ (v1017 : BitVec 32) (k0_hw340 : k0_chk340 v1017), ∀ a, (k0_off340 v1017) a + S1x128.size a ≤ S100000x1024.size a := fun v1017 k0_hw340 => k0_hw340

def k0_off341 (v1020 : BitVec 32) : Fin 2 → Nat :=
  let c256_i32_681 : BitVec 32 := 256#32
  ![v1020.toNat, 256]

def k0_chk341 (v1020 : BitVec 32) : Prop :=
  (∀ a, (k0_off341 v1020) a + S1x128.size a ≤ S100000x1024.size a)
theorem k0_off341_inb : ∀ (v1020 : BitVec 32) (k0_hw341 : k0_chk341 v1020), ∀ a, (k0_off341 v1020) a + S1x128.size a ≤ S100000x1024.size a := fun v1020 k0_hw341 => k0_hw341

def k0_off342 (v1023 : BitVec 32) : Fin 2 → Nat :=
  let c256_i32_683 : BitVec 32 := 256#32
  ![v1023.toNat, 256]

def k0_chk342 (v1023 : BitVec 32) : Prop :=
  (∀ a, (k0_off342 v1023) a + S1x128.size a ≤ S100000x1024.size a)
theorem k0_off342_inb : ∀ (v1023 : BitVec 32) (k0_hw342 : k0_chk342 v1023), ∀ a, (k0_off342 v1023) a + S1x128.size a ≤ S100000x1024.size a := fun v1023 k0_hw342 => k0_hw342

def k0_off343 (v1026 : BitVec 32) : Fin 2 → Nat :=
  let c256_i32_685 : BitVec 32 := 256#32
  ![v1026.toNat, 256]

def k0_chk343 (v1026 : BitVec 32) : Prop :=
  (∀ a, (k0_off343 v1026) a + S1x128.size a ≤ S100000x1024.size a)
theorem k0_off343_inb : ∀ (v1026 : BitVec 32) (k0_hw343 : k0_chk343 v1026), ∀ a, (k0_off343 v1026) a + S1x128.size a ≤ S100000x1024.size a := fun v1026 k0_hw343 => k0_hw343

def k0_off344 (v1029 : BitVec 32) : Fin 2 → Nat :=
  let c256_i32_687 : BitVec 32 := 256#32
  ![v1029.toNat, 256]

def k0_chk344 (v1029 : BitVec 32) : Prop :=
  (∀ a, (k0_off344 v1029) a + S1x128.size a ≤ S100000x1024.size a)
theorem k0_off344_inb : ∀ (v1029 : BitVec 32) (k0_hw344 : k0_chk344 v1029), ∀ a, (k0_off344 v1029) a + S1x128.size a ≤ S100000x1024.size a := fun v1029 k0_hw344 => k0_hw344

def k0_off345 (v1032 : BitVec 32) : Fin 2 → Nat :=
  let c256_i32_689 : BitVec 32 := 256#32
  ![v1032.toNat, 256]

def k0_chk345 (v1032 : BitVec 32) : Prop :=
  (∀ a, (k0_off345 v1032) a + S1x128.size a ≤ S100000x1024.size a)
theorem k0_off345_inb : ∀ (v1032 : BitVec 32) (k0_hw345 : k0_chk345 v1032), ∀ a, (k0_off345 v1032) a + S1x128.size a ≤ S100000x1024.size a := fun v1032 k0_hw345 => k0_hw345

def k0_off346 (v1035 : BitVec 32) : Fin 2 → Nat :=
  let c256_i32_691 : BitVec 32 := 256#32
  ![v1035.toNat, 256]

def k0_chk346 (v1035 : BitVec 32) : Prop :=
  (∀ a, (k0_off346 v1035) a + S1x128.size a ≤ S100000x1024.size a)
theorem k0_off346_inb : ∀ (v1035 : BitVec 32) (k0_hw346 : k0_chk346 v1035), ∀ a, (k0_off346 v1035) a + S1x128.size a ≤ S100000x1024.size a := fun v1035 k0_hw346 => k0_hw346

def k0_off347 (v1038 : BitVec 32) : Fin 2 → Nat :=
  let c256_i32_693 : BitVec 32 := 256#32
  ![v1038.toNat, 256]

def k0_chk347 (v1038 : BitVec 32) : Prop :=
  (∀ a, (k0_off347 v1038) a + S1x128.size a ≤ S100000x1024.size a)
theorem k0_off347_inb : ∀ (v1038 : BitVec 32) (k0_hw347 : k0_chk347 v1038), ∀ a, (k0_off347 v1038) a + S1x128.size a ≤ S100000x1024.size a := fun v1038 k0_hw347 => k0_hw347

def k0_off348 (v1041 : BitVec 32) : Fin 2 → Nat :=
  let c256_i32_695 : BitVec 32 := 256#32
  ![v1041.toNat, 256]

def k0_chk348 (v1041 : BitVec 32) : Prop :=
  (∀ a, (k0_off348 v1041) a + S1x128.size a ≤ S100000x1024.size a)
theorem k0_off348_inb : ∀ (v1041 : BitVec 32) (k0_hw348 : k0_chk348 v1041), ∀ a, (k0_off348 v1041) a + S1x128.size a ≤ S100000x1024.size a := fun v1041 k0_hw348 => k0_hw348

def k0_off349 (v1044 : BitVec 32) : Fin 2 → Nat :=
  let c256_i32_697 : BitVec 32 := 256#32
  ![v1044.toNat, 256]

def k0_chk349 (v1044 : BitVec 32) : Prop :=
  (∀ a, (k0_off349 v1044) a + S1x128.size a ≤ S100000x1024.size a)
theorem k0_off349_inb : ∀ (v1044 : BitVec 32) (k0_hw349 : k0_chk349 v1044), ∀ a, (k0_off349 v1044) a + S1x128.size a ≤ S100000x1024.size a := fun v1044 k0_hw349 => k0_hw349

def k0_off350 (v1047 : BitVec 32) : Fin 2 → Nat :=
  let c256_i32_699 : BitVec 32 := 256#32
  ![v1047.toNat, 256]

def k0_chk350 (v1047 : BitVec 32) : Prop :=
  (∀ a, (k0_off350 v1047) a + S1x128.size a ≤ S100000x1024.size a)
theorem k0_off350_inb : ∀ (v1047 : BitVec 32) (k0_hw350 : k0_chk350 v1047), ∀ a, (k0_off350 v1047) a + S1x128.size a ≤ S100000x1024.size a := fun v1047 k0_hw350 => k0_hw350

def k0_off351 (v1050 : BitVec 32) : Fin 2 → Nat :=
  let c256_i32_701 : BitVec 32 := 256#32
  ![v1050.toNat, 256]

def k0_chk351 (v1050 : BitVec 32) : Prop :=
  (∀ a, (k0_off351 v1050) a + S1x128.size a ≤ S100000x1024.size a)
theorem k0_off351_inb : ∀ (v1050 : BitVec 32) (k0_hw351 : k0_chk351 v1050), ∀ a, (k0_off351 v1050) a + S1x128.size a ≤ S100000x1024.size a := fun v1050 k0_hw351 => k0_hw351

def k0_off352 (v1053 : BitVec 32) : Fin 2 → Nat :=
  let c256_i32_703 : BitVec 32 := 256#32
  ![v1053.toNat, 256]

def k0_chk352 (v1053 : BitVec 32) : Prop :=
  (∀ a, (k0_off352 v1053) a + S1x128.size a ≤ S100000x1024.size a)
theorem k0_off352_inb : ∀ (v1053 : BitVec 32) (k0_hw352 : k0_chk352 v1053), ∀ a, (k0_off352 v1053) a + S1x128.size a ≤ S100000x1024.size a := fun v1053 k0_hw352 => k0_hw352

def k0_off353 (v1056 : BitVec 32) : Fin 2 → Nat :=
  let c256_i32_705 : BitVec 32 := 256#32
  ![v1056.toNat, 256]

def k0_chk353 (v1056 : BitVec 32) : Prop :=
  (∀ a, (k0_off353 v1056) a + S1x128.size a ≤ S100000x1024.size a)
theorem k0_off353_inb : ∀ (v1056 : BitVec 32) (k0_hw353 : k0_chk353 v1056), ∀ a, (k0_off353 v1056) a + S1x128.size a ≤ S100000x1024.size a := fun v1056 k0_hw353 => k0_hw353

def k0_off354 (v1059 : BitVec 32) : Fin 2 → Nat :=
  let c256_i32_707 : BitVec 32 := 256#32
  ![v1059.toNat, 256]

def k0_chk354 (v1059 : BitVec 32) : Prop :=
  (∀ a, (k0_off354 v1059) a + S1x128.size a ≤ S100000x1024.size a)
theorem k0_off354_inb : ∀ (v1059 : BitVec 32) (k0_hw354 : k0_chk354 v1059), ∀ a, (k0_off354 v1059) a + S1x128.size a ≤ S100000x1024.size a := fun v1059 k0_hw354 => k0_hw354

def k0_off355 (v1062 : BitVec 32) : Fin 2 → Nat :=
  let c256_i32_709 : BitVec 32 := 256#32
  ![v1062.toNat, 256]

def k0_chk355 (v1062 : BitVec 32) : Prop :=
  (∀ a, (k0_off355 v1062) a + S1x128.size a ≤ S100000x1024.size a)
theorem k0_off355_inb : ∀ (v1062 : BitVec 32) (k0_hw355 : k0_chk355 v1062), ∀ a, (k0_off355 v1062) a + S1x128.size a ≤ S100000x1024.size a := fun v1062 k0_hw355 => k0_hw355

def k0_off356 (v1065 : BitVec 32) : Fin 2 → Nat :=
  let c256_i32_711 : BitVec 32 := 256#32
  ![v1065.toNat, 256]

def k0_chk356 (v1065 : BitVec 32) : Prop :=
  (∀ a, (k0_off356 v1065) a + S1x128.size a ≤ S100000x1024.size a)
theorem k0_off356_inb : ∀ (v1065 : BitVec 32) (k0_hw356 : k0_chk356 v1065), ∀ a, (k0_off356 v1065) a + S1x128.size a ≤ S100000x1024.size a := fun v1065 k0_hw356 => k0_hw356

def k0_off357 (v1068 : BitVec 32) : Fin 2 → Nat :=
  let c256_i32_713 : BitVec 32 := 256#32
  ![v1068.toNat, 256]

def k0_chk357 (v1068 : BitVec 32) : Prop :=
  (∀ a, (k0_off357 v1068) a + S1x128.size a ≤ S100000x1024.size a)
theorem k0_off357_inb : ∀ (v1068 : BitVec 32) (k0_hw357 : k0_chk357 v1068), ∀ a, (k0_off357 v1068) a + S1x128.size a ≤ S100000x1024.size a := fun v1068 k0_hw357 => k0_hw357

def k0_off358 (v1071 : BitVec 32) : Fin 2 → Nat :=
  let c256_i32_715 : BitVec 32 := 256#32
  ![v1071.toNat, 256]

def k0_chk358 (v1071 : BitVec 32) : Prop :=
  (∀ a, (k0_off358 v1071) a + S1x128.size a ≤ S100000x1024.size a)
theorem k0_off358_inb : ∀ (v1071 : BitVec 32) (k0_hw358 : k0_chk358 v1071), ∀ a, (k0_off358 v1071) a + S1x128.size a ≤ S100000x1024.size a := fun v1071 k0_hw358 => k0_hw358

def k0_off359 (v1074 : BitVec 32) : Fin 2 → Nat :=
  let c256_i32_717 : BitVec 32 := 256#32
  ![v1074.toNat, 256]

def k0_chk359 (v1074 : BitVec 32) : Prop :=
  (∀ a, (k0_off359 v1074) a + S1x128.size a ≤ S100000x1024.size a)
theorem k0_off359_inb : ∀ (v1074 : BitVec 32) (k0_hw359 : k0_chk359 v1074), ∀ a, (k0_off359 v1074) a + S1x128.size a ≤ S100000x1024.size a := fun v1074 k0_hw359 => k0_hw359

def k0_off360 (v1077 : BitVec 32) : Fin 2 → Nat :=
  let c256_i32_719 : BitVec 32 := 256#32
  ![v1077.toNat, 256]

def k0_chk360 (v1077 : BitVec 32) : Prop :=
  (∀ a, (k0_off360 v1077) a + S1x128.size a ≤ S100000x1024.size a)
theorem k0_off360_inb : ∀ (v1077 : BitVec 32) (k0_hw360 : k0_chk360 v1077), ∀ a, (k0_off360 v1077) a + S1x128.size a ≤ S100000x1024.size a := fun v1077 k0_hw360 => k0_hw360

def k0_off361 (v1080 : BitVec 32) : Fin 2 → Nat :=
  let c256_i32_721 : BitVec 32 := 256#32
  ![v1080.toNat, 256]

def k0_chk361 (v1080 : BitVec 32) : Prop :=
  (∀ a, (k0_off361 v1080) a + S1x128.size a ≤ S100000x1024.size a)
theorem k0_off361_inb : ∀ (v1080 : BitVec 32) (k0_hw361 : k0_chk361 v1080), ∀ a, (k0_off361 v1080) a + S1x128.size a ≤ S100000x1024.size a := fun v1080 k0_hw361 => k0_hw361

def k0_off362 (v1083 : BitVec 32) : Fin 2 → Nat :=
  let c256_i32_723 : BitVec 32 := 256#32
  ![v1083.toNat, 256]

def k0_chk362 (v1083 : BitVec 32) : Prop :=
  (∀ a, (k0_off362 v1083) a + S1x128.size a ≤ S100000x1024.size a)
theorem k0_off362_inb : ∀ (v1083 : BitVec 32) (k0_hw362 : k0_chk362 v1083), ∀ a, (k0_off362 v1083) a + S1x128.size a ≤ S100000x1024.size a := fun v1083 k0_hw362 => k0_hw362

def k0_off363 (v1086 : BitVec 32) : Fin 2 → Nat :=
  let c256_i32_725 : BitVec 32 := 256#32
  ![v1086.toNat, 256]

def k0_chk363 (v1086 : BitVec 32) : Prop :=
  (∀ a, (k0_off363 v1086) a + S1x128.size a ≤ S100000x1024.size a)
theorem k0_off363_inb : ∀ (v1086 : BitVec 32) (k0_hw363 : k0_chk363 v1086), ∀ a, (k0_off363 v1086) a + S1x128.size a ≤ S100000x1024.size a := fun v1086 k0_hw363 => k0_hw363

def k0_off364 (v1089 : BitVec 32) : Fin 2 → Nat :=
  let c256_i32_727 : BitVec 32 := 256#32
  ![v1089.toNat, 256]

def k0_chk364 (v1089 : BitVec 32) : Prop :=
  (∀ a, (k0_off364 v1089) a + S1x128.size a ≤ S100000x1024.size a)
theorem k0_off364_inb : ∀ (v1089 : BitVec 32) (k0_hw364 : k0_chk364 v1089), ∀ a, (k0_off364 v1089) a + S1x128.size a ≤ S100000x1024.size a := fun v1089 k0_hw364 => k0_hw364

def k0_off365 (v1092 : BitVec 32) : Fin 2 → Nat :=
  let c256_i32_729 : BitVec 32 := 256#32
  ![v1092.toNat, 256]

def k0_chk365 (v1092 : BitVec 32) : Prop :=
  (∀ a, (k0_off365 v1092) a + S1x128.size a ≤ S100000x1024.size a)
theorem k0_off365_inb : ∀ (v1092 : BitVec 32) (k0_hw365 : k0_chk365 v1092), ∀ a, (k0_off365 v1092) a + S1x128.size a ≤ S100000x1024.size a := fun v1092 k0_hw365 => k0_hw365

def k0_off366 (v1095 : BitVec 32) : Fin 2 → Nat :=
  let c256_i32_731 : BitVec 32 := 256#32
  ![v1095.toNat, 256]

def k0_chk366 (v1095 : BitVec 32) : Prop :=
  (∀ a, (k0_off366 v1095) a + S1x128.size a ≤ S100000x1024.size a)
theorem k0_off366_inb : ∀ (v1095 : BitVec 32) (k0_hw366 : k0_chk366 v1095), ∀ a, (k0_off366 v1095) a + S1x128.size a ≤ S100000x1024.size a := fun v1095 k0_hw366 => k0_hw366

def k0_off367 (v1098 : BitVec 32) : Fin 2 → Nat :=
  let c256_i32_733 : BitVec 32 := 256#32
  ![v1098.toNat, 256]

def k0_chk367 (v1098 : BitVec 32) : Prop :=
  (∀ a, (k0_off367 v1098) a + S1x128.size a ≤ S100000x1024.size a)
theorem k0_off367_inb : ∀ (v1098 : BitVec 32) (k0_hw367 : k0_chk367 v1098), ∀ a, (k0_off367 v1098) a + S1x128.size a ≤ S100000x1024.size a := fun v1098 k0_hw367 => k0_hw367

def k0_off368 (v1101 : BitVec 32) : Fin 2 → Nat :=
  let c256_i32_735 : BitVec 32 := 256#32
  ![v1101.toNat, 256]

def k0_chk368 (v1101 : BitVec 32) : Prop :=
  (∀ a, (k0_off368 v1101) a + S1x128.size a ≤ S100000x1024.size a)
theorem k0_off368_inb : ∀ (v1101 : BitVec 32) (k0_hw368 : k0_chk368 v1101), ∀ a, (k0_off368 v1101) a + S1x128.size a ≤ S100000x1024.size a := fun v1101 k0_hw368 => k0_hw368

def k0_off369 (v1104 : BitVec 32) : Fin 2 → Nat :=
  let c256_i32_737 : BitVec 32 := 256#32
  ![v1104.toNat, 256]

def k0_chk369 (v1104 : BitVec 32) : Prop :=
  (∀ a, (k0_off369 v1104) a + S1x128.size a ≤ S100000x1024.size a)
theorem k0_off369_inb : ∀ (v1104 : BitVec 32) (k0_hw369 : k0_chk369 v1104), ∀ a, (k0_off369 v1104) a + S1x128.size a ≤ S100000x1024.size a := fun v1104 k0_hw369 => k0_hw369

def k0_off370 (v1107 : BitVec 32) : Fin 2 → Nat :=
  let c256_i32_739 : BitVec 32 := 256#32
  ![v1107.toNat, 256]

def k0_chk370 (v1107 : BitVec 32) : Prop :=
  (∀ a, (k0_off370 v1107) a + S1x128.size a ≤ S100000x1024.size a)
theorem k0_off370_inb : ∀ (v1107 : BitVec 32) (k0_hw370 : k0_chk370 v1107), ∀ a, (k0_off370 v1107) a + S1x128.size a ≤ S100000x1024.size a := fun v1107 k0_hw370 => k0_hw370

def k0_off371 (v1110 : BitVec 32) : Fin 2 → Nat :=
  let c256_i32_741 : BitVec 32 := 256#32
  ![v1110.toNat, 256]

def k0_chk371 (v1110 : BitVec 32) : Prop :=
  (∀ a, (k0_off371 v1110) a + S1x128.size a ≤ S100000x1024.size a)
theorem k0_off371_inb : ∀ (v1110 : BitVec 32) (k0_hw371 : k0_chk371 v1110), ∀ a, (k0_off371 v1110) a + S1x128.size a ≤ S100000x1024.size a := fun v1110 k0_hw371 => k0_hw371

def k0_off372 (v1113 : BitVec 32) : Fin 2 → Nat :=
  let c256_i32_743 : BitVec 32 := 256#32
  ![v1113.toNat, 256]

def k0_chk372 (v1113 : BitVec 32) : Prop :=
  (∀ a, (k0_off372 v1113) a + S1x128.size a ≤ S100000x1024.size a)
theorem k0_off372_inb : ∀ (v1113 : BitVec 32) (k0_hw372 : k0_chk372 v1113), ∀ a, (k0_off372 v1113) a + S1x128.size a ≤ S100000x1024.size a := fun v1113 k0_hw372 => k0_hw372

def k0_off373 (v1116 : BitVec 32) : Fin 2 → Nat :=
  let c256_i32_745 : BitVec 32 := 256#32
  ![v1116.toNat, 256]

def k0_chk373 (v1116 : BitVec 32) : Prop :=
  (∀ a, (k0_off373 v1116) a + S1x128.size a ≤ S100000x1024.size a)
theorem k0_off373_inb : ∀ (v1116 : BitVec 32) (k0_hw373 : k0_chk373 v1116), ∀ a, (k0_off373 v1116) a + S1x128.size a ≤ S100000x1024.size a := fun v1116 k0_hw373 => k0_hw373

def k0_off374 (v1119 : BitVec 32) : Fin 2 → Nat :=
  let c256_i32_747 : BitVec 32 := 256#32
  ![v1119.toNat, 256]

def k0_chk374 (v1119 : BitVec 32) : Prop :=
  (∀ a, (k0_off374 v1119) a + S1x128.size a ≤ S100000x1024.size a)
theorem k0_off374_inb : ∀ (v1119 : BitVec 32) (k0_hw374 : k0_chk374 v1119), ∀ a, (k0_off374 v1119) a + S1x128.size a ≤ S100000x1024.size a := fun v1119 k0_hw374 => k0_hw374

def k0_off375 (v1122 : BitVec 32) : Fin 2 → Nat :=
  let c256_i32_749 : BitVec 32 := 256#32
  ![v1122.toNat, 256]

def k0_chk375 (v1122 : BitVec 32) : Prop :=
  (∀ a, (k0_off375 v1122) a + S1x128.size a ≤ S100000x1024.size a)
theorem k0_off375_inb : ∀ (v1122 : BitVec 32) (k0_hw375 : k0_chk375 v1122), ∀ a, (k0_off375 v1122) a + S1x128.size a ≤ S100000x1024.size a := fun v1122 k0_hw375 => k0_hw375

def k0_off376 (v1125 : BitVec 32) : Fin 2 → Nat :=
  let c256_i32_751 : BitVec 32 := 256#32
  ![v1125.toNat, 256]

def k0_chk376 (v1125 : BitVec 32) : Prop :=
  (∀ a, (k0_off376 v1125) a + S1x128.size a ≤ S100000x1024.size a)
theorem k0_off376_inb : ∀ (v1125 : BitVec 32) (k0_hw376 : k0_chk376 v1125), ∀ a, (k0_off376 v1125) a + S1x128.size a ≤ S100000x1024.size a := fun v1125 k0_hw376 => k0_hw376

def k0_off377 (v1128 : BitVec 32) : Fin 2 → Nat :=
  let c256_i32_753 : BitVec 32 := 256#32
  ![v1128.toNat, 256]

def k0_chk377 (v1128 : BitVec 32) : Prop :=
  (∀ a, (k0_off377 v1128) a + S1x128.size a ≤ S100000x1024.size a)
theorem k0_off377_inb : ∀ (v1128 : BitVec 32) (k0_hw377 : k0_chk377 v1128), ∀ a, (k0_off377 v1128) a + S1x128.size a ≤ S100000x1024.size a := fun v1128 k0_hw377 => k0_hw377

def k0_off378 (v1131 : BitVec 32) : Fin 2 → Nat :=
  let c256_i32_755 : BitVec 32 := 256#32
  ![v1131.toNat, 256]

def k0_chk378 (v1131 : BitVec 32) : Prop :=
  (∀ a, (k0_off378 v1131) a + S1x128.size a ≤ S100000x1024.size a)
theorem k0_off378_inb : ∀ (v1131 : BitVec 32) (k0_hw378 : k0_chk378 v1131), ∀ a, (k0_off378 v1131) a + S1x128.size a ≤ S100000x1024.size a := fun v1131 k0_hw378 => k0_hw378

def k0_off379 (v1134 : BitVec 32) : Fin 2 → Nat :=
  let c256_i32_757 : BitVec 32 := 256#32
  ![v1134.toNat, 256]

def k0_chk379 (v1134 : BitVec 32) : Prop :=
  (∀ a, (k0_off379 v1134) a + S1x128.size a ≤ S100000x1024.size a)
theorem k0_off379_inb : ∀ (v1134 : BitVec 32) (k0_hw379 : k0_chk379 v1134), ∀ a, (k0_off379 v1134) a + S1x128.size a ≤ S100000x1024.size a := fun v1134 k0_hw379 => k0_hw379

def k0_off380 (v1137 : BitVec 32) : Fin 2 → Nat :=
  let c256_i32_759 : BitVec 32 := 256#32
  ![v1137.toNat, 256]

def k0_chk380 (v1137 : BitVec 32) : Prop :=
  (∀ a, (k0_off380 v1137) a + S1x128.size a ≤ S100000x1024.size a)
theorem k0_off380_inb : ∀ (v1137 : BitVec 32) (k0_hw380 : k0_chk380 v1137), ∀ a, (k0_off380 v1137) a + S1x128.size a ≤ S100000x1024.size a := fun v1137 k0_hw380 => k0_hw380

def k0_off381 (v1140 : BitVec 32) : Fin 2 → Nat :=
  let c256_i32_761 : BitVec 32 := 256#32
  ![v1140.toNat, 256]

def k0_chk381 (v1140 : BitVec 32) : Prop :=
  (∀ a, (k0_off381 v1140) a + S1x128.size a ≤ S100000x1024.size a)
theorem k0_off381_inb : ∀ (v1140 : BitVec 32) (k0_hw381 : k0_chk381 v1140), ∀ a, (k0_off381 v1140) a + S1x128.size a ≤ S100000x1024.size a := fun v1140 k0_hw381 => k0_hw381

def k0_off382 (v1143 : BitVec 32) : Fin 2 → Nat :=
  let c256_i32_763 : BitVec 32 := 256#32
  ![v1143.toNat, 256]

def k0_chk382 (v1143 : BitVec 32) : Prop :=
  (∀ a, (k0_off382 v1143) a + S1x128.size a ≤ S100000x1024.size a)
theorem k0_off382_inb : ∀ (v1143 : BitVec 32) (k0_hw382 : k0_chk382 v1143), ∀ a, (k0_off382 v1143) a + S1x128.size a ≤ S100000x1024.size a := fun v1143 k0_hw382 => k0_hw382

def k0_off383 (v1146 : BitVec 32) : Fin 2 → Nat :=
  let c256_i32_765 : BitVec 32 := 256#32
  ![v1146.toNat, 256]

def k0_chk383 (v1146 : BitVec 32) : Prop :=
  (∀ a, (k0_off383 v1146) a + S1x128.size a ≤ S100000x1024.size a)
theorem k0_off383_inb : ∀ (v1146 : BitVec 32) (k0_hw383 : k0_chk383 v1146), ∀ a, (k0_off383 v1146) a + S1x128.size a ≤ S100000x1024.size a := fun v1146 k0_hw383 => k0_hw383

def k0_off384 (v1149 : BitVec 32) : Fin 2 → Nat :=
  let c256_i32_767 : BitVec 32 := 256#32
  ![v1149.toNat, 256]

def k0_chk384 (v1149 : BitVec 32) : Prop :=
  (∀ a, (k0_off384 v1149) a + S1x128.size a ≤ S100000x1024.size a)
theorem k0_off384_inb : ∀ (v1149 : BitVec 32) (k0_hw384 : k0_chk384 v1149), ∀ a, (k0_off384 v1149) a + S1x128.size a ≤ S100000x1024.size a := fun v1149 k0_hw384 => k0_hw384

def k0_off385 (v1152 : BitVec 32) : Fin 2 → Nat :=
  let c384_i32_769 : BitVec 32 := 384#32
  ![v1152.toNat, 384]

def k0_chk385 (v1152 : BitVec 32) : Prop :=
  (∀ a, (k0_off385 v1152) a + S1x128.size a ≤ S100000x1024.size a)
theorem k0_off385_inb : ∀ (v1152 : BitVec 32) (k0_hw385 : k0_chk385 v1152), ∀ a, (k0_off385 v1152) a + S1x128.size a ≤ S100000x1024.size a := fun v1152 k0_hw385 => k0_hw385

def k0_off386 (v1155 : BitVec 32) : Fin 2 → Nat :=
  let c384_i32_771 : BitVec 32 := 384#32
  ![v1155.toNat, 384]

def k0_chk386 (v1155 : BitVec 32) : Prop :=
  (∀ a, (k0_off386 v1155) a + S1x128.size a ≤ S100000x1024.size a)
theorem k0_off386_inb : ∀ (v1155 : BitVec 32) (k0_hw386 : k0_chk386 v1155), ∀ a, (k0_off386 v1155) a + S1x128.size a ≤ S100000x1024.size a := fun v1155 k0_hw386 => k0_hw386

def k0_off387 (v1158 : BitVec 32) : Fin 2 → Nat :=
  let c384_i32_773 : BitVec 32 := 384#32
  ![v1158.toNat, 384]

def k0_chk387 (v1158 : BitVec 32) : Prop :=
  (∀ a, (k0_off387 v1158) a + S1x128.size a ≤ S100000x1024.size a)
theorem k0_off387_inb : ∀ (v1158 : BitVec 32) (k0_hw387 : k0_chk387 v1158), ∀ a, (k0_off387 v1158) a + S1x128.size a ≤ S100000x1024.size a := fun v1158 k0_hw387 => k0_hw387

def k0_off388 (v1161 : BitVec 32) : Fin 2 → Nat :=
  let c384_i32_775 : BitVec 32 := 384#32
  ![v1161.toNat, 384]

def k0_chk388 (v1161 : BitVec 32) : Prop :=
  (∀ a, (k0_off388 v1161) a + S1x128.size a ≤ S100000x1024.size a)
theorem k0_off388_inb : ∀ (v1161 : BitVec 32) (k0_hw388 : k0_chk388 v1161), ∀ a, (k0_off388 v1161) a + S1x128.size a ≤ S100000x1024.size a := fun v1161 k0_hw388 => k0_hw388

def k0_off389 (v1164 : BitVec 32) : Fin 2 → Nat :=
  let c384_i32_777 : BitVec 32 := 384#32
  ![v1164.toNat, 384]

def k0_chk389 (v1164 : BitVec 32) : Prop :=
  (∀ a, (k0_off389 v1164) a + S1x128.size a ≤ S100000x1024.size a)
theorem k0_off389_inb : ∀ (v1164 : BitVec 32) (k0_hw389 : k0_chk389 v1164), ∀ a, (k0_off389 v1164) a + S1x128.size a ≤ S100000x1024.size a := fun v1164 k0_hw389 => k0_hw389

def k0_off390 (v1167 : BitVec 32) : Fin 2 → Nat :=
  let c384_i32_779 : BitVec 32 := 384#32
  ![v1167.toNat, 384]

def k0_chk390 (v1167 : BitVec 32) : Prop :=
  (∀ a, (k0_off390 v1167) a + S1x128.size a ≤ S100000x1024.size a)
theorem k0_off390_inb : ∀ (v1167 : BitVec 32) (k0_hw390 : k0_chk390 v1167), ∀ a, (k0_off390 v1167) a + S1x128.size a ≤ S100000x1024.size a := fun v1167 k0_hw390 => k0_hw390

def k0_off391 (v1170 : BitVec 32) : Fin 2 → Nat :=
  let c384_i32_781 : BitVec 32 := 384#32
  ![v1170.toNat, 384]

def k0_chk391 (v1170 : BitVec 32) : Prop :=
  (∀ a, (k0_off391 v1170) a + S1x128.size a ≤ S100000x1024.size a)
theorem k0_off391_inb : ∀ (v1170 : BitVec 32) (k0_hw391 : k0_chk391 v1170), ∀ a, (k0_off391 v1170) a + S1x128.size a ≤ S100000x1024.size a := fun v1170 k0_hw391 => k0_hw391

def k0_off392 (v1173 : BitVec 32) : Fin 2 → Nat :=
  let c384_i32_783 : BitVec 32 := 384#32
  ![v1173.toNat, 384]

def k0_chk392 (v1173 : BitVec 32) : Prop :=
  (∀ a, (k0_off392 v1173) a + S1x128.size a ≤ S100000x1024.size a)
theorem k0_off392_inb : ∀ (v1173 : BitVec 32) (k0_hw392 : k0_chk392 v1173), ∀ a, (k0_off392 v1173) a + S1x128.size a ≤ S100000x1024.size a := fun v1173 k0_hw392 => k0_hw392

def k0_off393 (v1176 : BitVec 32) : Fin 2 → Nat :=
  let c384_i32_785 : BitVec 32 := 384#32
  ![v1176.toNat, 384]

def k0_chk393 (v1176 : BitVec 32) : Prop :=
  (∀ a, (k0_off393 v1176) a + S1x128.size a ≤ S100000x1024.size a)
theorem k0_off393_inb : ∀ (v1176 : BitVec 32) (k0_hw393 : k0_chk393 v1176), ∀ a, (k0_off393 v1176) a + S1x128.size a ≤ S100000x1024.size a := fun v1176 k0_hw393 => k0_hw393

def k0_off394 (v1179 : BitVec 32) : Fin 2 → Nat :=
  let c384_i32_787 : BitVec 32 := 384#32
  ![v1179.toNat, 384]

def k0_chk394 (v1179 : BitVec 32) : Prop :=
  (∀ a, (k0_off394 v1179) a + S1x128.size a ≤ S100000x1024.size a)
theorem k0_off394_inb : ∀ (v1179 : BitVec 32) (k0_hw394 : k0_chk394 v1179), ∀ a, (k0_off394 v1179) a + S1x128.size a ≤ S100000x1024.size a := fun v1179 k0_hw394 => k0_hw394

def k0_off395 (v1182 : BitVec 32) : Fin 2 → Nat :=
  let c384_i32_789 : BitVec 32 := 384#32
  ![v1182.toNat, 384]

def k0_chk395 (v1182 : BitVec 32) : Prop :=
  (∀ a, (k0_off395 v1182) a + S1x128.size a ≤ S100000x1024.size a)
theorem k0_off395_inb : ∀ (v1182 : BitVec 32) (k0_hw395 : k0_chk395 v1182), ∀ a, (k0_off395 v1182) a + S1x128.size a ≤ S100000x1024.size a := fun v1182 k0_hw395 => k0_hw395

def k0_off396 (v1185 : BitVec 32) : Fin 2 → Nat :=
  let c384_i32_791 : BitVec 32 := 384#32
  ![v1185.toNat, 384]

def k0_chk396 (v1185 : BitVec 32) : Prop :=
  (∀ a, (k0_off396 v1185) a + S1x128.size a ≤ S100000x1024.size a)
theorem k0_off396_inb : ∀ (v1185 : BitVec 32) (k0_hw396 : k0_chk396 v1185), ∀ a, (k0_off396 v1185) a + S1x128.size a ≤ S100000x1024.size a := fun v1185 k0_hw396 => k0_hw396

def k0_off397 (v1188 : BitVec 32) : Fin 2 → Nat :=
  let c384_i32_793 : BitVec 32 := 384#32
  ![v1188.toNat, 384]

def k0_chk397 (v1188 : BitVec 32) : Prop :=
  (∀ a, (k0_off397 v1188) a + S1x128.size a ≤ S100000x1024.size a)
theorem k0_off397_inb : ∀ (v1188 : BitVec 32) (k0_hw397 : k0_chk397 v1188), ∀ a, (k0_off397 v1188) a + S1x128.size a ≤ S100000x1024.size a := fun v1188 k0_hw397 => k0_hw397

def k0_off398 (v1191 : BitVec 32) : Fin 2 → Nat :=
  let c384_i32_795 : BitVec 32 := 384#32
  ![v1191.toNat, 384]

def k0_chk398 (v1191 : BitVec 32) : Prop :=
  (∀ a, (k0_off398 v1191) a + S1x128.size a ≤ S100000x1024.size a)
theorem k0_off398_inb : ∀ (v1191 : BitVec 32) (k0_hw398 : k0_chk398 v1191), ∀ a, (k0_off398 v1191) a + S1x128.size a ≤ S100000x1024.size a := fun v1191 k0_hw398 => k0_hw398

def k0_off399 (v1194 : BitVec 32) : Fin 2 → Nat :=
  let c384_i32_797 : BitVec 32 := 384#32
  ![v1194.toNat, 384]

def k0_chk399 (v1194 : BitVec 32) : Prop :=
  (∀ a, (k0_off399 v1194) a + S1x128.size a ≤ S100000x1024.size a)
theorem k0_off399_inb : ∀ (v1194 : BitVec 32) (k0_hw399 : k0_chk399 v1194), ∀ a, (k0_off399 v1194) a + S1x128.size a ≤ S100000x1024.size a := fun v1194 k0_hw399 => k0_hw399

def k0_off400 (v1197 : BitVec 32) : Fin 2 → Nat :=
  let c384_i32_799 : BitVec 32 := 384#32
  ![v1197.toNat, 384]

def k0_chk400 (v1197 : BitVec 32) : Prop :=
  (∀ a, (k0_off400 v1197) a + S1x128.size a ≤ S100000x1024.size a)
theorem k0_off400_inb : ∀ (v1197 : BitVec 32) (k0_hw400 : k0_chk400 v1197), ∀ a, (k0_off400 v1197) a + S1x128.size a ≤ S100000x1024.size a := fun v1197 k0_hw400 => k0_hw400

def k0_off401 (v1200 : BitVec 32) : Fin 2 → Nat :=
  let c384_i32_801 : BitVec 32 := 384#32
  ![v1200.toNat, 384]

def k0_chk401 (v1200 : BitVec 32) : Prop :=
  (∀ a, (k0_off401 v1200) a + S1x128.size a ≤ S100000x1024.size a)
theorem k0_off401_inb : ∀ (v1200 : BitVec 32) (k0_hw401 : k0_chk401 v1200), ∀ a, (k0_off401 v1200) a + S1x128.size a ≤ S100000x1024.size a := fun v1200 k0_hw401 => k0_hw401

def k0_off402 (v1203 : BitVec 32) : Fin 2 → Nat :=
  let c384_i32_803 : BitVec 32 := 384#32
  ![v1203.toNat, 384]

def k0_chk402 (v1203 : BitVec 32) : Prop :=
  (∀ a, (k0_off402 v1203) a + S1x128.size a ≤ S100000x1024.size a)
theorem k0_off402_inb : ∀ (v1203 : BitVec 32) (k0_hw402 : k0_chk402 v1203), ∀ a, (k0_off402 v1203) a + S1x128.size a ≤ S100000x1024.size a := fun v1203 k0_hw402 => k0_hw402

def k0_off403 (v1206 : BitVec 32) : Fin 2 → Nat :=
  let c384_i32_805 : BitVec 32 := 384#32
  ![v1206.toNat, 384]

def k0_chk403 (v1206 : BitVec 32) : Prop :=
  (∀ a, (k0_off403 v1206) a + S1x128.size a ≤ S100000x1024.size a)
theorem k0_off403_inb : ∀ (v1206 : BitVec 32) (k0_hw403 : k0_chk403 v1206), ∀ a, (k0_off403 v1206) a + S1x128.size a ≤ S100000x1024.size a := fun v1206 k0_hw403 => k0_hw403

def k0_off404 (v1209 : BitVec 32) : Fin 2 → Nat :=
  let c384_i32_807 : BitVec 32 := 384#32
  ![v1209.toNat, 384]

def k0_chk404 (v1209 : BitVec 32) : Prop :=
  (∀ a, (k0_off404 v1209) a + S1x128.size a ≤ S100000x1024.size a)
theorem k0_off404_inb : ∀ (v1209 : BitVec 32) (k0_hw404 : k0_chk404 v1209), ∀ a, (k0_off404 v1209) a + S1x128.size a ≤ S100000x1024.size a := fun v1209 k0_hw404 => k0_hw404

def k0_off405 (v1212 : BitVec 32) : Fin 2 → Nat :=
  let c384_i32_809 : BitVec 32 := 384#32
  ![v1212.toNat, 384]

def k0_chk405 (v1212 : BitVec 32) : Prop :=
  (∀ a, (k0_off405 v1212) a + S1x128.size a ≤ S100000x1024.size a)
theorem k0_off405_inb : ∀ (v1212 : BitVec 32) (k0_hw405 : k0_chk405 v1212), ∀ a, (k0_off405 v1212) a + S1x128.size a ≤ S100000x1024.size a := fun v1212 k0_hw405 => k0_hw405

def k0_off406 (v1215 : BitVec 32) : Fin 2 → Nat :=
  let c384_i32_811 : BitVec 32 := 384#32
  ![v1215.toNat, 384]

def k0_chk406 (v1215 : BitVec 32) : Prop :=
  (∀ a, (k0_off406 v1215) a + S1x128.size a ≤ S100000x1024.size a)
theorem k0_off406_inb : ∀ (v1215 : BitVec 32) (k0_hw406 : k0_chk406 v1215), ∀ a, (k0_off406 v1215) a + S1x128.size a ≤ S100000x1024.size a := fun v1215 k0_hw406 => k0_hw406

def k0_off407 (v1218 : BitVec 32) : Fin 2 → Nat :=
  let c384_i32_813 : BitVec 32 := 384#32
  ![v1218.toNat, 384]

def k0_chk407 (v1218 : BitVec 32) : Prop :=
  (∀ a, (k0_off407 v1218) a + S1x128.size a ≤ S100000x1024.size a)
theorem k0_off407_inb : ∀ (v1218 : BitVec 32) (k0_hw407 : k0_chk407 v1218), ∀ a, (k0_off407 v1218) a + S1x128.size a ≤ S100000x1024.size a := fun v1218 k0_hw407 => k0_hw407

def k0_off408 (v1221 : BitVec 32) : Fin 2 → Nat :=
  let c384_i32_815 : BitVec 32 := 384#32
  ![v1221.toNat, 384]

def k0_chk408 (v1221 : BitVec 32) : Prop :=
  (∀ a, (k0_off408 v1221) a + S1x128.size a ≤ S100000x1024.size a)
theorem k0_off408_inb : ∀ (v1221 : BitVec 32) (k0_hw408 : k0_chk408 v1221), ∀ a, (k0_off408 v1221) a + S1x128.size a ≤ S100000x1024.size a := fun v1221 k0_hw408 => k0_hw408

def k0_off409 (v1224 : BitVec 32) : Fin 2 → Nat :=
  let c384_i32_817 : BitVec 32 := 384#32
  ![v1224.toNat, 384]

def k0_chk409 (v1224 : BitVec 32) : Prop :=
  (∀ a, (k0_off409 v1224) a + S1x128.size a ≤ S100000x1024.size a)
theorem k0_off409_inb : ∀ (v1224 : BitVec 32) (k0_hw409 : k0_chk409 v1224), ∀ a, (k0_off409 v1224) a + S1x128.size a ≤ S100000x1024.size a := fun v1224 k0_hw409 => k0_hw409

def k0_off410 (v1227 : BitVec 32) : Fin 2 → Nat :=
  let c384_i32_819 : BitVec 32 := 384#32
  ![v1227.toNat, 384]

def k0_chk410 (v1227 : BitVec 32) : Prop :=
  (∀ a, (k0_off410 v1227) a + S1x128.size a ≤ S100000x1024.size a)
theorem k0_off410_inb : ∀ (v1227 : BitVec 32) (k0_hw410 : k0_chk410 v1227), ∀ a, (k0_off410 v1227) a + S1x128.size a ≤ S100000x1024.size a := fun v1227 k0_hw410 => k0_hw410

def k0_off411 (v1230 : BitVec 32) : Fin 2 → Nat :=
  let c384_i32_821 : BitVec 32 := 384#32
  ![v1230.toNat, 384]

def k0_chk411 (v1230 : BitVec 32) : Prop :=
  (∀ a, (k0_off411 v1230) a + S1x128.size a ≤ S100000x1024.size a)
theorem k0_off411_inb : ∀ (v1230 : BitVec 32) (k0_hw411 : k0_chk411 v1230), ∀ a, (k0_off411 v1230) a + S1x128.size a ≤ S100000x1024.size a := fun v1230 k0_hw411 => k0_hw411

def k0_off412 (v1233 : BitVec 32) : Fin 2 → Nat :=
  let c384_i32_823 : BitVec 32 := 384#32
  ![v1233.toNat, 384]

def k0_chk412 (v1233 : BitVec 32) : Prop :=
  (∀ a, (k0_off412 v1233) a + S1x128.size a ≤ S100000x1024.size a)
theorem k0_off412_inb : ∀ (v1233 : BitVec 32) (k0_hw412 : k0_chk412 v1233), ∀ a, (k0_off412 v1233) a + S1x128.size a ≤ S100000x1024.size a := fun v1233 k0_hw412 => k0_hw412

def k0_off413 (v1236 : BitVec 32) : Fin 2 → Nat :=
  let c384_i32_825 : BitVec 32 := 384#32
  ![v1236.toNat, 384]

def k0_chk413 (v1236 : BitVec 32) : Prop :=
  (∀ a, (k0_off413 v1236) a + S1x128.size a ≤ S100000x1024.size a)
theorem k0_off413_inb : ∀ (v1236 : BitVec 32) (k0_hw413 : k0_chk413 v1236), ∀ a, (k0_off413 v1236) a + S1x128.size a ≤ S100000x1024.size a := fun v1236 k0_hw413 => k0_hw413

def k0_off414 (v1239 : BitVec 32) : Fin 2 → Nat :=
  let c384_i32_827 : BitVec 32 := 384#32
  ![v1239.toNat, 384]

def k0_chk414 (v1239 : BitVec 32) : Prop :=
  (∀ a, (k0_off414 v1239) a + S1x128.size a ≤ S100000x1024.size a)
theorem k0_off414_inb : ∀ (v1239 : BitVec 32) (k0_hw414 : k0_chk414 v1239), ∀ a, (k0_off414 v1239) a + S1x128.size a ≤ S100000x1024.size a := fun v1239 k0_hw414 => k0_hw414

def k0_off415 (v1242 : BitVec 32) : Fin 2 → Nat :=
  let c384_i32_829 : BitVec 32 := 384#32
  ![v1242.toNat, 384]

def k0_chk415 (v1242 : BitVec 32) : Prop :=
  (∀ a, (k0_off415 v1242) a + S1x128.size a ≤ S100000x1024.size a)
theorem k0_off415_inb : ∀ (v1242 : BitVec 32) (k0_hw415 : k0_chk415 v1242), ∀ a, (k0_off415 v1242) a + S1x128.size a ≤ S100000x1024.size a := fun v1242 k0_hw415 => k0_hw415

def k0_off416 (v1245 : BitVec 32) : Fin 2 → Nat :=
  let c384_i32_831 : BitVec 32 := 384#32
  ![v1245.toNat, 384]

def k0_chk416 (v1245 : BitVec 32) : Prop :=
  (∀ a, (k0_off416 v1245) a + S1x128.size a ≤ S100000x1024.size a)
theorem k0_off416_inb : ∀ (v1245 : BitVec 32) (k0_hw416 : k0_chk416 v1245), ∀ a, (k0_off416 v1245) a + S1x128.size a ≤ S100000x1024.size a := fun v1245 k0_hw416 => k0_hw416

def k0_off417 (v1248 : BitVec 32) : Fin 2 → Nat :=
  let c384_i32_833 : BitVec 32 := 384#32
  ![v1248.toNat, 384]

def k0_chk417 (v1248 : BitVec 32) : Prop :=
  (∀ a, (k0_off417 v1248) a + S1x128.size a ≤ S100000x1024.size a)
theorem k0_off417_inb : ∀ (v1248 : BitVec 32) (k0_hw417 : k0_chk417 v1248), ∀ a, (k0_off417 v1248) a + S1x128.size a ≤ S100000x1024.size a := fun v1248 k0_hw417 => k0_hw417

def k0_off418 (v1251 : BitVec 32) : Fin 2 → Nat :=
  let c384_i32_835 : BitVec 32 := 384#32
  ![v1251.toNat, 384]

def k0_chk418 (v1251 : BitVec 32) : Prop :=
  (∀ a, (k0_off418 v1251) a + S1x128.size a ≤ S100000x1024.size a)
theorem k0_off418_inb : ∀ (v1251 : BitVec 32) (k0_hw418 : k0_chk418 v1251), ∀ a, (k0_off418 v1251) a + S1x128.size a ≤ S100000x1024.size a := fun v1251 k0_hw418 => k0_hw418

def k0_off419 (v1254 : BitVec 32) : Fin 2 → Nat :=
  let c384_i32_837 : BitVec 32 := 384#32
  ![v1254.toNat, 384]

def k0_chk419 (v1254 : BitVec 32) : Prop :=
  (∀ a, (k0_off419 v1254) a + S1x128.size a ≤ S100000x1024.size a)
theorem k0_off419_inb : ∀ (v1254 : BitVec 32) (k0_hw419 : k0_chk419 v1254), ∀ a, (k0_off419 v1254) a + S1x128.size a ≤ S100000x1024.size a := fun v1254 k0_hw419 => k0_hw419

def k0_off420 (v1257 : BitVec 32) : Fin 2 → Nat :=
  let c384_i32_839 : BitVec 32 := 384#32
  ![v1257.toNat, 384]

def k0_chk420 (v1257 : BitVec 32) : Prop :=
  (∀ a, (k0_off420 v1257) a + S1x128.size a ≤ S100000x1024.size a)
theorem k0_off420_inb : ∀ (v1257 : BitVec 32) (k0_hw420 : k0_chk420 v1257), ∀ a, (k0_off420 v1257) a + S1x128.size a ≤ S100000x1024.size a := fun v1257 k0_hw420 => k0_hw420

def k0_off421 (v1260 : BitVec 32) : Fin 2 → Nat :=
  let c384_i32_841 : BitVec 32 := 384#32
  ![v1260.toNat, 384]

def k0_chk421 (v1260 : BitVec 32) : Prop :=
  (∀ a, (k0_off421 v1260) a + S1x128.size a ≤ S100000x1024.size a)
theorem k0_off421_inb : ∀ (v1260 : BitVec 32) (k0_hw421 : k0_chk421 v1260), ∀ a, (k0_off421 v1260) a + S1x128.size a ≤ S100000x1024.size a := fun v1260 k0_hw421 => k0_hw421

def k0_off422 (v1263 : BitVec 32) : Fin 2 → Nat :=
  let c384_i32_843 : BitVec 32 := 384#32
  ![v1263.toNat, 384]

def k0_chk422 (v1263 : BitVec 32) : Prop :=
  (∀ a, (k0_off422 v1263) a + S1x128.size a ≤ S100000x1024.size a)
theorem k0_off422_inb : ∀ (v1263 : BitVec 32) (k0_hw422 : k0_chk422 v1263), ∀ a, (k0_off422 v1263) a + S1x128.size a ≤ S100000x1024.size a := fun v1263 k0_hw422 => k0_hw422

def k0_off423 (v1266 : BitVec 32) : Fin 2 → Nat :=
  let c384_i32_845 : BitVec 32 := 384#32
  ![v1266.toNat, 384]

def k0_chk423 (v1266 : BitVec 32) : Prop :=
  (∀ a, (k0_off423 v1266) a + S1x128.size a ≤ S100000x1024.size a)
theorem k0_off423_inb : ∀ (v1266 : BitVec 32) (k0_hw423 : k0_chk423 v1266), ∀ a, (k0_off423 v1266) a + S1x128.size a ≤ S100000x1024.size a := fun v1266 k0_hw423 => k0_hw423

def k0_off424 (v1269 : BitVec 32) : Fin 2 → Nat :=
  let c384_i32_847 : BitVec 32 := 384#32
  ![v1269.toNat, 384]

def k0_chk424 (v1269 : BitVec 32) : Prop :=
  (∀ a, (k0_off424 v1269) a + S1x128.size a ≤ S100000x1024.size a)
theorem k0_off424_inb : ∀ (v1269 : BitVec 32) (k0_hw424 : k0_chk424 v1269), ∀ a, (k0_off424 v1269) a + S1x128.size a ≤ S100000x1024.size a := fun v1269 k0_hw424 => k0_hw424

def k0_off425 (v1272 : BitVec 32) : Fin 2 → Nat :=
  let c384_i32_849 : BitVec 32 := 384#32
  ![v1272.toNat, 384]

def k0_chk425 (v1272 : BitVec 32) : Prop :=
  (∀ a, (k0_off425 v1272) a + S1x128.size a ≤ S100000x1024.size a)
theorem k0_off425_inb : ∀ (v1272 : BitVec 32) (k0_hw425 : k0_chk425 v1272), ∀ a, (k0_off425 v1272) a + S1x128.size a ≤ S100000x1024.size a := fun v1272 k0_hw425 => k0_hw425

def k0_off426 (v1275 : BitVec 32) : Fin 2 → Nat :=
  let c384_i32_851 : BitVec 32 := 384#32
  ![v1275.toNat, 384]

def k0_chk426 (v1275 : BitVec 32) : Prop :=
  (∀ a, (k0_off426 v1275) a + S1x128.size a ≤ S100000x1024.size a)
theorem k0_off426_inb : ∀ (v1275 : BitVec 32) (k0_hw426 : k0_chk426 v1275), ∀ a, (k0_off426 v1275) a + S1x128.size a ≤ S100000x1024.size a := fun v1275 k0_hw426 => k0_hw426

def k0_off427 (v1278 : BitVec 32) : Fin 2 → Nat :=
  let c384_i32_853 : BitVec 32 := 384#32
  ![v1278.toNat, 384]

def k0_chk427 (v1278 : BitVec 32) : Prop :=
  (∀ a, (k0_off427 v1278) a + S1x128.size a ≤ S100000x1024.size a)
theorem k0_off427_inb : ∀ (v1278 : BitVec 32) (k0_hw427 : k0_chk427 v1278), ∀ a, (k0_off427 v1278) a + S1x128.size a ≤ S100000x1024.size a := fun v1278 k0_hw427 => k0_hw427

def k0_off428 (v1281 : BitVec 32) : Fin 2 → Nat :=
  let c384_i32_855 : BitVec 32 := 384#32
  ![v1281.toNat, 384]

def k0_chk428 (v1281 : BitVec 32) : Prop :=
  (∀ a, (k0_off428 v1281) a + S1x128.size a ≤ S100000x1024.size a)
theorem k0_off428_inb : ∀ (v1281 : BitVec 32) (k0_hw428 : k0_chk428 v1281), ∀ a, (k0_off428 v1281) a + S1x128.size a ≤ S100000x1024.size a := fun v1281 k0_hw428 => k0_hw428

def k0_off429 (v1284 : BitVec 32) : Fin 2 → Nat :=
  let c384_i32_857 : BitVec 32 := 384#32
  ![v1284.toNat, 384]

def k0_chk429 (v1284 : BitVec 32) : Prop :=
  (∀ a, (k0_off429 v1284) a + S1x128.size a ≤ S100000x1024.size a)
theorem k0_off429_inb : ∀ (v1284 : BitVec 32) (k0_hw429 : k0_chk429 v1284), ∀ a, (k0_off429 v1284) a + S1x128.size a ≤ S100000x1024.size a := fun v1284 k0_hw429 => k0_hw429

def k0_off430 (v1287 : BitVec 32) : Fin 2 → Nat :=
  let c384_i32_859 : BitVec 32 := 384#32
  ![v1287.toNat, 384]

def k0_chk430 (v1287 : BitVec 32) : Prop :=
  (∀ a, (k0_off430 v1287) a + S1x128.size a ≤ S100000x1024.size a)
theorem k0_off430_inb : ∀ (v1287 : BitVec 32) (k0_hw430 : k0_chk430 v1287), ∀ a, (k0_off430 v1287) a + S1x128.size a ≤ S100000x1024.size a := fun v1287 k0_hw430 => k0_hw430

def k0_off431 (v1290 : BitVec 32) : Fin 2 → Nat :=
  let c384_i32_861 : BitVec 32 := 384#32
  ![v1290.toNat, 384]

def k0_chk431 (v1290 : BitVec 32) : Prop :=
  (∀ a, (k0_off431 v1290) a + S1x128.size a ≤ S100000x1024.size a)
theorem k0_off431_inb : ∀ (v1290 : BitVec 32) (k0_hw431 : k0_chk431 v1290), ∀ a, (k0_off431 v1290) a + S1x128.size a ≤ S100000x1024.size a := fun v1290 k0_hw431 => k0_hw431

def k0_off432 (v1293 : BitVec 32) : Fin 2 → Nat :=
  let c384_i32_863 : BitVec 32 := 384#32
  ![v1293.toNat, 384]

def k0_chk432 (v1293 : BitVec 32) : Prop :=
  (∀ a, (k0_off432 v1293) a + S1x128.size a ≤ S100000x1024.size a)
theorem k0_off432_inb : ∀ (v1293 : BitVec 32) (k0_hw432 : k0_chk432 v1293), ∀ a, (k0_off432 v1293) a + S1x128.size a ≤ S100000x1024.size a := fun v1293 k0_hw432 => k0_hw432

def k0_off433 (v1296 : BitVec 32) : Fin 2 → Nat :=
  let c384_i32_865 : BitVec 32 := 384#32
  ![v1296.toNat, 384]

def k0_chk433 (v1296 : BitVec 32) : Prop :=
  (∀ a, (k0_off433 v1296) a + S1x128.size a ≤ S100000x1024.size a)
theorem k0_off433_inb : ∀ (v1296 : BitVec 32) (k0_hw433 : k0_chk433 v1296), ∀ a, (k0_off433 v1296) a + S1x128.size a ≤ S100000x1024.size a := fun v1296 k0_hw433 => k0_hw433

def k0_off434 (v1299 : BitVec 32) : Fin 2 → Nat :=
  let c384_i32_867 : BitVec 32 := 384#32
  ![v1299.toNat, 384]

def k0_chk434 (v1299 : BitVec 32) : Prop :=
  (∀ a, (k0_off434 v1299) a + S1x128.size a ≤ S100000x1024.size a)
theorem k0_off434_inb : ∀ (v1299 : BitVec 32) (k0_hw434 : k0_chk434 v1299), ∀ a, (k0_off434 v1299) a + S1x128.size a ≤ S100000x1024.size a := fun v1299 k0_hw434 => k0_hw434

def k0_off435 (v1302 : BitVec 32) : Fin 2 → Nat :=
  let c384_i32_869 : BitVec 32 := 384#32
  ![v1302.toNat, 384]

def k0_chk435 (v1302 : BitVec 32) : Prop :=
  (∀ a, (k0_off435 v1302) a + S1x128.size a ≤ S100000x1024.size a)
theorem k0_off435_inb : ∀ (v1302 : BitVec 32) (k0_hw435 : k0_chk435 v1302), ∀ a, (k0_off435 v1302) a + S1x128.size a ≤ S100000x1024.size a := fun v1302 k0_hw435 => k0_hw435

def k0_off436 (v1305 : BitVec 32) : Fin 2 → Nat :=
  let c384_i32_871 : BitVec 32 := 384#32
  ![v1305.toNat, 384]

def k0_chk436 (v1305 : BitVec 32) : Prop :=
  (∀ a, (k0_off436 v1305) a + S1x128.size a ≤ S100000x1024.size a)
theorem k0_off436_inb : ∀ (v1305 : BitVec 32) (k0_hw436 : k0_chk436 v1305), ∀ a, (k0_off436 v1305) a + S1x128.size a ≤ S100000x1024.size a := fun v1305 k0_hw436 => k0_hw436

def k0_off437 (v1308 : BitVec 32) : Fin 2 → Nat :=
  let c384_i32_873 : BitVec 32 := 384#32
  ![v1308.toNat, 384]

def k0_chk437 (v1308 : BitVec 32) : Prop :=
  (∀ a, (k0_off437 v1308) a + S1x128.size a ≤ S100000x1024.size a)
theorem k0_off437_inb : ∀ (v1308 : BitVec 32) (k0_hw437 : k0_chk437 v1308), ∀ a, (k0_off437 v1308) a + S1x128.size a ≤ S100000x1024.size a := fun v1308 k0_hw437 => k0_hw437

def k0_off438 (v1311 : BitVec 32) : Fin 2 → Nat :=
  let c384_i32_875 : BitVec 32 := 384#32
  ![v1311.toNat, 384]

def k0_chk438 (v1311 : BitVec 32) : Prop :=
  (∀ a, (k0_off438 v1311) a + S1x128.size a ≤ S100000x1024.size a)
theorem k0_off438_inb : ∀ (v1311 : BitVec 32) (k0_hw438 : k0_chk438 v1311), ∀ a, (k0_off438 v1311) a + S1x128.size a ≤ S100000x1024.size a := fun v1311 k0_hw438 => k0_hw438

def k0_off439 (v1314 : BitVec 32) : Fin 2 → Nat :=
  let c384_i32_877 : BitVec 32 := 384#32
  ![v1314.toNat, 384]

def k0_chk439 (v1314 : BitVec 32) : Prop :=
  (∀ a, (k0_off439 v1314) a + S1x128.size a ≤ S100000x1024.size a)
theorem k0_off439_inb : ∀ (v1314 : BitVec 32) (k0_hw439 : k0_chk439 v1314), ∀ a, (k0_off439 v1314) a + S1x128.size a ≤ S100000x1024.size a := fun v1314 k0_hw439 => k0_hw439

def k0_off440 (v1317 : BitVec 32) : Fin 2 → Nat :=
  let c384_i32_879 : BitVec 32 := 384#32
  ![v1317.toNat, 384]

def k0_chk440 (v1317 : BitVec 32) : Prop :=
  (∀ a, (k0_off440 v1317) a + S1x128.size a ≤ S100000x1024.size a)
theorem k0_off440_inb : ∀ (v1317 : BitVec 32) (k0_hw440 : k0_chk440 v1317), ∀ a, (k0_off440 v1317) a + S1x128.size a ≤ S100000x1024.size a := fun v1317 k0_hw440 => k0_hw440

def k0_off441 (v1320 : BitVec 32) : Fin 2 → Nat :=
  let c384_i32_881 : BitVec 32 := 384#32
  ![v1320.toNat, 384]

def k0_chk441 (v1320 : BitVec 32) : Prop :=
  (∀ a, (k0_off441 v1320) a + S1x128.size a ≤ S100000x1024.size a)
theorem k0_off441_inb : ∀ (v1320 : BitVec 32) (k0_hw441 : k0_chk441 v1320), ∀ a, (k0_off441 v1320) a + S1x128.size a ≤ S100000x1024.size a := fun v1320 k0_hw441 => k0_hw441

def k0_off442 (v1323 : BitVec 32) : Fin 2 → Nat :=
  let c384_i32_883 : BitVec 32 := 384#32
  ![v1323.toNat, 384]

def k0_chk442 (v1323 : BitVec 32) : Prop :=
  (∀ a, (k0_off442 v1323) a + S1x128.size a ≤ S100000x1024.size a)
theorem k0_off442_inb : ∀ (v1323 : BitVec 32) (k0_hw442 : k0_chk442 v1323), ∀ a, (k0_off442 v1323) a + S1x128.size a ≤ S100000x1024.size a := fun v1323 k0_hw442 => k0_hw442

def k0_off443 (v1326 : BitVec 32) : Fin 2 → Nat :=
  let c384_i32_885 : BitVec 32 := 384#32
  ![v1326.toNat, 384]

def k0_chk443 (v1326 : BitVec 32) : Prop :=
  (∀ a, (k0_off443 v1326) a + S1x128.size a ≤ S100000x1024.size a)
theorem k0_off443_inb : ∀ (v1326 : BitVec 32) (k0_hw443 : k0_chk443 v1326), ∀ a, (k0_off443 v1326) a + S1x128.size a ≤ S100000x1024.size a := fun v1326 k0_hw443 => k0_hw443

def k0_off444 (v1329 : BitVec 32) : Fin 2 → Nat :=
  let c384_i32_887 : BitVec 32 := 384#32
  ![v1329.toNat, 384]

def k0_chk444 (v1329 : BitVec 32) : Prop :=
  (∀ a, (k0_off444 v1329) a + S1x128.size a ≤ S100000x1024.size a)
theorem k0_off444_inb : ∀ (v1329 : BitVec 32) (k0_hw444 : k0_chk444 v1329), ∀ a, (k0_off444 v1329) a + S1x128.size a ≤ S100000x1024.size a := fun v1329 k0_hw444 => k0_hw444

def k0_off445 (v1332 : BitVec 32) : Fin 2 → Nat :=
  let c384_i32_889 : BitVec 32 := 384#32
  ![v1332.toNat, 384]

def k0_chk445 (v1332 : BitVec 32) : Prop :=
  (∀ a, (k0_off445 v1332) a + S1x128.size a ≤ S100000x1024.size a)
theorem k0_off445_inb : ∀ (v1332 : BitVec 32) (k0_hw445 : k0_chk445 v1332), ∀ a, (k0_off445 v1332) a + S1x128.size a ≤ S100000x1024.size a := fun v1332 k0_hw445 => k0_hw445

def k0_off446 (v1335 : BitVec 32) : Fin 2 → Nat :=
  let c384_i32_891 : BitVec 32 := 384#32
  ![v1335.toNat, 384]

def k0_chk446 (v1335 : BitVec 32) : Prop :=
  (∀ a, (k0_off446 v1335) a + S1x128.size a ≤ S100000x1024.size a)
theorem k0_off446_inb : ∀ (v1335 : BitVec 32) (k0_hw446 : k0_chk446 v1335), ∀ a, (k0_off446 v1335) a + S1x128.size a ≤ S100000x1024.size a := fun v1335 k0_hw446 => k0_hw446

def k0_off447 (v1338 : BitVec 32) : Fin 2 → Nat :=
  let c384_i32_893 : BitVec 32 := 384#32
  ![v1338.toNat, 384]

def k0_chk447 (v1338 : BitVec 32) : Prop :=
  (∀ a, (k0_off447 v1338) a + S1x128.size a ≤ S100000x1024.size a)
theorem k0_off447_inb : ∀ (v1338 : BitVec 32) (k0_hw447 : k0_chk447 v1338), ∀ a, (k0_off447 v1338) a + S1x128.size a ≤ S100000x1024.size a := fun v1338 k0_hw447 => k0_hw447

def k0_off448 (v1341 : BitVec 32) : Fin 2 → Nat :=
  let c384_i32_895 : BitVec 32 := 384#32
  ![v1341.toNat, 384]

def k0_chk448 (v1341 : BitVec 32) : Prop :=
  (∀ a, (k0_off448 v1341) a + S1x128.size a ≤ S100000x1024.size a)
theorem k0_off448_inb : ∀ (v1341 : BitVec 32) (k0_hw448 : k0_chk448 v1341), ∀ a, (k0_off448 v1341) a + S1x128.size a ≤ S100000x1024.size a := fun v1341 k0_hw448 => k0_hw448

def k0_off449 (v1344 : BitVec 32) : Fin 2 → Nat :=
  let c384_i32_897 : BitVec 32 := 384#32
  ![v1344.toNat, 384]

def k0_chk449 (v1344 : BitVec 32) : Prop :=
  (∀ a, (k0_off449 v1344) a + S1x128.size a ≤ S100000x1024.size a)
theorem k0_off449_inb : ∀ (v1344 : BitVec 32) (k0_hw449 : k0_chk449 v1344), ∀ a, (k0_off449 v1344) a + S1x128.size a ≤ S100000x1024.size a := fun v1344 k0_hw449 => k0_hw449

def k0_off450 (v1347 : BitVec 32) : Fin 2 → Nat :=
  let c384_i32_899 : BitVec 32 := 384#32
  ![v1347.toNat, 384]

def k0_chk450 (v1347 : BitVec 32) : Prop :=
  (∀ a, (k0_off450 v1347) a + S1x128.size a ≤ S100000x1024.size a)
theorem k0_off450_inb : ∀ (v1347 : BitVec 32) (k0_hw450 : k0_chk450 v1347), ∀ a, (k0_off450 v1347) a + S1x128.size a ≤ S100000x1024.size a := fun v1347 k0_hw450 => k0_hw450

def k0_off451 (v1350 : BitVec 32) : Fin 2 → Nat :=
  let c384_i32_901 : BitVec 32 := 384#32
  ![v1350.toNat, 384]

def k0_chk451 (v1350 : BitVec 32) : Prop :=
  (∀ a, (k0_off451 v1350) a + S1x128.size a ≤ S100000x1024.size a)
theorem k0_off451_inb : ∀ (v1350 : BitVec 32) (k0_hw451 : k0_chk451 v1350), ∀ a, (k0_off451 v1350) a + S1x128.size a ≤ S100000x1024.size a := fun v1350 k0_hw451 => k0_hw451

def k0_off452 (v1353 : BitVec 32) : Fin 2 → Nat :=
  let c384_i32_903 : BitVec 32 := 384#32
  ![v1353.toNat, 384]

def k0_chk452 (v1353 : BitVec 32) : Prop :=
  (∀ a, (k0_off452 v1353) a + S1x128.size a ≤ S100000x1024.size a)
theorem k0_off452_inb : ∀ (v1353 : BitVec 32) (k0_hw452 : k0_chk452 v1353), ∀ a, (k0_off452 v1353) a + S1x128.size a ≤ S100000x1024.size a := fun v1353 k0_hw452 => k0_hw452

def k0_off453 (v1356 : BitVec 32) : Fin 2 → Nat :=
  let c384_i32_905 : BitVec 32 := 384#32
  ![v1356.toNat, 384]

def k0_chk453 (v1356 : BitVec 32) : Prop :=
  (∀ a, (k0_off453 v1356) a + S1x128.size a ≤ S100000x1024.size a)
theorem k0_off453_inb : ∀ (v1356 : BitVec 32) (k0_hw453 : k0_chk453 v1356), ∀ a, (k0_off453 v1356) a + S1x128.size a ≤ S100000x1024.size a := fun v1356 k0_hw453 => k0_hw453

def k0_off454 (v1359 : BitVec 32) : Fin 2 → Nat :=
  let c384_i32_907 : BitVec 32 := 384#32
  ![v1359.toNat, 384]

def k0_chk454 (v1359 : BitVec 32) : Prop :=
  (∀ a, (k0_off454 v1359) a + S1x128.size a ≤ S100000x1024.size a)
theorem k0_off454_inb : ∀ (v1359 : BitVec 32) (k0_hw454 : k0_chk454 v1359), ∀ a, (k0_off454 v1359) a + S1x128.size a ≤ S100000x1024.size a := fun v1359 k0_hw454 => k0_hw454

def k0_off455 (v1362 : BitVec 32) : Fin 2 → Nat :=
  let c384_i32_909 : BitVec 32 := 384#32
  ![v1362.toNat, 384]

def k0_chk455 (v1362 : BitVec 32) : Prop :=
  (∀ a, (k0_off455 v1362) a + S1x128.size a ≤ S100000x1024.size a)
theorem k0_off455_inb : ∀ (v1362 : BitVec 32) (k0_hw455 : k0_chk455 v1362), ∀ a, (k0_off455 v1362) a + S1x128.size a ≤ S100000x1024.size a := fun v1362 k0_hw455 => k0_hw455

def k0_off456 (v1365 : BitVec 32) : Fin 2 → Nat :=
  let c384_i32_911 : BitVec 32 := 384#32
  ![v1365.toNat, 384]

def k0_chk456 (v1365 : BitVec 32) : Prop :=
  (∀ a, (k0_off456 v1365) a + S1x128.size a ≤ S100000x1024.size a)
theorem k0_off456_inb : ∀ (v1365 : BitVec 32) (k0_hw456 : k0_chk456 v1365), ∀ a, (k0_off456 v1365) a + S1x128.size a ≤ S100000x1024.size a := fun v1365 k0_hw456 => k0_hw456

def k0_off457 (v1368 : BitVec 32) : Fin 2 → Nat :=
  let c384_i32_913 : BitVec 32 := 384#32
  ![v1368.toNat, 384]

def k0_chk457 (v1368 : BitVec 32) : Prop :=
  (∀ a, (k0_off457 v1368) a + S1x128.size a ≤ S100000x1024.size a)
theorem k0_off457_inb : ∀ (v1368 : BitVec 32) (k0_hw457 : k0_chk457 v1368), ∀ a, (k0_off457 v1368) a + S1x128.size a ≤ S100000x1024.size a := fun v1368 k0_hw457 => k0_hw457

def k0_off458 (v1371 : BitVec 32) : Fin 2 → Nat :=
  let c384_i32_915 : BitVec 32 := 384#32
  ![v1371.toNat, 384]

def k0_chk458 (v1371 : BitVec 32) : Prop :=
  (∀ a, (k0_off458 v1371) a + S1x128.size a ≤ S100000x1024.size a)
theorem k0_off458_inb : ∀ (v1371 : BitVec 32) (k0_hw458 : k0_chk458 v1371), ∀ a, (k0_off458 v1371) a + S1x128.size a ≤ S100000x1024.size a := fun v1371 k0_hw458 => k0_hw458

def k0_off459 (v1374 : BitVec 32) : Fin 2 → Nat :=
  let c384_i32_917 : BitVec 32 := 384#32
  ![v1374.toNat, 384]

def k0_chk459 (v1374 : BitVec 32) : Prop :=
  (∀ a, (k0_off459 v1374) a + S1x128.size a ≤ S100000x1024.size a)
theorem k0_off459_inb : ∀ (v1374 : BitVec 32) (k0_hw459 : k0_chk459 v1374), ∀ a, (k0_off459 v1374) a + S1x128.size a ≤ S100000x1024.size a := fun v1374 k0_hw459 => k0_hw459

def k0_off460 (v1377 : BitVec 32) : Fin 2 → Nat :=
  let c384_i32_919 : BitVec 32 := 384#32
  ![v1377.toNat, 384]

def k0_chk460 (v1377 : BitVec 32) : Prop :=
  (∀ a, (k0_off460 v1377) a + S1x128.size a ≤ S100000x1024.size a)
theorem k0_off460_inb : ∀ (v1377 : BitVec 32) (k0_hw460 : k0_chk460 v1377), ∀ a, (k0_off460 v1377) a + S1x128.size a ≤ S100000x1024.size a := fun v1377 k0_hw460 => k0_hw460

def k0_off461 (v1380 : BitVec 32) : Fin 2 → Nat :=
  let c384_i32_921 : BitVec 32 := 384#32
  ![v1380.toNat, 384]

def k0_chk461 (v1380 : BitVec 32) : Prop :=
  (∀ a, (k0_off461 v1380) a + S1x128.size a ≤ S100000x1024.size a)
theorem k0_off461_inb : ∀ (v1380 : BitVec 32) (k0_hw461 : k0_chk461 v1380), ∀ a, (k0_off461 v1380) a + S1x128.size a ≤ S100000x1024.size a := fun v1380 k0_hw461 => k0_hw461

def k0_off462 (v1383 : BitVec 32) : Fin 2 → Nat :=
  let c384_i32_923 : BitVec 32 := 384#32
  ![v1383.toNat, 384]

def k0_chk462 (v1383 : BitVec 32) : Prop :=
  (∀ a, (k0_off462 v1383) a + S1x128.size a ≤ S100000x1024.size a)
theorem k0_off462_inb : ∀ (v1383 : BitVec 32) (k0_hw462 : k0_chk462 v1383), ∀ a, (k0_off462 v1383) a + S1x128.size a ≤ S100000x1024.size a := fun v1383 k0_hw462 => k0_hw462

def k0_off463 (v1386 : BitVec 32) : Fin 2 → Nat :=
  let c384_i32_925 : BitVec 32 := 384#32
  ![v1386.toNat, 384]

def k0_chk463 (v1386 : BitVec 32) : Prop :=
  (∀ a, (k0_off463 v1386) a + S1x128.size a ≤ S100000x1024.size a)
theorem k0_off463_inb : ∀ (v1386 : BitVec 32) (k0_hw463 : k0_chk463 v1386), ∀ a, (k0_off463 v1386) a + S1x128.size a ≤ S100000x1024.size a := fun v1386 k0_hw463 => k0_hw463

def k0_off464 (v1389 : BitVec 32) : Fin 2 → Nat :=
  let c384_i32_927 : BitVec 32 := 384#32
  ![v1389.toNat, 384]

def k0_chk464 (v1389 : BitVec 32) : Prop :=
  (∀ a, (k0_off464 v1389) a + S1x128.size a ≤ S100000x1024.size a)
theorem k0_off464_inb : ∀ (v1389 : BitVec 32) (k0_hw464 : k0_chk464 v1389), ∀ a, (k0_off464 v1389) a + S1x128.size a ≤ S100000x1024.size a := fun v1389 k0_hw464 => k0_hw464

def k0_off465 (v1392 : BitVec 32) : Fin 2 → Nat :=
  let c384_i32_929 : BitVec 32 := 384#32
  ![v1392.toNat, 384]

def k0_chk465 (v1392 : BitVec 32) : Prop :=
  (∀ a, (k0_off465 v1392) a + S1x128.size a ≤ S100000x1024.size a)
theorem k0_off465_inb : ∀ (v1392 : BitVec 32) (k0_hw465 : k0_chk465 v1392), ∀ a, (k0_off465 v1392) a + S1x128.size a ≤ S100000x1024.size a := fun v1392 k0_hw465 => k0_hw465

def k0_off466 (v1395 : BitVec 32) : Fin 2 → Nat :=
  let c384_i32_931 : BitVec 32 := 384#32
  ![v1395.toNat, 384]

def k0_chk466 (v1395 : BitVec 32) : Prop :=
  (∀ a, (k0_off466 v1395) a + S1x128.size a ≤ S100000x1024.size a)
theorem k0_off466_inb : ∀ (v1395 : BitVec 32) (k0_hw466 : k0_chk466 v1395), ∀ a, (k0_off466 v1395) a + S1x128.size a ≤ S100000x1024.size a := fun v1395 k0_hw466 => k0_hw466

def k0_off467 (v1398 : BitVec 32) : Fin 2 → Nat :=
  let c384_i32_933 : BitVec 32 := 384#32
  ![v1398.toNat, 384]

def k0_chk467 (v1398 : BitVec 32) : Prop :=
  (∀ a, (k0_off467 v1398) a + S1x128.size a ≤ S100000x1024.size a)
theorem k0_off467_inb : ∀ (v1398 : BitVec 32) (k0_hw467 : k0_chk467 v1398), ∀ a, (k0_off467 v1398) a + S1x128.size a ≤ S100000x1024.size a := fun v1398 k0_hw467 => k0_hw467

def k0_off468 (v1401 : BitVec 32) : Fin 2 → Nat :=
  let c384_i32_935 : BitVec 32 := 384#32
  ![v1401.toNat, 384]

def k0_chk468 (v1401 : BitVec 32) : Prop :=
  (∀ a, (k0_off468 v1401) a + S1x128.size a ≤ S100000x1024.size a)
theorem k0_off468_inb : ∀ (v1401 : BitVec 32) (k0_hw468 : k0_chk468 v1401), ∀ a, (k0_off468 v1401) a + S1x128.size a ≤ S100000x1024.size a := fun v1401 k0_hw468 => k0_hw468

def k0_off469 (v1404 : BitVec 32) : Fin 2 → Nat :=
  let c384_i32_937 : BitVec 32 := 384#32
  ![v1404.toNat, 384]

def k0_chk469 (v1404 : BitVec 32) : Prop :=
  (∀ a, (k0_off469 v1404) a + S1x128.size a ≤ S100000x1024.size a)
theorem k0_off469_inb : ∀ (v1404 : BitVec 32) (k0_hw469 : k0_chk469 v1404), ∀ a, (k0_off469 v1404) a + S1x128.size a ≤ S100000x1024.size a := fun v1404 k0_hw469 => k0_hw469

def k0_off470 (v1407 : BitVec 32) : Fin 2 → Nat :=
  let c384_i32_939 : BitVec 32 := 384#32
  ![v1407.toNat, 384]

def k0_chk470 (v1407 : BitVec 32) : Prop :=
  (∀ a, (k0_off470 v1407) a + S1x128.size a ≤ S100000x1024.size a)
theorem k0_off470_inb : ∀ (v1407 : BitVec 32) (k0_hw470 : k0_chk470 v1407), ∀ a, (k0_off470 v1407) a + S1x128.size a ≤ S100000x1024.size a := fun v1407 k0_hw470 => k0_hw470

def k0_off471 (v1410 : BitVec 32) : Fin 2 → Nat :=
  let c384_i32_941 : BitVec 32 := 384#32
  ![v1410.toNat, 384]

def k0_chk471 (v1410 : BitVec 32) : Prop :=
  (∀ a, (k0_off471 v1410) a + S1x128.size a ≤ S100000x1024.size a)
theorem k0_off471_inb : ∀ (v1410 : BitVec 32) (k0_hw471 : k0_chk471 v1410), ∀ a, (k0_off471 v1410) a + S1x128.size a ≤ S100000x1024.size a := fun v1410 k0_hw471 => k0_hw471

def k0_off472 (v1413 : BitVec 32) : Fin 2 → Nat :=
  let c384_i32_943 : BitVec 32 := 384#32
  ![v1413.toNat, 384]

def k0_chk472 (v1413 : BitVec 32) : Prop :=
  (∀ a, (k0_off472 v1413) a + S1x128.size a ≤ S100000x1024.size a)
theorem k0_off472_inb : ∀ (v1413 : BitVec 32) (k0_hw472 : k0_chk472 v1413), ∀ a, (k0_off472 v1413) a + S1x128.size a ≤ S100000x1024.size a := fun v1413 k0_hw472 => k0_hw472

def k0_off473 (v1416 : BitVec 32) : Fin 2 → Nat :=
  let c384_i32_945 : BitVec 32 := 384#32
  ![v1416.toNat, 384]

def k0_chk473 (v1416 : BitVec 32) : Prop :=
  (∀ a, (k0_off473 v1416) a + S1x128.size a ≤ S100000x1024.size a)
theorem k0_off473_inb : ∀ (v1416 : BitVec 32) (k0_hw473 : k0_chk473 v1416), ∀ a, (k0_off473 v1416) a + S1x128.size a ≤ S100000x1024.size a := fun v1416 k0_hw473 => k0_hw473

def k0_off474 (v1419 : BitVec 32) : Fin 2 → Nat :=
  let c384_i32_947 : BitVec 32 := 384#32
  ![v1419.toNat, 384]

def k0_chk474 (v1419 : BitVec 32) : Prop :=
  (∀ a, (k0_off474 v1419) a + S1x128.size a ≤ S100000x1024.size a)
theorem k0_off474_inb : ∀ (v1419 : BitVec 32) (k0_hw474 : k0_chk474 v1419), ∀ a, (k0_off474 v1419) a + S1x128.size a ≤ S100000x1024.size a := fun v1419 k0_hw474 => k0_hw474

def k0_off475 (v1422 : BitVec 32) : Fin 2 → Nat :=
  let c384_i32_949 : BitVec 32 := 384#32
  ![v1422.toNat, 384]

def k0_chk475 (v1422 : BitVec 32) : Prop :=
  (∀ a, (k0_off475 v1422) a + S1x128.size a ≤ S100000x1024.size a)
theorem k0_off475_inb : ∀ (v1422 : BitVec 32) (k0_hw475 : k0_chk475 v1422), ∀ a, (k0_off475 v1422) a + S1x128.size a ≤ S100000x1024.size a := fun v1422 k0_hw475 => k0_hw475

def k0_off476 (v1425 : BitVec 32) : Fin 2 → Nat :=
  let c384_i32_951 : BitVec 32 := 384#32
  ![v1425.toNat, 384]

def k0_chk476 (v1425 : BitVec 32) : Prop :=
  (∀ a, (k0_off476 v1425) a + S1x128.size a ≤ S100000x1024.size a)
theorem k0_off476_inb : ∀ (v1425 : BitVec 32) (k0_hw476 : k0_chk476 v1425), ∀ a, (k0_off476 v1425) a + S1x128.size a ≤ S100000x1024.size a := fun v1425 k0_hw476 => k0_hw476

def k0_off477 (v1428 : BitVec 32) : Fin 2 → Nat :=
  let c384_i32_953 : BitVec 32 := 384#32
  ![v1428.toNat, 384]

def k0_chk477 (v1428 : BitVec 32) : Prop :=
  (∀ a, (k0_off477 v1428) a + S1x128.size a ≤ S100000x1024.size a)
theorem k0_off477_inb : ∀ (v1428 : BitVec 32) (k0_hw477 : k0_chk477 v1428), ∀ a, (k0_off477 v1428) a + S1x128.size a ≤ S100000x1024.size a := fun v1428 k0_hw477 => k0_hw477

def k0_off478 (v1431 : BitVec 32) : Fin 2 → Nat :=
  let c384_i32_955 : BitVec 32 := 384#32
  ![v1431.toNat, 384]

def k0_chk478 (v1431 : BitVec 32) : Prop :=
  (∀ a, (k0_off478 v1431) a + S1x128.size a ≤ S100000x1024.size a)
theorem k0_off478_inb : ∀ (v1431 : BitVec 32) (k0_hw478 : k0_chk478 v1431), ∀ a, (k0_off478 v1431) a + S1x128.size a ≤ S100000x1024.size a := fun v1431 k0_hw478 => k0_hw478

def k0_off479 (v1434 : BitVec 32) : Fin 2 → Nat :=
  let c384_i32_957 : BitVec 32 := 384#32
  ![v1434.toNat, 384]

def k0_chk479 (v1434 : BitVec 32) : Prop :=
  (∀ a, (k0_off479 v1434) a + S1x128.size a ≤ S100000x1024.size a)
theorem k0_off479_inb : ∀ (v1434 : BitVec 32) (k0_hw479 : k0_chk479 v1434), ∀ a, (k0_off479 v1434) a + S1x128.size a ≤ S100000x1024.size a := fun v1434 k0_hw479 => k0_hw479

def k0_off480 (v1437 : BitVec 32) : Fin 2 → Nat :=
  let c384_i32_959 : BitVec 32 := 384#32
  ![v1437.toNat, 384]

def k0_chk480 (v1437 : BitVec 32) : Prop :=
  (∀ a, (k0_off480 v1437) a + S1x128.size a ≤ S100000x1024.size a)
theorem k0_off480_inb : ∀ (v1437 : BitVec 32) (k0_hw480 : k0_chk480 v1437), ∀ a, (k0_off480 v1437) a + S1x128.size a ≤ S100000x1024.size a := fun v1437 k0_hw480 => k0_hw480

def k0_off481 (v1440 : BitVec 32) : Fin 2 → Nat :=
  let c384_i32_961 : BitVec 32 := 384#32
  ![v1440.toNat, 384]

def k0_chk481 (v1440 : BitVec 32) : Prop :=
  (∀ a, (k0_off481 v1440) a + S1x128.size a ≤ S100000x1024.size a)
theorem k0_off481_inb : ∀ (v1440 : BitVec 32) (k0_hw481 : k0_chk481 v1440), ∀ a, (k0_off481 v1440) a + S1x128.size a ≤ S100000x1024.size a := fun v1440 k0_hw481 => k0_hw481

def k0_off482 (v1443 : BitVec 32) : Fin 2 → Nat :=
  let c384_i32_963 : BitVec 32 := 384#32
  ![v1443.toNat, 384]

def k0_chk482 (v1443 : BitVec 32) : Prop :=
  (∀ a, (k0_off482 v1443) a + S1x128.size a ≤ S100000x1024.size a)
theorem k0_off482_inb : ∀ (v1443 : BitVec 32) (k0_hw482 : k0_chk482 v1443), ∀ a, (k0_off482 v1443) a + S1x128.size a ≤ S100000x1024.size a := fun v1443 k0_hw482 => k0_hw482

def k0_off483 (v1446 : BitVec 32) : Fin 2 → Nat :=
  let c384_i32_965 : BitVec 32 := 384#32
  ![v1446.toNat, 384]

def k0_chk483 (v1446 : BitVec 32) : Prop :=
  (∀ a, (k0_off483 v1446) a + S1x128.size a ≤ S100000x1024.size a)
theorem k0_off483_inb : ∀ (v1446 : BitVec 32) (k0_hw483 : k0_chk483 v1446), ∀ a, (k0_off483 v1446) a + S1x128.size a ≤ S100000x1024.size a := fun v1446 k0_hw483 => k0_hw483

def k0_off484 (v1449 : BitVec 32) : Fin 2 → Nat :=
  let c384_i32_967 : BitVec 32 := 384#32
  ![v1449.toNat, 384]

def k0_chk484 (v1449 : BitVec 32) : Prop :=
  (∀ a, (k0_off484 v1449) a + S1x128.size a ≤ S100000x1024.size a)
theorem k0_off484_inb : ∀ (v1449 : BitVec 32) (k0_hw484 : k0_chk484 v1449), ∀ a, (k0_off484 v1449) a + S1x128.size a ≤ S100000x1024.size a := fun v1449 k0_hw484 => k0_hw484

def k0_off485 (v1452 : BitVec 32) : Fin 2 → Nat :=
  let c384_i32_969 : BitVec 32 := 384#32
  ![v1452.toNat, 384]

def k0_chk485 (v1452 : BitVec 32) : Prop :=
  (∀ a, (k0_off485 v1452) a + S1x128.size a ≤ S100000x1024.size a)
theorem k0_off485_inb : ∀ (v1452 : BitVec 32) (k0_hw485 : k0_chk485 v1452), ∀ a, (k0_off485 v1452) a + S1x128.size a ≤ S100000x1024.size a := fun v1452 k0_hw485 => k0_hw485

def k0_off486 (v1455 : BitVec 32) : Fin 2 → Nat :=
  let c384_i32_971 : BitVec 32 := 384#32
  ![v1455.toNat, 384]

def k0_chk486 (v1455 : BitVec 32) : Prop :=
  (∀ a, (k0_off486 v1455) a + S1x128.size a ≤ S100000x1024.size a)
theorem k0_off486_inb : ∀ (v1455 : BitVec 32) (k0_hw486 : k0_chk486 v1455), ∀ a, (k0_off486 v1455) a + S1x128.size a ≤ S100000x1024.size a := fun v1455 k0_hw486 => k0_hw486

def k0_off487 (v1458 : BitVec 32) : Fin 2 → Nat :=
  let c384_i32_973 : BitVec 32 := 384#32
  ![v1458.toNat, 384]

def k0_chk487 (v1458 : BitVec 32) : Prop :=
  (∀ a, (k0_off487 v1458) a + S1x128.size a ≤ S100000x1024.size a)
theorem k0_off487_inb : ∀ (v1458 : BitVec 32) (k0_hw487 : k0_chk487 v1458), ∀ a, (k0_off487 v1458) a + S1x128.size a ≤ S100000x1024.size a := fun v1458 k0_hw487 => k0_hw487

def k0_off488 (v1461 : BitVec 32) : Fin 2 → Nat :=
  let c384_i32_975 : BitVec 32 := 384#32
  ![v1461.toNat, 384]

def k0_chk488 (v1461 : BitVec 32) : Prop :=
  (∀ a, (k0_off488 v1461) a + S1x128.size a ≤ S100000x1024.size a)
theorem k0_off488_inb : ∀ (v1461 : BitVec 32) (k0_hw488 : k0_chk488 v1461), ∀ a, (k0_off488 v1461) a + S1x128.size a ≤ S100000x1024.size a := fun v1461 k0_hw488 => k0_hw488

def k0_off489 (v1464 : BitVec 32) : Fin 2 → Nat :=
  let c384_i32_977 : BitVec 32 := 384#32
  ![v1464.toNat, 384]

def k0_chk489 (v1464 : BitVec 32) : Prop :=
  (∀ a, (k0_off489 v1464) a + S1x128.size a ≤ S100000x1024.size a)
theorem k0_off489_inb : ∀ (v1464 : BitVec 32) (k0_hw489 : k0_chk489 v1464), ∀ a, (k0_off489 v1464) a + S1x128.size a ≤ S100000x1024.size a := fun v1464 k0_hw489 => k0_hw489

def k0_off490 (v1467 : BitVec 32) : Fin 2 → Nat :=
  let c384_i32_979 : BitVec 32 := 384#32
  ![v1467.toNat, 384]

def k0_chk490 (v1467 : BitVec 32) : Prop :=
  (∀ a, (k0_off490 v1467) a + S1x128.size a ≤ S100000x1024.size a)
theorem k0_off490_inb : ∀ (v1467 : BitVec 32) (k0_hw490 : k0_chk490 v1467), ∀ a, (k0_off490 v1467) a + S1x128.size a ≤ S100000x1024.size a := fun v1467 k0_hw490 => k0_hw490

def k0_off491 (v1470 : BitVec 32) : Fin 2 → Nat :=
  let c384_i32_981 : BitVec 32 := 384#32
  ![v1470.toNat, 384]

def k0_chk491 (v1470 : BitVec 32) : Prop :=
  (∀ a, (k0_off491 v1470) a + S1x128.size a ≤ S100000x1024.size a)
theorem k0_off491_inb : ∀ (v1470 : BitVec 32) (k0_hw491 : k0_chk491 v1470), ∀ a, (k0_off491 v1470) a + S1x128.size a ≤ S100000x1024.size a := fun v1470 k0_hw491 => k0_hw491

def k0_off492 (v1473 : BitVec 32) : Fin 2 → Nat :=
  let c384_i32_983 : BitVec 32 := 384#32
  ![v1473.toNat, 384]

def k0_chk492 (v1473 : BitVec 32) : Prop :=
  (∀ a, (k0_off492 v1473) a + S1x128.size a ≤ S100000x1024.size a)
theorem k0_off492_inb : ∀ (v1473 : BitVec 32) (k0_hw492 : k0_chk492 v1473), ∀ a, (k0_off492 v1473) a + S1x128.size a ≤ S100000x1024.size a := fun v1473 k0_hw492 => k0_hw492

def k0_off493 (v1476 : BitVec 32) : Fin 2 → Nat :=
  let c384_i32_985 : BitVec 32 := 384#32
  ![v1476.toNat, 384]

def k0_chk493 (v1476 : BitVec 32) : Prop :=
  (∀ a, (k0_off493 v1476) a + S1x128.size a ≤ S100000x1024.size a)
theorem k0_off493_inb : ∀ (v1476 : BitVec 32) (k0_hw493 : k0_chk493 v1476), ∀ a, (k0_off493 v1476) a + S1x128.size a ≤ S100000x1024.size a := fun v1476 k0_hw493 => k0_hw493

def k0_off494 (v1479 : BitVec 32) : Fin 2 → Nat :=
  let c384_i32_987 : BitVec 32 := 384#32
  ![v1479.toNat, 384]

def k0_chk494 (v1479 : BitVec 32) : Prop :=
  (∀ a, (k0_off494 v1479) a + S1x128.size a ≤ S100000x1024.size a)
theorem k0_off494_inb : ∀ (v1479 : BitVec 32) (k0_hw494 : k0_chk494 v1479), ∀ a, (k0_off494 v1479) a + S1x128.size a ≤ S100000x1024.size a := fun v1479 k0_hw494 => k0_hw494

def k0_off495 (v1482 : BitVec 32) : Fin 2 → Nat :=
  let c384_i32_989 : BitVec 32 := 384#32
  ![v1482.toNat, 384]

def k0_chk495 (v1482 : BitVec 32) : Prop :=
  (∀ a, (k0_off495 v1482) a + S1x128.size a ≤ S100000x1024.size a)
theorem k0_off495_inb : ∀ (v1482 : BitVec 32) (k0_hw495 : k0_chk495 v1482), ∀ a, (k0_off495 v1482) a + S1x128.size a ≤ S100000x1024.size a := fun v1482 k0_hw495 => k0_hw495

def k0_off496 (v1485 : BitVec 32) : Fin 2 → Nat :=
  let c384_i32_991 : BitVec 32 := 384#32
  ![v1485.toNat, 384]

def k0_chk496 (v1485 : BitVec 32) : Prop :=
  (∀ a, (k0_off496 v1485) a + S1x128.size a ≤ S100000x1024.size a)
theorem k0_off496_inb : ∀ (v1485 : BitVec 32) (k0_hw496 : k0_chk496 v1485), ∀ a, (k0_off496 v1485) a + S1x128.size a ≤ S100000x1024.size a := fun v1485 k0_hw496 => k0_hw496

def k0_off497 (v1488 : BitVec 32) : Fin 2 → Nat :=
  let c384_i32_993 : BitVec 32 := 384#32
  ![v1488.toNat, 384]

def k0_chk497 (v1488 : BitVec 32) : Prop :=
  (∀ a, (k0_off497 v1488) a + S1x128.size a ≤ S100000x1024.size a)
theorem k0_off497_inb : ∀ (v1488 : BitVec 32) (k0_hw497 : k0_chk497 v1488), ∀ a, (k0_off497 v1488) a + S1x128.size a ≤ S100000x1024.size a := fun v1488 k0_hw497 => k0_hw497

def k0_off498 (v1491 : BitVec 32) : Fin 2 → Nat :=
  let c384_i32_995 : BitVec 32 := 384#32
  ![v1491.toNat, 384]

def k0_chk498 (v1491 : BitVec 32) : Prop :=
  (∀ a, (k0_off498 v1491) a + S1x128.size a ≤ S100000x1024.size a)
theorem k0_off498_inb : ∀ (v1491 : BitVec 32) (k0_hw498 : k0_chk498 v1491), ∀ a, (k0_off498 v1491) a + S1x128.size a ≤ S100000x1024.size a := fun v1491 k0_hw498 => k0_hw498

def k0_off499 (v1494 : BitVec 32) : Fin 2 → Nat :=
  let c384_i32_997 : BitVec 32 := 384#32
  ![v1494.toNat, 384]

def k0_chk499 (v1494 : BitVec 32) : Prop :=
  (∀ a, (k0_off499 v1494) a + S1x128.size a ≤ S100000x1024.size a)
theorem k0_off499_inb : ∀ (v1494 : BitVec 32) (k0_hw499 : k0_chk499 v1494), ∀ a, (k0_off499 v1494) a + S1x128.size a ≤ S100000x1024.size a := fun v1494 k0_hw499 => k0_hw499

def k0_off500 (v1497 : BitVec 32) : Fin 2 → Nat :=
  let c384_i32_999 : BitVec 32 := 384#32
  ![v1497.toNat, 384]

def k0_chk500 (v1497 : BitVec 32) : Prop :=
  (∀ a, (k0_off500 v1497) a + S1x128.size a ≤ S100000x1024.size a)
theorem k0_off500_inb : ∀ (v1497 : BitVec 32) (k0_hw500 : k0_chk500 v1497), ∀ a, (k0_off500 v1497) a + S1x128.size a ≤ S100000x1024.size a := fun v1497 k0_hw500 => k0_hw500

def k0_off501 (v1500 : BitVec 32) : Fin 2 → Nat :=
  let c384_i32_1001 : BitVec 32 := 384#32
  ![v1500.toNat, 384]

def k0_chk501 (v1500 : BitVec 32) : Prop :=
  (∀ a, (k0_off501 v1500) a + S1x128.size a ≤ S100000x1024.size a)
theorem k0_off501_inb : ∀ (v1500 : BitVec 32) (k0_hw501 : k0_chk501 v1500), ∀ a, (k0_off501 v1500) a + S1x128.size a ≤ S100000x1024.size a := fun v1500 k0_hw501 => k0_hw501

def k0_off502 (v1503 : BitVec 32) : Fin 2 → Nat :=
  let c384_i32_1003 : BitVec 32 := 384#32
  ![v1503.toNat, 384]

def k0_chk502 (v1503 : BitVec 32) : Prop :=
  (∀ a, (k0_off502 v1503) a + S1x128.size a ≤ S100000x1024.size a)
theorem k0_off502_inb : ∀ (v1503 : BitVec 32) (k0_hw502 : k0_chk502 v1503), ∀ a, (k0_off502 v1503) a + S1x128.size a ≤ S100000x1024.size a := fun v1503 k0_hw502 => k0_hw502

def k0_off503 (v1506 : BitVec 32) : Fin 2 → Nat :=
  let c384_i32_1005 : BitVec 32 := 384#32
  ![v1506.toNat, 384]

def k0_chk503 (v1506 : BitVec 32) : Prop :=
  (∀ a, (k0_off503 v1506) a + S1x128.size a ≤ S100000x1024.size a)
theorem k0_off503_inb : ∀ (v1506 : BitVec 32) (k0_hw503 : k0_chk503 v1506), ∀ a, (k0_off503 v1506) a + S1x128.size a ≤ S100000x1024.size a := fun v1506 k0_hw503 => k0_hw503

def k0_off504 (v1509 : BitVec 32) : Fin 2 → Nat :=
  let c384_i32_1007 : BitVec 32 := 384#32
  ![v1509.toNat, 384]

def k0_chk504 (v1509 : BitVec 32) : Prop :=
  (∀ a, (k0_off504 v1509) a + S1x128.size a ≤ S100000x1024.size a)
theorem k0_off504_inb : ∀ (v1509 : BitVec 32) (k0_hw504 : k0_chk504 v1509), ∀ a, (k0_off504 v1509) a + S1x128.size a ≤ S100000x1024.size a := fun v1509 k0_hw504 => k0_hw504

def k0_off505 (v1512 : BitVec 32) : Fin 2 → Nat :=
  let c384_i32_1009 : BitVec 32 := 384#32
  ![v1512.toNat, 384]

def k0_chk505 (v1512 : BitVec 32) : Prop :=
  (∀ a, (k0_off505 v1512) a + S1x128.size a ≤ S100000x1024.size a)
theorem k0_off505_inb : ∀ (v1512 : BitVec 32) (k0_hw505 : k0_chk505 v1512), ∀ a, (k0_off505 v1512) a + S1x128.size a ≤ S100000x1024.size a := fun v1512 k0_hw505 => k0_hw505

def k0_off506 (v1515 : BitVec 32) : Fin 2 → Nat :=
  let c384_i32_1011 : BitVec 32 := 384#32
  ![v1515.toNat, 384]

def k0_chk506 (v1515 : BitVec 32) : Prop :=
  (∀ a, (k0_off506 v1515) a + S1x128.size a ≤ S100000x1024.size a)
theorem k0_off506_inb : ∀ (v1515 : BitVec 32) (k0_hw506 : k0_chk506 v1515), ∀ a, (k0_off506 v1515) a + S1x128.size a ≤ S100000x1024.size a := fun v1515 k0_hw506 => k0_hw506

def k0_off507 (v1518 : BitVec 32) : Fin 2 → Nat :=
  let c384_i32_1013 : BitVec 32 := 384#32
  ![v1518.toNat, 384]

def k0_chk507 (v1518 : BitVec 32) : Prop :=
  (∀ a, (k0_off507 v1518) a + S1x128.size a ≤ S100000x1024.size a)
theorem k0_off507_inb : ∀ (v1518 : BitVec 32) (k0_hw507 : k0_chk507 v1518), ∀ a, (k0_off507 v1518) a + S1x128.size a ≤ S100000x1024.size a := fun v1518 k0_hw507 => k0_hw507

def k0_off508 (v1521 : BitVec 32) : Fin 2 → Nat :=
  let c384_i32_1015 : BitVec 32 := 384#32
  ![v1521.toNat, 384]

def k0_chk508 (v1521 : BitVec 32) : Prop :=
  (∀ a, (k0_off508 v1521) a + S1x128.size a ≤ S100000x1024.size a)
theorem k0_off508_inb : ∀ (v1521 : BitVec 32) (k0_hw508 : k0_chk508 v1521), ∀ a, (k0_off508 v1521) a + S1x128.size a ≤ S100000x1024.size a := fun v1521 k0_hw508 => k0_hw508

def k0_off509 (v1524 : BitVec 32) : Fin 2 → Nat :=
  let c384_i32_1017 : BitVec 32 := 384#32
  ![v1524.toNat, 384]

def k0_chk509 (v1524 : BitVec 32) : Prop :=
  (∀ a, (k0_off509 v1524) a + S1x128.size a ≤ S100000x1024.size a)
theorem k0_off509_inb : ∀ (v1524 : BitVec 32) (k0_hw509 : k0_chk509 v1524), ∀ a, (k0_off509 v1524) a + S1x128.size a ≤ S100000x1024.size a := fun v1524 k0_hw509 => k0_hw509

def k0_off510 (v1527 : BitVec 32) : Fin 2 → Nat :=
  let c384_i32_1019 : BitVec 32 := 384#32
  ![v1527.toNat, 384]

def k0_chk510 (v1527 : BitVec 32) : Prop :=
  (∀ a, (k0_off510 v1527) a + S1x128.size a ≤ S100000x1024.size a)
theorem k0_off510_inb : ∀ (v1527 : BitVec 32) (k0_hw510 : k0_chk510 v1527), ∀ a, (k0_off510 v1527) a + S1x128.size a ≤ S100000x1024.size a := fun v1527 k0_hw510 => k0_hw510

def k0_off511 (v1530 : BitVec 32) : Fin 2 → Nat :=
  let c384_i32_1021 : BitVec 32 := 384#32
  ![v1530.toNat, 384]

def k0_chk511 (v1530 : BitVec 32) : Prop :=
  (∀ a, (k0_off511 v1530) a + S1x128.size a ≤ S100000x1024.size a)
theorem k0_off511_inb : ∀ (v1530 : BitVec 32) (k0_hw511 : k0_chk511 v1530), ∀ a, (k0_off511 v1530) a + S1x128.size a ≤ S100000x1024.size a := fun v1530 k0_hw511 => k0_hw511

def k0_off512 (v1533 : BitVec 32) : Fin 2 → Nat :=
  let c384_i32_1023 : BitVec 32 := 384#32
  ![v1533.toNat, 384]

def k0_chk512 (v1533 : BitVec 32) : Prop :=
  (∀ a, (k0_off512 v1533) a + S1x128.size a ≤ S100000x1024.size a)
theorem k0_off512_inb : ∀ (v1533 : BitVec 32) (k0_hw512 : k0_chk512 v1533), ∀ a, (k0_off512 v1533) a + S1x128.size a ≤ S100000x1024.size a := fun v1533 k0_hw512 => k0_hw512

def k0_off513 (v1536 : BitVec 32) : Fin 2 → Nat :=
  let c512_i32_1025 : BitVec 32 := 512#32
  ![v1536.toNat, 512]

def k0_chk513 (v1536 : BitVec 32) : Prop :=
  (∀ a, (k0_off513 v1536) a + S1x128.size a ≤ S100000x1024.size a)
theorem k0_off513_inb : ∀ (v1536 : BitVec 32) (k0_hw513 : k0_chk513 v1536), ∀ a, (k0_off513 v1536) a + S1x128.size a ≤ S100000x1024.size a := fun v1536 k0_hw513 => k0_hw513

def k0_off514 (v1539 : BitVec 32) : Fin 2 → Nat :=
  let c512_i32_1027 : BitVec 32 := 512#32
  ![v1539.toNat, 512]

def k0_chk514 (v1539 : BitVec 32) : Prop :=
  (∀ a, (k0_off514 v1539) a + S1x128.size a ≤ S100000x1024.size a)
theorem k0_off514_inb : ∀ (v1539 : BitVec 32) (k0_hw514 : k0_chk514 v1539), ∀ a, (k0_off514 v1539) a + S1x128.size a ≤ S100000x1024.size a := fun v1539 k0_hw514 => k0_hw514

def k0_off515 (v1542 : BitVec 32) : Fin 2 → Nat :=
  let c512_i32_1029 : BitVec 32 := 512#32
  ![v1542.toNat, 512]

def k0_chk515 (v1542 : BitVec 32) : Prop :=
  (∀ a, (k0_off515 v1542) a + S1x128.size a ≤ S100000x1024.size a)
theorem k0_off515_inb : ∀ (v1542 : BitVec 32) (k0_hw515 : k0_chk515 v1542), ∀ a, (k0_off515 v1542) a + S1x128.size a ≤ S100000x1024.size a := fun v1542 k0_hw515 => k0_hw515

def k0_off516 (v1545 : BitVec 32) : Fin 2 → Nat :=
  let c512_i32_1031 : BitVec 32 := 512#32
  ![v1545.toNat, 512]

def k0_chk516 (v1545 : BitVec 32) : Prop :=
  (∀ a, (k0_off516 v1545) a + S1x128.size a ≤ S100000x1024.size a)
theorem k0_off516_inb : ∀ (v1545 : BitVec 32) (k0_hw516 : k0_chk516 v1545), ∀ a, (k0_off516 v1545) a + S1x128.size a ≤ S100000x1024.size a := fun v1545 k0_hw516 => k0_hw516

def k0_off517 (v1548 : BitVec 32) : Fin 2 → Nat :=
  let c512_i32_1033 : BitVec 32 := 512#32
  ![v1548.toNat, 512]

def k0_chk517 (v1548 : BitVec 32) : Prop :=
  (∀ a, (k0_off517 v1548) a + S1x128.size a ≤ S100000x1024.size a)
theorem k0_off517_inb : ∀ (v1548 : BitVec 32) (k0_hw517 : k0_chk517 v1548), ∀ a, (k0_off517 v1548) a + S1x128.size a ≤ S100000x1024.size a := fun v1548 k0_hw517 => k0_hw517

def k0_off518 (v1551 : BitVec 32) : Fin 2 → Nat :=
  let c512_i32_1035 : BitVec 32 := 512#32
  ![v1551.toNat, 512]

def k0_chk518 (v1551 : BitVec 32) : Prop :=
  (∀ a, (k0_off518 v1551) a + S1x128.size a ≤ S100000x1024.size a)
theorem k0_off518_inb : ∀ (v1551 : BitVec 32) (k0_hw518 : k0_chk518 v1551), ∀ a, (k0_off518 v1551) a + S1x128.size a ≤ S100000x1024.size a := fun v1551 k0_hw518 => k0_hw518

def k0_off519 (v1554 : BitVec 32) : Fin 2 → Nat :=
  let c512_i32_1037 : BitVec 32 := 512#32
  ![v1554.toNat, 512]

def k0_chk519 (v1554 : BitVec 32) : Prop :=
  (∀ a, (k0_off519 v1554) a + S1x128.size a ≤ S100000x1024.size a)
theorem k0_off519_inb : ∀ (v1554 : BitVec 32) (k0_hw519 : k0_chk519 v1554), ∀ a, (k0_off519 v1554) a + S1x128.size a ≤ S100000x1024.size a := fun v1554 k0_hw519 => k0_hw519

def k0_off520 (v1557 : BitVec 32) : Fin 2 → Nat :=
  let c512_i32_1039 : BitVec 32 := 512#32
  ![v1557.toNat, 512]

def k0_chk520 (v1557 : BitVec 32) : Prop :=
  (∀ a, (k0_off520 v1557) a + S1x128.size a ≤ S100000x1024.size a)
theorem k0_off520_inb : ∀ (v1557 : BitVec 32) (k0_hw520 : k0_chk520 v1557), ∀ a, (k0_off520 v1557) a + S1x128.size a ≤ S100000x1024.size a := fun v1557 k0_hw520 => k0_hw520

def k0_off521 (v1560 : BitVec 32) : Fin 2 → Nat :=
  let c512_i32_1041 : BitVec 32 := 512#32
  ![v1560.toNat, 512]

def k0_chk521 (v1560 : BitVec 32) : Prop :=
  (∀ a, (k0_off521 v1560) a + S1x128.size a ≤ S100000x1024.size a)
theorem k0_off521_inb : ∀ (v1560 : BitVec 32) (k0_hw521 : k0_chk521 v1560), ∀ a, (k0_off521 v1560) a + S1x128.size a ≤ S100000x1024.size a := fun v1560 k0_hw521 => k0_hw521

def k0_off522 (v1563 : BitVec 32) : Fin 2 → Nat :=
  let c512_i32_1043 : BitVec 32 := 512#32
  ![v1563.toNat, 512]

def k0_chk522 (v1563 : BitVec 32) : Prop :=
  (∀ a, (k0_off522 v1563) a + S1x128.size a ≤ S100000x1024.size a)
theorem k0_off522_inb : ∀ (v1563 : BitVec 32) (k0_hw522 : k0_chk522 v1563), ∀ a, (k0_off522 v1563) a + S1x128.size a ≤ S100000x1024.size a := fun v1563 k0_hw522 => k0_hw522

def k0_off523 (v1566 : BitVec 32) : Fin 2 → Nat :=
  let c512_i32_1045 : BitVec 32 := 512#32
  ![v1566.toNat, 512]

def k0_chk523 (v1566 : BitVec 32) : Prop :=
  (∀ a, (k0_off523 v1566) a + S1x128.size a ≤ S100000x1024.size a)
theorem k0_off523_inb : ∀ (v1566 : BitVec 32) (k0_hw523 : k0_chk523 v1566), ∀ a, (k0_off523 v1566) a + S1x128.size a ≤ S100000x1024.size a := fun v1566 k0_hw523 => k0_hw523

def k0_off524 (v1569 : BitVec 32) : Fin 2 → Nat :=
  let c512_i32_1047 : BitVec 32 := 512#32
  ![v1569.toNat, 512]

def k0_chk524 (v1569 : BitVec 32) : Prop :=
  (∀ a, (k0_off524 v1569) a + S1x128.size a ≤ S100000x1024.size a)
theorem k0_off524_inb : ∀ (v1569 : BitVec 32) (k0_hw524 : k0_chk524 v1569), ∀ a, (k0_off524 v1569) a + S1x128.size a ≤ S100000x1024.size a := fun v1569 k0_hw524 => k0_hw524

def k0_off525 (v1572 : BitVec 32) : Fin 2 → Nat :=
  let c512_i32_1049 : BitVec 32 := 512#32
  ![v1572.toNat, 512]

def k0_chk525 (v1572 : BitVec 32) : Prop :=
  (∀ a, (k0_off525 v1572) a + S1x128.size a ≤ S100000x1024.size a)
theorem k0_off525_inb : ∀ (v1572 : BitVec 32) (k0_hw525 : k0_chk525 v1572), ∀ a, (k0_off525 v1572) a + S1x128.size a ≤ S100000x1024.size a := fun v1572 k0_hw525 => k0_hw525

def k0_off526 (v1575 : BitVec 32) : Fin 2 → Nat :=
  let c512_i32_1051 : BitVec 32 := 512#32
  ![v1575.toNat, 512]

def k0_chk526 (v1575 : BitVec 32) : Prop :=
  (∀ a, (k0_off526 v1575) a + S1x128.size a ≤ S100000x1024.size a)
theorem k0_off526_inb : ∀ (v1575 : BitVec 32) (k0_hw526 : k0_chk526 v1575), ∀ a, (k0_off526 v1575) a + S1x128.size a ≤ S100000x1024.size a := fun v1575 k0_hw526 => k0_hw526

def k0_off527 (v1578 : BitVec 32) : Fin 2 → Nat :=
  let c512_i32_1053 : BitVec 32 := 512#32
  ![v1578.toNat, 512]

def k0_chk527 (v1578 : BitVec 32) : Prop :=
  (∀ a, (k0_off527 v1578) a + S1x128.size a ≤ S100000x1024.size a)
theorem k0_off527_inb : ∀ (v1578 : BitVec 32) (k0_hw527 : k0_chk527 v1578), ∀ a, (k0_off527 v1578) a + S1x128.size a ≤ S100000x1024.size a := fun v1578 k0_hw527 => k0_hw527

def k0_off528 (v1581 : BitVec 32) : Fin 2 → Nat :=
  let c512_i32_1055 : BitVec 32 := 512#32
  ![v1581.toNat, 512]

def k0_chk528 (v1581 : BitVec 32) : Prop :=
  (∀ a, (k0_off528 v1581) a + S1x128.size a ≤ S100000x1024.size a)
theorem k0_off528_inb : ∀ (v1581 : BitVec 32) (k0_hw528 : k0_chk528 v1581), ∀ a, (k0_off528 v1581) a + S1x128.size a ≤ S100000x1024.size a := fun v1581 k0_hw528 => k0_hw528

def k0_off529 (v1584 : BitVec 32) : Fin 2 → Nat :=
  let c512_i32_1057 : BitVec 32 := 512#32
  ![v1584.toNat, 512]

def k0_chk529 (v1584 : BitVec 32) : Prop :=
  (∀ a, (k0_off529 v1584) a + S1x128.size a ≤ S100000x1024.size a)
theorem k0_off529_inb : ∀ (v1584 : BitVec 32) (k0_hw529 : k0_chk529 v1584), ∀ a, (k0_off529 v1584) a + S1x128.size a ≤ S100000x1024.size a := fun v1584 k0_hw529 => k0_hw529

def k0_off530 (v1587 : BitVec 32) : Fin 2 → Nat :=
  let c512_i32_1059 : BitVec 32 := 512#32
  ![v1587.toNat, 512]

def k0_chk530 (v1587 : BitVec 32) : Prop :=
  (∀ a, (k0_off530 v1587) a + S1x128.size a ≤ S100000x1024.size a)
theorem k0_off530_inb : ∀ (v1587 : BitVec 32) (k0_hw530 : k0_chk530 v1587), ∀ a, (k0_off530 v1587) a + S1x128.size a ≤ S100000x1024.size a := fun v1587 k0_hw530 => k0_hw530

def k0_off531 (v1590 : BitVec 32) : Fin 2 → Nat :=
  let c512_i32_1061 : BitVec 32 := 512#32
  ![v1590.toNat, 512]

def k0_chk531 (v1590 : BitVec 32) : Prop :=
  (∀ a, (k0_off531 v1590) a + S1x128.size a ≤ S100000x1024.size a)
theorem k0_off531_inb : ∀ (v1590 : BitVec 32) (k0_hw531 : k0_chk531 v1590), ∀ a, (k0_off531 v1590) a + S1x128.size a ≤ S100000x1024.size a := fun v1590 k0_hw531 => k0_hw531

def k0_off532 (v1593 : BitVec 32) : Fin 2 → Nat :=
  let c512_i32_1063 : BitVec 32 := 512#32
  ![v1593.toNat, 512]

def k0_chk532 (v1593 : BitVec 32) : Prop :=
  (∀ a, (k0_off532 v1593) a + S1x128.size a ≤ S100000x1024.size a)
theorem k0_off532_inb : ∀ (v1593 : BitVec 32) (k0_hw532 : k0_chk532 v1593), ∀ a, (k0_off532 v1593) a + S1x128.size a ≤ S100000x1024.size a := fun v1593 k0_hw532 => k0_hw532

def k0_off533 (v1596 : BitVec 32) : Fin 2 → Nat :=
  let c512_i32_1065 : BitVec 32 := 512#32
  ![v1596.toNat, 512]

def k0_chk533 (v1596 : BitVec 32) : Prop :=
  (∀ a, (k0_off533 v1596) a + S1x128.size a ≤ S100000x1024.size a)
theorem k0_off533_inb : ∀ (v1596 : BitVec 32) (k0_hw533 : k0_chk533 v1596), ∀ a, (k0_off533 v1596) a + S1x128.size a ≤ S100000x1024.size a := fun v1596 k0_hw533 => k0_hw533

def k0_off534 (v1599 : BitVec 32) : Fin 2 → Nat :=
  let c512_i32_1067 : BitVec 32 := 512#32
  ![v1599.toNat, 512]

def k0_chk534 (v1599 : BitVec 32) : Prop :=
  (∀ a, (k0_off534 v1599) a + S1x128.size a ≤ S100000x1024.size a)
theorem k0_off534_inb : ∀ (v1599 : BitVec 32) (k0_hw534 : k0_chk534 v1599), ∀ a, (k0_off534 v1599) a + S1x128.size a ≤ S100000x1024.size a := fun v1599 k0_hw534 => k0_hw534

def k0_off535 (v1602 : BitVec 32) : Fin 2 → Nat :=
  let c512_i32_1069 : BitVec 32 := 512#32
  ![v1602.toNat, 512]

def k0_chk535 (v1602 : BitVec 32) : Prop :=
  (∀ a, (k0_off535 v1602) a + S1x128.size a ≤ S100000x1024.size a)
theorem k0_off535_inb : ∀ (v1602 : BitVec 32) (k0_hw535 : k0_chk535 v1602), ∀ a, (k0_off535 v1602) a + S1x128.size a ≤ S100000x1024.size a := fun v1602 k0_hw535 => k0_hw535

def k0_off536 (v1605 : BitVec 32) : Fin 2 → Nat :=
  let c512_i32_1071 : BitVec 32 := 512#32
  ![v1605.toNat, 512]

def k0_chk536 (v1605 : BitVec 32) : Prop :=
  (∀ a, (k0_off536 v1605) a + S1x128.size a ≤ S100000x1024.size a)
theorem k0_off536_inb : ∀ (v1605 : BitVec 32) (k0_hw536 : k0_chk536 v1605), ∀ a, (k0_off536 v1605) a + S1x128.size a ≤ S100000x1024.size a := fun v1605 k0_hw536 => k0_hw536

def k0_off537 (v1608 : BitVec 32) : Fin 2 → Nat :=
  let c512_i32_1073 : BitVec 32 := 512#32
  ![v1608.toNat, 512]

def k0_chk537 (v1608 : BitVec 32) : Prop :=
  (∀ a, (k0_off537 v1608) a + S1x128.size a ≤ S100000x1024.size a)
theorem k0_off537_inb : ∀ (v1608 : BitVec 32) (k0_hw537 : k0_chk537 v1608), ∀ a, (k0_off537 v1608) a + S1x128.size a ≤ S100000x1024.size a := fun v1608 k0_hw537 => k0_hw537

def k0_off538 (v1611 : BitVec 32) : Fin 2 → Nat :=
  let c512_i32_1075 : BitVec 32 := 512#32
  ![v1611.toNat, 512]

def k0_chk538 (v1611 : BitVec 32) : Prop :=
  (∀ a, (k0_off538 v1611) a + S1x128.size a ≤ S100000x1024.size a)
theorem k0_off538_inb : ∀ (v1611 : BitVec 32) (k0_hw538 : k0_chk538 v1611), ∀ a, (k0_off538 v1611) a + S1x128.size a ≤ S100000x1024.size a := fun v1611 k0_hw538 => k0_hw538

def k0_off539 (v1614 : BitVec 32) : Fin 2 → Nat :=
  let c512_i32_1077 : BitVec 32 := 512#32
  ![v1614.toNat, 512]

def k0_chk539 (v1614 : BitVec 32) : Prop :=
  (∀ a, (k0_off539 v1614) a + S1x128.size a ≤ S100000x1024.size a)
theorem k0_off539_inb : ∀ (v1614 : BitVec 32) (k0_hw539 : k0_chk539 v1614), ∀ a, (k0_off539 v1614) a + S1x128.size a ≤ S100000x1024.size a := fun v1614 k0_hw539 => k0_hw539

def k0_off540 (v1617 : BitVec 32) : Fin 2 → Nat :=
  let c512_i32_1079 : BitVec 32 := 512#32
  ![v1617.toNat, 512]

def k0_chk540 (v1617 : BitVec 32) : Prop :=
  (∀ a, (k0_off540 v1617) a + S1x128.size a ≤ S100000x1024.size a)
theorem k0_off540_inb : ∀ (v1617 : BitVec 32) (k0_hw540 : k0_chk540 v1617), ∀ a, (k0_off540 v1617) a + S1x128.size a ≤ S100000x1024.size a := fun v1617 k0_hw540 => k0_hw540

def k0_off541 (v1620 : BitVec 32) : Fin 2 → Nat :=
  let c512_i32_1081 : BitVec 32 := 512#32
  ![v1620.toNat, 512]

def k0_chk541 (v1620 : BitVec 32) : Prop :=
  (∀ a, (k0_off541 v1620) a + S1x128.size a ≤ S100000x1024.size a)
theorem k0_off541_inb : ∀ (v1620 : BitVec 32) (k0_hw541 : k0_chk541 v1620), ∀ a, (k0_off541 v1620) a + S1x128.size a ≤ S100000x1024.size a := fun v1620 k0_hw541 => k0_hw541

def k0_off542 (v1623 : BitVec 32) : Fin 2 → Nat :=
  let c512_i32_1083 : BitVec 32 := 512#32
  ![v1623.toNat, 512]

def k0_chk542 (v1623 : BitVec 32) : Prop :=
  (∀ a, (k0_off542 v1623) a + S1x128.size a ≤ S100000x1024.size a)
theorem k0_off542_inb : ∀ (v1623 : BitVec 32) (k0_hw542 : k0_chk542 v1623), ∀ a, (k0_off542 v1623) a + S1x128.size a ≤ S100000x1024.size a := fun v1623 k0_hw542 => k0_hw542

def k0_off543 (v1626 : BitVec 32) : Fin 2 → Nat :=
  let c512_i32_1085 : BitVec 32 := 512#32
  ![v1626.toNat, 512]

def k0_chk543 (v1626 : BitVec 32) : Prop :=
  (∀ a, (k0_off543 v1626) a + S1x128.size a ≤ S100000x1024.size a)
theorem k0_off543_inb : ∀ (v1626 : BitVec 32) (k0_hw543 : k0_chk543 v1626), ∀ a, (k0_off543 v1626) a + S1x128.size a ≤ S100000x1024.size a := fun v1626 k0_hw543 => k0_hw543

def k0_off544 (v1629 : BitVec 32) : Fin 2 → Nat :=
  let c512_i32_1087 : BitVec 32 := 512#32
  ![v1629.toNat, 512]

def k0_chk544 (v1629 : BitVec 32) : Prop :=
  (∀ a, (k0_off544 v1629) a + S1x128.size a ≤ S100000x1024.size a)
theorem k0_off544_inb : ∀ (v1629 : BitVec 32) (k0_hw544 : k0_chk544 v1629), ∀ a, (k0_off544 v1629) a + S1x128.size a ≤ S100000x1024.size a := fun v1629 k0_hw544 => k0_hw544

def k0_off545 (v1632 : BitVec 32) : Fin 2 → Nat :=
  let c512_i32_1089 : BitVec 32 := 512#32
  ![v1632.toNat, 512]

def k0_chk545 (v1632 : BitVec 32) : Prop :=
  (∀ a, (k0_off545 v1632) a + S1x128.size a ≤ S100000x1024.size a)
theorem k0_off545_inb : ∀ (v1632 : BitVec 32) (k0_hw545 : k0_chk545 v1632), ∀ a, (k0_off545 v1632) a + S1x128.size a ≤ S100000x1024.size a := fun v1632 k0_hw545 => k0_hw545

def k0_off546 (v1635 : BitVec 32) : Fin 2 → Nat :=
  let c512_i32_1091 : BitVec 32 := 512#32
  ![v1635.toNat, 512]

def k0_chk546 (v1635 : BitVec 32) : Prop :=
  (∀ a, (k0_off546 v1635) a + S1x128.size a ≤ S100000x1024.size a)
theorem k0_off546_inb : ∀ (v1635 : BitVec 32) (k0_hw546 : k0_chk546 v1635), ∀ a, (k0_off546 v1635) a + S1x128.size a ≤ S100000x1024.size a := fun v1635 k0_hw546 => k0_hw546

def k0_off547 (v1638 : BitVec 32) : Fin 2 → Nat :=
  let c512_i32_1093 : BitVec 32 := 512#32
  ![v1638.toNat, 512]

def k0_chk547 (v1638 : BitVec 32) : Prop :=
  (∀ a, (k0_off547 v1638) a + S1x128.size a ≤ S100000x1024.size a)
theorem k0_off547_inb : ∀ (v1638 : BitVec 32) (k0_hw547 : k0_chk547 v1638), ∀ a, (k0_off547 v1638) a + S1x128.size a ≤ S100000x1024.size a := fun v1638 k0_hw547 => k0_hw547

def k0_off548 (v1641 : BitVec 32) : Fin 2 → Nat :=
  let c512_i32_1095 : BitVec 32 := 512#32
  ![v1641.toNat, 512]

def k0_chk548 (v1641 : BitVec 32) : Prop :=
  (∀ a, (k0_off548 v1641) a + S1x128.size a ≤ S100000x1024.size a)
theorem k0_off548_inb : ∀ (v1641 : BitVec 32) (k0_hw548 : k0_chk548 v1641), ∀ a, (k0_off548 v1641) a + S1x128.size a ≤ S100000x1024.size a := fun v1641 k0_hw548 => k0_hw548

def k0_off549 (v1644 : BitVec 32) : Fin 2 → Nat :=
  let c512_i32_1097 : BitVec 32 := 512#32
  ![v1644.toNat, 512]

def k0_chk549 (v1644 : BitVec 32) : Prop :=
  (∀ a, (k0_off549 v1644) a + S1x128.size a ≤ S100000x1024.size a)
theorem k0_off549_inb : ∀ (v1644 : BitVec 32) (k0_hw549 : k0_chk549 v1644), ∀ a, (k0_off549 v1644) a + S1x128.size a ≤ S100000x1024.size a := fun v1644 k0_hw549 => k0_hw549

def k0_off550 (v1647 : BitVec 32) : Fin 2 → Nat :=
  let c512_i32_1099 : BitVec 32 := 512#32
  ![v1647.toNat, 512]

def k0_chk550 (v1647 : BitVec 32) : Prop :=
  (∀ a, (k0_off550 v1647) a + S1x128.size a ≤ S100000x1024.size a)
theorem k0_off550_inb : ∀ (v1647 : BitVec 32) (k0_hw550 : k0_chk550 v1647), ∀ a, (k0_off550 v1647) a + S1x128.size a ≤ S100000x1024.size a := fun v1647 k0_hw550 => k0_hw550

def k0_off551 (v1650 : BitVec 32) : Fin 2 → Nat :=
  let c512_i32_1101 : BitVec 32 := 512#32
  ![v1650.toNat, 512]

def k0_chk551 (v1650 : BitVec 32) : Prop :=
  (∀ a, (k0_off551 v1650) a + S1x128.size a ≤ S100000x1024.size a)
theorem k0_off551_inb : ∀ (v1650 : BitVec 32) (k0_hw551 : k0_chk551 v1650), ∀ a, (k0_off551 v1650) a + S1x128.size a ≤ S100000x1024.size a := fun v1650 k0_hw551 => k0_hw551

def k0_off552 (v1653 : BitVec 32) : Fin 2 → Nat :=
  let c512_i32_1103 : BitVec 32 := 512#32
  ![v1653.toNat, 512]

def k0_chk552 (v1653 : BitVec 32) : Prop :=
  (∀ a, (k0_off552 v1653) a + S1x128.size a ≤ S100000x1024.size a)
theorem k0_off552_inb : ∀ (v1653 : BitVec 32) (k0_hw552 : k0_chk552 v1653), ∀ a, (k0_off552 v1653) a + S1x128.size a ≤ S100000x1024.size a := fun v1653 k0_hw552 => k0_hw552

def k0_off553 (v1656 : BitVec 32) : Fin 2 → Nat :=
  let c512_i32_1105 : BitVec 32 := 512#32
  ![v1656.toNat, 512]

def k0_chk553 (v1656 : BitVec 32) : Prop :=
  (∀ a, (k0_off553 v1656) a + S1x128.size a ≤ S100000x1024.size a)
theorem k0_off553_inb : ∀ (v1656 : BitVec 32) (k0_hw553 : k0_chk553 v1656), ∀ a, (k0_off553 v1656) a + S1x128.size a ≤ S100000x1024.size a := fun v1656 k0_hw553 => k0_hw553

def k0_off554 (v1659 : BitVec 32) : Fin 2 → Nat :=
  let c512_i32_1107 : BitVec 32 := 512#32
  ![v1659.toNat, 512]

def k0_chk554 (v1659 : BitVec 32) : Prop :=
  (∀ a, (k0_off554 v1659) a + S1x128.size a ≤ S100000x1024.size a)
theorem k0_off554_inb : ∀ (v1659 : BitVec 32) (k0_hw554 : k0_chk554 v1659), ∀ a, (k0_off554 v1659) a + S1x128.size a ≤ S100000x1024.size a := fun v1659 k0_hw554 => k0_hw554

def k0_off555 (v1662 : BitVec 32) : Fin 2 → Nat :=
  let c512_i32_1109 : BitVec 32 := 512#32
  ![v1662.toNat, 512]

def k0_chk555 (v1662 : BitVec 32) : Prop :=
  (∀ a, (k0_off555 v1662) a + S1x128.size a ≤ S100000x1024.size a)
theorem k0_off555_inb : ∀ (v1662 : BitVec 32) (k0_hw555 : k0_chk555 v1662), ∀ a, (k0_off555 v1662) a + S1x128.size a ≤ S100000x1024.size a := fun v1662 k0_hw555 => k0_hw555

def k0_off556 (v1665 : BitVec 32) : Fin 2 → Nat :=
  let c512_i32_1111 : BitVec 32 := 512#32
  ![v1665.toNat, 512]

def k0_chk556 (v1665 : BitVec 32) : Prop :=
  (∀ a, (k0_off556 v1665) a + S1x128.size a ≤ S100000x1024.size a)
theorem k0_off556_inb : ∀ (v1665 : BitVec 32) (k0_hw556 : k0_chk556 v1665), ∀ a, (k0_off556 v1665) a + S1x128.size a ≤ S100000x1024.size a := fun v1665 k0_hw556 => k0_hw556

def k0_off557 (v1668 : BitVec 32) : Fin 2 → Nat :=
  let c512_i32_1113 : BitVec 32 := 512#32
  ![v1668.toNat, 512]

def k0_chk557 (v1668 : BitVec 32) : Prop :=
  (∀ a, (k0_off557 v1668) a + S1x128.size a ≤ S100000x1024.size a)
theorem k0_off557_inb : ∀ (v1668 : BitVec 32) (k0_hw557 : k0_chk557 v1668), ∀ a, (k0_off557 v1668) a + S1x128.size a ≤ S100000x1024.size a := fun v1668 k0_hw557 => k0_hw557

def k0_off558 (v1671 : BitVec 32) : Fin 2 → Nat :=
  let c512_i32_1115 : BitVec 32 := 512#32
  ![v1671.toNat, 512]

def k0_chk558 (v1671 : BitVec 32) : Prop :=
  (∀ a, (k0_off558 v1671) a + S1x128.size a ≤ S100000x1024.size a)
theorem k0_off558_inb : ∀ (v1671 : BitVec 32) (k0_hw558 : k0_chk558 v1671), ∀ a, (k0_off558 v1671) a + S1x128.size a ≤ S100000x1024.size a := fun v1671 k0_hw558 => k0_hw558

def k0_off559 (v1674 : BitVec 32) : Fin 2 → Nat :=
  let c512_i32_1117 : BitVec 32 := 512#32
  ![v1674.toNat, 512]

def k0_chk559 (v1674 : BitVec 32) : Prop :=
  (∀ a, (k0_off559 v1674) a + S1x128.size a ≤ S100000x1024.size a)
theorem k0_off559_inb : ∀ (v1674 : BitVec 32) (k0_hw559 : k0_chk559 v1674), ∀ a, (k0_off559 v1674) a + S1x128.size a ≤ S100000x1024.size a := fun v1674 k0_hw559 => k0_hw559

def k0_off560 (v1677 : BitVec 32) : Fin 2 → Nat :=
  let c512_i32_1119 : BitVec 32 := 512#32
  ![v1677.toNat, 512]

def k0_chk560 (v1677 : BitVec 32) : Prop :=
  (∀ a, (k0_off560 v1677) a + S1x128.size a ≤ S100000x1024.size a)
theorem k0_off560_inb : ∀ (v1677 : BitVec 32) (k0_hw560 : k0_chk560 v1677), ∀ a, (k0_off560 v1677) a + S1x128.size a ≤ S100000x1024.size a := fun v1677 k0_hw560 => k0_hw560

def k0_off561 (v1680 : BitVec 32) : Fin 2 → Nat :=
  let c512_i32_1121 : BitVec 32 := 512#32
  ![v1680.toNat, 512]

def k0_chk561 (v1680 : BitVec 32) : Prop :=
  (∀ a, (k0_off561 v1680) a + S1x128.size a ≤ S100000x1024.size a)
theorem k0_off561_inb : ∀ (v1680 : BitVec 32) (k0_hw561 : k0_chk561 v1680), ∀ a, (k0_off561 v1680) a + S1x128.size a ≤ S100000x1024.size a := fun v1680 k0_hw561 => k0_hw561

def k0_off562 (v1683 : BitVec 32) : Fin 2 → Nat :=
  let c512_i32_1123 : BitVec 32 := 512#32
  ![v1683.toNat, 512]

def k0_chk562 (v1683 : BitVec 32) : Prop :=
  (∀ a, (k0_off562 v1683) a + S1x128.size a ≤ S100000x1024.size a)
theorem k0_off562_inb : ∀ (v1683 : BitVec 32) (k0_hw562 : k0_chk562 v1683), ∀ a, (k0_off562 v1683) a + S1x128.size a ≤ S100000x1024.size a := fun v1683 k0_hw562 => k0_hw562

def k0_off563 (v1686 : BitVec 32) : Fin 2 → Nat :=
  let c512_i32_1125 : BitVec 32 := 512#32
  ![v1686.toNat, 512]

def k0_chk563 (v1686 : BitVec 32) : Prop :=
  (∀ a, (k0_off563 v1686) a + S1x128.size a ≤ S100000x1024.size a)
theorem k0_off563_inb : ∀ (v1686 : BitVec 32) (k0_hw563 : k0_chk563 v1686), ∀ a, (k0_off563 v1686) a + S1x128.size a ≤ S100000x1024.size a := fun v1686 k0_hw563 => k0_hw563

def k0_off564 (v1689 : BitVec 32) : Fin 2 → Nat :=
  let c512_i32_1127 : BitVec 32 := 512#32
  ![v1689.toNat, 512]

def k0_chk564 (v1689 : BitVec 32) : Prop :=
  (∀ a, (k0_off564 v1689) a + S1x128.size a ≤ S100000x1024.size a)
theorem k0_off564_inb : ∀ (v1689 : BitVec 32) (k0_hw564 : k0_chk564 v1689), ∀ a, (k0_off564 v1689) a + S1x128.size a ≤ S100000x1024.size a := fun v1689 k0_hw564 => k0_hw564

def k0_off565 (v1692 : BitVec 32) : Fin 2 → Nat :=
  let c512_i32_1129 : BitVec 32 := 512#32
  ![v1692.toNat, 512]

def k0_chk565 (v1692 : BitVec 32) : Prop :=
  (∀ a, (k0_off565 v1692) a + S1x128.size a ≤ S100000x1024.size a)
theorem k0_off565_inb : ∀ (v1692 : BitVec 32) (k0_hw565 : k0_chk565 v1692), ∀ a, (k0_off565 v1692) a + S1x128.size a ≤ S100000x1024.size a := fun v1692 k0_hw565 => k0_hw565

def k0_off566 (v1695 : BitVec 32) : Fin 2 → Nat :=
  let c512_i32_1131 : BitVec 32 := 512#32
  ![v1695.toNat, 512]

def k0_chk566 (v1695 : BitVec 32) : Prop :=
  (∀ a, (k0_off566 v1695) a + S1x128.size a ≤ S100000x1024.size a)
theorem k0_off566_inb : ∀ (v1695 : BitVec 32) (k0_hw566 : k0_chk566 v1695), ∀ a, (k0_off566 v1695) a + S1x128.size a ≤ S100000x1024.size a := fun v1695 k0_hw566 => k0_hw566

def k0_off567 (v1698 : BitVec 32) : Fin 2 → Nat :=
  let c512_i32_1133 : BitVec 32 := 512#32
  ![v1698.toNat, 512]

def k0_chk567 (v1698 : BitVec 32) : Prop :=
  (∀ a, (k0_off567 v1698) a + S1x128.size a ≤ S100000x1024.size a)
theorem k0_off567_inb : ∀ (v1698 : BitVec 32) (k0_hw567 : k0_chk567 v1698), ∀ a, (k0_off567 v1698) a + S1x128.size a ≤ S100000x1024.size a := fun v1698 k0_hw567 => k0_hw567

def k0_off568 (v1701 : BitVec 32) : Fin 2 → Nat :=
  let c512_i32_1135 : BitVec 32 := 512#32
  ![v1701.toNat, 512]

def k0_chk568 (v1701 : BitVec 32) : Prop :=
  (∀ a, (k0_off568 v1701) a + S1x128.size a ≤ S100000x1024.size a)
theorem k0_off568_inb : ∀ (v1701 : BitVec 32) (k0_hw568 : k0_chk568 v1701), ∀ a, (k0_off568 v1701) a + S1x128.size a ≤ S100000x1024.size a := fun v1701 k0_hw568 => k0_hw568

def k0_off569 (v1704 : BitVec 32) : Fin 2 → Nat :=
  let c512_i32_1137 : BitVec 32 := 512#32
  ![v1704.toNat, 512]

def k0_chk569 (v1704 : BitVec 32) : Prop :=
  (∀ a, (k0_off569 v1704) a + S1x128.size a ≤ S100000x1024.size a)
theorem k0_off569_inb : ∀ (v1704 : BitVec 32) (k0_hw569 : k0_chk569 v1704), ∀ a, (k0_off569 v1704) a + S1x128.size a ≤ S100000x1024.size a := fun v1704 k0_hw569 => k0_hw569

def k0_off570 (v1707 : BitVec 32) : Fin 2 → Nat :=
  let c512_i32_1139 : BitVec 32 := 512#32
  ![v1707.toNat, 512]

def k0_chk570 (v1707 : BitVec 32) : Prop :=
  (∀ a, (k0_off570 v1707) a + S1x128.size a ≤ S100000x1024.size a)
theorem k0_off570_inb : ∀ (v1707 : BitVec 32) (k0_hw570 : k0_chk570 v1707), ∀ a, (k0_off570 v1707) a + S1x128.size a ≤ S100000x1024.size a := fun v1707 k0_hw570 => k0_hw570

def k0_off571 (v1710 : BitVec 32) : Fin 2 → Nat :=
  let c512_i32_1141 : BitVec 32 := 512#32
  ![v1710.toNat, 512]

def k0_chk571 (v1710 : BitVec 32) : Prop :=
  (∀ a, (k0_off571 v1710) a + S1x128.size a ≤ S100000x1024.size a)
theorem k0_off571_inb : ∀ (v1710 : BitVec 32) (k0_hw571 : k0_chk571 v1710), ∀ a, (k0_off571 v1710) a + S1x128.size a ≤ S100000x1024.size a := fun v1710 k0_hw571 => k0_hw571

def k0_off572 (v1713 : BitVec 32) : Fin 2 → Nat :=
  let c512_i32_1143 : BitVec 32 := 512#32
  ![v1713.toNat, 512]

def k0_chk572 (v1713 : BitVec 32) : Prop :=
  (∀ a, (k0_off572 v1713) a + S1x128.size a ≤ S100000x1024.size a)
theorem k0_off572_inb : ∀ (v1713 : BitVec 32) (k0_hw572 : k0_chk572 v1713), ∀ a, (k0_off572 v1713) a + S1x128.size a ≤ S100000x1024.size a := fun v1713 k0_hw572 => k0_hw572

def k0_off573 (v1716 : BitVec 32) : Fin 2 → Nat :=
  let c512_i32_1145 : BitVec 32 := 512#32
  ![v1716.toNat, 512]

def k0_chk573 (v1716 : BitVec 32) : Prop :=
  (∀ a, (k0_off573 v1716) a + S1x128.size a ≤ S100000x1024.size a)
theorem k0_off573_inb : ∀ (v1716 : BitVec 32) (k0_hw573 : k0_chk573 v1716), ∀ a, (k0_off573 v1716) a + S1x128.size a ≤ S100000x1024.size a := fun v1716 k0_hw573 => k0_hw573

def k0_off574 (v1719 : BitVec 32) : Fin 2 → Nat :=
  let c512_i32_1147 : BitVec 32 := 512#32
  ![v1719.toNat, 512]

def k0_chk574 (v1719 : BitVec 32) : Prop :=
  (∀ a, (k0_off574 v1719) a + S1x128.size a ≤ S100000x1024.size a)
theorem k0_off574_inb : ∀ (v1719 : BitVec 32) (k0_hw574 : k0_chk574 v1719), ∀ a, (k0_off574 v1719) a + S1x128.size a ≤ S100000x1024.size a := fun v1719 k0_hw574 => k0_hw574

def k0_off575 (v1722 : BitVec 32) : Fin 2 → Nat :=
  let c512_i32_1149 : BitVec 32 := 512#32
  ![v1722.toNat, 512]

def k0_chk575 (v1722 : BitVec 32) : Prop :=
  (∀ a, (k0_off575 v1722) a + S1x128.size a ≤ S100000x1024.size a)
theorem k0_off575_inb : ∀ (v1722 : BitVec 32) (k0_hw575 : k0_chk575 v1722), ∀ a, (k0_off575 v1722) a + S1x128.size a ≤ S100000x1024.size a := fun v1722 k0_hw575 => k0_hw575

def k0_off576 (v1725 : BitVec 32) : Fin 2 → Nat :=
  let c512_i32_1151 : BitVec 32 := 512#32
  ![v1725.toNat, 512]

def k0_chk576 (v1725 : BitVec 32) : Prop :=
  (∀ a, (k0_off576 v1725) a + S1x128.size a ≤ S100000x1024.size a)
theorem k0_off576_inb : ∀ (v1725 : BitVec 32) (k0_hw576 : k0_chk576 v1725), ∀ a, (k0_off576 v1725) a + S1x128.size a ≤ S100000x1024.size a := fun v1725 k0_hw576 => k0_hw576

def k0_off577 (v1728 : BitVec 32) : Fin 2 → Nat :=
  let c512_i32_1153 : BitVec 32 := 512#32
  ![v1728.toNat, 512]

def k0_chk577 (v1728 : BitVec 32) : Prop :=
  (∀ a, (k0_off577 v1728) a + S1x128.size a ≤ S100000x1024.size a)
theorem k0_off577_inb : ∀ (v1728 : BitVec 32) (k0_hw577 : k0_chk577 v1728), ∀ a, (k0_off577 v1728) a + S1x128.size a ≤ S100000x1024.size a := fun v1728 k0_hw577 => k0_hw577

def k0_off578 (v1731 : BitVec 32) : Fin 2 → Nat :=
  let c512_i32_1155 : BitVec 32 := 512#32
  ![v1731.toNat, 512]

def k0_chk578 (v1731 : BitVec 32) : Prop :=
  (∀ a, (k0_off578 v1731) a + S1x128.size a ≤ S100000x1024.size a)
theorem k0_off578_inb : ∀ (v1731 : BitVec 32) (k0_hw578 : k0_chk578 v1731), ∀ a, (k0_off578 v1731) a + S1x128.size a ≤ S100000x1024.size a := fun v1731 k0_hw578 => k0_hw578

def k0_off579 (v1734 : BitVec 32) : Fin 2 → Nat :=
  let c512_i32_1157 : BitVec 32 := 512#32
  ![v1734.toNat, 512]

def k0_chk579 (v1734 : BitVec 32) : Prop :=
  (∀ a, (k0_off579 v1734) a + S1x128.size a ≤ S100000x1024.size a)
theorem k0_off579_inb : ∀ (v1734 : BitVec 32) (k0_hw579 : k0_chk579 v1734), ∀ a, (k0_off579 v1734) a + S1x128.size a ≤ S100000x1024.size a := fun v1734 k0_hw579 => k0_hw579

def k0_off580 (v1737 : BitVec 32) : Fin 2 → Nat :=
  let c512_i32_1159 : BitVec 32 := 512#32
  ![v1737.toNat, 512]

def k0_chk580 (v1737 : BitVec 32) : Prop :=
  (∀ a, (k0_off580 v1737) a + S1x128.size a ≤ S100000x1024.size a)
theorem k0_off580_inb : ∀ (v1737 : BitVec 32) (k0_hw580 : k0_chk580 v1737), ∀ a, (k0_off580 v1737) a + S1x128.size a ≤ S100000x1024.size a := fun v1737 k0_hw580 => k0_hw580

def k0_off581 (v1740 : BitVec 32) : Fin 2 → Nat :=
  let c512_i32_1161 : BitVec 32 := 512#32
  ![v1740.toNat, 512]

def k0_chk581 (v1740 : BitVec 32) : Prop :=
  (∀ a, (k0_off581 v1740) a + S1x128.size a ≤ S100000x1024.size a)
theorem k0_off581_inb : ∀ (v1740 : BitVec 32) (k0_hw581 : k0_chk581 v1740), ∀ a, (k0_off581 v1740) a + S1x128.size a ≤ S100000x1024.size a := fun v1740 k0_hw581 => k0_hw581

def k0_off582 (v1743 : BitVec 32) : Fin 2 → Nat :=
  let c512_i32_1163 : BitVec 32 := 512#32
  ![v1743.toNat, 512]

def k0_chk582 (v1743 : BitVec 32) : Prop :=
  (∀ a, (k0_off582 v1743) a + S1x128.size a ≤ S100000x1024.size a)
theorem k0_off582_inb : ∀ (v1743 : BitVec 32) (k0_hw582 : k0_chk582 v1743), ∀ a, (k0_off582 v1743) a + S1x128.size a ≤ S100000x1024.size a := fun v1743 k0_hw582 => k0_hw582

def k0_off583 (v1746 : BitVec 32) : Fin 2 → Nat :=
  let c512_i32_1165 : BitVec 32 := 512#32
  ![v1746.toNat, 512]

def k0_chk583 (v1746 : BitVec 32) : Prop :=
  (∀ a, (k0_off583 v1746) a + S1x128.size a ≤ S100000x1024.size a)
theorem k0_off583_inb : ∀ (v1746 : BitVec 32) (k0_hw583 : k0_chk583 v1746), ∀ a, (k0_off583 v1746) a + S1x128.size a ≤ S100000x1024.size a := fun v1746 k0_hw583 => k0_hw583

def k0_off584 (v1749 : BitVec 32) : Fin 2 → Nat :=
  let c512_i32_1167 : BitVec 32 := 512#32
  ![v1749.toNat, 512]

def k0_chk584 (v1749 : BitVec 32) : Prop :=
  (∀ a, (k0_off584 v1749) a + S1x128.size a ≤ S100000x1024.size a)
theorem k0_off584_inb : ∀ (v1749 : BitVec 32) (k0_hw584 : k0_chk584 v1749), ∀ a, (k0_off584 v1749) a + S1x128.size a ≤ S100000x1024.size a := fun v1749 k0_hw584 => k0_hw584

def k0_off585 (v1752 : BitVec 32) : Fin 2 → Nat :=
  let c512_i32_1169 : BitVec 32 := 512#32
  ![v1752.toNat, 512]

def k0_chk585 (v1752 : BitVec 32) : Prop :=
  (∀ a, (k0_off585 v1752) a + S1x128.size a ≤ S100000x1024.size a)
theorem k0_off585_inb : ∀ (v1752 : BitVec 32) (k0_hw585 : k0_chk585 v1752), ∀ a, (k0_off585 v1752) a + S1x128.size a ≤ S100000x1024.size a := fun v1752 k0_hw585 => k0_hw585

def k0_off586 (v1755 : BitVec 32) : Fin 2 → Nat :=
  let c512_i32_1171 : BitVec 32 := 512#32
  ![v1755.toNat, 512]

def k0_chk586 (v1755 : BitVec 32) : Prop :=
  (∀ a, (k0_off586 v1755) a + S1x128.size a ≤ S100000x1024.size a)
theorem k0_off586_inb : ∀ (v1755 : BitVec 32) (k0_hw586 : k0_chk586 v1755), ∀ a, (k0_off586 v1755) a + S1x128.size a ≤ S100000x1024.size a := fun v1755 k0_hw586 => k0_hw586

def k0_off587 (v1758 : BitVec 32) : Fin 2 → Nat :=
  let c512_i32_1173 : BitVec 32 := 512#32
  ![v1758.toNat, 512]

def k0_chk587 (v1758 : BitVec 32) : Prop :=
  (∀ a, (k0_off587 v1758) a + S1x128.size a ≤ S100000x1024.size a)
theorem k0_off587_inb : ∀ (v1758 : BitVec 32) (k0_hw587 : k0_chk587 v1758), ∀ a, (k0_off587 v1758) a + S1x128.size a ≤ S100000x1024.size a := fun v1758 k0_hw587 => k0_hw587

def k0_off588 (v1761 : BitVec 32) : Fin 2 → Nat :=
  let c512_i32_1175 : BitVec 32 := 512#32
  ![v1761.toNat, 512]

def k0_chk588 (v1761 : BitVec 32) : Prop :=
  (∀ a, (k0_off588 v1761) a + S1x128.size a ≤ S100000x1024.size a)
theorem k0_off588_inb : ∀ (v1761 : BitVec 32) (k0_hw588 : k0_chk588 v1761), ∀ a, (k0_off588 v1761) a + S1x128.size a ≤ S100000x1024.size a := fun v1761 k0_hw588 => k0_hw588

def k0_off589 (v1764 : BitVec 32) : Fin 2 → Nat :=
  let c512_i32_1177 : BitVec 32 := 512#32
  ![v1764.toNat, 512]

def k0_chk589 (v1764 : BitVec 32) : Prop :=
  (∀ a, (k0_off589 v1764) a + S1x128.size a ≤ S100000x1024.size a)
theorem k0_off589_inb : ∀ (v1764 : BitVec 32) (k0_hw589 : k0_chk589 v1764), ∀ a, (k0_off589 v1764) a + S1x128.size a ≤ S100000x1024.size a := fun v1764 k0_hw589 => k0_hw589

def k0_off590 (v1767 : BitVec 32) : Fin 2 → Nat :=
  let c512_i32_1179 : BitVec 32 := 512#32
  ![v1767.toNat, 512]

def k0_chk590 (v1767 : BitVec 32) : Prop :=
  (∀ a, (k0_off590 v1767) a + S1x128.size a ≤ S100000x1024.size a)
theorem k0_off590_inb : ∀ (v1767 : BitVec 32) (k0_hw590 : k0_chk590 v1767), ∀ a, (k0_off590 v1767) a + S1x128.size a ≤ S100000x1024.size a := fun v1767 k0_hw590 => k0_hw590

def k0_off591 (v1770 : BitVec 32) : Fin 2 → Nat :=
  let c512_i32_1181 : BitVec 32 := 512#32
  ![v1770.toNat, 512]

def k0_chk591 (v1770 : BitVec 32) : Prop :=
  (∀ a, (k0_off591 v1770) a + S1x128.size a ≤ S100000x1024.size a)
theorem k0_off591_inb : ∀ (v1770 : BitVec 32) (k0_hw591 : k0_chk591 v1770), ∀ a, (k0_off591 v1770) a + S1x128.size a ≤ S100000x1024.size a := fun v1770 k0_hw591 => k0_hw591

def k0_off592 (v1773 : BitVec 32) : Fin 2 → Nat :=
  let c512_i32_1183 : BitVec 32 := 512#32
  ![v1773.toNat, 512]

def k0_chk592 (v1773 : BitVec 32) : Prop :=
  (∀ a, (k0_off592 v1773) a + S1x128.size a ≤ S100000x1024.size a)
theorem k0_off592_inb : ∀ (v1773 : BitVec 32) (k0_hw592 : k0_chk592 v1773), ∀ a, (k0_off592 v1773) a + S1x128.size a ≤ S100000x1024.size a := fun v1773 k0_hw592 => k0_hw592

def k0_off593 (v1776 : BitVec 32) : Fin 2 → Nat :=
  let c512_i32_1185 : BitVec 32 := 512#32
  ![v1776.toNat, 512]

def k0_chk593 (v1776 : BitVec 32) : Prop :=
  (∀ a, (k0_off593 v1776) a + S1x128.size a ≤ S100000x1024.size a)
theorem k0_off593_inb : ∀ (v1776 : BitVec 32) (k0_hw593 : k0_chk593 v1776), ∀ a, (k0_off593 v1776) a + S1x128.size a ≤ S100000x1024.size a := fun v1776 k0_hw593 => k0_hw593

def k0_off594 (v1779 : BitVec 32) : Fin 2 → Nat :=
  let c512_i32_1187 : BitVec 32 := 512#32
  ![v1779.toNat, 512]

def k0_chk594 (v1779 : BitVec 32) : Prop :=
  (∀ a, (k0_off594 v1779) a + S1x128.size a ≤ S100000x1024.size a)
theorem k0_off594_inb : ∀ (v1779 : BitVec 32) (k0_hw594 : k0_chk594 v1779), ∀ a, (k0_off594 v1779) a + S1x128.size a ≤ S100000x1024.size a := fun v1779 k0_hw594 => k0_hw594

def k0_off595 (v1782 : BitVec 32) : Fin 2 → Nat :=
  let c512_i32_1189 : BitVec 32 := 512#32
  ![v1782.toNat, 512]

def k0_chk595 (v1782 : BitVec 32) : Prop :=
  (∀ a, (k0_off595 v1782) a + S1x128.size a ≤ S100000x1024.size a)
theorem k0_off595_inb : ∀ (v1782 : BitVec 32) (k0_hw595 : k0_chk595 v1782), ∀ a, (k0_off595 v1782) a + S1x128.size a ≤ S100000x1024.size a := fun v1782 k0_hw595 => k0_hw595

def k0_off596 (v1785 : BitVec 32) : Fin 2 → Nat :=
  let c512_i32_1191 : BitVec 32 := 512#32
  ![v1785.toNat, 512]

def k0_chk596 (v1785 : BitVec 32) : Prop :=
  (∀ a, (k0_off596 v1785) a + S1x128.size a ≤ S100000x1024.size a)
theorem k0_off596_inb : ∀ (v1785 : BitVec 32) (k0_hw596 : k0_chk596 v1785), ∀ a, (k0_off596 v1785) a + S1x128.size a ≤ S100000x1024.size a := fun v1785 k0_hw596 => k0_hw596

def k0_off597 (v1788 : BitVec 32) : Fin 2 → Nat :=
  let c512_i32_1193 : BitVec 32 := 512#32
  ![v1788.toNat, 512]

def k0_chk597 (v1788 : BitVec 32) : Prop :=
  (∀ a, (k0_off597 v1788) a + S1x128.size a ≤ S100000x1024.size a)
theorem k0_off597_inb : ∀ (v1788 : BitVec 32) (k0_hw597 : k0_chk597 v1788), ∀ a, (k0_off597 v1788) a + S1x128.size a ≤ S100000x1024.size a := fun v1788 k0_hw597 => k0_hw597

def k0_off598 (v1791 : BitVec 32) : Fin 2 → Nat :=
  let c512_i32_1195 : BitVec 32 := 512#32
  ![v1791.toNat, 512]

def k0_chk598 (v1791 : BitVec 32) : Prop :=
  (∀ a, (k0_off598 v1791) a + S1x128.size a ≤ S100000x1024.size a)
theorem k0_off598_inb : ∀ (v1791 : BitVec 32) (k0_hw598 : k0_chk598 v1791), ∀ a, (k0_off598 v1791) a + S1x128.size a ≤ S100000x1024.size a := fun v1791 k0_hw598 => k0_hw598

def k0_off599 (v1794 : BitVec 32) : Fin 2 → Nat :=
  let c512_i32_1197 : BitVec 32 := 512#32
  ![v1794.toNat, 512]

def k0_chk599 (v1794 : BitVec 32) : Prop :=
  (∀ a, (k0_off599 v1794) a + S1x128.size a ≤ S100000x1024.size a)
theorem k0_off599_inb : ∀ (v1794 : BitVec 32) (k0_hw599 : k0_chk599 v1794), ∀ a, (k0_off599 v1794) a + S1x128.size a ≤ S100000x1024.size a := fun v1794 k0_hw599 => k0_hw599

def k0_off600 (v1797 : BitVec 32) : Fin 2 → Nat :=
  let c512_i32_1199 : BitVec 32 := 512#32
  ![v1797.toNat, 512]

def k0_chk600 (v1797 : BitVec 32) : Prop :=
  (∀ a, (k0_off600 v1797) a + S1x128.size a ≤ S100000x1024.size a)
theorem k0_off600_inb : ∀ (v1797 : BitVec 32) (k0_hw600 : k0_chk600 v1797), ∀ a, (k0_off600 v1797) a + S1x128.size a ≤ S100000x1024.size a := fun v1797 k0_hw600 => k0_hw600

def k0_off601 (v1800 : BitVec 32) : Fin 2 → Nat :=
  let c512_i32_1201 : BitVec 32 := 512#32
  ![v1800.toNat, 512]

def k0_chk601 (v1800 : BitVec 32) : Prop :=
  (∀ a, (k0_off601 v1800) a + S1x128.size a ≤ S100000x1024.size a)
theorem k0_off601_inb : ∀ (v1800 : BitVec 32) (k0_hw601 : k0_chk601 v1800), ∀ a, (k0_off601 v1800) a + S1x128.size a ≤ S100000x1024.size a := fun v1800 k0_hw601 => k0_hw601

def k0_off602 (v1803 : BitVec 32) : Fin 2 → Nat :=
  let c512_i32_1203 : BitVec 32 := 512#32
  ![v1803.toNat, 512]

def k0_chk602 (v1803 : BitVec 32) : Prop :=
  (∀ a, (k0_off602 v1803) a + S1x128.size a ≤ S100000x1024.size a)
theorem k0_off602_inb : ∀ (v1803 : BitVec 32) (k0_hw602 : k0_chk602 v1803), ∀ a, (k0_off602 v1803) a + S1x128.size a ≤ S100000x1024.size a := fun v1803 k0_hw602 => k0_hw602

def k0_off603 (v1806 : BitVec 32) : Fin 2 → Nat :=
  let c512_i32_1205 : BitVec 32 := 512#32
  ![v1806.toNat, 512]

def k0_chk603 (v1806 : BitVec 32) : Prop :=
  (∀ a, (k0_off603 v1806) a + S1x128.size a ≤ S100000x1024.size a)
theorem k0_off603_inb : ∀ (v1806 : BitVec 32) (k0_hw603 : k0_chk603 v1806), ∀ a, (k0_off603 v1806) a + S1x128.size a ≤ S100000x1024.size a := fun v1806 k0_hw603 => k0_hw603

def k0_off604 (v1809 : BitVec 32) : Fin 2 → Nat :=
  let c512_i32_1207 : BitVec 32 := 512#32
  ![v1809.toNat, 512]

def k0_chk604 (v1809 : BitVec 32) : Prop :=
  (∀ a, (k0_off604 v1809) a + S1x128.size a ≤ S100000x1024.size a)
theorem k0_off604_inb : ∀ (v1809 : BitVec 32) (k0_hw604 : k0_chk604 v1809), ∀ a, (k0_off604 v1809) a + S1x128.size a ≤ S100000x1024.size a := fun v1809 k0_hw604 => k0_hw604

def k0_off605 (v1812 : BitVec 32) : Fin 2 → Nat :=
  let c512_i32_1209 : BitVec 32 := 512#32
  ![v1812.toNat, 512]

def k0_chk605 (v1812 : BitVec 32) : Prop :=
  (∀ a, (k0_off605 v1812) a + S1x128.size a ≤ S100000x1024.size a)
theorem k0_off605_inb : ∀ (v1812 : BitVec 32) (k0_hw605 : k0_chk605 v1812), ∀ a, (k0_off605 v1812) a + S1x128.size a ≤ S100000x1024.size a := fun v1812 k0_hw605 => k0_hw605

def k0_off606 (v1815 : BitVec 32) : Fin 2 → Nat :=
  let c512_i32_1211 : BitVec 32 := 512#32
  ![v1815.toNat, 512]

def k0_chk606 (v1815 : BitVec 32) : Prop :=
  (∀ a, (k0_off606 v1815) a + S1x128.size a ≤ S100000x1024.size a)
theorem k0_off606_inb : ∀ (v1815 : BitVec 32) (k0_hw606 : k0_chk606 v1815), ∀ a, (k0_off606 v1815) a + S1x128.size a ≤ S100000x1024.size a := fun v1815 k0_hw606 => k0_hw606

def k0_off607 (v1818 : BitVec 32) : Fin 2 → Nat :=
  let c512_i32_1213 : BitVec 32 := 512#32
  ![v1818.toNat, 512]

def k0_chk607 (v1818 : BitVec 32) : Prop :=
  (∀ a, (k0_off607 v1818) a + S1x128.size a ≤ S100000x1024.size a)
theorem k0_off607_inb : ∀ (v1818 : BitVec 32) (k0_hw607 : k0_chk607 v1818), ∀ a, (k0_off607 v1818) a + S1x128.size a ≤ S100000x1024.size a := fun v1818 k0_hw607 => k0_hw607

def k0_off608 (v1821 : BitVec 32) : Fin 2 → Nat :=
  let c512_i32_1215 : BitVec 32 := 512#32
  ![v1821.toNat, 512]

def k0_chk608 (v1821 : BitVec 32) : Prop :=
  (∀ a, (k0_off608 v1821) a + S1x128.size a ≤ S100000x1024.size a)
theorem k0_off608_inb : ∀ (v1821 : BitVec 32) (k0_hw608 : k0_chk608 v1821), ∀ a, (k0_off608 v1821) a + S1x128.size a ≤ S100000x1024.size a := fun v1821 k0_hw608 => k0_hw608

def k0_off609 (v1824 : BitVec 32) : Fin 2 → Nat :=
  let c512_i32_1217 : BitVec 32 := 512#32
  ![v1824.toNat, 512]

def k0_chk609 (v1824 : BitVec 32) : Prop :=
  (∀ a, (k0_off609 v1824) a + S1x128.size a ≤ S100000x1024.size a)
theorem k0_off609_inb : ∀ (v1824 : BitVec 32) (k0_hw609 : k0_chk609 v1824), ∀ a, (k0_off609 v1824) a + S1x128.size a ≤ S100000x1024.size a := fun v1824 k0_hw609 => k0_hw609

def k0_off610 (v1827 : BitVec 32) : Fin 2 → Nat :=
  let c512_i32_1219 : BitVec 32 := 512#32
  ![v1827.toNat, 512]

def k0_chk610 (v1827 : BitVec 32) : Prop :=
  (∀ a, (k0_off610 v1827) a + S1x128.size a ≤ S100000x1024.size a)
theorem k0_off610_inb : ∀ (v1827 : BitVec 32) (k0_hw610 : k0_chk610 v1827), ∀ a, (k0_off610 v1827) a + S1x128.size a ≤ S100000x1024.size a := fun v1827 k0_hw610 => k0_hw610

def k0_off611 (v1830 : BitVec 32) : Fin 2 → Nat :=
  let c512_i32_1221 : BitVec 32 := 512#32
  ![v1830.toNat, 512]

def k0_chk611 (v1830 : BitVec 32) : Prop :=
  (∀ a, (k0_off611 v1830) a + S1x128.size a ≤ S100000x1024.size a)
theorem k0_off611_inb : ∀ (v1830 : BitVec 32) (k0_hw611 : k0_chk611 v1830), ∀ a, (k0_off611 v1830) a + S1x128.size a ≤ S100000x1024.size a := fun v1830 k0_hw611 => k0_hw611

def k0_off612 (v1833 : BitVec 32) : Fin 2 → Nat :=
  let c512_i32_1223 : BitVec 32 := 512#32
  ![v1833.toNat, 512]

def k0_chk612 (v1833 : BitVec 32) : Prop :=
  (∀ a, (k0_off612 v1833) a + S1x128.size a ≤ S100000x1024.size a)
theorem k0_off612_inb : ∀ (v1833 : BitVec 32) (k0_hw612 : k0_chk612 v1833), ∀ a, (k0_off612 v1833) a + S1x128.size a ≤ S100000x1024.size a := fun v1833 k0_hw612 => k0_hw612

def k0_off613 (v1836 : BitVec 32) : Fin 2 → Nat :=
  let c512_i32_1225 : BitVec 32 := 512#32
  ![v1836.toNat, 512]

def k0_chk613 (v1836 : BitVec 32) : Prop :=
  (∀ a, (k0_off613 v1836) a + S1x128.size a ≤ S100000x1024.size a)
theorem k0_off613_inb : ∀ (v1836 : BitVec 32) (k0_hw613 : k0_chk613 v1836), ∀ a, (k0_off613 v1836) a + S1x128.size a ≤ S100000x1024.size a := fun v1836 k0_hw613 => k0_hw613

def k0_off614 (v1839 : BitVec 32) : Fin 2 → Nat :=
  let c512_i32_1227 : BitVec 32 := 512#32
  ![v1839.toNat, 512]

def k0_chk614 (v1839 : BitVec 32) : Prop :=
  (∀ a, (k0_off614 v1839) a + S1x128.size a ≤ S100000x1024.size a)
theorem k0_off614_inb : ∀ (v1839 : BitVec 32) (k0_hw614 : k0_chk614 v1839), ∀ a, (k0_off614 v1839) a + S1x128.size a ≤ S100000x1024.size a := fun v1839 k0_hw614 => k0_hw614

def k0_off615 (v1842 : BitVec 32) : Fin 2 → Nat :=
  let c512_i32_1229 : BitVec 32 := 512#32
  ![v1842.toNat, 512]

def k0_chk615 (v1842 : BitVec 32) : Prop :=
  (∀ a, (k0_off615 v1842) a + S1x128.size a ≤ S100000x1024.size a)
theorem k0_off615_inb : ∀ (v1842 : BitVec 32) (k0_hw615 : k0_chk615 v1842), ∀ a, (k0_off615 v1842) a + S1x128.size a ≤ S100000x1024.size a := fun v1842 k0_hw615 => k0_hw615

def k0_off616 (v1845 : BitVec 32) : Fin 2 → Nat :=
  let c512_i32_1231 : BitVec 32 := 512#32
  ![v1845.toNat, 512]

def k0_chk616 (v1845 : BitVec 32) : Prop :=
  (∀ a, (k0_off616 v1845) a + S1x128.size a ≤ S100000x1024.size a)
theorem k0_off616_inb : ∀ (v1845 : BitVec 32) (k0_hw616 : k0_chk616 v1845), ∀ a, (k0_off616 v1845) a + S1x128.size a ≤ S100000x1024.size a := fun v1845 k0_hw616 => k0_hw616

def k0_off617 (v1848 : BitVec 32) : Fin 2 → Nat :=
  let c512_i32_1233 : BitVec 32 := 512#32
  ![v1848.toNat, 512]

def k0_chk617 (v1848 : BitVec 32) : Prop :=
  (∀ a, (k0_off617 v1848) a + S1x128.size a ≤ S100000x1024.size a)
theorem k0_off617_inb : ∀ (v1848 : BitVec 32) (k0_hw617 : k0_chk617 v1848), ∀ a, (k0_off617 v1848) a + S1x128.size a ≤ S100000x1024.size a := fun v1848 k0_hw617 => k0_hw617

def k0_off618 (v1851 : BitVec 32) : Fin 2 → Nat :=
  let c512_i32_1235 : BitVec 32 := 512#32
  ![v1851.toNat, 512]

def k0_chk618 (v1851 : BitVec 32) : Prop :=
  (∀ a, (k0_off618 v1851) a + S1x128.size a ≤ S100000x1024.size a)
theorem k0_off618_inb : ∀ (v1851 : BitVec 32) (k0_hw618 : k0_chk618 v1851), ∀ a, (k0_off618 v1851) a + S1x128.size a ≤ S100000x1024.size a := fun v1851 k0_hw618 => k0_hw618

def k0_off619 (v1854 : BitVec 32) : Fin 2 → Nat :=
  let c512_i32_1237 : BitVec 32 := 512#32
  ![v1854.toNat, 512]

def k0_chk619 (v1854 : BitVec 32) : Prop :=
  (∀ a, (k0_off619 v1854) a + S1x128.size a ≤ S100000x1024.size a)
theorem k0_off619_inb : ∀ (v1854 : BitVec 32) (k0_hw619 : k0_chk619 v1854), ∀ a, (k0_off619 v1854) a + S1x128.size a ≤ S100000x1024.size a := fun v1854 k0_hw619 => k0_hw619

def k0_off620 (v1857 : BitVec 32) : Fin 2 → Nat :=
  let c512_i32_1239 : BitVec 32 := 512#32
  ![v1857.toNat, 512]

def k0_chk620 (v1857 : BitVec 32) : Prop :=
  (∀ a, (k0_off620 v1857) a + S1x128.size a ≤ S100000x1024.size a)
theorem k0_off620_inb : ∀ (v1857 : BitVec 32) (k0_hw620 : k0_chk620 v1857), ∀ a, (k0_off620 v1857) a + S1x128.size a ≤ S100000x1024.size a := fun v1857 k0_hw620 => k0_hw620

def k0_off621 (v1860 : BitVec 32) : Fin 2 → Nat :=
  let c512_i32_1241 : BitVec 32 := 512#32
  ![v1860.toNat, 512]

def k0_chk621 (v1860 : BitVec 32) : Prop :=
  (∀ a, (k0_off621 v1860) a + S1x128.size a ≤ S100000x1024.size a)
theorem k0_off621_inb : ∀ (v1860 : BitVec 32) (k0_hw621 : k0_chk621 v1860), ∀ a, (k0_off621 v1860) a + S1x128.size a ≤ S100000x1024.size a := fun v1860 k0_hw621 => k0_hw621

def k0_off622 (v1863 : BitVec 32) : Fin 2 → Nat :=
  let c512_i32_1243 : BitVec 32 := 512#32
  ![v1863.toNat, 512]

def k0_chk622 (v1863 : BitVec 32) : Prop :=
  (∀ a, (k0_off622 v1863) a + S1x128.size a ≤ S100000x1024.size a)
theorem k0_off622_inb : ∀ (v1863 : BitVec 32) (k0_hw622 : k0_chk622 v1863), ∀ a, (k0_off622 v1863) a + S1x128.size a ≤ S100000x1024.size a := fun v1863 k0_hw622 => k0_hw622

def k0_off623 (v1866 : BitVec 32) : Fin 2 → Nat :=
  let c512_i32_1245 : BitVec 32 := 512#32
  ![v1866.toNat, 512]

def k0_chk623 (v1866 : BitVec 32) : Prop :=
  (∀ a, (k0_off623 v1866) a + S1x128.size a ≤ S100000x1024.size a)
theorem k0_off623_inb : ∀ (v1866 : BitVec 32) (k0_hw623 : k0_chk623 v1866), ∀ a, (k0_off623 v1866) a + S1x128.size a ≤ S100000x1024.size a := fun v1866 k0_hw623 => k0_hw623

def k0_off624 (v1869 : BitVec 32) : Fin 2 → Nat :=
  let c512_i32_1247 : BitVec 32 := 512#32
  ![v1869.toNat, 512]

def k0_chk624 (v1869 : BitVec 32) : Prop :=
  (∀ a, (k0_off624 v1869) a + S1x128.size a ≤ S100000x1024.size a)
theorem k0_off624_inb : ∀ (v1869 : BitVec 32) (k0_hw624 : k0_chk624 v1869), ∀ a, (k0_off624 v1869) a + S1x128.size a ≤ S100000x1024.size a := fun v1869 k0_hw624 => k0_hw624

def k0_off625 (v1872 : BitVec 32) : Fin 2 → Nat :=
  let c512_i32_1249 : BitVec 32 := 512#32
  ![v1872.toNat, 512]

def k0_chk625 (v1872 : BitVec 32) : Prop :=
  (∀ a, (k0_off625 v1872) a + S1x128.size a ≤ S100000x1024.size a)
theorem k0_off625_inb : ∀ (v1872 : BitVec 32) (k0_hw625 : k0_chk625 v1872), ∀ a, (k0_off625 v1872) a + S1x128.size a ≤ S100000x1024.size a := fun v1872 k0_hw625 => k0_hw625

def k0_off626 (v1875 : BitVec 32) : Fin 2 → Nat :=
  let c512_i32_1251 : BitVec 32 := 512#32
  ![v1875.toNat, 512]

def k0_chk626 (v1875 : BitVec 32) : Prop :=
  (∀ a, (k0_off626 v1875) a + S1x128.size a ≤ S100000x1024.size a)
theorem k0_off626_inb : ∀ (v1875 : BitVec 32) (k0_hw626 : k0_chk626 v1875), ∀ a, (k0_off626 v1875) a + S1x128.size a ≤ S100000x1024.size a := fun v1875 k0_hw626 => k0_hw626

def k0_off627 (v1878 : BitVec 32) : Fin 2 → Nat :=
  let c512_i32_1253 : BitVec 32 := 512#32
  ![v1878.toNat, 512]

def k0_chk627 (v1878 : BitVec 32) : Prop :=
  (∀ a, (k0_off627 v1878) a + S1x128.size a ≤ S100000x1024.size a)
theorem k0_off627_inb : ∀ (v1878 : BitVec 32) (k0_hw627 : k0_chk627 v1878), ∀ a, (k0_off627 v1878) a + S1x128.size a ≤ S100000x1024.size a := fun v1878 k0_hw627 => k0_hw627

def k0_off628 (v1881 : BitVec 32) : Fin 2 → Nat :=
  let c512_i32_1255 : BitVec 32 := 512#32
  ![v1881.toNat, 512]

def k0_chk628 (v1881 : BitVec 32) : Prop :=
  (∀ a, (k0_off628 v1881) a + S1x128.size a ≤ S100000x1024.size a)
theorem k0_off628_inb : ∀ (v1881 : BitVec 32) (k0_hw628 : k0_chk628 v1881), ∀ a, (k0_off628 v1881) a + S1x128.size a ≤ S100000x1024.size a := fun v1881 k0_hw628 => k0_hw628

def k0_off629 (v1884 : BitVec 32) : Fin 2 → Nat :=
  let c512_i32_1257 : BitVec 32 := 512#32
  ![v1884.toNat, 512]

def k0_chk629 (v1884 : BitVec 32) : Prop :=
  (∀ a, (k0_off629 v1884) a + S1x128.size a ≤ S100000x1024.size a)
theorem k0_off629_inb : ∀ (v1884 : BitVec 32) (k0_hw629 : k0_chk629 v1884), ∀ a, (k0_off629 v1884) a + S1x128.size a ≤ S100000x1024.size a := fun v1884 k0_hw629 => k0_hw629

def k0_off630 (v1887 : BitVec 32) : Fin 2 → Nat :=
  let c512_i32_1259 : BitVec 32 := 512#32
  ![v1887.toNat, 512]

def k0_chk630 (v1887 : BitVec 32) : Prop :=
  (∀ a, (k0_off630 v1887) a + S1x128.size a ≤ S100000x1024.size a)
theorem k0_off630_inb : ∀ (v1887 : BitVec 32) (k0_hw630 : k0_chk630 v1887), ∀ a, (k0_off630 v1887) a + S1x128.size a ≤ S100000x1024.size a := fun v1887 k0_hw630 => k0_hw630

def k0_off631 (v1890 : BitVec 32) : Fin 2 → Nat :=
  let c512_i32_1261 : BitVec 32 := 512#32
  ![v1890.toNat, 512]

def k0_chk631 (v1890 : BitVec 32) : Prop :=
  (∀ a, (k0_off631 v1890) a + S1x128.size a ≤ S100000x1024.size a)
theorem k0_off631_inb : ∀ (v1890 : BitVec 32) (k0_hw631 : k0_chk631 v1890), ∀ a, (k0_off631 v1890) a + S1x128.size a ≤ S100000x1024.size a := fun v1890 k0_hw631 => k0_hw631

def k0_off632 (v1893 : BitVec 32) : Fin 2 → Nat :=
  let c512_i32_1263 : BitVec 32 := 512#32
  ![v1893.toNat, 512]

def k0_chk632 (v1893 : BitVec 32) : Prop :=
  (∀ a, (k0_off632 v1893) a + S1x128.size a ≤ S100000x1024.size a)
theorem k0_off632_inb : ∀ (v1893 : BitVec 32) (k0_hw632 : k0_chk632 v1893), ∀ a, (k0_off632 v1893) a + S1x128.size a ≤ S100000x1024.size a := fun v1893 k0_hw632 => k0_hw632

def k0_off633 (v1896 : BitVec 32) : Fin 2 → Nat :=
  let c512_i32_1265 : BitVec 32 := 512#32
  ![v1896.toNat, 512]

def k0_chk633 (v1896 : BitVec 32) : Prop :=
  (∀ a, (k0_off633 v1896) a + S1x128.size a ≤ S100000x1024.size a)
theorem k0_off633_inb : ∀ (v1896 : BitVec 32) (k0_hw633 : k0_chk633 v1896), ∀ a, (k0_off633 v1896) a + S1x128.size a ≤ S100000x1024.size a := fun v1896 k0_hw633 => k0_hw633

def k0_off634 (v1899 : BitVec 32) : Fin 2 → Nat :=
  let c512_i32_1267 : BitVec 32 := 512#32
  ![v1899.toNat, 512]

def k0_chk634 (v1899 : BitVec 32) : Prop :=
  (∀ a, (k0_off634 v1899) a + S1x128.size a ≤ S100000x1024.size a)
theorem k0_off634_inb : ∀ (v1899 : BitVec 32) (k0_hw634 : k0_chk634 v1899), ∀ a, (k0_off634 v1899) a + S1x128.size a ≤ S100000x1024.size a := fun v1899 k0_hw634 => k0_hw634

def k0_off635 (v1902 : BitVec 32) : Fin 2 → Nat :=
  let c512_i32_1269 : BitVec 32 := 512#32
  ![v1902.toNat, 512]

def k0_chk635 (v1902 : BitVec 32) : Prop :=
  (∀ a, (k0_off635 v1902) a + S1x128.size a ≤ S100000x1024.size a)
theorem k0_off635_inb : ∀ (v1902 : BitVec 32) (k0_hw635 : k0_chk635 v1902), ∀ a, (k0_off635 v1902) a + S1x128.size a ≤ S100000x1024.size a := fun v1902 k0_hw635 => k0_hw635

def k0_off636 (v1905 : BitVec 32) : Fin 2 → Nat :=
  let c512_i32_1271 : BitVec 32 := 512#32
  ![v1905.toNat, 512]

def k0_chk636 (v1905 : BitVec 32) : Prop :=
  (∀ a, (k0_off636 v1905) a + S1x128.size a ≤ S100000x1024.size a)
theorem k0_off636_inb : ∀ (v1905 : BitVec 32) (k0_hw636 : k0_chk636 v1905), ∀ a, (k0_off636 v1905) a + S1x128.size a ≤ S100000x1024.size a := fun v1905 k0_hw636 => k0_hw636

def k0_off637 (v1908 : BitVec 32) : Fin 2 → Nat :=
  let c512_i32_1273 : BitVec 32 := 512#32
  ![v1908.toNat, 512]

def k0_chk637 (v1908 : BitVec 32) : Prop :=
  (∀ a, (k0_off637 v1908) a + S1x128.size a ≤ S100000x1024.size a)
theorem k0_off637_inb : ∀ (v1908 : BitVec 32) (k0_hw637 : k0_chk637 v1908), ∀ a, (k0_off637 v1908) a + S1x128.size a ≤ S100000x1024.size a := fun v1908 k0_hw637 => k0_hw637

def k0_off638 (v1911 : BitVec 32) : Fin 2 → Nat :=
  let c512_i32_1275 : BitVec 32 := 512#32
  ![v1911.toNat, 512]

def k0_chk638 (v1911 : BitVec 32) : Prop :=
  (∀ a, (k0_off638 v1911) a + S1x128.size a ≤ S100000x1024.size a)
theorem k0_off638_inb : ∀ (v1911 : BitVec 32) (k0_hw638 : k0_chk638 v1911), ∀ a, (k0_off638 v1911) a + S1x128.size a ≤ S100000x1024.size a := fun v1911 k0_hw638 => k0_hw638

def k0_off639 (v1914 : BitVec 32) : Fin 2 → Nat :=
  let c512_i32_1277 : BitVec 32 := 512#32
  ![v1914.toNat, 512]

def k0_chk639 (v1914 : BitVec 32) : Prop :=
  (∀ a, (k0_off639 v1914) a + S1x128.size a ≤ S100000x1024.size a)
theorem k0_off639_inb : ∀ (v1914 : BitVec 32) (k0_hw639 : k0_chk639 v1914), ∀ a, (k0_off639 v1914) a + S1x128.size a ≤ S100000x1024.size a := fun v1914 k0_hw639 => k0_hw639

def k0_off640 (v1917 : BitVec 32) : Fin 2 → Nat :=
  let c512_i32_1279 : BitVec 32 := 512#32
  ![v1917.toNat, 512]

def k0_chk640 (v1917 : BitVec 32) : Prop :=
  (∀ a, (k0_off640 v1917) a + S1x128.size a ≤ S100000x1024.size a)
theorem k0_off640_inb : ∀ (v1917 : BitVec 32) (k0_hw640 : k0_chk640 v1917), ∀ a, (k0_off640 v1917) a + S1x128.size a ≤ S100000x1024.size a := fun v1917 k0_hw640 => k0_hw640

def k0_off641 (v1920 : BitVec 32) : Fin 2 → Nat :=
  let c640_i32_1281 : BitVec 32 := 640#32
  ![v1920.toNat, 640]

def k0_chk641 (v1920 : BitVec 32) : Prop :=
  (∀ a, (k0_off641 v1920) a + S1x128.size a ≤ S100000x1024.size a)
theorem k0_off641_inb : ∀ (v1920 : BitVec 32) (k0_hw641 : k0_chk641 v1920), ∀ a, (k0_off641 v1920) a + S1x128.size a ≤ S100000x1024.size a := fun v1920 k0_hw641 => k0_hw641

def k0_off642 (v1923 : BitVec 32) : Fin 2 → Nat :=
  let c640_i32_1283 : BitVec 32 := 640#32
  ![v1923.toNat, 640]

def k0_chk642 (v1923 : BitVec 32) : Prop :=
  (∀ a, (k0_off642 v1923) a + S1x128.size a ≤ S100000x1024.size a)
theorem k0_off642_inb : ∀ (v1923 : BitVec 32) (k0_hw642 : k0_chk642 v1923), ∀ a, (k0_off642 v1923) a + S1x128.size a ≤ S100000x1024.size a := fun v1923 k0_hw642 => k0_hw642

def k0_off643 (v1926 : BitVec 32) : Fin 2 → Nat :=
  let c640_i32_1285 : BitVec 32 := 640#32
  ![v1926.toNat, 640]

def k0_chk643 (v1926 : BitVec 32) : Prop :=
  (∀ a, (k0_off643 v1926) a + S1x128.size a ≤ S100000x1024.size a)
theorem k0_off643_inb : ∀ (v1926 : BitVec 32) (k0_hw643 : k0_chk643 v1926), ∀ a, (k0_off643 v1926) a + S1x128.size a ≤ S100000x1024.size a := fun v1926 k0_hw643 => k0_hw643

def k0_off644 (v1929 : BitVec 32) : Fin 2 → Nat :=
  let c640_i32_1287 : BitVec 32 := 640#32
  ![v1929.toNat, 640]

def k0_chk644 (v1929 : BitVec 32) : Prop :=
  (∀ a, (k0_off644 v1929) a + S1x128.size a ≤ S100000x1024.size a)
theorem k0_off644_inb : ∀ (v1929 : BitVec 32) (k0_hw644 : k0_chk644 v1929), ∀ a, (k0_off644 v1929) a + S1x128.size a ≤ S100000x1024.size a := fun v1929 k0_hw644 => k0_hw644

def k0_off645 (v1932 : BitVec 32) : Fin 2 → Nat :=
  let c640_i32_1289 : BitVec 32 := 640#32
  ![v1932.toNat, 640]

def k0_chk645 (v1932 : BitVec 32) : Prop :=
  (∀ a, (k0_off645 v1932) a + S1x128.size a ≤ S100000x1024.size a)
theorem k0_off645_inb : ∀ (v1932 : BitVec 32) (k0_hw645 : k0_chk645 v1932), ∀ a, (k0_off645 v1932) a + S1x128.size a ≤ S100000x1024.size a := fun v1932 k0_hw645 => k0_hw645

def k0_off646 (v1935 : BitVec 32) : Fin 2 → Nat :=
  let c640_i32_1291 : BitVec 32 := 640#32
  ![v1935.toNat, 640]

def k0_chk646 (v1935 : BitVec 32) : Prop :=
  (∀ a, (k0_off646 v1935) a + S1x128.size a ≤ S100000x1024.size a)
theorem k0_off646_inb : ∀ (v1935 : BitVec 32) (k0_hw646 : k0_chk646 v1935), ∀ a, (k0_off646 v1935) a + S1x128.size a ≤ S100000x1024.size a := fun v1935 k0_hw646 => k0_hw646

def k0_off647 (v1938 : BitVec 32) : Fin 2 → Nat :=
  let c640_i32_1293 : BitVec 32 := 640#32
  ![v1938.toNat, 640]

def k0_chk647 (v1938 : BitVec 32) : Prop :=
  (∀ a, (k0_off647 v1938) a + S1x128.size a ≤ S100000x1024.size a)
theorem k0_off647_inb : ∀ (v1938 : BitVec 32) (k0_hw647 : k0_chk647 v1938), ∀ a, (k0_off647 v1938) a + S1x128.size a ≤ S100000x1024.size a := fun v1938 k0_hw647 => k0_hw647

def k0_off648 (v1941 : BitVec 32) : Fin 2 → Nat :=
  let c640_i32_1295 : BitVec 32 := 640#32
  ![v1941.toNat, 640]

def k0_chk648 (v1941 : BitVec 32) : Prop :=
  (∀ a, (k0_off648 v1941) a + S1x128.size a ≤ S100000x1024.size a)
theorem k0_off648_inb : ∀ (v1941 : BitVec 32) (k0_hw648 : k0_chk648 v1941), ∀ a, (k0_off648 v1941) a + S1x128.size a ≤ S100000x1024.size a := fun v1941 k0_hw648 => k0_hw648

def k0_off649 (v1944 : BitVec 32) : Fin 2 → Nat :=
  let c640_i32_1297 : BitVec 32 := 640#32
  ![v1944.toNat, 640]

def k0_chk649 (v1944 : BitVec 32) : Prop :=
  (∀ a, (k0_off649 v1944) a + S1x128.size a ≤ S100000x1024.size a)
theorem k0_off649_inb : ∀ (v1944 : BitVec 32) (k0_hw649 : k0_chk649 v1944), ∀ a, (k0_off649 v1944) a + S1x128.size a ≤ S100000x1024.size a := fun v1944 k0_hw649 => k0_hw649

def k0_off650 (v1947 : BitVec 32) : Fin 2 → Nat :=
  let c640_i32_1299 : BitVec 32 := 640#32
  ![v1947.toNat, 640]

def k0_chk650 (v1947 : BitVec 32) : Prop :=
  (∀ a, (k0_off650 v1947) a + S1x128.size a ≤ S100000x1024.size a)
theorem k0_off650_inb : ∀ (v1947 : BitVec 32) (k0_hw650 : k0_chk650 v1947), ∀ a, (k0_off650 v1947) a + S1x128.size a ≤ S100000x1024.size a := fun v1947 k0_hw650 => k0_hw650

def k0_off651 (v1950 : BitVec 32) : Fin 2 → Nat :=
  let c640_i32_1301 : BitVec 32 := 640#32
  ![v1950.toNat, 640]

def k0_chk651 (v1950 : BitVec 32) : Prop :=
  (∀ a, (k0_off651 v1950) a + S1x128.size a ≤ S100000x1024.size a)
theorem k0_off651_inb : ∀ (v1950 : BitVec 32) (k0_hw651 : k0_chk651 v1950), ∀ a, (k0_off651 v1950) a + S1x128.size a ≤ S100000x1024.size a := fun v1950 k0_hw651 => k0_hw651

def k0_off652 (v1953 : BitVec 32) : Fin 2 → Nat :=
  let c640_i32_1303 : BitVec 32 := 640#32
  ![v1953.toNat, 640]

def k0_chk652 (v1953 : BitVec 32) : Prop :=
  (∀ a, (k0_off652 v1953) a + S1x128.size a ≤ S100000x1024.size a)
theorem k0_off652_inb : ∀ (v1953 : BitVec 32) (k0_hw652 : k0_chk652 v1953), ∀ a, (k0_off652 v1953) a + S1x128.size a ≤ S100000x1024.size a := fun v1953 k0_hw652 => k0_hw652

def k0_off653 (v1956 : BitVec 32) : Fin 2 → Nat :=
  let c640_i32_1305 : BitVec 32 := 640#32
  ![v1956.toNat, 640]

def k0_chk653 (v1956 : BitVec 32) : Prop :=
  (∀ a, (k0_off653 v1956) a + S1x128.size a ≤ S100000x1024.size a)
theorem k0_off653_inb : ∀ (v1956 : BitVec 32) (k0_hw653 : k0_chk653 v1956), ∀ a, (k0_off653 v1956) a + S1x128.size a ≤ S100000x1024.size a := fun v1956 k0_hw653 => k0_hw653

def k0_off654 (v1959 : BitVec 32) : Fin 2 → Nat :=
  let c640_i32_1307 : BitVec 32 := 640#32
  ![v1959.toNat, 640]

def k0_chk654 (v1959 : BitVec 32) : Prop :=
  (∀ a, (k0_off654 v1959) a + S1x128.size a ≤ S100000x1024.size a)
theorem k0_off654_inb : ∀ (v1959 : BitVec 32) (k0_hw654 : k0_chk654 v1959), ∀ a, (k0_off654 v1959) a + S1x128.size a ≤ S100000x1024.size a := fun v1959 k0_hw654 => k0_hw654

def k0_off655 (v1962 : BitVec 32) : Fin 2 → Nat :=
  let c640_i32_1309 : BitVec 32 := 640#32
  ![v1962.toNat, 640]

def k0_chk655 (v1962 : BitVec 32) : Prop :=
  (∀ a, (k0_off655 v1962) a + S1x128.size a ≤ S100000x1024.size a)
theorem k0_off655_inb : ∀ (v1962 : BitVec 32) (k0_hw655 : k0_chk655 v1962), ∀ a, (k0_off655 v1962) a + S1x128.size a ≤ S100000x1024.size a := fun v1962 k0_hw655 => k0_hw655

def k0_off656 (v1965 : BitVec 32) : Fin 2 → Nat :=
  let c640_i32_1311 : BitVec 32 := 640#32
  ![v1965.toNat, 640]

def k0_chk656 (v1965 : BitVec 32) : Prop :=
  (∀ a, (k0_off656 v1965) a + S1x128.size a ≤ S100000x1024.size a)
theorem k0_off656_inb : ∀ (v1965 : BitVec 32) (k0_hw656 : k0_chk656 v1965), ∀ a, (k0_off656 v1965) a + S1x128.size a ≤ S100000x1024.size a := fun v1965 k0_hw656 => k0_hw656

def k0_off657 (v1968 : BitVec 32) : Fin 2 → Nat :=
  let c640_i32_1313 : BitVec 32 := 640#32
  ![v1968.toNat, 640]

def k0_chk657 (v1968 : BitVec 32) : Prop :=
  (∀ a, (k0_off657 v1968) a + S1x128.size a ≤ S100000x1024.size a)
theorem k0_off657_inb : ∀ (v1968 : BitVec 32) (k0_hw657 : k0_chk657 v1968), ∀ a, (k0_off657 v1968) a + S1x128.size a ≤ S100000x1024.size a := fun v1968 k0_hw657 => k0_hw657

def k0_off658 (v1971 : BitVec 32) : Fin 2 → Nat :=
  let c640_i32_1315 : BitVec 32 := 640#32
  ![v1971.toNat, 640]

def k0_chk658 (v1971 : BitVec 32) : Prop :=
  (∀ a, (k0_off658 v1971) a + S1x128.size a ≤ S100000x1024.size a)
theorem k0_off658_inb : ∀ (v1971 : BitVec 32) (k0_hw658 : k0_chk658 v1971), ∀ a, (k0_off658 v1971) a + S1x128.size a ≤ S100000x1024.size a := fun v1971 k0_hw658 => k0_hw658

def k0_off659 (v1974 : BitVec 32) : Fin 2 → Nat :=
  let c640_i32_1317 : BitVec 32 := 640#32
  ![v1974.toNat, 640]

def k0_chk659 (v1974 : BitVec 32) : Prop :=
  (∀ a, (k0_off659 v1974) a + S1x128.size a ≤ S100000x1024.size a)
theorem k0_off659_inb : ∀ (v1974 : BitVec 32) (k0_hw659 : k0_chk659 v1974), ∀ a, (k0_off659 v1974) a + S1x128.size a ≤ S100000x1024.size a := fun v1974 k0_hw659 => k0_hw659

def k0_off660 (v1977 : BitVec 32) : Fin 2 → Nat :=
  let c640_i32_1319 : BitVec 32 := 640#32
  ![v1977.toNat, 640]

def k0_chk660 (v1977 : BitVec 32) : Prop :=
  (∀ a, (k0_off660 v1977) a + S1x128.size a ≤ S100000x1024.size a)
theorem k0_off660_inb : ∀ (v1977 : BitVec 32) (k0_hw660 : k0_chk660 v1977), ∀ a, (k0_off660 v1977) a + S1x128.size a ≤ S100000x1024.size a := fun v1977 k0_hw660 => k0_hw660

def k0_off661 (v1980 : BitVec 32) : Fin 2 → Nat :=
  let c640_i32_1321 : BitVec 32 := 640#32
  ![v1980.toNat, 640]

def k0_chk661 (v1980 : BitVec 32) : Prop :=
  (∀ a, (k0_off661 v1980) a + S1x128.size a ≤ S100000x1024.size a)
theorem k0_off661_inb : ∀ (v1980 : BitVec 32) (k0_hw661 : k0_chk661 v1980), ∀ a, (k0_off661 v1980) a + S1x128.size a ≤ S100000x1024.size a := fun v1980 k0_hw661 => k0_hw661

def k0_off662 (v1983 : BitVec 32) : Fin 2 → Nat :=
  let c640_i32_1323 : BitVec 32 := 640#32
  ![v1983.toNat, 640]

def k0_chk662 (v1983 : BitVec 32) : Prop :=
  (∀ a, (k0_off662 v1983) a + S1x128.size a ≤ S100000x1024.size a)
theorem k0_off662_inb : ∀ (v1983 : BitVec 32) (k0_hw662 : k0_chk662 v1983), ∀ a, (k0_off662 v1983) a + S1x128.size a ≤ S100000x1024.size a := fun v1983 k0_hw662 => k0_hw662

def k0_off663 (v1986 : BitVec 32) : Fin 2 → Nat :=
  let c640_i32_1325 : BitVec 32 := 640#32
  ![v1986.toNat, 640]

def k0_chk663 (v1986 : BitVec 32) : Prop :=
  (∀ a, (k0_off663 v1986) a + S1x128.size a ≤ S100000x1024.size a)
theorem k0_off663_inb : ∀ (v1986 : BitVec 32) (k0_hw663 : k0_chk663 v1986), ∀ a, (k0_off663 v1986) a + S1x128.size a ≤ S100000x1024.size a := fun v1986 k0_hw663 => k0_hw663

def k0_off664 (v1989 : BitVec 32) : Fin 2 → Nat :=
  let c640_i32_1327 : BitVec 32 := 640#32
  ![v1989.toNat, 640]

def k0_chk664 (v1989 : BitVec 32) : Prop :=
  (∀ a, (k0_off664 v1989) a + S1x128.size a ≤ S100000x1024.size a)
theorem k0_off664_inb : ∀ (v1989 : BitVec 32) (k0_hw664 : k0_chk664 v1989), ∀ a, (k0_off664 v1989) a + S1x128.size a ≤ S100000x1024.size a := fun v1989 k0_hw664 => k0_hw664

def k0_off665 (v1992 : BitVec 32) : Fin 2 → Nat :=
  let c640_i32_1329 : BitVec 32 := 640#32
  ![v1992.toNat, 640]

def k0_chk665 (v1992 : BitVec 32) : Prop :=
  (∀ a, (k0_off665 v1992) a + S1x128.size a ≤ S100000x1024.size a)
theorem k0_off665_inb : ∀ (v1992 : BitVec 32) (k0_hw665 : k0_chk665 v1992), ∀ a, (k0_off665 v1992) a + S1x128.size a ≤ S100000x1024.size a := fun v1992 k0_hw665 => k0_hw665

def k0_off666 (v1995 : BitVec 32) : Fin 2 → Nat :=
  let c640_i32_1331 : BitVec 32 := 640#32
  ![v1995.toNat, 640]

def k0_chk666 (v1995 : BitVec 32) : Prop :=
  (∀ a, (k0_off666 v1995) a + S1x128.size a ≤ S100000x1024.size a)
theorem k0_off666_inb : ∀ (v1995 : BitVec 32) (k0_hw666 : k0_chk666 v1995), ∀ a, (k0_off666 v1995) a + S1x128.size a ≤ S100000x1024.size a := fun v1995 k0_hw666 => k0_hw666

def k0_off667 (v1998 : BitVec 32) : Fin 2 → Nat :=
  let c640_i32_1333 : BitVec 32 := 640#32
  ![v1998.toNat, 640]

def k0_chk667 (v1998 : BitVec 32) : Prop :=
  (∀ a, (k0_off667 v1998) a + S1x128.size a ≤ S100000x1024.size a)
theorem k0_off667_inb : ∀ (v1998 : BitVec 32) (k0_hw667 : k0_chk667 v1998), ∀ a, (k0_off667 v1998) a + S1x128.size a ≤ S100000x1024.size a := fun v1998 k0_hw667 => k0_hw667

def k0_off668 (v2001 : BitVec 32) : Fin 2 → Nat :=
  let c640_i32_1335 : BitVec 32 := 640#32
  ![v2001.toNat, 640]

def k0_chk668 (v2001 : BitVec 32) : Prop :=
  (∀ a, (k0_off668 v2001) a + S1x128.size a ≤ S100000x1024.size a)
theorem k0_off668_inb : ∀ (v2001 : BitVec 32) (k0_hw668 : k0_chk668 v2001), ∀ a, (k0_off668 v2001) a + S1x128.size a ≤ S100000x1024.size a := fun v2001 k0_hw668 => k0_hw668

def k0_off669 (v2004 : BitVec 32) : Fin 2 → Nat :=
  let c640_i32_1337 : BitVec 32 := 640#32
  ![v2004.toNat, 640]

def k0_chk669 (v2004 : BitVec 32) : Prop :=
  (∀ a, (k0_off669 v2004) a + S1x128.size a ≤ S100000x1024.size a)
theorem k0_off669_inb : ∀ (v2004 : BitVec 32) (k0_hw669 : k0_chk669 v2004), ∀ a, (k0_off669 v2004) a + S1x128.size a ≤ S100000x1024.size a := fun v2004 k0_hw669 => k0_hw669

def k0_off670 (v2007 : BitVec 32) : Fin 2 → Nat :=
  let c640_i32_1339 : BitVec 32 := 640#32
  ![v2007.toNat, 640]

def k0_chk670 (v2007 : BitVec 32) : Prop :=
  (∀ a, (k0_off670 v2007) a + S1x128.size a ≤ S100000x1024.size a)
theorem k0_off670_inb : ∀ (v2007 : BitVec 32) (k0_hw670 : k0_chk670 v2007), ∀ a, (k0_off670 v2007) a + S1x128.size a ≤ S100000x1024.size a := fun v2007 k0_hw670 => k0_hw670

def k0_off671 (v2010 : BitVec 32) : Fin 2 → Nat :=
  let c640_i32_1341 : BitVec 32 := 640#32
  ![v2010.toNat, 640]

def k0_chk671 (v2010 : BitVec 32) : Prop :=
  (∀ a, (k0_off671 v2010) a + S1x128.size a ≤ S100000x1024.size a)
theorem k0_off671_inb : ∀ (v2010 : BitVec 32) (k0_hw671 : k0_chk671 v2010), ∀ a, (k0_off671 v2010) a + S1x128.size a ≤ S100000x1024.size a := fun v2010 k0_hw671 => k0_hw671

def k0_off672 (v2013 : BitVec 32) : Fin 2 → Nat :=
  let c640_i32_1343 : BitVec 32 := 640#32
  ![v2013.toNat, 640]

def k0_chk672 (v2013 : BitVec 32) : Prop :=
  (∀ a, (k0_off672 v2013) a + S1x128.size a ≤ S100000x1024.size a)
theorem k0_off672_inb : ∀ (v2013 : BitVec 32) (k0_hw672 : k0_chk672 v2013), ∀ a, (k0_off672 v2013) a + S1x128.size a ≤ S100000x1024.size a := fun v2013 k0_hw672 => k0_hw672

def k0_off673 (v2016 : BitVec 32) : Fin 2 → Nat :=
  let c640_i32_1345 : BitVec 32 := 640#32
  ![v2016.toNat, 640]

def k0_chk673 (v2016 : BitVec 32) : Prop :=
  (∀ a, (k0_off673 v2016) a + S1x128.size a ≤ S100000x1024.size a)
theorem k0_off673_inb : ∀ (v2016 : BitVec 32) (k0_hw673 : k0_chk673 v2016), ∀ a, (k0_off673 v2016) a + S1x128.size a ≤ S100000x1024.size a := fun v2016 k0_hw673 => k0_hw673

def k0_off674 (v2019 : BitVec 32) : Fin 2 → Nat :=
  let c640_i32_1347 : BitVec 32 := 640#32
  ![v2019.toNat, 640]

def k0_chk674 (v2019 : BitVec 32) : Prop :=
  (∀ a, (k0_off674 v2019) a + S1x128.size a ≤ S100000x1024.size a)
theorem k0_off674_inb : ∀ (v2019 : BitVec 32) (k0_hw674 : k0_chk674 v2019), ∀ a, (k0_off674 v2019) a + S1x128.size a ≤ S100000x1024.size a := fun v2019 k0_hw674 => k0_hw674

def k0_off675 (v2022 : BitVec 32) : Fin 2 → Nat :=
  let c640_i32_1349 : BitVec 32 := 640#32
  ![v2022.toNat, 640]

def k0_chk675 (v2022 : BitVec 32) : Prop :=
  (∀ a, (k0_off675 v2022) a + S1x128.size a ≤ S100000x1024.size a)
theorem k0_off675_inb : ∀ (v2022 : BitVec 32) (k0_hw675 : k0_chk675 v2022), ∀ a, (k0_off675 v2022) a + S1x128.size a ≤ S100000x1024.size a := fun v2022 k0_hw675 => k0_hw675

def k0_off676 (v2025 : BitVec 32) : Fin 2 → Nat :=
  let c640_i32_1351 : BitVec 32 := 640#32
  ![v2025.toNat, 640]

def k0_chk676 (v2025 : BitVec 32) : Prop :=
  (∀ a, (k0_off676 v2025) a + S1x128.size a ≤ S100000x1024.size a)
theorem k0_off676_inb : ∀ (v2025 : BitVec 32) (k0_hw676 : k0_chk676 v2025), ∀ a, (k0_off676 v2025) a + S1x128.size a ≤ S100000x1024.size a := fun v2025 k0_hw676 => k0_hw676

def k0_off677 (v2028 : BitVec 32) : Fin 2 → Nat :=
  let c640_i32_1353 : BitVec 32 := 640#32
  ![v2028.toNat, 640]

def k0_chk677 (v2028 : BitVec 32) : Prop :=
  (∀ a, (k0_off677 v2028) a + S1x128.size a ≤ S100000x1024.size a)
theorem k0_off677_inb : ∀ (v2028 : BitVec 32) (k0_hw677 : k0_chk677 v2028), ∀ a, (k0_off677 v2028) a + S1x128.size a ≤ S100000x1024.size a := fun v2028 k0_hw677 => k0_hw677

def k0_off678 (v2031 : BitVec 32) : Fin 2 → Nat :=
  let c640_i32_1355 : BitVec 32 := 640#32
  ![v2031.toNat, 640]

def k0_chk678 (v2031 : BitVec 32) : Prop :=
  (∀ a, (k0_off678 v2031) a + S1x128.size a ≤ S100000x1024.size a)
theorem k0_off678_inb : ∀ (v2031 : BitVec 32) (k0_hw678 : k0_chk678 v2031), ∀ a, (k0_off678 v2031) a + S1x128.size a ≤ S100000x1024.size a := fun v2031 k0_hw678 => k0_hw678

def k0_off679 (v2034 : BitVec 32) : Fin 2 → Nat :=
  let c640_i32_1357 : BitVec 32 := 640#32
  ![v2034.toNat, 640]

def k0_chk679 (v2034 : BitVec 32) : Prop :=
  (∀ a, (k0_off679 v2034) a + S1x128.size a ≤ S100000x1024.size a)
theorem k0_off679_inb : ∀ (v2034 : BitVec 32) (k0_hw679 : k0_chk679 v2034), ∀ a, (k0_off679 v2034) a + S1x128.size a ≤ S100000x1024.size a := fun v2034 k0_hw679 => k0_hw679

def k0_off680 (v2037 : BitVec 32) : Fin 2 → Nat :=
  let c640_i32_1359 : BitVec 32 := 640#32
  ![v2037.toNat, 640]

def k0_chk680 (v2037 : BitVec 32) : Prop :=
  (∀ a, (k0_off680 v2037) a + S1x128.size a ≤ S100000x1024.size a)
theorem k0_off680_inb : ∀ (v2037 : BitVec 32) (k0_hw680 : k0_chk680 v2037), ∀ a, (k0_off680 v2037) a + S1x128.size a ≤ S100000x1024.size a := fun v2037 k0_hw680 => k0_hw680

def k0_off681 (v2040 : BitVec 32) : Fin 2 → Nat :=
  let c640_i32_1361 : BitVec 32 := 640#32
  ![v2040.toNat, 640]

def k0_chk681 (v2040 : BitVec 32) : Prop :=
  (∀ a, (k0_off681 v2040) a + S1x128.size a ≤ S100000x1024.size a)
theorem k0_off681_inb : ∀ (v2040 : BitVec 32) (k0_hw681 : k0_chk681 v2040), ∀ a, (k0_off681 v2040) a + S1x128.size a ≤ S100000x1024.size a := fun v2040 k0_hw681 => k0_hw681

def k0_off682 (v2043 : BitVec 32) : Fin 2 → Nat :=
  let c640_i32_1363 : BitVec 32 := 640#32
  ![v2043.toNat, 640]

def k0_chk682 (v2043 : BitVec 32) : Prop :=
  (∀ a, (k0_off682 v2043) a + S1x128.size a ≤ S100000x1024.size a)
theorem k0_off682_inb : ∀ (v2043 : BitVec 32) (k0_hw682 : k0_chk682 v2043), ∀ a, (k0_off682 v2043) a + S1x128.size a ≤ S100000x1024.size a := fun v2043 k0_hw682 => k0_hw682

def k0_off683 (v2046 : BitVec 32) : Fin 2 → Nat :=
  let c640_i32_1365 : BitVec 32 := 640#32
  ![v2046.toNat, 640]

def k0_chk683 (v2046 : BitVec 32) : Prop :=
  (∀ a, (k0_off683 v2046) a + S1x128.size a ≤ S100000x1024.size a)
theorem k0_off683_inb : ∀ (v2046 : BitVec 32) (k0_hw683 : k0_chk683 v2046), ∀ a, (k0_off683 v2046) a + S1x128.size a ≤ S100000x1024.size a := fun v2046 k0_hw683 => k0_hw683

def k0_off684 (v2049 : BitVec 32) : Fin 2 → Nat :=
  let c640_i32_1367 : BitVec 32 := 640#32
  ![v2049.toNat, 640]

def k0_chk684 (v2049 : BitVec 32) : Prop :=
  (∀ a, (k0_off684 v2049) a + S1x128.size a ≤ S100000x1024.size a)
theorem k0_off684_inb : ∀ (v2049 : BitVec 32) (k0_hw684 : k0_chk684 v2049), ∀ a, (k0_off684 v2049) a + S1x128.size a ≤ S100000x1024.size a := fun v2049 k0_hw684 => k0_hw684

def k0_off685 (v2052 : BitVec 32) : Fin 2 → Nat :=
  let c640_i32_1369 : BitVec 32 := 640#32
  ![v2052.toNat, 640]

def k0_chk685 (v2052 : BitVec 32) : Prop :=
  (∀ a, (k0_off685 v2052) a + S1x128.size a ≤ S100000x1024.size a)
theorem k0_off685_inb : ∀ (v2052 : BitVec 32) (k0_hw685 : k0_chk685 v2052), ∀ a, (k0_off685 v2052) a + S1x128.size a ≤ S100000x1024.size a := fun v2052 k0_hw685 => k0_hw685

def k0_off686 (v2055 : BitVec 32) : Fin 2 → Nat :=
  let c640_i32_1371 : BitVec 32 := 640#32
  ![v2055.toNat, 640]

def k0_chk686 (v2055 : BitVec 32) : Prop :=
  (∀ a, (k0_off686 v2055) a + S1x128.size a ≤ S100000x1024.size a)
theorem k0_off686_inb : ∀ (v2055 : BitVec 32) (k0_hw686 : k0_chk686 v2055), ∀ a, (k0_off686 v2055) a + S1x128.size a ≤ S100000x1024.size a := fun v2055 k0_hw686 => k0_hw686

def k0_off687 (v2058 : BitVec 32) : Fin 2 → Nat :=
  let c640_i32_1373 : BitVec 32 := 640#32
  ![v2058.toNat, 640]

def k0_chk687 (v2058 : BitVec 32) : Prop :=
  (∀ a, (k0_off687 v2058) a + S1x128.size a ≤ S100000x1024.size a)
theorem k0_off687_inb : ∀ (v2058 : BitVec 32) (k0_hw687 : k0_chk687 v2058), ∀ a, (k0_off687 v2058) a + S1x128.size a ≤ S100000x1024.size a := fun v2058 k0_hw687 => k0_hw687

def k0_off688 (v2061 : BitVec 32) : Fin 2 → Nat :=
  let c640_i32_1375 : BitVec 32 := 640#32
  ![v2061.toNat, 640]

def k0_chk688 (v2061 : BitVec 32) : Prop :=
  (∀ a, (k0_off688 v2061) a + S1x128.size a ≤ S100000x1024.size a)
theorem k0_off688_inb : ∀ (v2061 : BitVec 32) (k0_hw688 : k0_chk688 v2061), ∀ a, (k0_off688 v2061) a + S1x128.size a ≤ S100000x1024.size a := fun v2061 k0_hw688 => k0_hw688

def k0_off689 (v2064 : BitVec 32) : Fin 2 → Nat :=
  let c640_i32_1377 : BitVec 32 := 640#32
  ![v2064.toNat, 640]

def k0_chk689 (v2064 : BitVec 32) : Prop :=
  (∀ a, (k0_off689 v2064) a + S1x128.size a ≤ S100000x1024.size a)
theorem k0_off689_inb : ∀ (v2064 : BitVec 32) (k0_hw689 : k0_chk689 v2064), ∀ a, (k0_off689 v2064) a + S1x128.size a ≤ S100000x1024.size a := fun v2064 k0_hw689 => k0_hw689

def k0_off690 (v2067 : BitVec 32) : Fin 2 → Nat :=
  let c640_i32_1379 : BitVec 32 := 640#32
  ![v2067.toNat, 640]

def k0_chk690 (v2067 : BitVec 32) : Prop :=
  (∀ a, (k0_off690 v2067) a + S1x128.size a ≤ S100000x1024.size a)
theorem k0_off690_inb : ∀ (v2067 : BitVec 32) (k0_hw690 : k0_chk690 v2067), ∀ a, (k0_off690 v2067) a + S1x128.size a ≤ S100000x1024.size a := fun v2067 k0_hw690 => k0_hw690

def k0_off691 (v2070 : BitVec 32) : Fin 2 → Nat :=
  let c640_i32_1381 : BitVec 32 := 640#32
  ![v2070.toNat, 640]

def k0_chk691 (v2070 : BitVec 32) : Prop :=
  (∀ a, (k0_off691 v2070) a + S1x128.size a ≤ S100000x1024.size a)
theorem k0_off691_inb : ∀ (v2070 : BitVec 32) (k0_hw691 : k0_chk691 v2070), ∀ a, (k0_off691 v2070) a + S1x128.size a ≤ S100000x1024.size a := fun v2070 k0_hw691 => k0_hw691

def k0_off692 (v2073 : BitVec 32) : Fin 2 → Nat :=
  let c640_i32_1383 : BitVec 32 := 640#32
  ![v2073.toNat, 640]

def k0_chk692 (v2073 : BitVec 32) : Prop :=
  (∀ a, (k0_off692 v2073) a + S1x128.size a ≤ S100000x1024.size a)
theorem k0_off692_inb : ∀ (v2073 : BitVec 32) (k0_hw692 : k0_chk692 v2073), ∀ a, (k0_off692 v2073) a + S1x128.size a ≤ S100000x1024.size a := fun v2073 k0_hw692 => k0_hw692

def k0_off693 (v2076 : BitVec 32) : Fin 2 → Nat :=
  let c640_i32_1385 : BitVec 32 := 640#32
  ![v2076.toNat, 640]

def k0_chk693 (v2076 : BitVec 32) : Prop :=
  (∀ a, (k0_off693 v2076) a + S1x128.size a ≤ S100000x1024.size a)
theorem k0_off693_inb : ∀ (v2076 : BitVec 32) (k0_hw693 : k0_chk693 v2076), ∀ a, (k0_off693 v2076) a + S1x128.size a ≤ S100000x1024.size a := fun v2076 k0_hw693 => k0_hw693

def k0_off694 (v2079 : BitVec 32) : Fin 2 → Nat :=
  let c640_i32_1387 : BitVec 32 := 640#32
  ![v2079.toNat, 640]

def k0_chk694 (v2079 : BitVec 32) : Prop :=
  (∀ a, (k0_off694 v2079) a + S1x128.size a ≤ S100000x1024.size a)
theorem k0_off694_inb : ∀ (v2079 : BitVec 32) (k0_hw694 : k0_chk694 v2079), ∀ a, (k0_off694 v2079) a + S1x128.size a ≤ S100000x1024.size a := fun v2079 k0_hw694 => k0_hw694

def k0_off695 (v2082 : BitVec 32) : Fin 2 → Nat :=
  let c640_i32_1389 : BitVec 32 := 640#32
  ![v2082.toNat, 640]

def k0_chk695 (v2082 : BitVec 32) : Prop :=
  (∀ a, (k0_off695 v2082) a + S1x128.size a ≤ S100000x1024.size a)
theorem k0_off695_inb : ∀ (v2082 : BitVec 32) (k0_hw695 : k0_chk695 v2082), ∀ a, (k0_off695 v2082) a + S1x128.size a ≤ S100000x1024.size a := fun v2082 k0_hw695 => k0_hw695

def k0_off696 (v2085 : BitVec 32) : Fin 2 → Nat :=
  let c640_i32_1391 : BitVec 32 := 640#32
  ![v2085.toNat, 640]

def k0_chk696 (v2085 : BitVec 32) : Prop :=
  (∀ a, (k0_off696 v2085) a + S1x128.size a ≤ S100000x1024.size a)
theorem k0_off696_inb : ∀ (v2085 : BitVec 32) (k0_hw696 : k0_chk696 v2085), ∀ a, (k0_off696 v2085) a + S1x128.size a ≤ S100000x1024.size a := fun v2085 k0_hw696 => k0_hw696

def k0_off697 (v2088 : BitVec 32) : Fin 2 → Nat :=
  let c640_i32_1393 : BitVec 32 := 640#32
  ![v2088.toNat, 640]

def k0_chk697 (v2088 : BitVec 32) : Prop :=
  (∀ a, (k0_off697 v2088) a + S1x128.size a ≤ S100000x1024.size a)
theorem k0_off697_inb : ∀ (v2088 : BitVec 32) (k0_hw697 : k0_chk697 v2088), ∀ a, (k0_off697 v2088) a + S1x128.size a ≤ S100000x1024.size a := fun v2088 k0_hw697 => k0_hw697

def k0_off698 (v2091 : BitVec 32) : Fin 2 → Nat :=
  let c640_i32_1395 : BitVec 32 := 640#32
  ![v2091.toNat, 640]

def k0_chk698 (v2091 : BitVec 32) : Prop :=
  (∀ a, (k0_off698 v2091) a + S1x128.size a ≤ S100000x1024.size a)
theorem k0_off698_inb : ∀ (v2091 : BitVec 32) (k0_hw698 : k0_chk698 v2091), ∀ a, (k0_off698 v2091) a + S1x128.size a ≤ S100000x1024.size a := fun v2091 k0_hw698 => k0_hw698

def k0_off699 (v2094 : BitVec 32) : Fin 2 → Nat :=
  let c640_i32_1397 : BitVec 32 := 640#32
  ![v2094.toNat, 640]

def k0_chk699 (v2094 : BitVec 32) : Prop :=
  (∀ a, (k0_off699 v2094) a + S1x128.size a ≤ S100000x1024.size a)
theorem k0_off699_inb : ∀ (v2094 : BitVec 32) (k0_hw699 : k0_chk699 v2094), ∀ a, (k0_off699 v2094) a + S1x128.size a ≤ S100000x1024.size a := fun v2094 k0_hw699 => k0_hw699

def k0_off700 (v2097 : BitVec 32) : Fin 2 → Nat :=
  let c640_i32_1399 : BitVec 32 := 640#32
  ![v2097.toNat, 640]

def k0_chk700 (v2097 : BitVec 32) : Prop :=
  (∀ a, (k0_off700 v2097) a + S1x128.size a ≤ S100000x1024.size a)
theorem k0_off700_inb : ∀ (v2097 : BitVec 32) (k0_hw700 : k0_chk700 v2097), ∀ a, (k0_off700 v2097) a + S1x128.size a ≤ S100000x1024.size a := fun v2097 k0_hw700 => k0_hw700

def k0_off701 (v2100 : BitVec 32) : Fin 2 → Nat :=
  let c640_i32_1401 : BitVec 32 := 640#32
  ![v2100.toNat, 640]

def k0_chk701 (v2100 : BitVec 32) : Prop :=
  (∀ a, (k0_off701 v2100) a + S1x128.size a ≤ S100000x1024.size a)
theorem k0_off701_inb : ∀ (v2100 : BitVec 32) (k0_hw701 : k0_chk701 v2100), ∀ a, (k0_off701 v2100) a + S1x128.size a ≤ S100000x1024.size a := fun v2100 k0_hw701 => k0_hw701

def k0_off702 (v2103 : BitVec 32) : Fin 2 → Nat :=
  let c640_i32_1403 : BitVec 32 := 640#32
  ![v2103.toNat, 640]

def k0_chk702 (v2103 : BitVec 32) : Prop :=
  (∀ a, (k0_off702 v2103) a + S1x128.size a ≤ S100000x1024.size a)
theorem k0_off702_inb : ∀ (v2103 : BitVec 32) (k0_hw702 : k0_chk702 v2103), ∀ a, (k0_off702 v2103) a + S1x128.size a ≤ S100000x1024.size a := fun v2103 k0_hw702 => k0_hw702

def k0_off703 (v2106 : BitVec 32) : Fin 2 → Nat :=
  let c640_i32_1405 : BitVec 32 := 640#32
  ![v2106.toNat, 640]

def k0_chk703 (v2106 : BitVec 32) : Prop :=
  (∀ a, (k0_off703 v2106) a + S1x128.size a ≤ S100000x1024.size a)
theorem k0_off703_inb : ∀ (v2106 : BitVec 32) (k0_hw703 : k0_chk703 v2106), ∀ a, (k0_off703 v2106) a + S1x128.size a ≤ S100000x1024.size a := fun v2106 k0_hw703 => k0_hw703

def k0_off704 (v2109 : BitVec 32) : Fin 2 → Nat :=
  let c640_i32_1407 : BitVec 32 := 640#32
  ![v2109.toNat, 640]

def k0_chk704 (v2109 : BitVec 32) : Prop :=
  (∀ a, (k0_off704 v2109) a + S1x128.size a ≤ S100000x1024.size a)
theorem k0_off704_inb : ∀ (v2109 : BitVec 32) (k0_hw704 : k0_chk704 v2109), ∀ a, (k0_off704 v2109) a + S1x128.size a ≤ S100000x1024.size a := fun v2109 k0_hw704 => k0_hw704

def k0_off705 (v2112 : BitVec 32) : Fin 2 → Nat :=
  let c640_i32_1409 : BitVec 32 := 640#32
  ![v2112.toNat, 640]

def k0_chk705 (v2112 : BitVec 32) : Prop :=
  (∀ a, (k0_off705 v2112) a + S1x128.size a ≤ S100000x1024.size a)
theorem k0_off705_inb : ∀ (v2112 : BitVec 32) (k0_hw705 : k0_chk705 v2112), ∀ a, (k0_off705 v2112) a + S1x128.size a ≤ S100000x1024.size a := fun v2112 k0_hw705 => k0_hw705

def k0_off706 (v2115 : BitVec 32) : Fin 2 → Nat :=
  let c640_i32_1411 : BitVec 32 := 640#32
  ![v2115.toNat, 640]

def k0_chk706 (v2115 : BitVec 32) : Prop :=
  (∀ a, (k0_off706 v2115) a + S1x128.size a ≤ S100000x1024.size a)
theorem k0_off706_inb : ∀ (v2115 : BitVec 32) (k0_hw706 : k0_chk706 v2115), ∀ a, (k0_off706 v2115) a + S1x128.size a ≤ S100000x1024.size a := fun v2115 k0_hw706 => k0_hw706

def k0_off707 (v2118 : BitVec 32) : Fin 2 → Nat :=
  let c640_i32_1413 : BitVec 32 := 640#32
  ![v2118.toNat, 640]

def k0_chk707 (v2118 : BitVec 32) : Prop :=
  (∀ a, (k0_off707 v2118) a + S1x128.size a ≤ S100000x1024.size a)
theorem k0_off707_inb : ∀ (v2118 : BitVec 32) (k0_hw707 : k0_chk707 v2118), ∀ a, (k0_off707 v2118) a + S1x128.size a ≤ S100000x1024.size a := fun v2118 k0_hw707 => k0_hw707

def k0_off708 (v2121 : BitVec 32) : Fin 2 → Nat :=
  let c640_i32_1415 : BitVec 32 := 640#32
  ![v2121.toNat, 640]

def k0_chk708 (v2121 : BitVec 32) : Prop :=
  (∀ a, (k0_off708 v2121) a + S1x128.size a ≤ S100000x1024.size a)
theorem k0_off708_inb : ∀ (v2121 : BitVec 32) (k0_hw708 : k0_chk708 v2121), ∀ a, (k0_off708 v2121) a + S1x128.size a ≤ S100000x1024.size a := fun v2121 k0_hw708 => k0_hw708

def k0_off709 (v2124 : BitVec 32) : Fin 2 → Nat :=
  let c640_i32_1417 : BitVec 32 := 640#32
  ![v2124.toNat, 640]

def k0_chk709 (v2124 : BitVec 32) : Prop :=
  (∀ a, (k0_off709 v2124) a + S1x128.size a ≤ S100000x1024.size a)
theorem k0_off709_inb : ∀ (v2124 : BitVec 32) (k0_hw709 : k0_chk709 v2124), ∀ a, (k0_off709 v2124) a + S1x128.size a ≤ S100000x1024.size a := fun v2124 k0_hw709 => k0_hw709

def k0_off710 (v2127 : BitVec 32) : Fin 2 → Nat :=
  let c640_i32_1419 : BitVec 32 := 640#32
  ![v2127.toNat, 640]

def k0_chk710 (v2127 : BitVec 32) : Prop :=
  (∀ a, (k0_off710 v2127) a + S1x128.size a ≤ S100000x1024.size a)
theorem k0_off710_inb : ∀ (v2127 : BitVec 32) (k0_hw710 : k0_chk710 v2127), ∀ a, (k0_off710 v2127) a + S1x128.size a ≤ S100000x1024.size a := fun v2127 k0_hw710 => k0_hw710

def k0_off711 (v2130 : BitVec 32) : Fin 2 → Nat :=
  let c640_i32_1421 : BitVec 32 := 640#32
  ![v2130.toNat, 640]

def k0_chk711 (v2130 : BitVec 32) : Prop :=
  (∀ a, (k0_off711 v2130) a + S1x128.size a ≤ S100000x1024.size a)
theorem k0_off711_inb : ∀ (v2130 : BitVec 32) (k0_hw711 : k0_chk711 v2130), ∀ a, (k0_off711 v2130) a + S1x128.size a ≤ S100000x1024.size a := fun v2130 k0_hw711 => k0_hw711

def k0_off712 (v2133 : BitVec 32) : Fin 2 → Nat :=
  let c640_i32_1423 : BitVec 32 := 640#32
  ![v2133.toNat, 640]

def k0_chk712 (v2133 : BitVec 32) : Prop :=
  (∀ a, (k0_off712 v2133) a + S1x128.size a ≤ S100000x1024.size a)
theorem k0_off712_inb : ∀ (v2133 : BitVec 32) (k0_hw712 : k0_chk712 v2133), ∀ a, (k0_off712 v2133) a + S1x128.size a ≤ S100000x1024.size a := fun v2133 k0_hw712 => k0_hw712

def k0_off713 (v2136 : BitVec 32) : Fin 2 → Nat :=
  let c640_i32_1425 : BitVec 32 := 640#32
  ![v2136.toNat, 640]

def k0_chk713 (v2136 : BitVec 32) : Prop :=
  (∀ a, (k0_off713 v2136) a + S1x128.size a ≤ S100000x1024.size a)
theorem k0_off713_inb : ∀ (v2136 : BitVec 32) (k0_hw713 : k0_chk713 v2136), ∀ a, (k0_off713 v2136) a + S1x128.size a ≤ S100000x1024.size a := fun v2136 k0_hw713 => k0_hw713

def k0_off714 (v2139 : BitVec 32) : Fin 2 → Nat :=
  let c640_i32_1427 : BitVec 32 := 640#32
  ![v2139.toNat, 640]

def k0_chk714 (v2139 : BitVec 32) : Prop :=
  (∀ a, (k0_off714 v2139) a + S1x128.size a ≤ S100000x1024.size a)
theorem k0_off714_inb : ∀ (v2139 : BitVec 32) (k0_hw714 : k0_chk714 v2139), ∀ a, (k0_off714 v2139) a + S1x128.size a ≤ S100000x1024.size a := fun v2139 k0_hw714 => k0_hw714

def k0_off715 (v2142 : BitVec 32) : Fin 2 → Nat :=
  let c640_i32_1429 : BitVec 32 := 640#32
  ![v2142.toNat, 640]

def k0_chk715 (v2142 : BitVec 32) : Prop :=
  (∀ a, (k0_off715 v2142) a + S1x128.size a ≤ S100000x1024.size a)
theorem k0_off715_inb : ∀ (v2142 : BitVec 32) (k0_hw715 : k0_chk715 v2142), ∀ a, (k0_off715 v2142) a + S1x128.size a ≤ S100000x1024.size a := fun v2142 k0_hw715 => k0_hw715

def k0_off716 (v2145 : BitVec 32) : Fin 2 → Nat :=
  let c640_i32_1431 : BitVec 32 := 640#32
  ![v2145.toNat, 640]

def k0_chk716 (v2145 : BitVec 32) : Prop :=
  (∀ a, (k0_off716 v2145) a + S1x128.size a ≤ S100000x1024.size a)
theorem k0_off716_inb : ∀ (v2145 : BitVec 32) (k0_hw716 : k0_chk716 v2145), ∀ a, (k0_off716 v2145) a + S1x128.size a ≤ S100000x1024.size a := fun v2145 k0_hw716 => k0_hw716

def k0_off717 (v2148 : BitVec 32) : Fin 2 → Nat :=
  let c640_i32_1433 : BitVec 32 := 640#32
  ![v2148.toNat, 640]

def k0_chk717 (v2148 : BitVec 32) : Prop :=
  (∀ a, (k0_off717 v2148) a + S1x128.size a ≤ S100000x1024.size a)
theorem k0_off717_inb : ∀ (v2148 : BitVec 32) (k0_hw717 : k0_chk717 v2148), ∀ a, (k0_off717 v2148) a + S1x128.size a ≤ S100000x1024.size a := fun v2148 k0_hw717 => k0_hw717

def k0_off718 (v2151 : BitVec 32) : Fin 2 → Nat :=
  let c640_i32_1435 : BitVec 32 := 640#32
  ![v2151.toNat, 640]

def k0_chk718 (v2151 : BitVec 32) : Prop :=
  (∀ a, (k0_off718 v2151) a + S1x128.size a ≤ S100000x1024.size a)
theorem k0_off718_inb : ∀ (v2151 : BitVec 32) (k0_hw718 : k0_chk718 v2151), ∀ a, (k0_off718 v2151) a + S1x128.size a ≤ S100000x1024.size a := fun v2151 k0_hw718 => k0_hw718

def k0_off719 (v2154 : BitVec 32) : Fin 2 → Nat :=
  let c640_i32_1437 : BitVec 32 := 640#32
  ![v2154.toNat, 640]

def k0_chk719 (v2154 : BitVec 32) : Prop :=
  (∀ a, (k0_off719 v2154) a + S1x128.size a ≤ S100000x1024.size a)
theorem k0_off719_inb : ∀ (v2154 : BitVec 32) (k0_hw719 : k0_chk719 v2154), ∀ a, (k0_off719 v2154) a + S1x128.size a ≤ S100000x1024.size a := fun v2154 k0_hw719 => k0_hw719

def k0_off720 (v2157 : BitVec 32) : Fin 2 → Nat :=
  let c640_i32_1439 : BitVec 32 := 640#32
  ![v2157.toNat, 640]

def k0_chk720 (v2157 : BitVec 32) : Prop :=
  (∀ a, (k0_off720 v2157) a + S1x128.size a ≤ S100000x1024.size a)
theorem k0_off720_inb : ∀ (v2157 : BitVec 32) (k0_hw720 : k0_chk720 v2157), ∀ a, (k0_off720 v2157) a + S1x128.size a ≤ S100000x1024.size a := fun v2157 k0_hw720 => k0_hw720

def k0_off721 (v2160 : BitVec 32) : Fin 2 → Nat :=
  let c640_i32_1441 : BitVec 32 := 640#32
  ![v2160.toNat, 640]

def k0_chk721 (v2160 : BitVec 32) : Prop :=
  (∀ a, (k0_off721 v2160) a + S1x128.size a ≤ S100000x1024.size a)
theorem k0_off721_inb : ∀ (v2160 : BitVec 32) (k0_hw721 : k0_chk721 v2160), ∀ a, (k0_off721 v2160) a + S1x128.size a ≤ S100000x1024.size a := fun v2160 k0_hw721 => k0_hw721

def k0_off722 (v2163 : BitVec 32) : Fin 2 → Nat :=
  let c640_i32_1443 : BitVec 32 := 640#32
  ![v2163.toNat, 640]

def k0_chk722 (v2163 : BitVec 32) : Prop :=
  (∀ a, (k0_off722 v2163) a + S1x128.size a ≤ S100000x1024.size a)
theorem k0_off722_inb : ∀ (v2163 : BitVec 32) (k0_hw722 : k0_chk722 v2163), ∀ a, (k0_off722 v2163) a + S1x128.size a ≤ S100000x1024.size a := fun v2163 k0_hw722 => k0_hw722

def k0_off723 (v2166 : BitVec 32) : Fin 2 → Nat :=
  let c640_i32_1445 : BitVec 32 := 640#32
  ![v2166.toNat, 640]

def k0_chk723 (v2166 : BitVec 32) : Prop :=
  (∀ a, (k0_off723 v2166) a + S1x128.size a ≤ S100000x1024.size a)
theorem k0_off723_inb : ∀ (v2166 : BitVec 32) (k0_hw723 : k0_chk723 v2166), ∀ a, (k0_off723 v2166) a + S1x128.size a ≤ S100000x1024.size a := fun v2166 k0_hw723 => k0_hw723

def k0_off724 (v2169 : BitVec 32) : Fin 2 → Nat :=
  let c640_i32_1447 : BitVec 32 := 640#32
  ![v2169.toNat, 640]

def k0_chk724 (v2169 : BitVec 32) : Prop :=
  (∀ a, (k0_off724 v2169) a + S1x128.size a ≤ S100000x1024.size a)
theorem k0_off724_inb : ∀ (v2169 : BitVec 32) (k0_hw724 : k0_chk724 v2169), ∀ a, (k0_off724 v2169) a + S1x128.size a ≤ S100000x1024.size a := fun v2169 k0_hw724 => k0_hw724

def k0_off725 (v2172 : BitVec 32) : Fin 2 → Nat :=
  let c640_i32_1449 : BitVec 32 := 640#32
  ![v2172.toNat, 640]

def k0_chk725 (v2172 : BitVec 32) : Prop :=
  (∀ a, (k0_off725 v2172) a + S1x128.size a ≤ S100000x1024.size a)
theorem k0_off725_inb : ∀ (v2172 : BitVec 32) (k0_hw725 : k0_chk725 v2172), ∀ a, (k0_off725 v2172) a + S1x128.size a ≤ S100000x1024.size a := fun v2172 k0_hw725 => k0_hw725

def k0_off726 (v2175 : BitVec 32) : Fin 2 → Nat :=
  let c640_i32_1451 : BitVec 32 := 640#32
  ![v2175.toNat, 640]

def k0_chk726 (v2175 : BitVec 32) : Prop :=
  (∀ a, (k0_off726 v2175) a + S1x128.size a ≤ S100000x1024.size a)
theorem k0_off726_inb : ∀ (v2175 : BitVec 32) (k0_hw726 : k0_chk726 v2175), ∀ a, (k0_off726 v2175) a + S1x128.size a ≤ S100000x1024.size a := fun v2175 k0_hw726 => k0_hw726

def k0_off727 (v2178 : BitVec 32) : Fin 2 → Nat :=
  let c640_i32_1453 : BitVec 32 := 640#32
  ![v2178.toNat, 640]

def k0_chk727 (v2178 : BitVec 32) : Prop :=
  (∀ a, (k0_off727 v2178) a + S1x128.size a ≤ S100000x1024.size a)
theorem k0_off727_inb : ∀ (v2178 : BitVec 32) (k0_hw727 : k0_chk727 v2178), ∀ a, (k0_off727 v2178) a + S1x128.size a ≤ S100000x1024.size a := fun v2178 k0_hw727 => k0_hw727

def k0_off728 (v2181 : BitVec 32) : Fin 2 → Nat :=
  let c640_i32_1455 : BitVec 32 := 640#32
  ![v2181.toNat, 640]

def k0_chk728 (v2181 : BitVec 32) : Prop :=
  (∀ a, (k0_off728 v2181) a + S1x128.size a ≤ S100000x1024.size a)
theorem k0_off728_inb : ∀ (v2181 : BitVec 32) (k0_hw728 : k0_chk728 v2181), ∀ a, (k0_off728 v2181) a + S1x128.size a ≤ S100000x1024.size a := fun v2181 k0_hw728 => k0_hw728

def k0_off729 (v2184 : BitVec 32) : Fin 2 → Nat :=
  let c640_i32_1457 : BitVec 32 := 640#32
  ![v2184.toNat, 640]

def k0_chk729 (v2184 : BitVec 32) : Prop :=
  (∀ a, (k0_off729 v2184) a + S1x128.size a ≤ S100000x1024.size a)
theorem k0_off729_inb : ∀ (v2184 : BitVec 32) (k0_hw729 : k0_chk729 v2184), ∀ a, (k0_off729 v2184) a + S1x128.size a ≤ S100000x1024.size a := fun v2184 k0_hw729 => k0_hw729

def k0_off730 (v2187 : BitVec 32) : Fin 2 → Nat :=
  let c640_i32_1459 : BitVec 32 := 640#32
  ![v2187.toNat, 640]

def k0_chk730 (v2187 : BitVec 32) : Prop :=
  (∀ a, (k0_off730 v2187) a + S1x128.size a ≤ S100000x1024.size a)
theorem k0_off730_inb : ∀ (v2187 : BitVec 32) (k0_hw730 : k0_chk730 v2187), ∀ a, (k0_off730 v2187) a + S1x128.size a ≤ S100000x1024.size a := fun v2187 k0_hw730 => k0_hw730

def k0_off731 (v2190 : BitVec 32) : Fin 2 → Nat :=
  let c640_i32_1461 : BitVec 32 := 640#32
  ![v2190.toNat, 640]

def k0_chk731 (v2190 : BitVec 32) : Prop :=
  (∀ a, (k0_off731 v2190) a + S1x128.size a ≤ S100000x1024.size a)
theorem k0_off731_inb : ∀ (v2190 : BitVec 32) (k0_hw731 : k0_chk731 v2190), ∀ a, (k0_off731 v2190) a + S1x128.size a ≤ S100000x1024.size a := fun v2190 k0_hw731 => k0_hw731

def k0_off732 (v2193 : BitVec 32) : Fin 2 → Nat :=
  let c640_i32_1463 : BitVec 32 := 640#32
  ![v2193.toNat, 640]

def k0_chk732 (v2193 : BitVec 32) : Prop :=
  (∀ a, (k0_off732 v2193) a + S1x128.size a ≤ S100000x1024.size a)
theorem k0_off732_inb : ∀ (v2193 : BitVec 32) (k0_hw732 : k0_chk732 v2193), ∀ a, (k0_off732 v2193) a + S1x128.size a ≤ S100000x1024.size a := fun v2193 k0_hw732 => k0_hw732

def k0_off733 (v2196 : BitVec 32) : Fin 2 → Nat :=
  let c640_i32_1465 : BitVec 32 := 640#32
  ![v2196.toNat, 640]

def k0_chk733 (v2196 : BitVec 32) : Prop :=
  (∀ a, (k0_off733 v2196) a + S1x128.size a ≤ S100000x1024.size a)
theorem k0_off733_inb : ∀ (v2196 : BitVec 32) (k0_hw733 : k0_chk733 v2196), ∀ a, (k0_off733 v2196) a + S1x128.size a ≤ S100000x1024.size a := fun v2196 k0_hw733 => k0_hw733

def k0_off734 (v2199 : BitVec 32) : Fin 2 → Nat :=
  let c640_i32_1467 : BitVec 32 := 640#32
  ![v2199.toNat, 640]

def k0_chk734 (v2199 : BitVec 32) : Prop :=
  (∀ a, (k0_off734 v2199) a + S1x128.size a ≤ S100000x1024.size a)
theorem k0_off734_inb : ∀ (v2199 : BitVec 32) (k0_hw734 : k0_chk734 v2199), ∀ a, (k0_off734 v2199) a + S1x128.size a ≤ S100000x1024.size a := fun v2199 k0_hw734 => k0_hw734

def k0_off735 (v2202 : BitVec 32) : Fin 2 → Nat :=
  let c640_i32_1469 : BitVec 32 := 640#32
  ![v2202.toNat, 640]

def k0_chk735 (v2202 : BitVec 32) : Prop :=
  (∀ a, (k0_off735 v2202) a + S1x128.size a ≤ S100000x1024.size a)
theorem k0_off735_inb : ∀ (v2202 : BitVec 32) (k0_hw735 : k0_chk735 v2202), ∀ a, (k0_off735 v2202) a + S1x128.size a ≤ S100000x1024.size a := fun v2202 k0_hw735 => k0_hw735

def k0_off736 (v2205 : BitVec 32) : Fin 2 → Nat :=
  let c640_i32_1471 : BitVec 32 := 640#32
  ![v2205.toNat, 640]

def k0_chk736 (v2205 : BitVec 32) : Prop :=
  (∀ a, (k0_off736 v2205) a + S1x128.size a ≤ S100000x1024.size a)
theorem k0_off736_inb : ∀ (v2205 : BitVec 32) (k0_hw736 : k0_chk736 v2205), ∀ a, (k0_off736 v2205) a + S1x128.size a ≤ S100000x1024.size a := fun v2205 k0_hw736 => k0_hw736

def k0_off737 (v2208 : BitVec 32) : Fin 2 → Nat :=
  let c640_i32_1473 : BitVec 32 := 640#32
  ![v2208.toNat, 640]

def k0_chk737 (v2208 : BitVec 32) : Prop :=
  (∀ a, (k0_off737 v2208) a + S1x128.size a ≤ S100000x1024.size a)
theorem k0_off737_inb : ∀ (v2208 : BitVec 32) (k0_hw737 : k0_chk737 v2208), ∀ a, (k0_off737 v2208) a + S1x128.size a ≤ S100000x1024.size a := fun v2208 k0_hw737 => k0_hw737

def k0_off738 (v2211 : BitVec 32) : Fin 2 → Nat :=
  let c640_i32_1475 : BitVec 32 := 640#32
  ![v2211.toNat, 640]

def k0_chk738 (v2211 : BitVec 32) : Prop :=
  (∀ a, (k0_off738 v2211) a + S1x128.size a ≤ S100000x1024.size a)
theorem k0_off738_inb : ∀ (v2211 : BitVec 32) (k0_hw738 : k0_chk738 v2211), ∀ a, (k0_off738 v2211) a + S1x128.size a ≤ S100000x1024.size a := fun v2211 k0_hw738 => k0_hw738

def k0_off739 (v2214 : BitVec 32) : Fin 2 → Nat :=
  let c640_i32_1477 : BitVec 32 := 640#32
  ![v2214.toNat, 640]

def k0_chk739 (v2214 : BitVec 32) : Prop :=
  (∀ a, (k0_off739 v2214) a + S1x128.size a ≤ S100000x1024.size a)
theorem k0_off739_inb : ∀ (v2214 : BitVec 32) (k0_hw739 : k0_chk739 v2214), ∀ a, (k0_off739 v2214) a + S1x128.size a ≤ S100000x1024.size a := fun v2214 k0_hw739 => k0_hw739

def k0_off740 (v2217 : BitVec 32) : Fin 2 → Nat :=
  let c640_i32_1479 : BitVec 32 := 640#32
  ![v2217.toNat, 640]

def k0_chk740 (v2217 : BitVec 32) : Prop :=
  (∀ a, (k0_off740 v2217) a + S1x128.size a ≤ S100000x1024.size a)
theorem k0_off740_inb : ∀ (v2217 : BitVec 32) (k0_hw740 : k0_chk740 v2217), ∀ a, (k0_off740 v2217) a + S1x128.size a ≤ S100000x1024.size a := fun v2217 k0_hw740 => k0_hw740

def k0_off741 (v2220 : BitVec 32) : Fin 2 → Nat :=
  let c640_i32_1481 : BitVec 32 := 640#32
  ![v2220.toNat, 640]

def k0_chk741 (v2220 : BitVec 32) : Prop :=
  (∀ a, (k0_off741 v2220) a + S1x128.size a ≤ S100000x1024.size a)
theorem k0_off741_inb : ∀ (v2220 : BitVec 32) (k0_hw741 : k0_chk741 v2220), ∀ a, (k0_off741 v2220) a + S1x128.size a ≤ S100000x1024.size a := fun v2220 k0_hw741 => k0_hw741

def k0_off742 (v2223 : BitVec 32) : Fin 2 → Nat :=
  let c640_i32_1483 : BitVec 32 := 640#32
  ![v2223.toNat, 640]

def k0_chk742 (v2223 : BitVec 32) : Prop :=
  (∀ a, (k0_off742 v2223) a + S1x128.size a ≤ S100000x1024.size a)
theorem k0_off742_inb : ∀ (v2223 : BitVec 32) (k0_hw742 : k0_chk742 v2223), ∀ a, (k0_off742 v2223) a + S1x128.size a ≤ S100000x1024.size a := fun v2223 k0_hw742 => k0_hw742

def k0_off743 (v2226 : BitVec 32) : Fin 2 → Nat :=
  let c640_i32_1485 : BitVec 32 := 640#32
  ![v2226.toNat, 640]

def k0_chk743 (v2226 : BitVec 32) : Prop :=
  (∀ a, (k0_off743 v2226) a + S1x128.size a ≤ S100000x1024.size a)
theorem k0_off743_inb : ∀ (v2226 : BitVec 32) (k0_hw743 : k0_chk743 v2226), ∀ a, (k0_off743 v2226) a + S1x128.size a ≤ S100000x1024.size a := fun v2226 k0_hw743 => k0_hw743

def k0_off744 (v2229 : BitVec 32) : Fin 2 → Nat :=
  let c640_i32_1487 : BitVec 32 := 640#32
  ![v2229.toNat, 640]

def k0_chk744 (v2229 : BitVec 32) : Prop :=
  (∀ a, (k0_off744 v2229) a + S1x128.size a ≤ S100000x1024.size a)
theorem k0_off744_inb : ∀ (v2229 : BitVec 32) (k0_hw744 : k0_chk744 v2229), ∀ a, (k0_off744 v2229) a + S1x128.size a ≤ S100000x1024.size a := fun v2229 k0_hw744 => k0_hw744

def k0_off745 (v2232 : BitVec 32) : Fin 2 → Nat :=
  let c640_i32_1489 : BitVec 32 := 640#32
  ![v2232.toNat, 640]

def k0_chk745 (v2232 : BitVec 32) : Prop :=
  (∀ a, (k0_off745 v2232) a + S1x128.size a ≤ S100000x1024.size a)
theorem k0_off745_inb : ∀ (v2232 : BitVec 32) (k0_hw745 : k0_chk745 v2232), ∀ a, (k0_off745 v2232) a + S1x128.size a ≤ S100000x1024.size a := fun v2232 k0_hw745 => k0_hw745

def k0_off746 (v2235 : BitVec 32) : Fin 2 → Nat :=
  let c640_i32_1491 : BitVec 32 := 640#32
  ![v2235.toNat, 640]

def k0_chk746 (v2235 : BitVec 32) : Prop :=
  (∀ a, (k0_off746 v2235) a + S1x128.size a ≤ S100000x1024.size a)
theorem k0_off746_inb : ∀ (v2235 : BitVec 32) (k0_hw746 : k0_chk746 v2235), ∀ a, (k0_off746 v2235) a + S1x128.size a ≤ S100000x1024.size a := fun v2235 k0_hw746 => k0_hw746

def k0_off747 (v2238 : BitVec 32) : Fin 2 → Nat :=
  let c640_i32_1493 : BitVec 32 := 640#32
  ![v2238.toNat, 640]

def k0_chk747 (v2238 : BitVec 32) : Prop :=
  (∀ a, (k0_off747 v2238) a + S1x128.size a ≤ S100000x1024.size a)
theorem k0_off747_inb : ∀ (v2238 : BitVec 32) (k0_hw747 : k0_chk747 v2238), ∀ a, (k0_off747 v2238) a + S1x128.size a ≤ S100000x1024.size a := fun v2238 k0_hw747 => k0_hw747

def k0_off748 (v2241 : BitVec 32) : Fin 2 → Nat :=
  let c640_i32_1495 : BitVec 32 := 640#32
  ![v2241.toNat, 640]

def k0_chk748 (v2241 : BitVec 32) : Prop :=
  (∀ a, (k0_off748 v2241) a + S1x128.size a ≤ S100000x1024.size a)
theorem k0_off748_inb : ∀ (v2241 : BitVec 32) (k0_hw748 : k0_chk748 v2241), ∀ a, (k0_off748 v2241) a + S1x128.size a ≤ S100000x1024.size a := fun v2241 k0_hw748 => k0_hw748

def k0_off749 (v2244 : BitVec 32) : Fin 2 → Nat :=
  let c640_i32_1497 : BitVec 32 := 640#32
  ![v2244.toNat, 640]

def k0_chk749 (v2244 : BitVec 32) : Prop :=
  (∀ a, (k0_off749 v2244) a + S1x128.size a ≤ S100000x1024.size a)
theorem k0_off749_inb : ∀ (v2244 : BitVec 32) (k0_hw749 : k0_chk749 v2244), ∀ a, (k0_off749 v2244) a + S1x128.size a ≤ S100000x1024.size a := fun v2244 k0_hw749 => k0_hw749

def k0_off750 (v2247 : BitVec 32) : Fin 2 → Nat :=
  let c640_i32_1499 : BitVec 32 := 640#32
  ![v2247.toNat, 640]

def k0_chk750 (v2247 : BitVec 32) : Prop :=
  (∀ a, (k0_off750 v2247) a + S1x128.size a ≤ S100000x1024.size a)
theorem k0_off750_inb : ∀ (v2247 : BitVec 32) (k0_hw750 : k0_chk750 v2247), ∀ a, (k0_off750 v2247) a + S1x128.size a ≤ S100000x1024.size a := fun v2247 k0_hw750 => k0_hw750

def k0_off751 (v2250 : BitVec 32) : Fin 2 → Nat :=
  let c640_i32_1501 : BitVec 32 := 640#32
  ![v2250.toNat, 640]

def k0_chk751 (v2250 : BitVec 32) : Prop :=
  (∀ a, (k0_off751 v2250) a + S1x128.size a ≤ S100000x1024.size a)
theorem k0_off751_inb : ∀ (v2250 : BitVec 32) (k0_hw751 : k0_chk751 v2250), ∀ a, (k0_off751 v2250) a + S1x128.size a ≤ S100000x1024.size a := fun v2250 k0_hw751 => k0_hw751

def k0_off752 (v2253 : BitVec 32) : Fin 2 → Nat :=
  let c640_i32_1503 : BitVec 32 := 640#32
  ![v2253.toNat, 640]

def k0_chk752 (v2253 : BitVec 32) : Prop :=
  (∀ a, (k0_off752 v2253) a + S1x128.size a ≤ S100000x1024.size a)
theorem k0_off752_inb : ∀ (v2253 : BitVec 32) (k0_hw752 : k0_chk752 v2253), ∀ a, (k0_off752 v2253) a + S1x128.size a ≤ S100000x1024.size a := fun v2253 k0_hw752 => k0_hw752

def k0_off753 (v2256 : BitVec 32) : Fin 2 → Nat :=
  let c640_i32_1505 : BitVec 32 := 640#32
  ![v2256.toNat, 640]

def k0_chk753 (v2256 : BitVec 32) : Prop :=
  (∀ a, (k0_off753 v2256) a + S1x128.size a ≤ S100000x1024.size a)
theorem k0_off753_inb : ∀ (v2256 : BitVec 32) (k0_hw753 : k0_chk753 v2256), ∀ a, (k0_off753 v2256) a + S1x128.size a ≤ S100000x1024.size a := fun v2256 k0_hw753 => k0_hw753

def k0_off754 (v2259 : BitVec 32) : Fin 2 → Nat :=
  let c640_i32_1507 : BitVec 32 := 640#32
  ![v2259.toNat, 640]

def k0_chk754 (v2259 : BitVec 32) : Prop :=
  (∀ a, (k0_off754 v2259) a + S1x128.size a ≤ S100000x1024.size a)
theorem k0_off754_inb : ∀ (v2259 : BitVec 32) (k0_hw754 : k0_chk754 v2259), ∀ a, (k0_off754 v2259) a + S1x128.size a ≤ S100000x1024.size a := fun v2259 k0_hw754 => k0_hw754

def k0_off755 (v2262 : BitVec 32) : Fin 2 → Nat :=
  let c640_i32_1509 : BitVec 32 := 640#32
  ![v2262.toNat, 640]

def k0_chk755 (v2262 : BitVec 32) : Prop :=
  (∀ a, (k0_off755 v2262) a + S1x128.size a ≤ S100000x1024.size a)
theorem k0_off755_inb : ∀ (v2262 : BitVec 32) (k0_hw755 : k0_chk755 v2262), ∀ a, (k0_off755 v2262) a + S1x128.size a ≤ S100000x1024.size a := fun v2262 k0_hw755 => k0_hw755

def k0_off756 (v2265 : BitVec 32) : Fin 2 → Nat :=
  let c640_i32_1511 : BitVec 32 := 640#32
  ![v2265.toNat, 640]

def k0_chk756 (v2265 : BitVec 32) : Prop :=
  (∀ a, (k0_off756 v2265) a + S1x128.size a ≤ S100000x1024.size a)
theorem k0_off756_inb : ∀ (v2265 : BitVec 32) (k0_hw756 : k0_chk756 v2265), ∀ a, (k0_off756 v2265) a + S1x128.size a ≤ S100000x1024.size a := fun v2265 k0_hw756 => k0_hw756

def k0_off757 (v2268 : BitVec 32) : Fin 2 → Nat :=
  let c640_i32_1513 : BitVec 32 := 640#32
  ![v2268.toNat, 640]

def k0_chk757 (v2268 : BitVec 32) : Prop :=
  (∀ a, (k0_off757 v2268) a + S1x128.size a ≤ S100000x1024.size a)
theorem k0_off757_inb : ∀ (v2268 : BitVec 32) (k0_hw757 : k0_chk757 v2268), ∀ a, (k0_off757 v2268) a + S1x128.size a ≤ S100000x1024.size a := fun v2268 k0_hw757 => k0_hw757

def k0_off758 (v2271 : BitVec 32) : Fin 2 → Nat :=
  let c640_i32_1515 : BitVec 32 := 640#32
  ![v2271.toNat, 640]

def k0_chk758 (v2271 : BitVec 32) : Prop :=
  (∀ a, (k0_off758 v2271) a + S1x128.size a ≤ S100000x1024.size a)
theorem k0_off758_inb : ∀ (v2271 : BitVec 32) (k0_hw758 : k0_chk758 v2271), ∀ a, (k0_off758 v2271) a + S1x128.size a ≤ S100000x1024.size a := fun v2271 k0_hw758 => k0_hw758

def k0_off759 (v2274 : BitVec 32) : Fin 2 → Nat :=
  let c640_i32_1517 : BitVec 32 := 640#32
  ![v2274.toNat, 640]

def k0_chk759 (v2274 : BitVec 32) : Prop :=
  (∀ a, (k0_off759 v2274) a + S1x128.size a ≤ S100000x1024.size a)
theorem k0_off759_inb : ∀ (v2274 : BitVec 32) (k0_hw759 : k0_chk759 v2274), ∀ a, (k0_off759 v2274) a + S1x128.size a ≤ S100000x1024.size a := fun v2274 k0_hw759 => k0_hw759

def k0_off760 (v2277 : BitVec 32) : Fin 2 → Nat :=
  let c640_i32_1519 : BitVec 32 := 640#32
  ![v2277.toNat, 640]

def k0_chk760 (v2277 : BitVec 32) : Prop :=
  (∀ a, (k0_off760 v2277) a + S1x128.size a ≤ S100000x1024.size a)
theorem k0_off760_inb : ∀ (v2277 : BitVec 32) (k0_hw760 : k0_chk760 v2277), ∀ a, (k0_off760 v2277) a + S1x128.size a ≤ S100000x1024.size a := fun v2277 k0_hw760 => k0_hw760

def k0_off761 (v2280 : BitVec 32) : Fin 2 → Nat :=
  let c640_i32_1521 : BitVec 32 := 640#32
  ![v2280.toNat, 640]

def k0_chk761 (v2280 : BitVec 32) : Prop :=
  (∀ a, (k0_off761 v2280) a + S1x128.size a ≤ S100000x1024.size a)
theorem k0_off761_inb : ∀ (v2280 : BitVec 32) (k0_hw761 : k0_chk761 v2280), ∀ a, (k0_off761 v2280) a + S1x128.size a ≤ S100000x1024.size a := fun v2280 k0_hw761 => k0_hw761

def k0_off762 (v2283 : BitVec 32) : Fin 2 → Nat :=
  let c640_i32_1523 : BitVec 32 := 640#32
  ![v2283.toNat, 640]

def k0_chk762 (v2283 : BitVec 32) : Prop :=
  (∀ a, (k0_off762 v2283) a + S1x128.size a ≤ S100000x1024.size a)
theorem k0_off762_inb : ∀ (v2283 : BitVec 32) (k0_hw762 : k0_chk762 v2283), ∀ a, (k0_off762 v2283) a + S1x128.size a ≤ S100000x1024.size a := fun v2283 k0_hw762 => k0_hw762

def k0_off763 (v2286 : BitVec 32) : Fin 2 → Nat :=
  let c640_i32_1525 : BitVec 32 := 640#32
  ![v2286.toNat, 640]

def k0_chk763 (v2286 : BitVec 32) : Prop :=
  (∀ a, (k0_off763 v2286) a + S1x128.size a ≤ S100000x1024.size a)
theorem k0_off763_inb : ∀ (v2286 : BitVec 32) (k0_hw763 : k0_chk763 v2286), ∀ a, (k0_off763 v2286) a + S1x128.size a ≤ S100000x1024.size a := fun v2286 k0_hw763 => k0_hw763

def k0_off764 (v2289 : BitVec 32) : Fin 2 → Nat :=
  let c640_i32_1527 : BitVec 32 := 640#32
  ![v2289.toNat, 640]

def k0_chk764 (v2289 : BitVec 32) : Prop :=
  (∀ a, (k0_off764 v2289) a + S1x128.size a ≤ S100000x1024.size a)
theorem k0_off764_inb : ∀ (v2289 : BitVec 32) (k0_hw764 : k0_chk764 v2289), ∀ a, (k0_off764 v2289) a + S1x128.size a ≤ S100000x1024.size a := fun v2289 k0_hw764 => k0_hw764

def k0_off765 (v2292 : BitVec 32) : Fin 2 → Nat :=
  let c640_i32_1529 : BitVec 32 := 640#32
  ![v2292.toNat, 640]

def k0_chk765 (v2292 : BitVec 32) : Prop :=
  (∀ a, (k0_off765 v2292) a + S1x128.size a ≤ S100000x1024.size a)
theorem k0_off765_inb : ∀ (v2292 : BitVec 32) (k0_hw765 : k0_chk765 v2292), ∀ a, (k0_off765 v2292) a + S1x128.size a ≤ S100000x1024.size a := fun v2292 k0_hw765 => k0_hw765

def k0_off766 (v2295 : BitVec 32) : Fin 2 → Nat :=
  let c640_i32_1531 : BitVec 32 := 640#32
  ![v2295.toNat, 640]

def k0_chk766 (v2295 : BitVec 32) : Prop :=
  (∀ a, (k0_off766 v2295) a + S1x128.size a ≤ S100000x1024.size a)
theorem k0_off766_inb : ∀ (v2295 : BitVec 32) (k0_hw766 : k0_chk766 v2295), ∀ a, (k0_off766 v2295) a + S1x128.size a ≤ S100000x1024.size a := fun v2295 k0_hw766 => k0_hw766

def k0_off767 (v2298 : BitVec 32) : Fin 2 → Nat :=
  let c640_i32_1533 : BitVec 32 := 640#32
  ![v2298.toNat, 640]

def k0_chk767 (v2298 : BitVec 32) : Prop :=
  (∀ a, (k0_off767 v2298) a + S1x128.size a ≤ S100000x1024.size a)
theorem k0_off767_inb : ∀ (v2298 : BitVec 32) (k0_hw767 : k0_chk767 v2298), ∀ a, (k0_off767 v2298) a + S1x128.size a ≤ S100000x1024.size a := fun v2298 k0_hw767 => k0_hw767

def k0_off768 (v2301 : BitVec 32) : Fin 2 → Nat :=
  let c640_i32_1535 : BitVec 32 := 640#32
  ![v2301.toNat, 640]

def k0_chk768 (v2301 : BitVec 32) : Prop :=
  (∀ a, (k0_off768 v2301) a + S1x128.size a ≤ S100000x1024.size a)
theorem k0_off768_inb : ∀ (v2301 : BitVec 32) (k0_hw768 : k0_chk768 v2301), ∀ a, (k0_off768 v2301) a + S1x128.size a ≤ S100000x1024.size a := fun v2301 k0_hw768 => k0_hw768

def k0_off769 (v2304 : BitVec 32) : Fin 2 → Nat :=
  let c768_i32_1537 : BitVec 32 := 768#32
  ![v2304.toNat, 768]

def k0_chk769 (v2304 : BitVec 32) : Prop :=
  (∀ a, (k0_off769 v2304) a + S1x128.size a ≤ S100000x1024.size a)
theorem k0_off769_inb : ∀ (v2304 : BitVec 32) (k0_hw769 : k0_chk769 v2304), ∀ a, (k0_off769 v2304) a + S1x128.size a ≤ S100000x1024.size a := fun v2304 k0_hw769 => k0_hw769

def k0_off770 (v2307 : BitVec 32) : Fin 2 → Nat :=
  let c768_i32_1539 : BitVec 32 := 768#32
  ![v2307.toNat, 768]

def k0_chk770 (v2307 : BitVec 32) : Prop :=
  (∀ a, (k0_off770 v2307) a + S1x128.size a ≤ S100000x1024.size a)
theorem k0_off770_inb : ∀ (v2307 : BitVec 32) (k0_hw770 : k0_chk770 v2307), ∀ a, (k0_off770 v2307) a + S1x128.size a ≤ S100000x1024.size a := fun v2307 k0_hw770 => k0_hw770

def k0_off771 (v2310 : BitVec 32) : Fin 2 → Nat :=
  let c768_i32_1541 : BitVec 32 := 768#32
  ![v2310.toNat, 768]

def k0_chk771 (v2310 : BitVec 32) : Prop :=
  (∀ a, (k0_off771 v2310) a + S1x128.size a ≤ S100000x1024.size a)
theorem k0_off771_inb : ∀ (v2310 : BitVec 32) (k0_hw771 : k0_chk771 v2310), ∀ a, (k0_off771 v2310) a + S1x128.size a ≤ S100000x1024.size a := fun v2310 k0_hw771 => k0_hw771

def k0_off772 (v2313 : BitVec 32) : Fin 2 → Nat :=
  let c768_i32_1543 : BitVec 32 := 768#32
  ![v2313.toNat, 768]

def k0_chk772 (v2313 : BitVec 32) : Prop :=
  (∀ a, (k0_off772 v2313) a + S1x128.size a ≤ S100000x1024.size a)
theorem k0_off772_inb : ∀ (v2313 : BitVec 32) (k0_hw772 : k0_chk772 v2313), ∀ a, (k0_off772 v2313) a + S1x128.size a ≤ S100000x1024.size a := fun v2313 k0_hw772 => k0_hw772

def k0_off773 (v2316 : BitVec 32) : Fin 2 → Nat :=
  let c768_i32_1545 : BitVec 32 := 768#32
  ![v2316.toNat, 768]

def k0_chk773 (v2316 : BitVec 32) : Prop :=
  (∀ a, (k0_off773 v2316) a + S1x128.size a ≤ S100000x1024.size a)
theorem k0_off773_inb : ∀ (v2316 : BitVec 32) (k0_hw773 : k0_chk773 v2316), ∀ a, (k0_off773 v2316) a + S1x128.size a ≤ S100000x1024.size a := fun v2316 k0_hw773 => k0_hw773

def k0_off774 (v2319 : BitVec 32) : Fin 2 → Nat :=
  let c768_i32_1547 : BitVec 32 := 768#32
  ![v2319.toNat, 768]

def k0_chk774 (v2319 : BitVec 32) : Prop :=
  (∀ a, (k0_off774 v2319) a + S1x128.size a ≤ S100000x1024.size a)
theorem k0_off774_inb : ∀ (v2319 : BitVec 32) (k0_hw774 : k0_chk774 v2319), ∀ a, (k0_off774 v2319) a + S1x128.size a ≤ S100000x1024.size a := fun v2319 k0_hw774 => k0_hw774

def k0_off775 (v2322 : BitVec 32) : Fin 2 → Nat :=
  let c768_i32_1549 : BitVec 32 := 768#32
  ![v2322.toNat, 768]

def k0_chk775 (v2322 : BitVec 32) : Prop :=
  (∀ a, (k0_off775 v2322) a + S1x128.size a ≤ S100000x1024.size a)
theorem k0_off775_inb : ∀ (v2322 : BitVec 32) (k0_hw775 : k0_chk775 v2322), ∀ a, (k0_off775 v2322) a + S1x128.size a ≤ S100000x1024.size a := fun v2322 k0_hw775 => k0_hw775

def k0_off776 (v2325 : BitVec 32) : Fin 2 → Nat :=
  let c768_i32_1551 : BitVec 32 := 768#32
  ![v2325.toNat, 768]

def k0_chk776 (v2325 : BitVec 32) : Prop :=
  (∀ a, (k0_off776 v2325) a + S1x128.size a ≤ S100000x1024.size a)
theorem k0_off776_inb : ∀ (v2325 : BitVec 32) (k0_hw776 : k0_chk776 v2325), ∀ a, (k0_off776 v2325) a + S1x128.size a ≤ S100000x1024.size a := fun v2325 k0_hw776 => k0_hw776

def k0_off777 (v2328 : BitVec 32) : Fin 2 → Nat :=
  let c768_i32_1553 : BitVec 32 := 768#32
  ![v2328.toNat, 768]

def k0_chk777 (v2328 : BitVec 32) : Prop :=
  (∀ a, (k0_off777 v2328) a + S1x128.size a ≤ S100000x1024.size a)
theorem k0_off777_inb : ∀ (v2328 : BitVec 32) (k0_hw777 : k0_chk777 v2328), ∀ a, (k0_off777 v2328) a + S1x128.size a ≤ S100000x1024.size a := fun v2328 k0_hw777 => k0_hw777

def k0_off778 (v2331 : BitVec 32) : Fin 2 → Nat :=
  let c768_i32_1555 : BitVec 32 := 768#32
  ![v2331.toNat, 768]

def k0_chk778 (v2331 : BitVec 32) : Prop :=
  (∀ a, (k0_off778 v2331) a + S1x128.size a ≤ S100000x1024.size a)
theorem k0_off778_inb : ∀ (v2331 : BitVec 32) (k0_hw778 : k0_chk778 v2331), ∀ a, (k0_off778 v2331) a + S1x128.size a ≤ S100000x1024.size a := fun v2331 k0_hw778 => k0_hw778

def k0_off779 (v2334 : BitVec 32) : Fin 2 → Nat :=
  let c768_i32_1557 : BitVec 32 := 768#32
  ![v2334.toNat, 768]

def k0_chk779 (v2334 : BitVec 32) : Prop :=
  (∀ a, (k0_off779 v2334) a + S1x128.size a ≤ S100000x1024.size a)
theorem k0_off779_inb : ∀ (v2334 : BitVec 32) (k0_hw779 : k0_chk779 v2334), ∀ a, (k0_off779 v2334) a + S1x128.size a ≤ S100000x1024.size a := fun v2334 k0_hw779 => k0_hw779

def k0_off780 (v2337 : BitVec 32) : Fin 2 → Nat :=
  let c768_i32_1559 : BitVec 32 := 768#32
  ![v2337.toNat, 768]

def k0_chk780 (v2337 : BitVec 32) : Prop :=
  (∀ a, (k0_off780 v2337) a + S1x128.size a ≤ S100000x1024.size a)
theorem k0_off780_inb : ∀ (v2337 : BitVec 32) (k0_hw780 : k0_chk780 v2337), ∀ a, (k0_off780 v2337) a + S1x128.size a ≤ S100000x1024.size a := fun v2337 k0_hw780 => k0_hw780

def k0_off781 (v2340 : BitVec 32) : Fin 2 → Nat :=
  let c768_i32_1561 : BitVec 32 := 768#32
  ![v2340.toNat, 768]

def k0_chk781 (v2340 : BitVec 32) : Prop :=
  (∀ a, (k0_off781 v2340) a + S1x128.size a ≤ S100000x1024.size a)
theorem k0_off781_inb : ∀ (v2340 : BitVec 32) (k0_hw781 : k0_chk781 v2340), ∀ a, (k0_off781 v2340) a + S1x128.size a ≤ S100000x1024.size a := fun v2340 k0_hw781 => k0_hw781

def k0_off782 (v2343 : BitVec 32) : Fin 2 → Nat :=
  let c768_i32_1563 : BitVec 32 := 768#32
  ![v2343.toNat, 768]

def k0_chk782 (v2343 : BitVec 32) : Prop :=
  (∀ a, (k0_off782 v2343) a + S1x128.size a ≤ S100000x1024.size a)
theorem k0_off782_inb : ∀ (v2343 : BitVec 32) (k0_hw782 : k0_chk782 v2343), ∀ a, (k0_off782 v2343) a + S1x128.size a ≤ S100000x1024.size a := fun v2343 k0_hw782 => k0_hw782

def k0_off783 (v2346 : BitVec 32) : Fin 2 → Nat :=
  let c768_i32_1565 : BitVec 32 := 768#32
  ![v2346.toNat, 768]

def k0_chk783 (v2346 : BitVec 32) : Prop :=
  (∀ a, (k0_off783 v2346) a + S1x128.size a ≤ S100000x1024.size a)
theorem k0_off783_inb : ∀ (v2346 : BitVec 32) (k0_hw783 : k0_chk783 v2346), ∀ a, (k0_off783 v2346) a + S1x128.size a ≤ S100000x1024.size a := fun v2346 k0_hw783 => k0_hw783

def k0_off784 (v2349 : BitVec 32) : Fin 2 → Nat :=
  let c768_i32_1567 : BitVec 32 := 768#32
  ![v2349.toNat, 768]

def k0_chk784 (v2349 : BitVec 32) : Prop :=
  (∀ a, (k0_off784 v2349) a + S1x128.size a ≤ S100000x1024.size a)
theorem k0_off784_inb : ∀ (v2349 : BitVec 32) (k0_hw784 : k0_chk784 v2349), ∀ a, (k0_off784 v2349) a + S1x128.size a ≤ S100000x1024.size a := fun v2349 k0_hw784 => k0_hw784

def k0_off785 (v2352 : BitVec 32) : Fin 2 → Nat :=
  let c768_i32_1569 : BitVec 32 := 768#32
  ![v2352.toNat, 768]

def k0_chk785 (v2352 : BitVec 32) : Prop :=
  (∀ a, (k0_off785 v2352) a + S1x128.size a ≤ S100000x1024.size a)
theorem k0_off785_inb : ∀ (v2352 : BitVec 32) (k0_hw785 : k0_chk785 v2352), ∀ a, (k0_off785 v2352) a + S1x128.size a ≤ S100000x1024.size a := fun v2352 k0_hw785 => k0_hw785

def k0_off786 (v2355 : BitVec 32) : Fin 2 → Nat :=
  let c768_i32_1571 : BitVec 32 := 768#32
  ![v2355.toNat, 768]

def k0_chk786 (v2355 : BitVec 32) : Prop :=
  (∀ a, (k0_off786 v2355) a + S1x128.size a ≤ S100000x1024.size a)
theorem k0_off786_inb : ∀ (v2355 : BitVec 32) (k0_hw786 : k0_chk786 v2355), ∀ a, (k0_off786 v2355) a + S1x128.size a ≤ S100000x1024.size a := fun v2355 k0_hw786 => k0_hw786

def k0_off787 (v2358 : BitVec 32) : Fin 2 → Nat :=
  let c768_i32_1573 : BitVec 32 := 768#32
  ![v2358.toNat, 768]

def k0_chk787 (v2358 : BitVec 32) : Prop :=
  (∀ a, (k0_off787 v2358) a + S1x128.size a ≤ S100000x1024.size a)
theorem k0_off787_inb : ∀ (v2358 : BitVec 32) (k0_hw787 : k0_chk787 v2358), ∀ a, (k0_off787 v2358) a + S1x128.size a ≤ S100000x1024.size a := fun v2358 k0_hw787 => k0_hw787

def k0_off788 (v2361 : BitVec 32) : Fin 2 → Nat :=
  let c768_i32_1575 : BitVec 32 := 768#32
  ![v2361.toNat, 768]

def k0_chk788 (v2361 : BitVec 32) : Prop :=
  (∀ a, (k0_off788 v2361) a + S1x128.size a ≤ S100000x1024.size a)
theorem k0_off788_inb : ∀ (v2361 : BitVec 32) (k0_hw788 : k0_chk788 v2361), ∀ a, (k0_off788 v2361) a + S1x128.size a ≤ S100000x1024.size a := fun v2361 k0_hw788 => k0_hw788

def k0_off789 (v2364 : BitVec 32) : Fin 2 → Nat :=
  let c768_i32_1577 : BitVec 32 := 768#32
  ![v2364.toNat, 768]

def k0_chk789 (v2364 : BitVec 32) : Prop :=
  (∀ a, (k0_off789 v2364) a + S1x128.size a ≤ S100000x1024.size a)
theorem k0_off789_inb : ∀ (v2364 : BitVec 32) (k0_hw789 : k0_chk789 v2364), ∀ a, (k0_off789 v2364) a + S1x128.size a ≤ S100000x1024.size a := fun v2364 k0_hw789 => k0_hw789

def k0_off790 (v2367 : BitVec 32) : Fin 2 → Nat :=
  let c768_i32_1579 : BitVec 32 := 768#32
  ![v2367.toNat, 768]

def k0_chk790 (v2367 : BitVec 32) : Prop :=
  (∀ a, (k0_off790 v2367) a + S1x128.size a ≤ S100000x1024.size a)
theorem k0_off790_inb : ∀ (v2367 : BitVec 32) (k0_hw790 : k0_chk790 v2367), ∀ a, (k0_off790 v2367) a + S1x128.size a ≤ S100000x1024.size a := fun v2367 k0_hw790 => k0_hw790

def k0_off791 (v2370 : BitVec 32) : Fin 2 → Nat :=
  let c768_i32_1581 : BitVec 32 := 768#32
  ![v2370.toNat, 768]

def k0_chk791 (v2370 : BitVec 32) : Prop :=
  (∀ a, (k0_off791 v2370) a + S1x128.size a ≤ S100000x1024.size a)
theorem k0_off791_inb : ∀ (v2370 : BitVec 32) (k0_hw791 : k0_chk791 v2370), ∀ a, (k0_off791 v2370) a + S1x128.size a ≤ S100000x1024.size a := fun v2370 k0_hw791 => k0_hw791

def k0_off792 (v2373 : BitVec 32) : Fin 2 → Nat :=
  let c768_i32_1583 : BitVec 32 := 768#32
  ![v2373.toNat, 768]

def k0_chk792 (v2373 : BitVec 32) : Prop :=
  (∀ a, (k0_off792 v2373) a + S1x128.size a ≤ S100000x1024.size a)
theorem k0_off792_inb : ∀ (v2373 : BitVec 32) (k0_hw792 : k0_chk792 v2373), ∀ a, (k0_off792 v2373) a + S1x128.size a ≤ S100000x1024.size a := fun v2373 k0_hw792 => k0_hw792

def k0_off793 (v2376 : BitVec 32) : Fin 2 → Nat :=
  let c768_i32_1585 : BitVec 32 := 768#32
  ![v2376.toNat, 768]

def k0_chk793 (v2376 : BitVec 32) : Prop :=
  (∀ a, (k0_off793 v2376) a + S1x128.size a ≤ S100000x1024.size a)
theorem k0_off793_inb : ∀ (v2376 : BitVec 32) (k0_hw793 : k0_chk793 v2376), ∀ a, (k0_off793 v2376) a + S1x128.size a ≤ S100000x1024.size a := fun v2376 k0_hw793 => k0_hw793

def k0_off794 (v2379 : BitVec 32) : Fin 2 → Nat :=
  let c768_i32_1587 : BitVec 32 := 768#32
  ![v2379.toNat, 768]

def k0_chk794 (v2379 : BitVec 32) : Prop :=
  (∀ a, (k0_off794 v2379) a + S1x128.size a ≤ S100000x1024.size a)
theorem k0_off794_inb : ∀ (v2379 : BitVec 32) (k0_hw794 : k0_chk794 v2379), ∀ a, (k0_off794 v2379) a + S1x128.size a ≤ S100000x1024.size a := fun v2379 k0_hw794 => k0_hw794

def k0_off795 (v2382 : BitVec 32) : Fin 2 → Nat :=
  let c768_i32_1589 : BitVec 32 := 768#32
  ![v2382.toNat, 768]

def k0_chk795 (v2382 : BitVec 32) : Prop :=
  (∀ a, (k0_off795 v2382) a + S1x128.size a ≤ S100000x1024.size a)
theorem k0_off795_inb : ∀ (v2382 : BitVec 32) (k0_hw795 : k0_chk795 v2382), ∀ a, (k0_off795 v2382) a + S1x128.size a ≤ S100000x1024.size a := fun v2382 k0_hw795 => k0_hw795

def k0_off796 (v2385 : BitVec 32) : Fin 2 → Nat :=
  let c768_i32_1591 : BitVec 32 := 768#32
  ![v2385.toNat, 768]

def k0_chk796 (v2385 : BitVec 32) : Prop :=
  (∀ a, (k0_off796 v2385) a + S1x128.size a ≤ S100000x1024.size a)
theorem k0_off796_inb : ∀ (v2385 : BitVec 32) (k0_hw796 : k0_chk796 v2385), ∀ a, (k0_off796 v2385) a + S1x128.size a ≤ S100000x1024.size a := fun v2385 k0_hw796 => k0_hw796

def k0_off797 (v2388 : BitVec 32) : Fin 2 → Nat :=
  let c768_i32_1593 : BitVec 32 := 768#32
  ![v2388.toNat, 768]

def k0_chk797 (v2388 : BitVec 32) : Prop :=
  (∀ a, (k0_off797 v2388) a + S1x128.size a ≤ S100000x1024.size a)
theorem k0_off797_inb : ∀ (v2388 : BitVec 32) (k0_hw797 : k0_chk797 v2388), ∀ a, (k0_off797 v2388) a + S1x128.size a ≤ S100000x1024.size a := fun v2388 k0_hw797 => k0_hw797

def k0_off798 (v2391 : BitVec 32) : Fin 2 → Nat :=
  let c768_i32_1595 : BitVec 32 := 768#32
  ![v2391.toNat, 768]

def k0_chk798 (v2391 : BitVec 32) : Prop :=
  (∀ a, (k0_off798 v2391) a + S1x128.size a ≤ S100000x1024.size a)
theorem k0_off798_inb : ∀ (v2391 : BitVec 32) (k0_hw798 : k0_chk798 v2391), ∀ a, (k0_off798 v2391) a + S1x128.size a ≤ S100000x1024.size a := fun v2391 k0_hw798 => k0_hw798

def k0_off799 (v2394 : BitVec 32) : Fin 2 → Nat :=
  let c768_i32_1597 : BitVec 32 := 768#32
  ![v2394.toNat, 768]

def k0_chk799 (v2394 : BitVec 32) : Prop :=
  (∀ a, (k0_off799 v2394) a + S1x128.size a ≤ S100000x1024.size a)
theorem k0_off799_inb : ∀ (v2394 : BitVec 32) (k0_hw799 : k0_chk799 v2394), ∀ a, (k0_off799 v2394) a + S1x128.size a ≤ S100000x1024.size a := fun v2394 k0_hw799 => k0_hw799

def k0_off800 (v2397 : BitVec 32) : Fin 2 → Nat :=
  let c768_i32_1599 : BitVec 32 := 768#32
  ![v2397.toNat, 768]

def k0_chk800 (v2397 : BitVec 32) : Prop :=
  (∀ a, (k0_off800 v2397) a + S1x128.size a ≤ S100000x1024.size a)
theorem k0_off800_inb : ∀ (v2397 : BitVec 32) (k0_hw800 : k0_chk800 v2397), ∀ a, (k0_off800 v2397) a + S1x128.size a ≤ S100000x1024.size a := fun v2397 k0_hw800 => k0_hw800

def k0_off801 (v2400 : BitVec 32) : Fin 2 → Nat :=
  let c768_i32_1601 : BitVec 32 := 768#32
  ![v2400.toNat, 768]

def k0_chk801 (v2400 : BitVec 32) : Prop :=
  (∀ a, (k0_off801 v2400) a + S1x128.size a ≤ S100000x1024.size a)
theorem k0_off801_inb : ∀ (v2400 : BitVec 32) (k0_hw801 : k0_chk801 v2400), ∀ a, (k0_off801 v2400) a + S1x128.size a ≤ S100000x1024.size a := fun v2400 k0_hw801 => k0_hw801

def k0_off802 (v2403 : BitVec 32) : Fin 2 → Nat :=
  let c768_i32_1603 : BitVec 32 := 768#32
  ![v2403.toNat, 768]

def k0_chk802 (v2403 : BitVec 32) : Prop :=
  (∀ a, (k0_off802 v2403) a + S1x128.size a ≤ S100000x1024.size a)
theorem k0_off802_inb : ∀ (v2403 : BitVec 32) (k0_hw802 : k0_chk802 v2403), ∀ a, (k0_off802 v2403) a + S1x128.size a ≤ S100000x1024.size a := fun v2403 k0_hw802 => k0_hw802

def k0_off803 (v2406 : BitVec 32) : Fin 2 → Nat :=
  let c768_i32_1605 : BitVec 32 := 768#32
  ![v2406.toNat, 768]

def k0_chk803 (v2406 : BitVec 32) : Prop :=
  (∀ a, (k0_off803 v2406) a + S1x128.size a ≤ S100000x1024.size a)
theorem k0_off803_inb : ∀ (v2406 : BitVec 32) (k0_hw803 : k0_chk803 v2406), ∀ a, (k0_off803 v2406) a + S1x128.size a ≤ S100000x1024.size a := fun v2406 k0_hw803 => k0_hw803

def k0_off804 (v2409 : BitVec 32) : Fin 2 → Nat :=
  let c768_i32_1607 : BitVec 32 := 768#32
  ![v2409.toNat, 768]

def k0_chk804 (v2409 : BitVec 32) : Prop :=
  (∀ a, (k0_off804 v2409) a + S1x128.size a ≤ S100000x1024.size a)
theorem k0_off804_inb : ∀ (v2409 : BitVec 32) (k0_hw804 : k0_chk804 v2409), ∀ a, (k0_off804 v2409) a + S1x128.size a ≤ S100000x1024.size a := fun v2409 k0_hw804 => k0_hw804

def k0_off805 (v2412 : BitVec 32) : Fin 2 → Nat :=
  let c768_i32_1609 : BitVec 32 := 768#32
  ![v2412.toNat, 768]

def k0_chk805 (v2412 : BitVec 32) : Prop :=
  (∀ a, (k0_off805 v2412) a + S1x128.size a ≤ S100000x1024.size a)
theorem k0_off805_inb : ∀ (v2412 : BitVec 32) (k0_hw805 : k0_chk805 v2412), ∀ a, (k0_off805 v2412) a + S1x128.size a ≤ S100000x1024.size a := fun v2412 k0_hw805 => k0_hw805

def k0_off806 (v2415 : BitVec 32) : Fin 2 → Nat :=
  let c768_i32_1611 : BitVec 32 := 768#32
  ![v2415.toNat, 768]

def k0_chk806 (v2415 : BitVec 32) : Prop :=
  (∀ a, (k0_off806 v2415) a + S1x128.size a ≤ S100000x1024.size a)
theorem k0_off806_inb : ∀ (v2415 : BitVec 32) (k0_hw806 : k0_chk806 v2415), ∀ a, (k0_off806 v2415) a + S1x128.size a ≤ S100000x1024.size a := fun v2415 k0_hw806 => k0_hw806

def k0_off807 (v2418 : BitVec 32) : Fin 2 → Nat :=
  let c768_i32_1613 : BitVec 32 := 768#32
  ![v2418.toNat, 768]

def k0_chk807 (v2418 : BitVec 32) : Prop :=
  (∀ a, (k0_off807 v2418) a + S1x128.size a ≤ S100000x1024.size a)
theorem k0_off807_inb : ∀ (v2418 : BitVec 32) (k0_hw807 : k0_chk807 v2418), ∀ a, (k0_off807 v2418) a + S1x128.size a ≤ S100000x1024.size a := fun v2418 k0_hw807 => k0_hw807

def k0_off808 (v2421 : BitVec 32) : Fin 2 → Nat :=
  let c768_i32_1615 : BitVec 32 := 768#32
  ![v2421.toNat, 768]

def k0_chk808 (v2421 : BitVec 32) : Prop :=
  (∀ a, (k0_off808 v2421) a + S1x128.size a ≤ S100000x1024.size a)
theorem k0_off808_inb : ∀ (v2421 : BitVec 32) (k0_hw808 : k0_chk808 v2421), ∀ a, (k0_off808 v2421) a + S1x128.size a ≤ S100000x1024.size a := fun v2421 k0_hw808 => k0_hw808

def k0_off809 (v2424 : BitVec 32) : Fin 2 → Nat :=
  let c768_i32_1617 : BitVec 32 := 768#32
  ![v2424.toNat, 768]

def k0_chk809 (v2424 : BitVec 32) : Prop :=
  (∀ a, (k0_off809 v2424) a + S1x128.size a ≤ S100000x1024.size a)
theorem k0_off809_inb : ∀ (v2424 : BitVec 32) (k0_hw809 : k0_chk809 v2424), ∀ a, (k0_off809 v2424) a + S1x128.size a ≤ S100000x1024.size a := fun v2424 k0_hw809 => k0_hw809

def k0_off810 (v2427 : BitVec 32) : Fin 2 → Nat :=
  let c768_i32_1619 : BitVec 32 := 768#32
  ![v2427.toNat, 768]

def k0_chk810 (v2427 : BitVec 32) : Prop :=
  (∀ a, (k0_off810 v2427) a + S1x128.size a ≤ S100000x1024.size a)
theorem k0_off810_inb : ∀ (v2427 : BitVec 32) (k0_hw810 : k0_chk810 v2427), ∀ a, (k0_off810 v2427) a + S1x128.size a ≤ S100000x1024.size a := fun v2427 k0_hw810 => k0_hw810

def k0_off811 (v2430 : BitVec 32) : Fin 2 → Nat :=
  let c768_i32_1621 : BitVec 32 := 768#32
  ![v2430.toNat, 768]

def k0_chk811 (v2430 : BitVec 32) : Prop :=
  (∀ a, (k0_off811 v2430) a + S1x128.size a ≤ S100000x1024.size a)
theorem k0_off811_inb : ∀ (v2430 : BitVec 32) (k0_hw811 : k0_chk811 v2430), ∀ a, (k0_off811 v2430) a + S1x128.size a ≤ S100000x1024.size a := fun v2430 k0_hw811 => k0_hw811

def k0_off812 (v2433 : BitVec 32) : Fin 2 → Nat :=
  let c768_i32_1623 : BitVec 32 := 768#32
  ![v2433.toNat, 768]

def k0_chk812 (v2433 : BitVec 32) : Prop :=
  (∀ a, (k0_off812 v2433) a + S1x128.size a ≤ S100000x1024.size a)
theorem k0_off812_inb : ∀ (v2433 : BitVec 32) (k0_hw812 : k0_chk812 v2433), ∀ a, (k0_off812 v2433) a + S1x128.size a ≤ S100000x1024.size a := fun v2433 k0_hw812 => k0_hw812

def k0_off813 (v2436 : BitVec 32) : Fin 2 → Nat :=
  let c768_i32_1625 : BitVec 32 := 768#32
  ![v2436.toNat, 768]

def k0_chk813 (v2436 : BitVec 32) : Prop :=
  (∀ a, (k0_off813 v2436) a + S1x128.size a ≤ S100000x1024.size a)
theorem k0_off813_inb : ∀ (v2436 : BitVec 32) (k0_hw813 : k0_chk813 v2436), ∀ a, (k0_off813 v2436) a + S1x128.size a ≤ S100000x1024.size a := fun v2436 k0_hw813 => k0_hw813

def k0_off814 (v2439 : BitVec 32) : Fin 2 → Nat :=
  let c768_i32_1627 : BitVec 32 := 768#32
  ![v2439.toNat, 768]

def k0_chk814 (v2439 : BitVec 32) : Prop :=
  (∀ a, (k0_off814 v2439) a + S1x128.size a ≤ S100000x1024.size a)
theorem k0_off814_inb : ∀ (v2439 : BitVec 32) (k0_hw814 : k0_chk814 v2439), ∀ a, (k0_off814 v2439) a + S1x128.size a ≤ S100000x1024.size a := fun v2439 k0_hw814 => k0_hw814

def k0_off815 (v2442 : BitVec 32) : Fin 2 → Nat :=
  let c768_i32_1629 : BitVec 32 := 768#32
  ![v2442.toNat, 768]

def k0_chk815 (v2442 : BitVec 32) : Prop :=
  (∀ a, (k0_off815 v2442) a + S1x128.size a ≤ S100000x1024.size a)
theorem k0_off815_inb : ∀ (v2442 : BitVec 32) (k0_hw815 : k0_chk815 v2442), ∀ a, (k0_off815 v2442) a + S1x128.size a ≤ S100000x1024.size a := fun v2442 k0_hw815 => k0_hw815

def k0_off816 (v2445 : BitVec 32) : Fin 2 → Nat :=
  let c768_i32_1631 : BitVec 32 := 768#32
  ![v2445.toNat, 768]

def k0_chk816 (v2445 : BitVec 32) : Prop :=
  (∀ a, (k0_off816 v2445) a + S1x128.size a ≤ S100000x1024.size a)
theorem k0_off816_inb : ∀ (v2445 : BitVec 32) (k0_hw816 : k0_chk816 v2445), ∀ a, (k0_off816 v2445) a + S1x128.size a ≤ S100000x1024.size a := fun v2445 k0_hw816 => k0_hw816

def k0_off817 (v2448 : BitVec 32) : Fin 2 → Nat :=
  let c768_i32_1633 : BitVec 32 := 768#32
  ![v2448.toNat, 768]

def k0_chk817 (v2448 : BitVec 32) : Prop :=
  (∀ a, (k0_off817 v2448) a + S1x128.size a ≤ S100000x1024.size a)
theorem k0_off817_inb : ∀ (v2448 : BitVec 32) (k0_hw817 : k0_chk817 v2448), ∀ a, (k0_off817 v2448) a + S1x128.size a ≤ S100000x1024.size a := fun v2448 k0_hw817 => k0_hw817

def k0_off818 (v2451 : BitVec 32) : Fin 2 → Nat :=
  let c768_i32_1635 : BitVec 32 := 768#32
  ![v2451.toNat, 768]

def k0_chk818 (v2451 : BitVec 32) : Prop :=
  (∀ a, (k0_off818 v2451) a + S1x128.size a ≤ S100000x1024.size a)
theorem k0_off818_inb : ∀ (v2451 : BitVec 32) (k0_hw818 : k0_chk818 v2451), ∀ a, (k0_off818 v2451) a + S1x128.size a ≤ S100000x1024.size a := fun v2451 k0_hw818 => k0_hw818

def k0_off819 (v2454 : BitVec 32) : Fin 2 → Nat :=
  let c768_i32_1637 : BitVec 32 := 768#32
  ![v2454.toNat, 768]

def k0_chk819 (v2454 : BitVec 32) : Prop :=
  (∀ a, (k0_off819 v2454) a + S1x128.size a ≤ S100000x1024.size a)
theorem k0_off819_inb : ∀ (v2454 : BitVec 32) (k0_hw819 : k0_chk819 v2454), ∀ a, (k0_off819 v2454) a + S1x128.size a ≤ S100000x1024.size a := fun v2454 k0_hw819 => k0_hw819

def k0_off820 (v2457 : BitVec 32) : Fin 2 → Nat :=
  let c768_i32_1639 : BitVec 32 := 768#32
  ![v2457.toNat, 768]

def k0_chk820 (v2457 : BitVec 32) : Prop :=
  (∀ a, (k0_off820 v2457) a + S1x128.size a ≤ S100000x1024.size a)
theorem k0_off820_inb : ∀ (v2457 : BitVec 32) (k0_hw820 : k0_chk820 v2457), ∀ a, (k0_off820 v2457) a + S1x128.size a ≤ S100000x1024.size a := fun v2457 k0_hw820 => k0_hw820

def k0_off821 (v2460 : BitVec 32) : Fin 2 → Nat :=
  let c768_i32_1641 : BitVec 32 := 768#32
  ![v2460.toNat, 768]

def k0_chk821 (v2460 : BitVec 32) : Prop :=
  (∀ a, (k0_off821 v2460) a + S1x128.size a ≤ S100000x1024.size a)
theorem k0_off821_inb : ∀ (v2460 : BitVec 32) (k0_hw821 : k0_chk821 v2460), ∀ a, (k0_off821 v2460) a + S1x128.size a ≤ S100000x1024.size a := fun v2460 k0_hw821 => k0_hw821

def k0_off822 (v2463 : BitVec 32) : Fin 2 → Nat :=
  let c768_i32_1643 : BitVec 32 := 768#32
  ![v2463.toNat, 768]

def k0_chk822 (v2463 : BitVec 32) : Prop :=
  (∀ a, (k0_off822 v2463) a + S1x128.size a ≤ S100000x1024.size a)
theorem k0_off822_inb : ∀ (v2463 : BitVec 32) (k0_hw822 : k0_chk822 v2463), ∀ a, (k0_off822 v2463) a + S1x128.size a ≤ S100000x1024.size a := fun v2463 k0_hw822 => k0_hw822

def k0_off823 (v2466 : BitVec 32) : Fin 2 → Nat :=
  let c768_i32_1645 : BitVec 32 := 768#32
  ![v2466.toNat, 768]

def k0_chk823 (v2466 : BitVec 32) : Prop :=
  (∀ a, (k0_off823 v2466) a + S1x128.size a ≤ S100000x1024.size a)
theorem k0_off823_inb : ∀ (v2466 : BitVec 32) (k0_hw823 : k0_chk823 v2466), ∀ a, (k0_off823 v2466) a + S1x128.size a ≤ S100000x1024.size a := fun v2466 k0_hw823 => k0_hw823

def k0_off824 (v2469 : BitVec 32) : Fin 2 → Nat :=
  let c768_i32_1647 : BitVec 32 := 768#32
  ![v2469.toNat, 768]

def k0_chk824 (v2469 : BitVec 32) : Prop :=
  (∀ a, (k0_off824 v2469) a + S1x128.size a ≤ S100000x1024.size a)
theorem k0_off824_inb : ∀ (v2469 : BitVec 32) (k0_hw824 : k0_chk824 v2469), ∀ a, (k0_off824 v2469) a + S1x128.size a ≤ S100000x1024.size a := fun v2469 k0_hw824 => k0_hw824

def k0_off825 (v2472 : BitVec 32) : Fin 2 → Nat :=
  let c768_i32_1649 : BitVec 32 := 768#32
  ![v2472.toNat, 768]

def k0_chk825 (v2472 : BitVec 32) : Prop :=
  (∀ a, (k0_off825 v2472) a + S1x128.size a ≤ S100000x1024.size a)
theorem k0_off825_inb : ∀ (v2472 : BitVec 32) (k0_hw825 : k0_chk825 v2472), ∀ a, (k0_off825 v2472) a + S1x128.size a ≤ S100000x1024.size a := fun v2472 k0_hw825 => k0_hw825

def k0_off826 (v2475 : BitVec 32) : Fin 2 → Nat :=
  let c768_i32_1651 : BitVec 32 := 768#32
  ![v2475.toNat, 768]

def k0_chk826 (v2475 : BitVec 32) : Prop :=
  (∀ a, (k0_off826 v2475) a + S1x128.size a ≤ S100000x1024.size a)
theorem k0_off826_inb : ∀ (v2475 : BitVec 32) (k0_hw826 : k0_chk826 v2475), ∀ a, (k0_off826 v2475) a + S1x128.size a ≤ S100000x1024.size a := fun v2475 k0_hw826 => k0_hw826

def k0_off827 (v2478 : BitVec 32) : Fin 2 → Nat :=
  let c768_i32_1653 : BitVec 32 := 768#32
  ![v2478.toNat, 768]

def k0_chk827 (v2478 : BitVec 32) : Prop :=
  (∀ a, (k0_off827 v2478) a + S1x128.size a ≤ S100000x1024.size a)
theorem k0_off827_inb : ∀ (v2478 : BitVec 32) (k0_hw827 : k0_chk827 v2478), ∀ a, (k0_off827 v2478) a + S1x128.size a ≤ S100000x1024.size a := fun v2478 k0_hw827 => k0_hw827

def k0_off828 (v2481 : BitVec 32) : Fin 2 → Nat :=
  let c768_i32_1655 : BitVec 32 := 768#32
  ![v2481.toNat, 768]

def k0_chk828 (v2481 : BitVec 32) : Prop :=
  (∀ a, (k0_off828 v2481) a + S1x128.size a ≤ S100000x1024.size a)
theorem k0_off828_inb : ∀ (v2481 : BitVec 32) (k0_hw828 : k0_chk828 v2481), ∀ a, (k0_off828 v2481) a + S1x128.size a ≤ S100000x1024.size a := fun v2481 k0_hw828 => k0_hw828

def k0_off829 (v2484 : BitVec 32) : Fin 2 → Nat :=
  let c768_i32_1657 : BitVec 32 := 768#32
  ![v2484.toNat, 768]

def k0_chk829 (v2484 : BitVec 32) : Prop :=
  (∀ a, (k0_off829 v2484) a + S1x128.size a ≤ S100000x1024.size a)
theorem k0_off829_inb : ∀ (v2484 : BitVec 32) (k0_hw829 : k0_chk829 v2484), ∀ a, (k0_off829 v2484) a + S1x128.size a ≤ S100000x1024.size a := fun v2484 k0_hw829 => k0_hw829

def k0_off830 (v2487 : BitVec 32) : Fin 2 → Nat :=
  let c768_i32_1659 : BitVec 32 := 768#32
  ![v2487.toNat, 768]

def k0_chk830 (v2487 : BitVec 32) : Prop :=
  (∀ a, (k0_off830 v2487) a + S1x128.size a ≤ S100000x1024.size a)
theorem k0_off830_inb : ∀ (v2487 : BitVec 32) (k0_hw830 : k0_chk830 v2487), ∀ a, (k0_off830 v2487) a + S1x128.size a ≤ S100000x1024.size a := fun v2487 k0_hw830 => k0_hw830

def k0_off831 (v2490 : BitVec 32) : Fin 2 → Nat :=
  let c768_i32_1661 : BitVec 32 := 768#32
  ![v2490.toNat, 768]

def k0_chk831 (v2490 : BitVec 32) : Prop :=
  (∀ a, (k0_off831 v2490) a + S1x128.size a ≤ S100000x1024.size a)
theorem k0_off831_inb : ∀ (v2490 : BitVec 32) (k0_hw831 : k0_chk831 v2490), ∀ a, (k0_off831 v2490) a + S1x128.size a ≤ S100000x1024.size a := fun v2490 k0_hw831 => k0_hw831

def k0_off832 (v2493 : BitVec 32) : Fin 2 → Nat :=
  let c768_i32_1663 : BitVec 32 := 768#32
  ![v2493.toNat, 768]

def k0_chk832 (v2493 : BitVec 32) : Prop :=
  (∀ a, (k0_off832 v2493) a + S1x128.size a ≤ S100000x1024.size a)
theorem k0_off832_inb : ∀ (v2493 : BitVec 32) (k0_hw832 : k0_chk832 v2493), ∀ a, (k0_off832 v2493) a + S1x128.size a ≤ S100000x1024.size a := fun v2493 k0_hw832 => k0_hw832

def k0_off833 (v2496 : BitVec 32) : Fin 2 → Nat :=
  let c768_i32_1665 : BitVec 32 := 768#32
  ![v2496.toNat, 768]

def k0_chk833 (v2496 : BitVec 32) : Prop :=
  (∀ a, (k0_off833 v2496) a + S1x128.size a ≤ S100000x1024.size a)
theorem k0_off833_inb : ∀ (v2496 : BitVec 32) (k0_hw833 : k0_chk833 v2496), ∀ a, (k0_off833 v2496) a + S1x128.size a ≤ S100000x1024.size a := fun v2496 k0_hw833 => k0_hw833

def k0_off834 (v2499 : BitVec 32) : Fin 2 → Nat :=
  let c768_i32_1667 : BitVec 32 := 768#32
  ![v2499.toNat, 768]

def k0_chk834 (v2499 : BitVec 32) : Prop :=
  (∀ a, (k0_off834 v2499) a + S1x128.size a ≤ S100000x1024.size a)
theorem k0_off834_inb : ∀ (v2499 : BitVec 32) (k0_hw834 : k0_chk834 v2499), ∀ a, (k0_off834 v2499) a + S1x128.size a ≤ S100000x1024.size a := fun v2499 k0_hw834 => k0_hw834

def k0_off835 (v2502 : BitVec 32) : Fin 2 → Nat :=
  let c768_i32_1669 : BitVec 32 := 768#32
  ![v2502.toNat, 768]

def k0_chk835 (v2502 : BitVec 32) : Prop :=
  (∀ a, (k0_off835 v2502) a + S1x128.size a ≤ S100000x1024.size a)
theorem k0_off835_inb : ∀ (v2502 : BitVec 32) (k0_hw835 : k0_chk835 v2502), ∀ a, (k0_off835 v2502) a + S1x128.size a ≤ S100000x1024.size a := fun v2502 k0_hw835 => k0_hw835

def k0_off836 (v2505 : BitVec 32) : Fin 2 → Nat :=
  let c768_i32_1671 : BitVec 32 := 768#32
  ![v2505.toNat, 768]

def k0_chk836 (v2505 : BitVec 32) : Prop :=
  (∀ a, (k0_off836 v2505) a + S1x128.size a ≤ S100000x1024.size a)
theorem k0_off836_inb : ∀ (v2505 : BitVec 32) (k0_hw836 : k0_chk836 v2505), ∀ a, (k0_off836 v2505) a + S1x128.size a ≤ S100000x1024.size a := fun v2505 k0_hw836 => k0_hw836

def k0_off837 (v2508 : BitVec 32) : Fin 2 → Nat :=
  let c768_i32_1673 : BitVec 32 := 768#32
  ![v2508.toNat, 768]

def k0_chk837 (v2508 : BitVec 32) : Prop :=
  (∀ a, (k0_off837 v2508) a + S1x128.size a ≤ S100000x1024.size a)
theorem k0_off837_inb : ∀ (v2508 : BitVec 32) (k0_hw837 : k0_chk837 v2508), ∀ a, (k0_off837 v2508) a + S1x128.size a ≤ S100000x1024.size a := fun v2508 k0_hw837 => k0_hw837

def k0_off838 (v2511 : BitVec 32) : Fin 2 → Nat :=
  let c768_i32_1675 : BitVec 32 := 768#32
  ![v2511.toNat, 768]

def k0_chk838 (v2511 : BitVec 32) : Prop :=
  (∀ a, (k0_off838 v2511) a + S1x128.size a ≤ S100000x1024.size a)
theorem k0_off838_inb : ∀ (v2511 : BitVec 32) (k0_hw838 : k0_chk838 v2511), ∀ a, (k0_off838 v2511) a + S1x128.size a ≤ S100000x1024.size a := fun v2511 k0_hw838 => k0_hw838

def k0_off839 (v2514 : BitVec 32) : Fin 2 → Nat :=
  let c768_i32_1677 : BitVec 32 := 768#32
  ![v2514.toNat, 768]

def k0_chk839 (v2514 : BitVec 32) : Prop :=
  (∀ a, (k0_off839 v2514) a + S1x128.size a ≤ S100000x1024.size a)
theorem k0_off839_inb : ∀ (v2514 : BitVec 32) (k0_hw839 : k0_chk839 v2514), ∀ a, (k0_off839 v2514) a + S1x128.size a ≤ S100000x1024.size a := fun v2514 k0_hw839 => k0_hw839

def k0_off840 (v2517 : BitVec 32) : Fin 2 → Nat :=
  let c768_i32_1679 : BitVec 32 := 768#32
  ![v2517.toNat, 768]

def k0_chk840 (v2517 : BitVec 32) : Prop :=
  (∀ a, (k0_off840 v2517) a + S1x128.size a ≤ S100000x1024.size a)
theorem k0_off840_inb : ∀ (v2517 : BitVec 32) (k0_hw840 : k0_chk840 v2517), ∀ a, (k0_off840 v2517) a + S1x128.size a ≤ S100000x1024.size a := fun v2517 k0_hw840 => k0_hw840

def k0_off841 (v2520 : BitVec 32) : Fin 2 → Nat :=
  let c768_i32_1681 : BitVec 32 := 768#32
  ![v2520.toNat, 768]

def k0_chk841 (v2520 : BitVec 32) : Prop :=
  (∀ a, (k0_off841 v2520) a + S1x128.size a ≤ S100000x1024.size a)
theorem k0_off841_inb : ∀ (v2520 : BitVec 32) (k0_hw841 : k0_chk841 v2520), ∀ a, (k0_off841 v2520) a + S1x128.size a ≤ S100000x1024.size a := fun v2520 k0_hw841 => k0_hw841

def k0_off842 (v2523 : BitVec 32) : Fin 2 → Nat :=
  let c768_i32_1683 : BitVec 32 := 768#32
  ![v2523.toNat, 768]

def k0_chk842 (v2523 : BitVec 32) : Prop :=
  (∀ a, (k0_off842 v2523) a + S1x128.size a ≤ S100000x1024.size a)
theorem k0_off842_inb : ∀ (v2523 : BitVec 32) (k0_hw842 : k0_chk842 v2523), ∀ a, (k0_off842 v2523) a + S1x128.size a ≤ S100000x1024.size a := fun v2523 k0_hw842 => k0_hw842

def k0_off843 (v2526 : BitVec 32) : Fin 2 → Nat :=
  let c768_i32_1685 : BitVec 32 := 768#32
  ![v2526.toNat, 768]

def k0_chk843 (v2526 : BitVec 32) : Prop :=
  (∀ a, (k0_off843 v2526) a + S1x128.size a ≤ S100000x1024.size a)
theorem k0_off843_inb : ∀ (v2526 : BitVec 32) (k0_hw843 : k0_chk843 v2526), ∀ a, (k0_off843 v2526) a + S1x128.size a ≤ S100000x1024.size a := fun v2526 k0_hw843 => k0_hw843

def k0_off844 (v2529 : BitVec 32) : Fin 2 → Nat :=
  let c768_i32_1687 : BitVec 32 := 768#32
  ![v2529.toNat, 768]

def k0_chk844 (v2529 : BitVec 32) : Prop :=
  (∀ a, (k0_off844 v2529) a + S1x128.size a ≤ S100000x1024.size a)
theorem k0_off844_inb : ∀ (v2529 : BitVec 32) (k0_hw844 : k0_chk844 v2529), ∀ a, (k0_off844 v2529) a + S1x128.size a ≤ S100000x1024.size a := fun v2529 k0_hw844 => k0_hw844

def k0_off845 (v2532 : BitVec 32) : Fin 2 → Nat :=
  let c768_i32_1689 : BitVec 32 := 768#32
  ![v2532.toNat, 768]

def k0_chk845 (v2532 : BitVec 32) : Prop :=
  (∀ a, (k0_off845 v2532) a + S1x128.size a ≤ S100000x1024.size a)
theorem k0_off845_inb : ∀ (v2532 : BitVec 32) (k0_hw845 : k0_chk845 v2532), ∀ a, (k0_off845 v2532) a + S1x128.size a ≤ S100000x1024.size a := fun v2532 k0_hw845 => k0_hw845

def k0_off846 (v2535 : BitVec 32) : Fin 2 → Nat :=
  let c768_i32_1691 : BitVec 32 := 768#32
  ![v2535.toNat, 768]

def k0_chk846 (v2535 : BitVec 32) : Prop :=
  (∀ a, (k0_off846 v2535) a + S1x128.size a ≤ S100000x1024.size a)
theorem k0_off846_inb : ∀ (v2535 : BitVec 32) (k0_hw846 : k0_chk846 v2535), ∀ a, (k0_off846 v2535) a + S1x128.size a ≤ S100000x1024.size a := fun v2535 k0_hw846 => k0_hw846

def k0_off847 (v2538 : BitVec 32) : Fin 2 → Nat :=
  let c768_i32_1693 : BitVec 32 := 768#32
  ![v2538.toNat, 768]

def k0_chk847 (v2538 : BitVec 32) : Prop :=
  (∀ a, (k0_off847 v2538) a + S1x128.size a ≤ S100000x1024.size a)
theorem k0_off847_inb : ∀ (v2538 : BitVec 32) (k0_hw847 : k0_chk847 v2538), ∀ a, (k0_off847 v2538) a + S1x128.size a ≤ S100000x1024.size a := fun v2538 k0_hw847 => k0_hw847

def k0_off848 (v2541 : BitVec 32) : Fin 2 → Nat :=
  let c768_i32_1695 : BitVec 32 := 768#32
  ![v2541.toNat, 768]

def k0_chk848 (v2541 : BitVec 32) : Prop :=
  (∀ a, (k0_off848 v2541) a + S1x128.size a ≤ S100000x1024.size a)
theorem k0_off848_inb : ∀ (v2541 : BitVec 32) (k0_hw848 : k0_chk848 v2541), ∀ a, (k0_off848 v2541) a + S1x128.size a ≤ S100000x1024.size a := fun v2541 k0_hw848 => k0_hw848

def k0_off849 (v2544 : BitVec 32) : Fin 2 → Nat :=
  let c768_i32_1697 : BitVec 32 := 768#32
  ![v2544.toNat, 768]

def k0_chk849 (v2544 : BitVec 32) : Prop :=
  (∀ a, (k0_off849 v2544) a + S1x128.size a ≤ S100000x1024.size a)
theorem k0_off849_inb : ∀ (v2544 : BitVec 32) (k0_hw849 : k0_chk849 v2544), ∀ a, (k0_off849 v2544) a + S1x128.size a ≤ S100000x1024.size a := fun v2544 k0_hw849 => k0_hw849

def k0_off850 (v2547 : BitVec 32) : Fin 2 → Nat :=
  let c768_i32_1699 : BitVec 32 := 768#32
  ![v2547.toNat, 768]

def k0_chk850 (v2547 : BitVec 32) : Prop :=
  (∀ a, (k0_off850 v2547) a + S1x128.size a ≤ S100000x1024.size a)
theorem k0_off850_inb : ∀ (v2547 : BitVec 32) (k0_hw850 : k0_chk850 v2547), ∀ a, (k0_off850 v2547) a + S1x128.size a ≤ S100000x1024.size a := fun v2547 k0_hw850 => k0_hw850

def k0_off851 (v2550 : BitVec 32) : Fin 2 → Nat :=
  let c768_i32_1701 : BitVec 32 := 768#32
  ![v2550.toNat, 768]

def k0_chk851 (v2550 : BitVec 32) : Prop :=
  (∀ a, (k0_off851 v2550) a + S1x128.size a ≤ S100000x1024.size a)
theorem k0_off851_inb : ∀ (v2550 : BitVec 32) (k0_hw851 : k0_chk851 v2550), ∀ a, (k0_off851 v2550) a + S1x128.size a ≤ S100000x1024.size a := fun v2550 k0_hw851 => k0_hw851

def k0_off852 (v2553 : BitVec 32) : Fin 2 → Nat :=
  let c768_i32_1703 : BitVec 32 := 768#32
  ![v2553.toNat, 768]

def k0_chk852 (v2553 : BitVec 32) : Prop :=
  (∀ a, (k0_off852 v2553) a + S1x128.size a ≤ S100000x1024.size a)
theorem k0_off852_inb : ∀ (v2553 : BitVec 32) (k0_hw852 : k0_chk852 v2553), ∀ a, (k0_off852 v2553) a + S1x128.size a ≤ S100000x1024.size a := fun v2553 k0_hw852 => k0_hw852

def k0_off853 (v2556 : BitVec 32) : Fin 2 → Nat :=
  let c768_i32_1705 : BitVec 32 := 768#32
  ![v2556.toNat, 768]

def k0_chk853 (v2556 : BitVec 32) : Prop :=
  (∀ a, (k0_off853 v2556) a + S1x128.size a ≤ S100000x1024.size a)
theorem k0_off853_inb : ∀ (v2556 : BitVec 32) (k0_hw853 : k0_chk853 v2556), ∀ a, (k0_off853 v2556) a + S1x128.size a ≤ S100000x1024.size a := fun v2556 k0_hw853 => k0_hw853

def k0_off854 (v2559 : BitVec 32) : Fin 2 → Nat :=
  let c768_i32_1707 : BitVec 32 := 768#32
  ![v2559.toNat, 768]

def k0_chk854 (v2559 : BitVec 32) : Prop :=
  (∀ a, (k0_off854 v2559) a + S1x128.size a ≤ S100000x1024.size a)
theorem k0_off854_inb : ∀ (v2559 : BitVec 32) (k0_hw854 : k0_chk854 v2559), ∀ a, (k0_off854 v2559) a + S1x128.size a ≤ S100000x1024.size a := fun v2559 k0_hw854 => k0_hw854

def k0_off855 (v2562 : BitVec 32) : Fin 2 → Nat :=
  let c768_i32_1709 : BitVec 32 := 768#32
  ![v2562.toNat, 768]

def k0_chk855 (v2562 : BitVec 32) : Prop :=
  (∀ a, (k0_off855 v2562) a + S1x128.size a ≤ S100000x1024.size a)
theorem k0_off855_inb : ∀ (v2562 : BitVec 32) (k0_hw855 : k0_chk855 v2562), ∀ a, (k0_off855 v2562) a + S1x128.size a ≤ S100000x1024.size a := fun v2562 k0_hw855 => k0_hw855

def k0_off856 (v2565 : BitVec 32) : Fin 2 → Nat :=
  let c768_i32_1711 : BitVec 32 := 768#32
  ![v2565.toNat, 768]

def k0_chk856 (v2565 : BitVec 32) : Prop :=
  (∀ a, (k0_off856 v2565) a + S1x128.size a ≤ S100000x1024.size a)
theorem k0_off856_inb : ∀ (v2565 : BitVec 32) (k0_hw856 : k0_chk856 v2565), ∀ a, (k0_off856 v2565) a + S1x128.size a ≤ S100000x1024.size a := fun v2565 k0_hw856 => k0_hw856

def k0_off857 (v2568 : BitVec 32) : Fin 2 → Nat :=
  let c768_i32_1713 : BitVec 32 := 768#32
  ![v2568.toNat, 768]

def k0_chk857 (v2568 : BitVec 32) : Prop :=
  (∀ a, (k0_off857 v2568) a + S1x128.size a ≤ S100000x1024.size a)
theorem k0_off857_inb : ∀ (v2568 : BitVec 32) (k0_hw857 : k0_chk857 v2568), ∀ a, (k0_off857 v2568) a + S1x128.size a ≤ S100000x1024.size a := fun v2568 k0_hw857 => k0_hw857

def k0_off858 (v2571 : BitVec 32) : Fin 2 → Nat :=
  let c768_i32_1715 : BitVec 32 := 768#32
  ![v2571.toNat, 768]

def k0_chk858 (v2571 : BitVec 32) : Prop :=
  (∀ a, (k0_off858 v2571) a + S1x128.size a ≤ S100000x1024.size a)
theorem k0_off858_inb : ∀ (v2571 : BitVec 32) (k0_hw858 : k0_chk858 v2571), ∀ a, (k0_off858 v2571) a + S1x128.size a ≤ S100000x1024.size a := fun v2571 k0_hw858 => k0_hw858

def k0_off859 (v2574 : BitVec 32) : Fin 2 → Nat :=
  let c768_i32_1717 : BitVec 32 := 768#32
  ![v2574.toNat, 768]

def k0_chk859 (v2574 : BitVec 32) : Prop :=
  (∀ a, (k0_off859 v2574) a + S1x128.size a ≤ S100000x1024.size a)
theorem k0_off859_inb : ∀ (v2574 : BitVec 32) (k0_hw859 : k0_chk859 v2574), ∀ a, (k0_off859 v2574) a + S1x128.size a ≤ S100000x1024.size a := fun v2574 k0_hw859 => k0_hw859

def k0_off860 (v2577 : BitVec 32) : Fin 2 → Nat :=
  let c768_i32_1719 : BitVec 32 := 768#32
  ![v2577.toNat, 768]

def k0_chk860 (v2577 : BitVec 32) : Prop :=
  (∀ a, (k0_off860 v2577) a + S1x128.size a ≤ S100000x1024.size a)
theorem k0_off860_inb : ∀ (v2577 : BitVec 32) (k0_hw860 : k0_chk860 v2577), ∀ a, (k0_off860 v2577) a + S1x128.size a ≤ S100000x1024.size a := fun v2577 k0_hw860 => k0_hw860

def k0_off861 (v2580 : BitVec 32) : Fin 2 → Nat :=
  let c768_i32_1721 : BitVec 32 := 768#32
  ![v2580.toNat, 768]

def k0_chk861 (v2580 : BitVec 32) : Prop :=
  (∀ a, (k0_off861 v2580) a + S1x128.size a ≤ S100000x1024.size a)
theorem k0_off861_inb : ∀ (v2580 : BitVec 32) (k0_hw861 : k0_chk861 v2580), ∀ a, (k0_off861 v2580) a + S1x128.size a ≤ S100000x1024.size a := fun v2580 k0_hw861 => k0_hw861

def k0_off862 (v2583 : BitVec 32) : Fin 2 → Nat :=
  let c768_i32_1723 : BitVec 32 := 768#32
  ![v2583.toNat, 768]

def k0_chk862 (v2583 : BitVec 32) : Prop :=
  (∀ a, (k0_off862 v2583) a + S1x128.size a ≤ S100000x1024.size a)
theorem k0_off862_inb : ∀ (v2583 : BitVec 32) (k0_hw862 : k0_chk862 v2583), ∀ a, (k0_off862 v2583) a + S1x128.size a ≤ S100000x1024.size a := fun v2583 k0_hw862 => k0_hw862

def k0_off863 (v2586 : BitVec 32) : Fin 2 → Nat :=
  let c768_i32_1725 : BitVec 32 := 768#32
  ![v2586.toNat, 768]

def k0_chk863 (v2586 : BitVec 32) : Prop :=
  (∀ a, (k0_off863 v2586) a + S1x128.size a ≤ S100000x1024.size a)
theorem k0_off863_inb : ∀ (v2586 : BitVec 32) (k0_hw863 : k0_chk863 v2586), ∀ a, (k0_off863 v2586) a + S1x128.size a ≤ S100000x1024.size a := fun v2586 k0_hw863 => k0_hw863

def k0_off864 (v2589 : BitVec 32) : Fin 2 → Nat :=
  let c768_i32_1727 : BitVec 32 := 768#32
  ![v2589.toNat, 768]

def k0_chk864 (v2589 : BitVec 32) : Prop :=
  (∀ a, (k0_off864 v2589) a + S1x128.size a ≤ S100000x1024.size a)
theorem k0_off864_inb : ∀ (v2589 : BitVec 32) (k0_hw864 : k0_chk864 v2589), ∀ a, (k0_off864 v2589) a + S1x128.size a ≤ S100000x1024.size a := fun v2589 k0_hw864 => k0_hw864

def k0_off865 (v2592 : BitVec 32) : Fin 2 → Nat :=
  let c768_i32_1729 : BitVec 32 := 768#32
  ![v2592.toNat, 768]

def k0_chk865 (v2592 : BitVec 32) : Prop :=
  (∀ a, (k0_off865 v2592) a + S1x128.size a ≤ S100000x1024.size a)
theorem k0_off865_inb : ∀ (v2592 : BitVec 32) (k0_hw865 : k0_chk865 v2592), ∀ a, (k0_off865 v2592) a + S1x128.size a ≤ S100000x1024.size a := fun v2592 k0_hw865 => k0_hw865

def k0_off866 (v2595 : BitVec 32) : Fin 2 → Nat :=
  let c768_i32_1731 : BitVec 32 := 768#32
  ![v2595.toNat, 768]

def k0_chk866 (v2595 : BitVec 32) : Prop :=
  (∀ a, (k0_off866 v2595) a + S1x128.size a ≤ S100000x1024.size a)
theorem k0_off866_inb : ∀ (v2595 : BitVec 32) (k0_hw866 : k0_chk866 v2595), ∀ a, (k0_off866 v2595) a + S1x128.size a ≤ S100000x1024.size a := fun v2595 k0_hw866 => k0_hw866

def k0_off867 (v2598 : BitVec 32) : Fin 2 → Nat :=
  let c768_i32_1733 : BitVec 32 := 768#32
  ![v2598.toNat, 768]

def k0_chk867 (v2598 : BitVec 32) : Prop :=
  (∀ a, (k0_off867 v2598) a + S1x128.size a ≤ S100000x1024.size a)
theorem k0_off867_inb : ∀ (v2598 : BitVec 32) (k0_hw867 : k0_chk867 v2598), ∀ a, (k0_off867 v2598) a + S1x128.size a ≤ S100000x1024.size a := fun v2598 k0_hw867 => k0_hw867

def k0_off868 (v2601 : BitVec 32) : Fin 2 → Nat :=
  let c768_i32_1735 : BitVec 32 := 768#32
  ![v2601.toNat, 768]

def k0_chk868 (v2601 : BitVec 32) : Prop :=
  (∀ a, (k0_off868 v2601) a + S1x128.size a ≤ S100000x1024.size a)
theorem k0_off868_inb : ∀ (v2601 : BitVec 32) (k0_hw868 : k0_chk868 v2601), ∀ a, (k0_off868 v2601) a + S1x128.size a ≤ S100000x1024.size a := fun v2601 k0_hw868 => k0_hw868

def k0_off869 (v2604 : BitVec 32) : Fin 2 → Nat :=
  let c768_i32_1737 : BitVec 32 := 768#32
  ![v2604.toNat, 768]

def k0_chk869 (v2604 : BitVec 32) : Prop :=
  (∀ a, (k0_off869 v2604) a + S1x128.size a ≤ S100000x1024.size a)
theorem k0_off869_inb : ∀ (v2604 : BitVec 32) (k0_hw869 : k0_chk869 v2604), ∀ a, (k0_off869 v2604) a + S1x128.size a ≤ S100000x1024.size a := fun v2604 k0_hw869 => k0_hw869

def k0_off870 (v2607 : BitVec 32) : Fin 2 → Nat :=
  let c768_i32_1739 : BitVec 32 := 768#32
  ![v2607.toNat, 768]

def k0_chk870 (v2607 : BitVec 32) : Prop :=
  (∀ a, (k0_off870 v2607) a + S1x128.size a ≤ S100000x1024.size a)
theorem k0_off870_inb : ∀ (v2607 : BitVec 32) (k0_hw870 : k0_chk870 v2607), ∀ a, (k0_off870 v2607) a + S1x128.size a ≤ S100000x1024.size a := fun v2607 k0_hw870 => k0_hw870

def k0_off871 (v2610 : BitVec 32) : Fin 2 → Nat :=
  let c768_i32_1741 : BitVec 32 := 768#32
  ![v2610.toNat, 768]

def k0_chk871 (v2610 : BitVec 32) : Prop :=
  (∀ a, (k0_off871 v2610) a + S1x128.size a ≤ S100000x1024.size a)
theorem k0_off871_inb : ∀ (v2610 : BitVec 32) (k0_hw871 : k0_chk871 v2610), ∀ a, (k0_off871 v2610) a + S1x128.size a ≤ S100000x1024.size a := fun v2610 k0_hw871 => k0_hw871

def k0_off872 (v2613 : BitVec 32) : Fin 2 → Nat :=
  let c768_i32_1743 : BitVec 32 := 768#32
  ![v2613.toNat, 768]

def k0_chk872 (v2613 : BitVec 32) : Prop :=
  (∀ a, (k0_off872 v2613) a + S1x128.size a ≤ S100000x1024.size a)
theorem k0_off872_inb : ∀ (v2613 : BitVec 32) (k0_hw872 : k0_chk872 v2613), ∀ a, (k0_off872 v2613) a + S1x128.size a ≤ S100000x1024.size a := fun v2613 k0_hw872 => k0_hw872

def k0_off873 (v2616 : BitVec 32) : Fin 2 → Nat :=
  let c768_i32_1745 : BitVec 32 := 768#32
  ![v2616.toNat, 768]

def k0_chk873 (v2616 : BitVec 32) : Prop :=
  (∀ a, (k0_off873 v2616) a + S1x128.size a ≤ S100000x1024.size a)
theorem k0_off873_inb : ∀ (v2616 : BitVec 32) (k0_hw873 : k0_chk873 v2616), ∀ a, (k0_off873 v2616) a + S1x128.size a ≤ S100000x1024.size a := fun v2616 k0_hw873 => k0_hw873

def k0_off874 (v2619 : BitVec 32) : Fin 2 → Nat :=
  let c768_i32_1747 : BitVec 32 := 768#32
  ![v2619.toNat, 768]

def k0_chk874 (v2619 : BitVec 32) : Prop :=
  (∀ a, (k0_off874 v2619) a + S1x128.size a ≤ S100000x1024.size a)
theorem k0_off874_inb : ∀ (v2619 : BitVec 32) (k0_hw874 : k0_chk874 v2619), ∀ a, (k0_off874 v2619) a + S1x128.size a ≤ S100000x1024.size a := fun v2619 k0_hw874 => k0_hw874

def k0_off875 (v2622 : BitVec 32) : Fin 2 → Nat :=
  let c768_i32_1749 : BitVec 32 := 768#32
  ![v2622.toNat, 768]

def k0_chk875 (v2622 : BitVec 32) : Prop :=
  (∀ a, (k0_off875 v2622) a + S1x128.size a ≤ S100000x1024.size a)
theorem k0_off875_inb : ∀ (v2622 : BitVec 32) (k0_hw875 : k0_chk875 v2622), ∀ a, (k0_off875 v2622) a + S1x128.size a ≤ S100000x1024.size a := fun v2622 k0_hw875 => k0_hw875

def k0_off876 (v2625 : BitVec 32) : Fin 2 → Nat :=
  let c768_i32_1751 : BitVec 32 := 768#32
  ![v2625.toNat, 768]

def k0_chk876 (v2625 : BitVec 32) : Prop :=
  (∀ a, (k0_off876 v2625) a + S1x128.size a ≤ S100000x1024.size a)
theorem k0_off876_inb : ∀ (v2625 : BitVec 32) (k0_hw876 : k0_chk876 v2625), ∀ a, (k0_off876 v2625) a + S1x128.size a ≤ S100000x1024.size a := fun v2625 k0_hw876 => k0_hw876

def k0_off877 (v2628 : BitVec 32) : Fin 2 → Nat :=
  let c768_i32_1753 : BitVec 32 := 768#32
  ![v2628.toNat, 768]

def k0_chk877 (v2628 : BitVec 32) : Prop :=
  (∀ a, (k0_off877 v2628) a + S1x128.size a ≤ S100000x1024.size a)
theorem k0_off877_inb : ∀ (v2628 : BitVec 32) (k0_hw877 : k0_chk877 v2628), ∀ a, (k0_off877 v2628) a + S1x128.size a ≤ S100000x1024.size a := fun v2628 k0_hw877 => k0_hw877

def k0_off878 (v2631 : BitVec 32) : Fin 2 → Nat :=
  let c768_i32_1755 : BitVec 32 := 768#32
  ![v2631.toNat, 768]

def k0_chk878 (v2631 : BitVec 32) : Prop :=
  (∀ a, (k0_off878 v2631) a + S1x128.size a ≤ S100000x1024.size a)
theorem k0_off878_inb : ∀ (v2631 : BitVec 32) (k0_hw878 : k0_chk878 v2631), ∀ a, (k0_off878 v2631) a + S1x128.size a ≤ S100000x1024.size a := fun v2631 k0_hw878 => k0_hw878

def k0_off879 (v2634 : BitVec 32) : Fin 2 → Nat :=
  let c768_i32_1757 : BitVec 32 := 768#32
  ![v2634.toNat, 768]

def k0_chk879 (v2634 : BitVec 32) : Prop :=
  (∀ a, (k0_off879 v2634) a + S1x128.size a ≤ S100000x1024.size a)
theorem k0_off879_inb : ∀ (v2634 : BitVec 32) (k0_hw879 : k0_chk879 v2634), ∀ a, (k0_off879 v2634) a + S1x128.size a ≤ S100000x1024.size a := fun v2634 k0_hw879 => k0_hw879

def k0_off880 (v2637 : BitVec 32) : Fin 2 → Nat :=
  let c768_i32_1759 : BitVec 32 := 768#32
  ![v2637.toNat, 768]

def k0_chk880 (v2637 : BitVec 32) : Prop :=
  (∀ a, (k0_off880 v2637) a + S1x128.size a ≤ S100000x1024.size a)
theorem k0_off880_inb : ∀ (v2637 : BitVec 32) (k0_hw880 : k0_chk880 v2637), ∀ a, (k0_off880 v2637) a + S1x128.size a ≤ S100000x1024.size a := fun v2637 k0_hw880 => k0_hw880

def k0_off881 (v2640 : BitVec 32) : Fin 2 → Nat :=
  let c768_i32_1761 : BitVec 32 := 768#32
  ![v2640.toNat, 768]

def k0_chk881 (v2640 : BitVec 32) : Prop :=
  (∀ a, (k0_off881 v2640) a + S1x128.size a ≤ S100000x1024.size a)
theorem k0_off881_inb : ∀ (v2640 : BitVec 32) (k0_hw881 : k0_chk881 v2640), ∀ a, (k0_off881 v2640) a + S1x128.size a ≤ S100000x1024.size a := fun v2640 k0_hw881 => k0_hw881

def k0_off882 (v2643 : BitVec 32) : Fin 2 → Nat :=
  let c768_i32_1763 : BitVec 32 := 768#32
  ![v2643.toNat, 768]

def k0_chk882 (v2643 : BitVec 32) : Prop :=
  (∀ a, (k0_off882 v2643) a + S1x128.size a ≤ S100000x1024.size a)
theorem k0_off882_inb : ∀ (v2643 : BitVec 32) (k0_hw882 : k0_chk882 v2643), ∀ a, (k0_off882 v2643) a + S1x128.size a ≤ S100000x1024.size a := fun v2643 k0_hw882 => k0_hw882

def k0_off883 (v2646 : BitVec 32) : Fin 2 → Nat :=
  let c768_i32_1765 : BitVec 32 := 768#32
  ![v2646.toNat, 768]

def k0_chk883 (v2646 : BitVec 32) : Prop :=
  (∀ a, (k0_off883 v2646) a + S1x128.size a ≤ S100000x1024.size a)
theorem k0_off883_inb : ∀ (v2646 : BitVec 32) (k0_hw883 : k0_chk883 v2646), ∀ a, (k0_off883 v2646) a + S1x128.size a ≤ S100000x1024.size a := fun v2646 k0_hw883 => k0_hw883

def k0_off884 (v2649 : BitVec 32) : Fin 2 → Nat :=
  let c768_i32_1767 : BitVec 32 := 768#32
  ![v2649.toNat, 768]

def k0_chk884 (v2649 : BitVec 32) : Prop :=
  (∀ a, (k0_off884 v2649) a + S1x128.size a ≤ S100000x1024.size a)
theorem k0_off884_inb : ∀ (v2649 : BitVec 32) (k0_hw884 : k0_chk884 v2649), ∀ a, (k0_off884 v2649) a + S1x128.size a ≤ S100000x1024.size a := fun v2649 k0_hw884 => k0_hw884

def k0_off885 (v2652 : BitVec 32) : Fin 2 → Nat :=
  let c768_i32_1769 : BitVec 32 := 768#32
  ![v2652.toNat, 768]

def k0_chk885 (v2652 : BitVec 32) : Prop :=
  (∀ a, (k0_off885 v2652) a + S1x128.size a ≤ S100000x1024.size a)
theorem k0_off885_inb : ∀ (v2652 : BitVec 32) (k0_hw885 : k0_chk885 v2652), ∀ a, (k0_off885 v2652) a + S1x128.size a ≤ S100000x1024.size a := fun v2652 k0_hw885 => k0_hw885

def k0_off886 (v2655 : BitVec 32) : Fin 2 → Nat :=
  let c768_i32_1771 : BitVec 32 := 768#32
  ![v2655.toNat, 768]

def k0_chk886 (v2655 : BitVec 32) : Prop :=
  (∀ a, (k0_off886 v2655) a + S1x128.size a ≤ S100000x1024.size a)
theorem k0_off886_inb : ∀ (v2655 : BitVec 32) (k0_hw886 : k0_chk886 v2655), ∀ a, (k0_off886 v2655) a + S1x128.size a ≤ S100000x1024.size a := fun v2655 k0_hw886 => k0_hw886

def k0_off887 (v2658 : BitVec 32) : Fin 2 → Nat :=
  let c768_i32_1773 : BitVec 32 := 768#32
  ![v2658.toNat, 768]

def k0_chk887 (v2658 : BitVec 32) : Prop :=
  (∀ a, (k0_off887 v2658) a + S1x128.size a ≤ S100000x1024.size a)
theorem k0_off887_inb : ∀ (v2658 : BitVec 32) (k0_hw887 : k0_chk887 v2658), ∀ a, (k0_off887 v2658) a + S1x128.size a ≤ S100000x1024.size a := fun v2658 k0_hw887 => k0_hw887

def k0_off888 (v2661 : BitVec 32) : Fin 2 → Nat :=
  let c768_i32_1775 : BitVec 32 := 768#32
  ![v2661.toNat, 768]

def k0_chk888 (v2661 : BitVec 32) : Prop :=
  (∀ a, (k0_off888 v2661) a + S1x128.size a ≤ S100000x1024.size a)
theorem k0_off888_inb : ∀ (v2661 : BitVec 32) (k0_hw888 : k0_chk888 v2661), ∀ a, (k0_off888 v2661) a + S1x128.size a ≤ S100000x1024.size a := fun v2661 k0_hw888 => k0_hw888

def k0_off889 (v2664 : BitVec 32) : Fin 2 → Nat :=
  let c768_i32_1777 : BitVec 32 := 768#32
  ![v2664.toNat, 768]

def k0_chk889 (v2664 : BitVec 32) : Prop :=
  (∀ a, (k0_off889 v2664) a + S1x128.size a ≤ S100000x1024.size a)
theorem k0_off889_inb : ∀ (v2664 : BitVec 32) (k0_hw889 : k0_chk889 v2664), ∀ a, (k0_off889 v2664) a + S1x128.size a ≤ S100000x1024.size a := fun v2664 k0_hw889 => k0_hw889

def k0_off890 (v2667 : BitVec 32) : Fin 2 → Nat :=
  let c768_i32_1779 : BitVec 32 := 768#32
  ![v2667.toNat, 768]

def k0_chk890 (v2667 : BitVec 32) : Prop :=
  (∀ a, (k0_off890 v2667) a + S1x128.size a ≤ S100000x1024.size a)
theorem k0_off890_inb : ∀ (v2667 : BitVec 32) (k0_hw890 : k0_chk890 v2667), ∀ a, (k0_off890 v2667) a + S1x128.size a ≤ S100000x1024.size a := fun v2667 k0_hw890 => k0_hw890

def k0_off891 (v2670 : BitVec 32) : Fin 2 → Nat :=
  let c768_i32_1781 : BitVec 32 := 768#32
  ![v2670.toNat, 768]

def k0_chk891 (v2670 : BitVec 32) : Prop :=
  (∀ a, (k0_off891 v2670) a + S1x128.size a ≤ S100000x1024.size a)
theorem k0_off891_inb : ∀ (v2670 : BitVec 32) (k0_hw891 : k0_chk891 v2670), ∀ a, (k0_off891 v2670) a + S1x128.size a ≤ S100000x1024.size a := fun v2670 k0_hw891 => k0_hw891

def k0_off892 (v2673 : BitVec 32) : Fin 2 → Nat :=
  let c768_i32_1783 : BitVec 32 := 768#32
  ![v2673.toNat, 768]

def k0_chk892 (v2673 : BitVec 32) : Prop :=
  (∀ a, (k0_off892 v2673) a + S1x128.size a ≤ S100000x1024.size a)
theorem k0_off892_inb : ∀ (v2673 : BitVec 32) (k0_hw892 : k0_chk892 v2673), ∀ a, (k0_off892 v2673) a + S1x128.size a ≤ S100000x1024.size a := fun v2673 k0_hw892 => k0_hw892

def k0_off893 (v2676 : BitVec 32) : Fin 2 → Nat :=
  let c768_i32_1785 : BitVec 32 := 768#32
  ![v2676.toNat, 768]

def k0_chk893 (v2676 : BitVec 32) : Prop :=
  (∀ a, (k0_off893 v2676) a + S1x128.size a ≤ S100000x1024.size a)
theorem k0_off893_inb : ∀ (v2676 : BitVec 32) (k0_hw893 : k0_chk893 v2676), ∀ a, (k0_off893 v2676) a + S1x128.size a ≤ S100000x1024.size a := fun v2676 k0_hw893 => k0_hw893

def k0_off894 (v2679 : BitVec 32) : Fin 2 → Nat :=
  let c768_i32_1787 : BitVec 32 := 768#32
  ![v2679.toNat, 768]

def k0_chk894 (v2679 : BitVec 32) : Prop :=
  (∀ a, (k0_off894 v2679) a + S1x128.size a ≤ S100000x1024.size a)
theorem k0_off894_inb : ∀ (v2679 : BitVec 32) (k0_hw894 : k0_chk894 v2679), ∀ a, (k0_off894 v2679) a + S1x128.size a ≤ S100000x1024.size a := fun v2679 k0_hw894 => k0_hw894

def k0_off895 (v2682 : BitVec 32) : Fin 2 → Nat :=
  let c768_i32_1789 : BitVec 32 := 768#32
  ![v2682.toNat, 768]

def k0_chk895 (v2682 : BitVec 32) : Prop :=
  (∀ a, (k0_off895 v2682) a + S1x128.size a ≤ S100000x1024.size a)
theorem k0_off895_inb : ∀ (v2682 : BitVec 32) (k0_hw895 : k0_chk895 v2682), ∀ a, (k0_off895 v2682) a + S1x128.size a ≤ S100000x1024.size a := fun v2682 k0_hw895 => k0_hw895

def k0_off896 (v2685 : BitVec 32) : Fin 2 → Nat :=
  let c768_i32_1791 : BitVec 32 := 768#32
  ![v2685.toNat, 768]

def k0_chk896 (v2685 : BitVec 32) : Prop :=
  (∀ a, (k0_off896 v2685) a + S1x128.size a ≤ S100000x1024.size a)
theorem k0_off896_inb : ∀ (v2685 : BitVec 32) (k0_hw896 : k0_chk896 v2685), ∀ a, (k0_off896 v2685) a + S1x128.size a ≤ S100000x1024.size a := fun v2685 k0_hw896 => k0_hw896

def k0_off897 (v2688 : BitVec 32) : Fin 2 → Nat :=
  let c896_i32_1793 : BitVec 32 := 896#32
  ![v2688.toNat, 896]

def k0_chk897 (v2688 : BitVec 32) : Prop :=
  (∀ a, (k0_off897 v2688) a + S1x128.size a ≤ S100000x1024.size a)
theorem k0_off897_inb : ∀ (v2688 : BitVec 32) (k0_hw897 : k0_chk897 v2688), ∀ a, (k0_off897 v2688) a + S1x128.size a ≤ S100000x1024.size a := fun v2688 k0_hw897 => k0_hw897

def k0_off898 (v2691 : BitVec 32) : Fin 2 → Nat :=
  let c896_i32_1795 : BitVec 32 := 896#32
  ![v2691.toNat, 896]

def k0_chk898 (v2691 : BitVec 32) : Prop :=
  (∀ a, (k0_off898 v2691) a + S1x128.size a ≤ S100000x1024.size a)
theorem k0_off898_inb : ∀ (v2691 : BitVec 32) (k0_hw898 : k0_chk898 v2691), ∀ a, (k0_off898 v2691) a + S1x128.size a ≤ S100000x1024.size a := fun v2691 k0_hw898 => k0_hw898

def k0_off899 (v2694 : BitVec 32) : Fin 2 → Nat :=
  let c896_i32_1797 : BitVec 32 := 896#32
  ![v2694.toNat, 896]

def k0_chk899 (v2694 : BitVec 32) : Prop :=
  (∀ a, (k0_off899 v2694) a + S1x128.size a ≤ S100000x1024.size a)
theorem k0_off899_inb : ∀ (v2694 : BitVec 32) (k0_hw899 : k0_chk899 v2694), ∀ a, (k0_off899 v2694) a + S1x128.size a ≤ S100000x1024.size a := fun v2694 k0_hw899 => k0_hw899

def k0_off900 (v2697 : BitVec 32) : Fin 2 → Nat :=
  let c896_i32_1799 : BitVec 32 := 896#32
  ![v2697.toNat, 896]

def k0_chk900 (v2697 : BitVec 32) : Prop :=
  (∀ a, (k0_off900 v2697) a + S1x128.size a ≤ S100000x1024.size a)
theorem k0_off900_inb : ∀ (v2697 : BitVec 32) (k0_hw900 : k0_chk900 v2697), ∀ a, (k0_off900 v2697) a + S1x128.size a ≤ S100000x1024.size a := fun v2697 k0_hw900 => k0_hw900

def k0_off901 (v2700 : BitVec 32) : Fin 2 → Nat :=
  let c896_i32_1801 : BitVec 32 := 896#32
  ![v2700.toNat, 896]

def k0_chk901 (v2700 : BitVec 32) : Prop :=
  (∀ a, (k0_off901 v2700) a + S1x128.size a ≤ S100000x1024.size a)
theorem k0_off901_inb : ∀ (v2700 : BitVec 32) (k0_hw901 : k0_chk901 v2700), ∀ a, (k0_off901 v2700) a + S1x128.size a ≤ S100000x1024.size a := fun v2700 k0_hw901 => k0_hw901

def k0_off902 (v2703 : BitVec 32) : Fin 2 → Nat :=
  let c896_i32_1803 : BitVec 32 := 896#32
  ![v2703.toNat, 896]

def k0_chk902 (v2703 : BitVec 32) : Prop :=
  (∀ a, (k0_off902 v2703) a + S1x128.size a ≤ S100000x1024.size a)
theorem k0_off902_inb : ∀ (v2703 : BitVec 32) (k0_hw902 : k0_chk902 v2703), ∀ a, (k0_off902 v2703) a + S1x128.size a ≤ S100000x1024.size a := fun v2703 k0_hw902 => k0_hw902

def k0_off903 (v2706 : BitVec 32) : Fin 2 → Nat :=
  let c896_i32_1805 : BitVec 32 := 896#32
  ![v2706.toNat, 896]

def k0_chk903 (v2706 : BitVec 32) : Prop :=
  (∀ a, (k0_off903 v2706) a + S1x128.size a ≤ S100000x1024.size a)
theorem k0_off903_inb : ∀ (v2706 : BitVec 32) (k0_hw903 : k0_chk903 v2706), ∀ a, (k0_off903 v2706) a + S1x128.size a ≤ S100000x1024.size a := fun v2706 k0_hw903 => k0_hw903

def k0_off904 (v2709 : BitVec 32) : Fin 2 → Nat :=
  let c896_i32_1807 : BitVec 32 := 896#32
  ![v2709.toNat, 896]

def k0_chk904 (v2709 : BitVec 32) : Prop :=
  (∀ a, (k0_off904 v2709) a + S1x128.size a ≤ S100000x1024.size a)
theorem k0_off904_inb : ∀ (v2709 : BitVec 32) (k0_hw904 : k0_chk904 v2709), ∀ a, (k0_off904 v2709) a + S1x128.size a ≤ S100000x1024.size a := fun v2709 k0_hw904 => k0_hw904

def k0_off905 (v2712 : BitVec 32) : Fin 2 → Nat :=
  let c896_i32_1809 : BitVec 32 := 896#32
  ![v2712.toNat, 896]

def k0_chk905 (v2712 : BitVec 32) : Prop :=
  (∀ a, (k0_off905 v2712) a + S1x128.size a ≤ S100000x1024.size a)
theorem k0_off905_inb : ∀ (v2712 : BitVec 32) (k0_hw905 : k0_chk905 v2712), ∀ a, (k0_off905 v2712) a + S1x128.size a ≤ S100000x1024.size a := fun v2712 k0_hw905 => k0_hw905

def k0_off906 (v2715 : BitVec 32) : Fin 2 → Nat :=
  let c896_i32_1811 : BitVec 32 := 896#32
  ![v2715.toNat, 896]

def k0_chk906 (v2715 : BitVec 32) : Prop :=
  (∀ a, (k0_off906 v2715) a + S1x128.size a ≤ S100000x1024.size a)
theorem k0_off906_inb : ∀ (v2715 : BitVec 32) (k0_hw906 : k0_chk906 v2715), ∀ a, (k0_off906 v2715) a + S1x128.size a ≤ S100000x1024.size a := fun v2715 k0_hw906 => k0_hw906

def k0_off907 (v2718 : BitVec 32) : Fin 2 → Nat :=
  let c896_i32_1813 : BitVec 32 := 896#32
  ![v2718.toNat, 896]

def k0_chk907 (v2718 : BitVec 32) : Prop :=
  (∀ a, (k0_off907 v2718) a + S1x128.size a ≤ S100000x1024.size a)
theorem k0_off907_inb : ∀ (v2718 : BitVec 32) (k0_hw907 : k0_chk907 v2718), ∀ a, (k0_off907 v2718) a + S1x128.size a ≤ S100000x1024.size a := fun v2718 k0_hw907 => k0_hw907

def k0_off908 (v2721 : BitVec 32) : Fin 2 → Nat :=
  let c896_i32_1815 : BitVec 32 := 896#32
  ![v2721.toNat, 896]

def k0_chk908 (v2721 : BitVec 32) : Prop :=
  (∀ a, (k0_off908 v2721) a + S1x128.size a ≤ S100000x1024.size a)
theorem k0_off908_inb : ∀ (v2721 : BitVec 32) (k0_hw908 : k0_chk908 v2721), ∀ a, (k0_off908 v2721) a + S1x128.size a ≤ S100000x1024.size a := fun v2721 k0_hw908 => k0_hw908

def k0_off909 (v2724 : BitVec 32) : Fin 2 → Nat :=
  let c896_i32_1817 : BitVec 32 := 896#32
  ![v2724.toNat, 896]

def k0_chk909 (v2724 : BitVec 32) : Prop :=
  (∀ a, (k0_off909 v2724) a + S1x128.size a ≤ S100000x1024.size a)
theorem k0_off909_inb : ∀ (v2724 : BitVec 32) (k0_hw909 : k0_chk909 v2724), ∀ a, (k0_off909 v2724) a + S1x128.size a ≤ S100000x1024.size a := fun v2724 k0_hw909 => k0_hw909

def k0_off910 (v2727 : BitVec 32) : Fin 2 → Nat :=
  let c896_i32_1819 : BitVec 32 := 896#32
  ![v2727.toNat, 896]

def k0_chk910 (v2727 : BitVec 32) : Prop :=
  (∀ a, (k0_off910 v2727) a + S1x128.size a ≤ S100000x1024.size a)
theorem k0_off910_inb : ∀ (v2727 : BitVec 32) (k0_hw910 : k0_chk910 v2727), ∀ a, (k0_off910 v2727) a + S1x128.size a ≤ S100000x1024.size a := fun v2727 k0_hw910 => k0_hw910

def k0_off911 (v2730 : BitVec 32) : Fin 2 → Nat :=
  let c896_i32_1821 : BitVec 32 := 896#32
  ![v2730.toNat, 896]

def k0_chk911 (v2730 : BitVec 32) : Prop :=
  (∀ a, (k0_off911 v2730) a + S1x128.size a ≤ S100000x1024.size a)
theorem k0_off911_inb : ∀ (v2730 : BitVec 32) (k0_hw911 : k0_chk911 v2730), ∀ a, (k0_off911 v2730) a + S1x128.size a ≤ S100000x1024.size a := fun v2730 k0_hw911 => k0_hw911

def k0_off912 (v2733 : BitVec 32) : Fin 2 → Nat :=
  let c896_i32_1823 : BitVec 32 := 896#32
  ![v2733.toNat, 896]

def k0_chk912 (v2733 : BitVec 32) : Prop :=
  (∀ a, (k0_off912 v2733) a + S1x128.size a ≤ S100000x1024.size a)
theorem k0_off912_inb : ∀ (v2733 : BitVec 32) (k0_hw912 : k0_chk912 v2733), ∀ a, (k0_off912 v2733) a + S1x128.size a ≤ S100000x1024.size a := fun v2733 k0_hw912 => k0_hw912

def k0_off913 (v2736 : BitVec 32) : Fin 2 → Nat :=
  let c896_i32_1825 : BitVec 32 := 896#32
  ![v2736.toNat, 896]

def k0_chk913 (v2736 : BitVec 32) : Prop :=
  (∀ a, (k0_off913 v2736) a + S1x128.size a ≤ S100000x1024.size a)
theorem k0_off913_inb : ∀ (v2736 : BitVec 32) (k0_hw913 : k0_chk913 v2736), ∀ a, (k0_off913 v2736) a + S1x128.size a ≤ S100000x1024.size a := fun v2736 k0_hw913 => k0_hw913

def k0_off914 (v2739 : BitVec 32) : Fin 2 → Nat :=
  let c896_i32_1827 : BitVec 32 := 896#32
  ![v2739.toNat, 896]

def k0_chk914 (v2739 : BitVec 32) : Prop :=
  (∀ a, (k0_off914 v2739) a + S1x128.size a ≤ S100000x1024.size a)
theorem k0_off914_inb : ∀ (v2739 : BitVec 32) (k0_hw914 : k0_chk914 v2739), ∀ a, (k0_off914 v2739) a + S1x128.size a ≤ S100000x1024.size a := fun v2739 k0_hw914 => k0_hw914

def k0_off915 (v2742 : BitVec 32) : Fin 2 → Nat :=
  let c896_i32_1829 : BitVec 32 := 896#32
  ![v2742.toNat, 896]

def k0_chk915 (v2742 : BitVec 32) : Prop :=
  (∀ a, (k0_off915 v2742) a + S1x128.size a ≤ S100000x1024.size a)
theorem k0_off915_inb : ∀ (v2742 : BitVec 32) (k0_hw915 : k0_chk915 v2742), ∀ a, (k0_off915 v2742) a + S1x128.size a ≤ S100000x1024.size a := fun v2742 k0_hw915 => k0_hw915

def k0_off916 (v2745 : BitVec 32) : Fin 2 → Nat :=
  let c896_i32_1831 : BitVec 32 := 896#32
  ![v2745.toNat, 896]

def k0_chk916 (v2745 : BitVec 32) : Prop :=
  (∀ a, (k0_off916 v2745) a + S1x128.size a ≤ S100000x1024.size a)
theorem k0_off916_inb : ∀ (v2745 : BitVec 32) (k0_hw916 : k0_chk916 v2745), ∀ a, (k0_off916 v2745) a + S1x128.size a ≤ S100000x1024.size a := fun v2745 k0_hw916 => k0_hw916

def k0_off917 (v2748 : BitVec 32) : Fin 2 → Nat :=
  let c896_i32_1833 : BitVec 32 := 896#32
  ![v2748.toNat, 896]

def k0_chk917 (v2748 : BitVec 32) : Prop :=
  (∀ a, (k0_off917 v2748) a + S1x128.size a ≤ S100000x1024.size a)
theorem k0_off917_inb : ∀ (v2748 : BitVec 32) (k0_hw917 : k0_chk917 v2748), ∀ a, (k0_off917 v2748) a + S1x128.size a ≤ S100000x1024.size a := fun v2748 k0_hw917 => k0_hw917

def k0_off918 (v2751 : BitVec 32) : Fin 2 → Nat :=
  let c896_i32_1835 : BitVec 32 := 896#32
  ![v2751.toNat, 896]

def k0_chk918 (v2751 : BitVec 32) : Prop :=
  (∀ a, (k0_off918 v2751) a + S1x128.size a ≤ S100000x1024.size a)
theorem k0_off918_inb : ∀ (v2751 : BitVec 32) (k0_hw918 : k0_chk918 v2751), ∀ a, (k0_off918 v2751) a + S1x128.size a ≤ S100000x1024.size a := fun v2751 k0_hw918 => k0_hw918

def k0_off919 (v2754 : BitVec 32) : Fin 2 → Nat :=
  let c896_i32_1837 : BitVec 32 := 896#32
  ![v2754.toNat, 896]

def k0_chk919 (v2754 : BitVec 32) : Prop :=
  (∀ a, (k0_off919 v2754) a + S1x128.size a ≤ S100000x1024.size a)
theorem k0_off919_inb : ∀ (v2754 : BitVec 32) (k0_hw919 : k0_chk919 v2754), ∀ a, (k0_off919 v2754) a + S1x128.size a ≤ S100000x1024.size a := fun v2754 k0_hw919 => k0_hw919

def k0_off920 (v2757 : BitVec 32) : Fin 2 → Nat :=
  let c896_i32_1839 : BitVec 32 := 896#32
  ![v2757.toNat, 896]

def k0_chk920 (v2757 : BitVec 32) : Prop :=
  (∀ a, (k0_off920 v2757) a + S1x128.size a ≤ S100000x1024.size a)
theorem k0_off920_inb : ∀ (v2757 : BitVec 32) (k0_hw920 : k0_chk920 v2757), ∀ a, (k0_off920 v2757) a + S1x128.size a ≤ S100000x1024.size a := fun v2757 k0_hw920 => k0_hw920

def k0_off921 (v2760 : BitVec 32) : Fin 2 → Nat :=
  let c896_i32_1841 : BitVec 32 := 896#32
  ![v2760.toNat, 896]

def k0_chk921 (v2760 : BitVec 32) : Prop :=
  (∀ a, (k0_off921 v2760) a + S1x128.size a ≤ S100000x1024.size a)
theorem k0_off921_inb : ∀ (v2760 : BitVec 32) (k0_hw921 : k0_chk921 v2760), ∀ a, (k0_off921 v2760) a + S1x128.size a ≤ S100000x1024.size a := fun v2760 k0_hw921 => k0_hw921

def k0_off922 (v2763 : BitVec 32) : Fin 2 → Nat :=
  let c896_i32_1843 : BitVec 32 := 896#32
  ![v2763.toNat, 896]

def k0_chk922 (v2763 : BitVec 32) : Prop :=
  (∀ a, (k0_off922 v2763) a + S1x128.size a ≤ S100000x1024.size a)
theorem k0_off922_inb : ∀ (v2763 : BitVec 32) (k0_hw922 : k0_chk922 v2763), ∀ a, (k0_off922 v2763) a + S1x128.size a ≤ S100000x1024.size a := fun v2763 k0_hw922 => k0_hw922

def k0_off923 (v2766 : BitVec 32) : Fin 2 → Nat :=
  let c896_i32_1845 : BitVec 32 := 896#32
  ![v2766.toNat, 896]

def k0_chk923 (v2766 : BitVec 32) : Prop :=
  (∀ a, (k0_off923 v2766) a + S1x128.size a ≤ S100000x1024.size a)
theorem k0_off923_inb : ∀ (v2766 : BitVec 32) (k0_hw923 : k0_chk923 v2766), ∀ a, (k0_off923 v2766) a + S1x128.size a ≤ S100000x1024.size a := fun v2766 k0_hw923 => k0_hw923

def k0_off924 (v2769 : BitVec 32) : Fin 2 → Nat :=
  let c896_i32_1847 : BitVec 32 := 896#32
  ![v2769.toNat, 896]

def k0_chk924 (v2769 : BitVec 32) : Prop :=
  (∀ a, (k0_off924 v2769) a + S1x128.size a ≤ S100000x1024.size a)
theorem k0_off924_inb : ∀ (v2769 : BitVec 32) (k0_hw924 : k0_chk924 v2769), ∀ a, (k0_off924 v2769) a + S1x128.size a ≤ S100000x1024.size a := fun v2769 k0_hw924 => k0_hw924

def k0_off925 (v2772 : BitVec 32) : Fin 2 → Nat :=
  let c896_i32_1849 : BitVec 32 := 896#32
  ![v2772.toNat, 896]

def k0_chk925 (v2772 : BitVec 32) : Prop :=
  (∀ a, (k0_off925 v2772) a + S1x128.size a ≤ S100000x1024.size a)
theorem k0_off925_inb : ∀ (v2772 : BitVec 32) (k0_hw925 : k0_chk925 v2772), ∀ a, (k0_off925 v2772) a + S1x128.size a ≤ S100000x1024.size a := fun v2772 k0_hw925 => k0_hw925

def k0_off926 (v2775 : BitVec 32) : Fin 2 → Nat :=
  let c896_i32_1851 : BitVec 32 := 896#32
  ![v2775.toNat, 896]

def k0_chk926 (v2775 : BitVec 32) : Prop :=
  (∀ a, (k0_off926 v2775) a + S1x128.size a ≤ S100000x1024.size a)
theorem k0_off926_inb : ∀ (v2775 : BitVec 32) (k0_hw926 : k0_chk926 v2775), ∀ a, (k0_off926 v2775) a + S1x128.size a ≤ S100000x1024.size a := fun v2775 k0_hw926 => k0_hw926

def k0_off927 (v2778 : BitVec 32) : Fin 2 → Nat :=
  let c896_i32_1853 : BitVec 32 := 896#32
  ![v2778.toNat, 896]

def k0_chk927 (v2778 : BitVec 32) : Prop :=
  (∀ a, (k0_off927 v2778) a + S1x128.size a ≤ S100000x1024.size a)
theorem k0_off927_inb : ∀ (v2778 : BitVec 32) (k0_hw927 : k0_chk927 v2778), ∀ a, (k0_off927 v2778) a + S1x128.size a ≤ S100000x1024.size a := fun v2778 k0_hw927 => k0_hw927

def k0_off928 (v2781 : BitVec 32) : Fin 2 → Nat :=
  let c896_i32_1855 : BitVec 32 := 896#32
  ![v2781.toNat, 896]

def k0_chk928 (v2781 : BitVec 32) : Prop :=
  (∀ a, (k0_off928 v2781) a + S1x128.size a ≤ S100000x1024.size a)
theorem k0_off928_inb : ∀ (v2781 : BitVec 32) (k0_hw928 : k0_chk928 v2781), ∀ a, (k0_off928 v2781) a + S1x128.size a ≤ S100000x1024.size a := fun v2781 k0_hw928 => k0_hw928

def k0_off929 (v2784 : BitVec 32) : Fin 2 → Nat :=
  let c896_i32_1857 : BitVec 32 := 896#32
  ![v2784.toNat, 896]

def k0_chk929 (v2784 : BitVec 32) : Prop :=
  (∀ a, (k0_off929 v2784) a + S1x128.size a ≤ S100000x1024.size a)
theorem k0_off929_inb : ∀ (v2784 : BitVec 32) (k0_hw929 : k0_chk929 v2784), ∀ a, (k0_off929 v2784) a + S1x128.size a ≤ S100000x1024.size a := fun v2784 k0_hw929 => k0_hw929

def k0_off930 (v2787 : BitVec 32) : Fin 2 → Nat :=
  let c896_i32_1859 : BitVec 32 := 896#32
  ![v2787.toNat, 896]

def k0_chk930 (v2787 : BitVec 32) : Prop :=
  (∀ a, (k0_off930 v2787) a + S1x128.size a ≤ S100000x1024.size a)
theorem k0_off930_inb : ∀ (v2787 : BitVec 32) (k0_hw930 : k0_chk930 v2787), ∀ a, (k0_off930 v2787) a + S1x128.size a ≤ S100000x1024.size a := fun v2787 k0_hw930 => k0_hw930

def k0_off931 (v2790 : BitVec 32) : Fin 2 → Nat :=
  let c896_i32_1861 : BitVec 32 := 896#32
  ![v2790.toNat, 896]

def k0_chk931 (v2790 : BitVec 32) : Prop :=
  (∀ a, (k0_off931 v2790) a + S1x128.size a ≤ S100000x1024.size a)
theorem k0_off931_inb : ∀ (v2790 : BitVec 32) (k0_hw931 : k0_chk931 v2790), ∀ a, (k0_off931 v2790) a + S1x128.size a ≤ S100000x1024.size a := fun v2790 k0_hw931 => k0_hw931

def k0_off932 (v2793 : BitVec 32) : Fin 2 → Nat :=
  let c896_i32_1863 : BitVec 32 := 896#32
  ![v2793.toNat, 896]

def k0_chk932 (v2793 : BitVec 32) : Prop :=
  (∀ a, (k0_off932 v2793) a + S1x128.size a ≤ S100000x1024.size a)
theorem k0_off932_inb : ∀ (v2793 : BitVec 32) (k0_hw932 : k0_chk932 v2793), ∀ a, (k0_off932 v2793) a + S1x128.size a ≤ S100000x1024.size a := fun v2793 k0_hw932 => k0_hw932

def k0_off933 (v2796 : BitVec 32) : Fin 2 → Nat :=
  let c896_i32_1865 : BitVec 32 := 896#32
  ![v2796.toNat, 896]

def k0_chk933 (v2796 : BitVec 32) : Prop :=
  (∀ a, (k0_off933 v2796) a + S1x128.size a ≤ S100000x1024.size a)
theorem k0_off933_inb : ∀ (v2796 : BitVec 32) (k0_hw933 : k0_chk933 v2796), ∀ a, (k0_off933 v2796) a + S1x128.size a ≤ S100000x1024.size a := fun v2796 k0_hw933 => k0_hw933

def k0_off934 (v2799 : BitVec 32) : Fin 2 → Nat :=
  let c896_i32_1867 : BitVec 32 := 896#32
  ![v2799.toNat, 896]

def k0_chk934 (v2799 : BitVec 32) : Prop :=
  (∀ a, (k0_off934 v2799) a + S1x128.size a ≤ S100000x1024.size a)
theorem k0_off934_inb : ∀ (v2799 : BitVec 32) (k0_hw934 : k0_chk934 v2799), ∀ a, (k0_off934 v2799) a + S1x128.size a ≤ S100000x1024.size a := fun v2799 k0_hw934 => k0_hw934

def k0_off935 (v2802 : BitVec 32) : Fin 2 → Nat :=
  let c896_i32_1869 : BitVec 32 := 896#32
  ![v2802.toNat, 896]

def k0_chk935 (v2802 : BitVec 32) : Prop :=
  (∀ a, (k0_off935 v2802) a + S1x128.size a ≤ S100000x1024.size a)
theorem k0_off935_inb : ∀ (v2802 : BitVec 32) (k0_hw935 : k0_chk935 v2802), ∀ a, (k0_off935 v2802) a + S1x128.size a ≤ S100000x1024.size a := fun v2802 k0_hw935 => k0_hw935

def k0_off936 (v2805 : BitVec 32) : Fin 2 → Nat :=
  let c896_i32_1871 : BitVec 32 := 896#32
  ![v2805.toNat, 896]

def k0_chk936 (v2805 : BitVec 32) : Prop :=
  (∀ a, (k0_off936 v2805) a + S1x128.size a ≤ S100000x1024.size a)
theorem k0_off936_inb : ∀ (v2805 : BitVec 32) (k0_hw936 : k0_chk936 v2805), ∀ a, (k0_off936 v2805) a + S1x128.size a ≤ S100000x1024.size a := fun v2805 k0_hw936 => k0_hw936

def k0_off937 (v2808 : BitVec 32) : Fin 2 → Nat :=
  let c896_i32_1873 : BitVec 32 := 896#32
  ![v2808.toNat, 896]

def k0_chk937 (v2808 : BitVec 32) : Prop :=
  (∀ a, (k0_off937 v2808) a + S1x128.size a ≤ S100000x1024.size a)
theorem k0_off937_inb : ∀ (v2808 : BitVec 32) (k0_hw937 : k0_chk937 v2808), ∀ a, (k0_off937 v2808) a + S1x128.size a ≤ S100000x1024.size a := fun v2808 k0_hw937 => k0_hw937

def k0_off938 (v2811 : BitVec 32) : Fin 2 → Nat :=
  let c896_i32_1875 : BitVec 32 := 896#32
  ![v2811.toNat, 896]

def k0_chk938 (v2811 : BitVec 32) : Prop :=
  (∀ a, (k0_off938 v2811) a + S1x128.size a ≤ S100000x1024.size a)
theorem k0_off938_inb : ∀ (v2811 : BitVec 32) (k0_hw938 : k0_chk938 v2811), ∀ a, (k0_off938 v2811) a + S1x128.size a ≤ S100000x1024.size a := fun v2811 k0_hw938 => k0_hw938

def k0_off939 (v2814 : BitVec 32) : Fin 2 → Nat :=
  let c896_i32_1877 : BitVec 32 := 896#32
  ![v2814.toNat, 896]

def k0_chk939 (v2814 : BitVec 32) : Prop :=
  (∀ a, (k0_off939 v2814) a + S1x128.size a ≤ S100000x1024.size a)
theorem k0_off939_inb : ∀ (v2814 : BitVec 32) (k0_hw939 : k0_chk939 v2814), ∀ a, (k0_off939 v2814) a + S1x128.size a ≤ S100000x1024.size a := fun v2814 k0_hw939 => k0_hw939

def k0_off940 (v2817 : BitVec 32) : Fin 2 → Nat :=
  let c896_i32_1879 : BitVec 32 := 896#32
  ![v2817.toNat, 896]

def k0_chk940 (v2817 : BitVec 32) : Prop :=
  (∀ a, (k0_off940 v2817) a + S1x128.size a ≤ S100000x1024.size a)
theorem k0_off940_inb : ∀ (v2817 : BitVec 32) (k0_hw940 : k0_chk940 v2817), ∀ a, (k0_off940 v2817) a + S1x128.size a ≤ S100000x1024.size a := fun v2817 k0_hw940 => k0_hw940

def k0_off941 (v2820 : BitVec 32) : Fin 2 → Nat :=
  let c896_i32_1881 : BitVec 32 := 896#32
  ![v2820.toNat, 896]

def k0_chk941 (v2820 : BitVec 32) : Prop :=
  (∀ a, (k0_off941 v2820) a + S1x128.size a ≤ S100000x1024.size a)
theorem k0_off941_inb : ∀ (v2820 : BitVec 32) (k0_hw941 : k0_chk941 v2820), ∀ a, (k0_off941 v2820) a + S1x128.size a ≤ S100000x1024.size a := fun v2820 k0_hw941 => k0_hw941

def k0_off942 (v2823 : BitVec 32) : Fin 2 → Nat :=
  let c896_i32_1883 : BitVec 32 := 896#32
  ![v2823.toNat, 896]

def k0_chk942 (v2823 : BitVec 32) : Prop :=
  (∀ a, (k0_off942 v2823) a + S1x128.size a ≤ S100000x1024.size a)
theorem k0_off942_inb : ∀ (v2823 : BitVec 32) (k0_hw942 : k0_chk942 v2823), ∀ a, (k0_off942 v2823) a + S1x128.size a ≤ S100000x1024.size a := fun v2823 k0_hw942 => k0_hw942

def k0_off943 (v2826 : BitVec 32) : Fin 2 → Nat :=
  let c896_i32_1885 : BitVec 32 := 896#32
  ![v2826.toNat, 896]

def k0_chk943 (v2826 : BitVec 32) : Prop :=
  (∀ a, (k0_off943 v2826) a + S1x128.size a ≤ S100000x1024.size a)
theorem k0_off943_inb : ∀ (v2826 : BitVec 32) (k0_hw943 : k0_chk943 v2826), ∀ a, (k0_off943 v2826) a + S1x128.size a ≤ S100000x1024.size a := fun v2826 k0_hw943 => k0_hw943

def k0_off944 (v2829 : BitVec 32) : Fin 2 → Nat :=
  let c896_i32_1887 : BitVec 32 := 896#32
  ![v2829.toNat, 896]

def k0_chk944 (v2829 : BitVec 32) : Prop :=
  (∀ a, (k0_off944 v2829) a + S1x128.size a ≤ S100000x1024.size a)
theorem k0_off944_inb : ∀ (v2829 : BitVec 32) (k0_hw944 : k0_chk944 v2829), ∀ a, (k0_off944 v2829) a + S1x128.size a ≤ S100000x1024.size a := fun v2829 k0_hw944 => k0_hw944

def k0_off945 (v2832 : BitVec 32) : Fin 2 → Nat :=
  let c896_i32_1889 : BitVec 32 := 896#32
  ![v2832.toNat, 896]

def k0_chk945 (v2832 : BitVec 32) : Prop :=
  (∀ a, (k0_off945 v2832) a + S1x128.size a ≤ S100000x1024.size a)
theorem k0_off945_inb : ∀ (v2832 : BitVec 32) (k0_hw945 : k0_chk945 v2832), ∀ a, (k0_off945 v2832) a + S1x128.size a ≤ S100000x1024.size a := fun v2832 k0_hw945 => k0_hw945

def k0_off946 (v2835 : BitVec 32) : Fin 2 → Nat :=
  let c896_i32_1891 : BitVec 32 := 896#32
  ![v2835.toNat, 896]

def k0_chk946 (v2835 : BitVec 32) : Prop :=
  (∀ a, (k0_off946 v2835) a + S1x128.size a ≤ S100000x1024.size a)
theorem k0_off946_inb : ∀ (v2835 : BitVec 32) (k0_hw946 : k0_chk946 v2835), ∀ a, (k0_off946 v2835) a + S1x128.size a ≤ S100000x1024.size a := fun v2835 k0_hw946 => k0_hw946

def k0_off947 (v2838 : BitVec 32) : Fin 2 → Nat :=
  let c896_i32_1893 : BitVec 32 := 896#32
  ![v2838.toNat, 896]

def k0_chk947 (v2838 : BitVec 32) : Prop :=
  (∀ a, (k0_off947 v2838) a + S1x128.size a ≤ S100000x1024.size a)
theorem k0_off947_inb : ∀ (v2838 : BitVec 32) (k0_hw947 : k0_chk947 v2838), ∀ a, (k0_off947 v2838) a + S1x128.size a ≤ S100000x1024.size a := fun v2838 k0_hw947 => k0_hw947

def k0_off948 (v2841 : BitVec 32) : Fin 2 → Nat :=
  let c896_i32_1895 : BitVec 32 := 896#32
  ![v2841.toNat, 896]

def k0_chk948 (v2841 : BitVec 32) : Prop :=
  (∀ a, (k0_off948 v2841) a + S1x128.size a ≤ S100000x1024.size a)
theorem k0_off948_inb : ∀ (v2841 : BitVec 32) (k0_hw948 : k0_chk948 v2841), ∀ a, (k0_off948 v2841) a + S1x128.size a ≤ S100000x1024.size a := fun v2841 k0_hw948 => k0_hw948

def k0_off949 (v2844 : BitVec 32) : Fin 2 → Nat :=
  let c896_i32_1897 : BitVec 32 := 896#32
  ![v2844.toNat, 896]

def k0_chk949 (v2844 : BitVec 32) : Prop :=
  (∀ a, (k0_off949 v2844) a + S1x128.size a ≤ S100000x1024.size a)
theorem k0_off949_inb : ∀ (v2844 : BitVec 32) (k0_hw949 : k0_chk949 v2844), ∀ a, (k0_off949 v2844) a + S1x128.size a ≤ S100000x1024.size a := fun v2844 k0_hw949 => k0_hw949

def k0_off950 (v2847 : BitVec 32) : Fin 2 → Nat :=
  let c896_i32_1899 : BitVec 32 := 896#32
  ![v2847.toNat, 896]

def k0_chk950 (v2847 : BitVec 32) : Prop :=
  (∀ a, (k0_off950 v2847) a + S1x128.size a ≤ S100000x1024.size a)
theorem k0_off950_inb : ∀ (v2847 : BitVec 32) (k0_hw950 : k0_chk950 v2847), ∀ a, (k0_off950 v2847) a + S1x128.size a ≤ S100000x1024.size a := fun v2847 k0_hw950 => k0_hw950

def k0_off951 (v2850 : BitVec 32) : Fin 2 → Nat :=
  let c896_i32_1901 : BitVec 32 := 896#32
  ![v2850.toNat, 896]

def k0_chk951 (v2850 : BitVec 32) : Prop :=
  (∀ a, (k0_off951 v2850) a + S1x128.size a ≤ S100000x1024.size a)
theorem k0_off951_inb : ∀ (v2850 : BitVec 32) (k0_hw951 : k0_chk951 v2850), ∀ a, (k0_off951 v2850) a + S1x128.size a ≤ S100000x1024.size a := fun v2850 k0_hw951 => k0_hw951

def k0_off952 (v2853 : BitVec 32) : Fin 2 → Nat :=
  let c896_i32_1903 : BitVec 32 := 896#32
  ![v2853.toNat, 896]

def k0_chk952 (v2853 : BitVec 32) : Prop :=
  (∀ a, (k0_off952 v2853) a + S1x128.size a ≤ S100000x1024.size a)
theorem k0_off952_inb : ∀ (v2853 : BitVec 32) (k0_hw952 : k0_chk952 v2853), ∀ a, (k0_off952 v2853) a + S1x128.size a ≤ S100000x1024.size a := fun v2853 k0_hw952 => k0_hw952

def k0_off953 (v2856 : BitVec 32) : Fin 2 → Nat :=
  let c896_i32_1905 : BitVec 32 := 896#32
  ![v2856.toNat, 896]

def k0_chk953 (v2856 : BitVec 32) : Prop :=
  (∀ a, (k0_off953 v2856) a + S1x128.size a ≤ S100000x1024.size a)
theorem k0_off953_inb : ∀ (v2856 : BitVec 32) (k0_hw953 : k0_chk953 v2856), ∀ a, (k0_off953 v2856) a + S1x128.size a ≤ S100000x1024.size a := fun v2856 k0_hw953 => k0_hw953

def k0_off954 (v2859 : BitVec 32) : Fin 2 → Nat :=
  let c896_i32_1907 : BitVec 32 := 896#32
  ![v2859.toNat, 896]

def k0_chk954 (v2859 : BitVec 32) : Prop :=
  (∀ a, (k0_off954 v2859) a + S1x128.size a ≤ S100000x1024.size a)
theorem k0_off954_inb : ∀ (v2859 : BitVec 32) (k0_hw954 : k0_chk954 v2859), ∀ a, (k0_off954 v2859) a + S1x128.size a ≤ S100000x1024.size a := fun v2859 k0_hw954 => k0_hw954

def k0_off955 (v2862 : BitVec 32) : Fin 2 → Nat :=
  let c896_i32_1909 : BitVec 32 := 896#32
  ![v2862.toNat, 896]

def k0_chk955 (v2862 : BitVec 32) : Prop :=
  (∀ a, (k0_off955 v2862) a + S1x128.size a ≤ S100000x1024.size a)
theorem k0_off955_inb : ∀ (v2862 : BitVec 32) (k0_hw955 : k0_chk955 v2862), ∀ a, (k0_off955 v2862) a + S1x128.size a ≤ S100000x1024.size a := fun v2862 k0_hw955 => k0_hw955

def k0_off956 (v2865 : BitVec 32) : Fin 2 → Nat :=
  let c896_i32_1911 : BitVec 32 := 896#32
  ![v2865.toNat, 896]

def k0_chk956 (v2865 : BitVec 32) : Prop :=
  (∀ a, (k0_off956 v2865) a + S1x128.size a ≤ S100000x1024.size a)
theorem k0_off956_inb : ∀ (v2865 : BitVec 32) (k0_hw956 : k0_chk956 v2865), ∀ a, (k0_off956 v2865) a + S1x128.size a ≤ S100000x1024.size a := fun v2865 k0_hw956 => k0_hw956

def k0_off957 (v2868 : BitVec 32) : Fin 2 → Nat :=
  let c896_i32_1913 : BitVec 32 := 896#32
  ![v2868.toNat, 896]

def k0_chk957 (v2868 : BitVec 32) : Prop :=
  (∀ a, (k0_off957 v2868) a + S1x128.size a ≤ S100000x1024.size a)
theorem k0_off957_inb : ∀ (v2868 : BitVec 32) (k0_hw957 : k0_chk957 v2868), ∀ a, (k0_off957 v2868) a + S1x128.size a ≤ S100000x1024.size a := fun v2868 k0_hw957 => k0_hw957

def k0_off958 (v2871 : BitVec 32) : Fin 2 → Nat :=
  let c896_i32_1915 : BitVec 32 := 896#32
  ![v2871.toNat, 896]

def k0_chk958 (v2871 : BitVec 32) : Prop :=
  (∀ a, (k0_off958 v2871) a + S1x128.size a ≤ S100000x1024.size a)
theorem k0_off958_inb : ∀ (v2871 : BitVec 32) (k0_hw958 : k0_chk958 v2871), ∀ a, (k0_off958 v2871) a + S1x128.size a ≤ S100000x1024.size a := fun v2871 k0_hw958 => k0_hw958

def k0_off959 (v2874 : BitVec 32) : Fin 2 → Nat :=
  let c896_i32_1917 : BitVec 32 := 896#32
  ![v2874.toNat, 896]

def k0_chk959 (v2874 : BitVec 32) : Prop :=
  (∀ a, (k0_off959 v2874) a + S1x128.size a ≤ S100000x1024.size a)
theorem k0_off959_inb : ∀ (v2874 : BitVec 32) (k0_hw959 : k0_chk959 v2874), ∀ a, (k0_off959 v2874) a + S1x128.size a ≤ S100000x1024.size a := fun v2874 k0_hw959 => k0_hw959

def k0_off960 (v2877 : BitVec 32) : Fin 2 → Nat :=
  let c896_i32_1919 : BitVec 32 := 896#32
  ![v2877.toNat, 896]

def k0_chk960 (v2877 : BitVec 32) : Prop :=
  (∀ a, (k0_off960 v2877) a + S1x128.size a ≤ S100000x1024.size a)
theorem k0_off960_inb : ∀ (v2877 : BitVec 32) (k0_hw960 : k0_chk960 v2877), ∀ a, (k0_off960 v2877) a + S1x128.size a ≤ S100000x1024.size a := fun v2877 k0_hw960 => k0_hw960

def k0_off961 (v2880 : BitVec 32) : Fin 2 → Nat :=
  let c896_i32_1921 : BitVec 32 := 896#32
  ![v2880.toNat, 896]

def k0_chk961 (v2880 : BitVec 32) : Prop :=
  (∀ a, (k0_off961 v2880) a + S1x128.size a ≤ S100000x1024.size a)
theorem k0_off961_inb : ∀ (v2880 : BitVec 32) (k0_hw961 : k0_chk961 v2880), ∀ a, (k0_off961 v2880) a + S1x128.size a ≤ S100000x1024.size a := fun v2880 k0_hw961 => k0_hw961

def k0_off962 (v2883 : BitVec 32) : Fin 2 → Nat :=
  let c896_i32_1923 : BitVec 32 := 896#32
  ![v2883.toNat, 896]

def k0_chk962 (v2883 : BitVec 32) : Prop :=
  (∀ a, (k0_off962 v2883) a + S1x128.size a ≤ S100000x1024.size a)
theorem k0_off962_inb : ∀ (v2883 : BitVec 32) (k0_hw962 : k0_chk962 v2883), ∀ a, (k0_off962 v2883) a + S1x128.size a ≤ S100000x1024.size a := fun v2883 k0_hw962 => k0_hw962

def k0_off963 (v2886 : BitVec 32) : Fin 2 → Nat :=
  let c896_i32_1925 : BitVec 32 := 896#32
  ![v2886.toNat, 896]

def k0_chk963 (v2886 : BitVec 32) : Prop :=
  (∀ a, (k0_off963 v2886) a + S1x128.size a ≤ S100000x1024.size a)
theorem k0_off963_inb : ∀ (v2886 : BitVec 32) (k0_hw963 : k0_chk963 v2886), ∀ a, (k0_off963 v2886) a + S1x128.size a ≤ S100000x1024.size a := fun v2886 k0_hw963 => k0_hw963

def k0_off964 (v2889 : BitVec 32) : Fin 2 → Nat :=
  let c896_i32_1927 : BitVec 32 := 896#32
  ![v2889.toNat, 896]

def k0_chk964 (v2889 : BitVec 32) : Prop :=
  (∀ a, (k0_off964 v2889) a + S1x128.size a ≤ S100000x1024.size a)
theorem k0_off964_inb : ∀ (v2889 : BitVec 32) (k0_hw964 : k0_chk964 v2889), ∀ a, (k0_off964 v2889) a + S1x128.size a ≤ S100000x1024.size a := fun v2889 k0_hw964 => k0_hw964

def k0_off965 (v2892 : BitVec 32) : Fin 2 → Nat :=
  let c896_i32_1929 : BitVec 32 := 896#32
  ![v2892.toNat, 896]

def k0_chk965 (v2892 : BitVec 32) : Prop :=
  (∀ a, (k0_off965 v2892) a + S1x128.size a ≤ S100000x1024.size a)
theorem k0_off965_inb : ∀ (v2892 : BitVec 32) (k0_hw965 : k0_chk965 v2892), ∀ a, (k0_off965 v2892) a + S1x128.size a ≤ S100000x1024.size a := fun v2892 k0_hw965 => k0_hw965

def k0_off966 (v2895 : BitVec 32) : Fin 2 → Nat :=
  let c896_i32_1931 : BitVec 32 := 896#32
  ![v2895.toNat, 896]

def k0_chk966 (v2895 : BitVec 32) : Prop :=
  (∀ a, (k0_off966 v2895) a + S1x128.size a ≤ S100000x1024.size a)
theorem k0_off966_inb : ∀ (v2895 : BitVec 32) (k0_hw966 : k0_chk966 v2895), ∀ a, (k0_off966 v2895) a + S1x128.size a ≤ S100000x1024.size a := fun v2895 k0_hw966 => k0_hw966

def k0_off967 (v2898 : BitVec 32) : Fin 2 → Nat :=
  let c896_i32_1933 : BitVec 32 := 896#32
  ![v2898.toNat, 896]

def k0_chk967 (v2898 : BitVec 32) : Prop :=
  (∀ a, (k0_off967 v2898) a + S1x128.size a ≤ S100000x1024.size a)
theorem k0_off967_inb : ∀ (v2898 : BitVec 32) (k0_hw967 : k0_chk967 v2898), ∀ a, (k0_off967 v2898) a + S1x128.size a ≤ S100000x1024.size a := fun v2898 k0_hw967 => k0_hw967

def k0_off968 (v2901 : BitVec 32) : Fin 2 → Nat :=
  let c896_i32_1935 : BitVec 32 := 896#32
  ![v2901.toNat, 896]

def k0_chk968 (v2901 : BitVec 32) : Prop :=
  (∀ a, (k0_off968 v2901) a + S1x128.size a ≤ S100000x1024.size a)
theorem k0_off968_inb : ∀ (v2901 : BitVec 32) (k0_hw968 : k0_chk968 v2901), ∀ a, (k0_off968 v2901) a + S1x128.size a ≤ S100000x1024.size a := fun v2901 k0_hw968 => k0_hw968

def k0_off969 (v2904 : BitVec 32) : Fin 2 → Nat :=
  let c896_i32_1937 : BitVec 32 := 896#32
  ![v2904.toNat, 896]

def k0_chk969 (v2904 : BitVec 32) : Prop :=
  (∀ a, (k0_off969 v2904) a + S1x128.size a ≤ S100000x1024.size a)
theorem k0_off969_inb : ∀ (v2904 : BitVec 32) (k0_hw969 : k0_chk969 v2904), ∀ a, (k0_off969 v2904) a + S1x128.size a ≤ S100000x1024.size a := fun v2904 k0_hw969 => k0_hw969

def k0_off970 (v2907 : BitVec 32) : Fin 2 → Nat :=
  let c896_i32_1939 : BitVec 32 := 896#32
  ![v2907.toNat, 896]

def k0_chk970 (v2907 : BitVec 32) : Prop :=
  (∀ a, (k0_off970 v2907) a + S1x128.size a ≤ S100000x1024.size a)
theorem k0_off970_inb : ∀ (v2907 : BitVec 32) (k0_hw970 : k0_chk970 v2907), ∀ a, (k0_off970 v2907) a + S1x128.size a ≤ S100000x1024.size a := fun v2907 k0_hw970 => k0_hw970

def k0_off971 (v2910 : BitVec 32) : Fin 2 → Nat :=
  let c896_i32_1941 : BitVec 32 := 896#32
  ![v2910.toNat, 896]

def k0_chk971 (v2910 : BitVec 32) : Prop :=
  (∀ a, (k0_off971 v2910) a + S1x128.size a ≤ S100000x1024.size a)
theorem k0_off971_inb : ∀ (v2910 : BitVec 32) (k0_hw971 : k0_chk971 v2910), ∀ a, (k0_off971 v2910) a + S1x128.size a ≤ S100000x1024.size a := fun v2910 k0_hw971 => k0_hw971

def k0_off972 (v2913 : BitVec 32) : Fin 2 → Nat :=
  let c896_i32_1943 : BitVec 32 := 896#32
  ![v2913.toNat, 896]

def k0_chk972 (v2913 : BitVec 32) : Prop :=
  (∀ a, (k0_off972 v2913) a + S1x128.size a ≤ S100000x1024.size a)
theorem k0_off972_inb : ∀ (v2913 : BitVec 32) (k0_hw972 : k0_chk972 v2913), ∀ a, (k0_off972 v2913) a + S1x128.size a ≤ S100000x1024.size a := fun v2913 k0_hw972 => k0_hw972

def k0_off973 (v2916 : BitVec 32) : Fin 2 → Nat :=
  let c896_i32_1945 : BitVec 32 := 896#32
  ![v2916.toNat, 896]

def k0_chk973 (v2916 : BitVec 32) : Prop :=
  (∀ a, (k0_off973 v2916) a + S1x128.size a ≤ S100000x1024.size a)
theorem k0_off973_inb : ∀ (v2916 : BitVec 32) (k0_hw973 : k0_chk973 v2916), ∀ a, (k0_off973 v2916) a + S1x128.size a ≤ S100000x1024.size a := fun v2916 k0_hw973 => k0_hw973

def k0_off974 (v2919 : BitVec 32) : Fin 2 → Nat :=
  let c896_i32_1947 : BitVec 32 := 896#32
  ![v2919.toNat, 896]

def k0_chk974 (v2919 : BitVec 32) : Prop :=
  (∀ a, (k0_off974 v2919) a + S1x128.size a ≤ S100000x1024.size a)
theorem k0_off974_inb : ∀ (v2919 : BitVec 32) (k0_hw974 : k0_chk974 v2919), ∀ a, (k0_off974 v2919) a + S1x128.size a ≤ S100000x1024.size a := fun v2919 k0_hw974 => k0_hw974

def k0_off975 (v2922 : BitVec 32) : Fin 2 → Nat :=
  let c896_i32_1949 : BitVec 32 := 896#32
  ![v2922.toNat, 896]

def k0_chk975 (v2922 : BitVec 32) : Prop :=
  (∀ a, (k0_off975 v2922) a + S1x128.size a ≤ S100000x1024.size a)
theorem k0_off975_inb : ∀ (v2922 : BitVec 32) (k0_hw975 : k0_chk975 v2922), ∀ a, (k0_off975 v2922) a + S1x128.size a ≤ S100000x1024.size a := fun v2922 k0_hw975 => k0_hw975

def k0_off976 (v2925 : BitVec 32) : Fin 2 → Nat :=
  let c896_i32_1951 : BitVec 32 := 896#32
  ![v2925.toNat, 896]

def k0_chk976 (v2925 : BitVec 32) : Prop :=
  (∀ a, (k0_off976 v2925) a + S1x128.size a ≤ S100000x1024.size a)
theorem k0_off976_inb : ∀ (v2925 : BitVec 32) (k0_hw976 : k0_chk976 v2925), ∀ a, (k0_off976 v2925) a + S1x128.size a ≤ S100000x1024.size a := fun v2925 k0_hw976 => k0_hw976

def k0_off977 (v2928 : BitVec 32) : Fin 2 → Nat :=
  let c896_i32_1953 : BitVec 32 := 896#32
  ![v2928.toNat, 896]

def k0_chk977 (v2928 : BitVec 32) : Prop :=
  (∀ a, (k0_off977 v2928) a + S1x128.size a ≤ S100000x1024.size a)
theorem k0_off977_inb : ∀ (v2928 : BitVec 32) (k0_hw977 : k0_chk977 v2928), ∀ a, (k0_off977 v2928) a + S1x128.size a ≤ S100000x1024.size a := fun v2928 k0_hw977 => k0_hw977

def k0_off978 (v2931 : BitVec 32) : Fin 2 → Nat :=
  let c896_i32_1955 : BitVec 32 := 896#32
  ![v2931.toNat, 896]

def k0_chk978 (v2931 : BitVec 32) : Prop :=
  (∀ a, (k0_off978 v2931) a + S1x128.size a ≤ S100000x1024.size a)
theorem k0_off978_inb : ∀ (v2931 : BitVec 32) (k0_hw978 : k0_chk978 v2931), ∀ a, (k0_off978 v2931) a + S1x128.size a ≤ S100000x1024.size a := fun v2931 k0_hw978 => k0_hw978

def k0_off979 (v2934 : BitVec 32) : Fin 2 → Nat :=
  let c896_i32_1957 : BitVec 32 := 896#32
  ![v2934.toNat, 896]

def k0_chk979 (v2934 : BitVec 32) : Prop :=
  (∀ a, (k0_off979 v2934) a + S1x128.size a ≤ S100000x1024.size a)
theorem k0_off979_inb : ∀ (v2934 : BitVec 32) (k0_hw979 : k0_chk979 v2934), ∀ a, (k0_off979 v2934) a + S1x128.size a ≤ S100000x1024.size a := fun v2934 k0_hw979 => k0_hw979

def k0_off980 (v2937 : BitVec 32) : Fin 2 → Nat :=
  let c896_i32_1959 : BitVec 32 := 896#32
  ![v2937.toNat, 896]

def k0_chk980 (v2937 : BitVec 32) : Prop :=
  (∀ a, (k0_off980 v2937) a + S1x128.size a ≤ S100000x1024.size a)
theorem k0_off980_inb : ∀ (v2937 : BitVec 32) (k0_hw980 : k0_chk980 v2937), ∀ a, (k0_off980 v2937) a + S1x128.size a ≤ S100000x1024.size a := fun v2937 k0_hw980 => k0_hw980

def k0_off981 (v2940 : BitVec 32) : Fin 2 → Nat :=
  let c896_i32_1961 : BitVec 32 := 896#32
  ![v2940.toNat, 896]

def k0_chk981 (v2940 : BitVec 32) : Prop :=
  (∀ a, (k0_off981 v2940) a + S1x128.size a ≤ S100000x1024.size a)
theorem k0_off981_inb : ∀ (v2940 : BitVec 32) (k0_hw981 : k0_chk981 v2940), ∀ a, (k0_off981 v2940) a + S1x128.size a ≤ S100000x1024.size a := fun v2940 k0_hw981 => k0_hw981

def k0_off982 (v2943 : BitVec 32) : Fin 2 → Nat :=
  let c896_i32_1963 : BitVec 32 := 896#32
  ![v2943.toNat, 896]

def k0_chk982 (v2943 : BitVec 32) : Prop :=
  (∀ a, (k0_off982 v2943) a + S1x128.size a ≤ S100000x1024.size a)
theorem k0_off982_inb : ∀ (v2943 : BitVec 32) (k0_hw982 : k0_chk982 v2943), ∀ a, (k0_off982 v2943) a + S1x128.size a ≤ S100000x1024.size a := fun v2943 k0_hw982 => k0_hw982

def k0_off983 (v2946 : BitVec 32) : Fin 2 → Nat :=
  let c896_i32_1965 : BitVec 32 := 896#32
  ![v2946.toNat, 896]

def k0_chk983 (v2946 : BitVec 32) : Prop :=
  (∀ a, (k0_off983 v2946) a + S1x128.size a ≤ S100000x1024.size a)
theorem k0_off983_inb : ∀ (v2946 : BitVec 32) (k0_hw983 : k0_chk983 v2946), ∀ a, (k0_off983 v2946) a + S1x128.size a ≤ S100000x1024.size a := fun v2946 k0_hw983 => k0_hw983

def k0_off984 (v2949 : BitVec 32) : Fin 2 → Nat :=
  let c896_i32_1967 : BitVec 32 := 896#32
  ![v2949.toNat, 896]

def k0_chk984 (v2949 : BitVec 32) : Prop :=
  (∀ a, (k0_off984 v2949) a + S1x128.size a ≤ S100000x1024.size a)
theorem k0_off984_inb : ∀ (v2949 : BitVec 32) (k0_hw984 : k0_chk984 v2949), ∀ a, (k0_off984 v2949) a + S1x128.size a ≤ S100000x1024.size a := fun v2949 k0_hw984 => k0_hw984

def k0_off985 (v2952 : BitVec 32) : Fin 2 → Nat :=
  let c896_i32_1969 : BitVec 32 := 896#32
  ![v2952.toNat, 896]

def k0_chk985 (v2952 : BitVec 32) : Prop :=
  (∀ a, (k0_off985 v2952) a + S1x128.size a ≤ S100000x1024.size a)
theorem k0_off985_inb : ∀ (v2952 : BitVec 32) (k0_hw985 : k0_chk985 v2952), ∀ a, (k0_off985 v2952) a + S1x128.size a ≤ S100000x1024.size a := fun v2952 k0_hw985 => k0_hw985

def k0_off986 (v2955 : BitVec 32) : Fin 2 → Nat :=
  let c896_i32_1971 : BitVec 32 := 896#32
  ![v2955.toNat, 896]

def k0_chk986 (v2955 : BitVec 32) : Prop :=
  (∀ a, (k0_off986 v2955) a + S1x128.size a ≤ S100000x1024.size a)
theorem k0_off986_inb : ∀ (v2955 : BitVec 32) (k0_hw986 : k0_chk986 v2955), ∀ a, (k0_off986 v2955) a + S1x128.size a ≤ S100000x1024.size a := fun v2955 k0_hw986 => k0_hw986

def k0_off987 (v2958 : BitVec 32) : Fin 2 → Nat :=
  let c896_i32_1973 : BitVec 32 := 896#32
  ![v2958.toNat, 896]

def k0_chk987 (v2958 : BitVec 32) : Prop :=
  (∀ a, (k0_off987 v2958) a + S1x128.size a ≤ S100000x1024.size a)
theorem k0_off987_inb : ∀ (v2958 : BitVec 32) (k0_hw987 : k0_chk987 v2958), ∀ a, (k0_off987 v2958) a + S1x128.size a ≤ S100000x1024.size a := fun v2958 k0_hw987 => k0_hw987

def k0_off988 (v2961 : BitVec 32) : Fin 2 → Nat :=
  let c896_i32_1975 : BitVec 32 := 896#32
  ![v2961.toNat, 896]

def k0_chk988 (v2961 : BitVec 32) : Prop :=
  (∀ a, (k0_off988 v2961) a + S1x128.size a ≤ S100000x1024.size a)
theorem k0_off988_inb : ∀ (v2961 : BitVec 32) (k0_hw988 : k0_chk988 v2961), ∀ a, (k0_off988 v2961) a + S1x128.size a ≤ S100000x1024.size a := fun v2961 k0_hw988 => k0_hw988

def k0_off989 (v2964 : BitVec 32) : Fin 2 → Nat :=
  let c896_i32_1977 : BitVec 32 := 896#32
  ![v2964.toNat, 896]

def k0_chk989 (v2964 : BitVec 32) : Prop :=
  (∀ a, (k0_off989 v2964) a + S1x128.size a ≤ S100000x1024.size a)
theorem k0_off989_inb : ∀ (v2964 : BitVec 32) (k0_hw989 : k0_chk989 v2964), ∀ a, (k0_off989 v2964) a + S1x128.size a ≤ S100000x1024.size a := fun v2964 k0_hw989 => k0_hw989

def k0_off990 (v2967 : BitVec 32) : Fin 2 → Nat :=
  let c896_i32_1979 : BitVec 32 := 896#32
  ![v2967.toNat, 896]

def k0_chk990 (v2967 : BitVec 32) : Prop :=
  (∀ a, (k0_off990 v2967) a + S1x128.size a ≤ S100000x1024.size a)
theorem k0_off990_inb : ∀ (v2967 : BitVec 32) (k0_hw990 : k0_chk990 v2967), ∀ a, (k0_off990 v2967) a + S1x128.size a ≤ S100000x1024.size a := fun v2967 k0_hw990 => k0_hw990

def k0_off991 (v2970 : BitVec 32) : Fin 2 → Nat :=
  let c896_i32_1981 : BitVec 32 := 896#32
  ![v2970.toNat, 896]

def k0_chk991 (v2970 : BitVec 32) : Prop :=
  (∀ a, (k0_off991 v2970) a + S1x128.size a ≤ S100000x1024.size a)
theorem k0_off991_inb : ∀ (v2970 : BitVec 32) (k0_hw991 : k0_chk991 v2970), ∀ a, (k0_off991 v2970) a + S1x128.size a ≤ S100000x1024.size a := fun v2970 k0_hw991 => k0_hw991

def k0_off992 (v2973 : BitVec 32) : Fin 2 → Nat :=
  let c896_i32_1983 : BitVec 32 := 896#32
  ![v2973.toNat, 896]

def k0_chk992 (v2973 : BitVec 32) : Prop :=
  (∀ a, (k0_off992 v2973) a + S1x128.size a ≤ S100000x1024.size a)
theorem k0_off992_inb : ∀ (v2973 : BitVec 32) (k0_hw992 : k0_chk992 v2973), ∀ a, (k0_off992 v2973) a + S1x128.size a ≤ S100000x1024.size a := fun v2973 k0_hw992 => k0_hw992

def k0_off993 (v2976 : BitVec 32) : Fin 2 → Nat :=
  let c896_i32_1985 : BitVec 32 := 896#32
  ![v2976.toNat, 896]

def k0_chk993 (v2976 : BitVec 32) : Prop :=
  (∀ a, (k0_off993 v2976) a + S1x128.size a ≤ S100000x1024.size a)
theorem k0_off993_inb : ∀ (v2976 : BitVec 32) (k0_hw993 : k0_chk993 v2976), ∀ a, (k0_off993 v2976) a + S1x128.size a ≤ S100000x1024.size a := fun v2976 k0_hw993 => k0_hw993

def k0_off994 (v2979 : BitVec 32) : Fin 2 → Nat :=
  let c896_i32_1987 : BitVec 32 := 896#32
  ![v2979.toNat, 896]

def k0_chk994 (v2979 : BitVec 32) : Prop :=
  (∀ a, (k0_off994 v2979) a + S1x128.size a ≤ S100000x1024.size a)
theorem k0_off994_inb : ∀ (v2979 : BitVec 32) (k0_hw994 : k0_chk994 v2979), ∀ a, (k0_off994 v2979) a + S1x128.size a ≤ S100000x1024.size a := fun v2979 k0_hw994 => k0_hw994

def k0_off995 (v2982 : BitVec 32) : Fin 2 → Nat :=
  let c896_i32_1989 : BitVec 32 := 896#32
  ![v2982.toNat, 896]

def k0_chk995 (v2982 : BitVec 32) : Prop :=
  (∀ a, (k0_off995 v2982) a + S1x128.size a ≤ S100000x1024.size a)
theorem k0_off995_inb : ∀ (v2982 : BitVec 32) (k0_hw995 : k0_chk995 v2982), ∀ a, (k0_off995 v2982) a + S1x128.size a ≤ S100000x1024.size a := fun v2982 k0_hw995 => k0_hw995

def k0_off996 (v2985 : BitVec 32) : Fin 2 → Nat :=
  let c896_i32_1991 : BitVec 32 := 896#32
  ![v2985.toNat, 896]

def k0_chk996 (v2985 : BitVec 32) : Prop :=
  (∀ a, (k0_off996 v2985) a + S1x128.size a ≤ S100000x1024.size a)
theorem k0_off996_inb : ∀ (v2985 : BitVec 32) (k0_hw996 : k0_chk996 v2985), ∀ a, (k0_off996 v2985) a + S1x128.size a ≤ S100000x1024.size a := fun v2985 k0_hw996 => k0_hw996

def k0_off997 (v2988 : BitVec 32) : Fin 2 → Nat :=
  let c896_i32_1993 : BitVec 32 := 896#32
  ![v2988.toNat, 896]

def k0_chk997 (v2988 : BitVec 32) : Prop :=
  (∀ a, (k0_off997 v2988) a + S1x128.size a ≤ S100000x1024.size a)
theorem k0_off997_inb : ∀ (v2988 : BitVec 32) (k0_hw997 : k0_chk997 v2988), ∀ a, (k0_off997 v2988) a + S1x128.size a ≤ S100000x1024.size a := fun v2988 k0_hw997 => k0_hw997

def k0_off998 (v2991 : BitVec 32) : Fin 2 → Nat :=
  let c896_i32_1995 : BitVec 32 := 896#32
  ![v2991.toNat, 896]

def k0_chk998 (v2991 : BitVec 32) : Prop :=
  (∀ a, (k0_off998 v2991) a + S1x128.size a ≤ S100000x1024.size a)
theorem k0_off998_inb : ∀ (v2991 : BitVec 32) (k0_hw998 : k0_chk998 v2991), ∀ a, (k0_off998 v2991) a + S1x128.size a ≤ S100000x1024.size a := fun v2991 k0_hw998 => k0_hw998

def k0_off999 (v2994 : BitVec 32) : Fin 2 → Nat :=
  let c896_i32_1997 : BitVec 32 := 896#32
  ![v2994.toNat, 896]

def k0_chk999 (v2994 : BitVec 32) : Prop :=
  (∀ a, (k0_off999 v2994) a + S1x128.size a ≤ S100000x1024.size a)
theorem k0_off999_inb : ∀ (v2994 : BitVec 32) (k0_hw999 : k0_chk999 v2994), ∀ a, (k0_off999 v2994) a + S1x128.size a ≤ S100000x1024.size a := fun v2994 k0_hw999 => k0_hw999

def k0_off1000 (v2997 : BitVec 32) : Fin 2 → Nat :=
  let c896_i32_1999 : BitVec 32 := 896#32
  ![v2997.toNat, 896]

def k0_chk1000 (v2997 : BitVec 32) : Prop :=
  (∀ a, (k0_off1000 v2997) a + S1x128.size a ≤ S100000x1024.size a)
theorem k0_off1000_inb : ∀ (v2997 : BitVec 32) (k0_hw1000 : k0_chk1000 v2997), ∀ a, (k0_off1000 v2997) a + S1x128.size a ≤ S100000x1024.size a := fun v2997 k0_hw1000 => k0_hw1000

def k0_off1001 (v3000 : BitVec 32) : Fin 2 → Nat :=
  let c896_i32_2001 : BitVec 32 := 896#32
  ![v3000.toNat, 896]

def k0_chk1001 (v3000 : BitVec 32) : Prop :=
  (∀ a, (k0_off1001 v3000) a + S1x128.size a ≤ S100000x1024.size a)
theorem k0_off1001_inb : ∀ (v3000 : BitVec 32) (k0_hw1001 : k0_chk1001 v3000), ∀ a, (k0_off1001 v3000) a + S1x128.size a ≤ S100000x1024.size a := fun v3000 k0_hw1001 => k0_hw1001

def k0_off1002 (v3003 : BitVec 32) : Fin 2 → Nat :=
  let c896_i32_2003 : BitVec 32 := 896#32
  ![v3003.toNat, 896]

def k0_chk1002 (v3003 : BitVec 32) : Prop :=
  (∀ a, (k0_off1002 v3003) a + S1x128.size a ≤ S100000x1024.size a)
theorem k0_off1002_inb : ∀ (v3003 : BitVec 32) (k0_hw1002 : k0_chk1002 v3003), ∀ a, (k0_off1002 v3003) a + S1x128.size a ≤ S100000x1024.size a := fun v3003 k0_hw1002 => k0_hw1002

def k0_off1003 (v3006 : BitVec 32) : Fin 2 → Nat :=
  let c896_i32_2005 : BitVec 32 := 896#32
  ![v3006.toNat, 896]

def k0_chk1003 (v3006 : BitVec 32) : Prop :=
  (∀ a, (k0_off1003 v3006) a + S1x128.size a ≤ S100000x1024.size a)
theorem k0_off1003_inb : ∀ (v3006 : BitVec 32) (k0_hw1003 : k0_chk1003 v3006), ∀ a, (k0_off1003 v3006) a + S1x128.size a ≤ S100000x1024.size a := fun v3006 k0_hw1003 => k0_hw1003

def k0_off1004 (v3009 : BitVec 32) : Fin 2 → Nat :=
  let c896_i32_2007 : BitVec 32 := 896#32
  ![v3009.toNat, 896]

def k0_chk1004 (v3009 : BitVec 32) : Prop :=
  (∀ a, (k0_off1004 v3009) a + S1x128.size a ≤ S100000x1024.size a)
theorem k0_off1004_inb : ∀ (v3009 : BitVec 32) (k0_hw1004 : k0_chk1004 v3009), ∀ a, (k0_off1004 v3009) a + S1x128.size a ≤ S100000x1024.size a := fun v3009 k0_hw1004 => k0_hw1004

def k0_off1005 (v3012 : BitVec 32) : Fin 2 → Nat :=
  let c896_i32_2009 : BitVec 32 := 896#32
  ![v3012.toNat, 896]

def k0_chk1005 (v3012 : BitVec 32) : Prop :=
  (∀ a, (k0_off1005 v3012) a + S1x128.size a ≤ S100000x1024.size a)
theorem k0_off1005_inb : ∀ (v3012 : BitVec 32) (k0_hw1005 : k0_chk1005 v3012), ∀ a, (k0_off1005 v3012) a + S1x128.size a ≤ S100000x1024.size a := fun v3012 k0_hw1005 => k0_hw1005

def k0_off1006 (v3015 : BitVec 32) : Fin 2 → Nat :=
  let c896_i32_2011 : BitVec 32 := 896#32
  ![v3015.toNat, 896]

def k0_chk1006 (v3015 : BitVec 32) : Prop :=
  (∀ a, (k0_off1006 v3015) a + S1x128.size a ≤ S100000x1024.size a)
theorem k0_off1006_inb : ∀ (v3015 : BitVec 32) (k0_hw1006 : k0_chk1006 v3015), ∀ a, (k0_off1006 v3015) a + S1x128.size a ≤ S100000x1024.size a := fun v3015 k0_hw1006 => k0_hw1006

def k0_off1007 (v3018 : BitVec 32) : Fin 2 → Nat :=
  let c896_i32_2013 : BitVec 32 := 896#32
  ![v3018.toNat, 896]

def k0_chk1007 (v3018 : BitVec 32) : Prop :=
  (∀ a, (k0_off1007 v3018) a + S1x128.size a ≤ S100000x1024.size a)
theorem k0_off1007_inb : ∀ (v3018 : BitVec 32) (k0_hw1007 : k0_chk1007 v3018), ∀ a, (k0_off1007 v3018) a + S1x128.size a ≤ S100000x1024.size a := fun v3018 k0_hw1007 => k0_hw1007

def k0_off1008 (v3021 : BitVec 32) : Fin 2 → Nat :=
  let c896_i32_2015 : BitVec 32 := 896#32
  ![v3021.toNat, 896]

def k0_chk1008 (v3021 : BitVec 32) : Prop :=
  (∀ a, (k0_off1008 v3021) a + S1x128.size a ≤ S100000x1024.size a)
theorem k0_off1008_inb : ∀ (v3021 : BitVec 32) (k0_hw1008 : k0_chk1008 v3021), ∀ a, (k0_off1008 v3021) a + S1x128.size a ≤ S100000x1024.size a := fun v3021 k0_hw1008 => k0_hw1008

def k0_off1009 (v3024 : BitVec 32) : Fin 2 → Nat :=
  let c896_i32_2017 : BitVec 32 := 896#32
  ![v3024.toNat, 896]

def k0_chk1009 (v3024 : BitVec 32) : Prop :=
  (∀ a, (k0_off1009 v3024) a + S1x128.size a ≤ S100000x1024.size a)
theorem k0_off1009_inb : ∀ (v3024 : BitVec 32) (k0_hw1009 : k0_chk1009 v3024), ∀ a, (k0_off1009 v3024) a + S1x128.size a ≤ S100000x1024.size a := fun v3024 k0_hw1009 => k0_hw1009

def k0_off1010 (v3027 : BitVec 32) : Fin 2 → Nat :=
  let c896_i32_2019 : BitVec 32 := 896#32
  ![v3027.toNat, 896]

def k0_chk1010 (v3027 : BitVec 32) : Prop :=
  (∀ a, (k0_off1010 v3027) a + S1x128.size a ≤ S100000x1024.size a)
theorem k0_off1010_inb : ∀ (v3027 : BitVec 32) (k0_hw1010 : k0_chk1010 v3027), ∀ a, (k0_off1010 v3027) a + S1x128.size a ≤ S100000x1024.size a := fun v3027 k0_hw1010 => k0_hw1010

def k0_off1011 (v3030 : BitVec 32) : Fin 2 → Nat :=
  let c896_i32_2021 : BitVec 32 := 896#32
  ![v3030.toNat, 896]

def k0_chk1011 (v3030 : BitVec 32) : Prop :=
  (∀ a, (k0_off1011 v3030) a + S1x128.size a ≤ S100000x1024.size a)
theorem k0_off1011_inb : ∀ (v3030 : BitVec 32) (k0_hw1011 : k0_chk1011 v3030), ∀ a, (k0_off1011 v3030) a + S1x128.size a ≤ S100000x1024.size a := fun v3030 k0_hw1011 => k0_hw1011

def k0_off1012 (v3033 : BitVec 32) : Fin 2 → Nat :=
  let c896_i32_2023 : BitVec 32 := 896#32
  ![v3033.toNat, 896]

def k0_chk1012 (v3033 : BitVec 32) : Prop :=
  (∀ a, (k0_off1012 v3033) a + S1x128.size a ≤ S100000x1024.size a)
theorem k0_off1012_inb : ∀ (v3033 : BitVec 32) (k0_hw1012 : k0_chk1012 v3033), ∀ a, (k0_off1012 v3033) a + S1x128.size a ≤ S100000x1024.size a := fun v3033 k0_hw1012 => k0_hw1012

def k0_off1013 (v3036 : BitVec 32) : Fin 2 → Nat :=
  let c896_i32_2025 : BitVec 32 := 896#32
  ![v3036.toNat, 896]

def k0_chk1013 (v3036 : BitVec 32) : Prop :=
  (∀ a, (k0_off1013 v3036) a + S1x128.size a ≤ S100000x1024.size a)
theorem k0_off1013_inb : ∀ (v3036 : BitVec 32) (k0_hw1013 : k0_chk1013 v3036), ∀ a, (k0_off1013 v3036) a + S1x128.size a ≤ S100000x1024.size a := fun v3036 k0_hw1013 => k0_hw1013

def k0_off1014 (v3039 : BitVec 32) : Fin 2 → Nat :=
  let c896_i32_2027 : BitVec 32 := 896#32
  ![v3039.toNat, 896]

def k0_chk1014 (v3039 : BitVec 32) : Prop :=
  (∀ a, (k0_off1014 v3039) a + S1x128.size a ≤ S100000x1024.size a)
theorem k0_off1014_inb : ∀ (v3039 : BitVec 32) (k0_hw1014 : k0_chk1014 v3039), ∀ a, (k0_off1014 v3039) a + S1x128.size a ≤ S100000x1024.size a := fun v3039 k0_hw1014 => k0_hw1014

def k0_off1015 (v3042 : BitVec 32) : Fin 2 → Nat :=
  let c896_i32_2029 : BitVec 32 := 896#32
  ![v3042.toNat, 896]

def k0_chk1015 (v3042 : BitVec 32) : Prop :=
  (∀ a, (k0_off1015 v3042) a + S1x128.size a ≤ S100000x1024.size a)
theorem k0_off1015_inb : ∀ (v3042 : BitVec 32) (k0_hw1015 : k0_chk1015 v3042), ∀ a, (k0_off1015 v3042) a + S1x128.size a ≤ S100000x1024.size a := fun v3042 k0_hw1015 => k0_hw1015

def k0_off1016 (v3045 : BitVec 32) : Fin 2 → Nat :=
  let c896_i32_2031 : BitVec 32 := 896#32
  ![v3045.toNat, 896]

def k0_chk1016 (v3045 : BitVec 32) : Prop :=
  (∀ a, (k0_off1016 v3045) a + S1x128.size a ≤ S100000x1024.size a)
theorem k0_off1016_inb : ∀ (v3045 : BitVec 32) (k0_hw1016 : k0_chk1016 v3045), ∀ a, (k0_off1016 v3045) a + S1x128.size a ≤ S100000x1024.size a := fun v3045 k0_hw1016 => k0_hw1016

def k0_off1017 (v3048 : BitVec 32) : Fin 2 → Nat :=
  let c896_i32_2033 : BitVec 32 := 896#32
  ![v3048.toNat, 896]

def k0_chk1017 (v3048 : BitVec 32) : Prop :=
  (∀ a, (k0_off1017 v3048) a + S1x128.size a ≤ S100000x1024.size a)
theorem k0_off1017_inb : ∀ (v3048 : BitVec 32) (k0_hw1017 : k0_chk1017 v3048), ∀ a, (k0_off1017 v3048) a + S1x128.size a ≤ S100000x1024.size a := fun v3048 k0_hw1017 => k0_hw1017

def k0_off1018 (v3051 : BitVec 32) : Fin 2 → Nat :=
  let c896_i32_2035 : BitVec 32 := 896#32
  ![v3051.toNat, 896]

def k0_chk1018 (v3051 : BitVec 32) : Prop :=
  (∀ a, (k0_off1018 v3051) a + S1x128.size a ≤ S100000x1024.size a)
theorem k0_off1018_inb : ∀ (v3051 : BitVec 32) (k0_hw1018 : k0_chk1018 v3051), ∀ a, (k0_off1018 v3051) a + S1x128.size a ≤ S100000x1024.size a := fun v3051 k0_hw1018 => k0_hw1018

def k0_off1019 (v3054 : BitVec 32) : Fin 2 → Nat :=
  let c896_i32_2037 : BitVec 32 := 896#32
  ![v3054.toNat, 896]

def k0_chk1019 (v3054 : BitVec 32) : Prop :=
  (∀ a, (k0_off1019 v3054) a + S1x128.size a ≤ S100000x1024.size a)
theorem k0_off1019_inb : ∀ (v3054 : BitVec 32) (k0_hw1019 : k0_chk1019 v3054), ∀ a, (k0_off1019 v3054) a + S1x128.size a ≤ S100000x1024.size a := fun v3054 k0_hw1019 => k0_hw1019

def k0_off1020 (v3057 : BitVec 32) : Fin 2 → Nat :=
  let c896_i32_2039 : BitVec 32 := 896#32
  ![v3057.toNat, 896]

def k0_chk1020 (v3057 : BitVec 32) : Prop :=
  (∀ a, (k0_off1020 v3057) a + S1x128.size a ≤ S100000x1024.size a)
theorem k0_off1020_inb : ∀ (v3057 : BitVec 32) (k0_hw1020 : k0_chk1020 v3057), ∀ a, (k0_off1020 v3057) a + S1x128.size a ≤ S100000x1024.size a := fun v3057 k0_hw1020 => k0_hw1020

def k0_off1021 (v3060 : BitVec 32) : Fin 2 → Nat :=
  let c896_i32_2041 : BitVec 32 := 896#32
  ![v3060.toNat, 896]

def k0_chk1021 (v3060 : BitVec 32) : Prop :=
  (∀ a, (k0_off1021 v3060) a + S1x128.size a ≤ S100000x1024.size a)
theorem k0_off1021_inb : ∀ (v3060 : BitVec 32) (k0_hw1021 : k0_chk1021 v3060), ∀ a, (k0_off1021 v3060) a + S1x128.size a ≤ S100000x1024.size a := fun v3060 k0_hw1021 => k0_hw1021

def k0_off1022 (v3063 : BitVec 32) : Fin 2 → Nat :=
  let c896_i32_2043 : BitVec 32 := 896#32
  ![v3063.toNat, 896]

def k0_chk1022 (v3063 : BitVec 32) : Prop :=
  (∀ a, (k0_off1022 v3063) a + S1x128.size a ≤ S100000x1024.size a)
theorem k0_off1022_inb : ∀ (v3063 : BitVec 32) (k0_hw1022 : k0_chk1022 v3063), ∀ a, (k0_off1022 v3063) a + S1x128.size a ≤ S100000x1024.size a := fun v3063 k0_hw1022 => k0_hw1022

def k0_off1023 (v3066 : BitVec 32) : Fin 2 → Nat :=
  let c896_i32_2045 : BitVec 32 := 896#32
  ![v3066.toNat, 896]

def k0_chk1023 (v3066 : BitVec 32) : Prop :=
  (∀ a, (k0_off1023 v3066) a + S1x128.size a ≤ S100000x1024.size a)
theorem k0_off1023_inb : ∀ (v3066 : BitVec 32) (k0_hw1023 : k0_chk1023 v3066), ∀ a, (k0_off1023 v3066) a + S1x128.size a ≤ S100000x1024.size a := fun v3066 k0_hw1023 => k0_hw1023

def k0_off1024 (v3069 : BitVec 32) : Fin 2 → Nat :=
  let c896_i32_2047 : BitVec 32 := 896#32
  ![v3069.toNat, 896]

def k0_chk1024 (v3069 : BitVec 32) : Prop :=
  (∀ a, (k0_off1024 v3069) a + S1x128.size a ≤ S100000x1024.size a)
theorem k0_off1024_inb : ∀ (v3069 : BitVec 32) (k0_hw1024 : k0_chk1024 v3069), ∀ a, (k0_off1024 v3069) a + S1x128.size a ≤ S100000x1024.size a := fun v3069 k0_hw1024 => k0_hw1024

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .f32⟩
  | .hbm, ⟨3, _⟩ => ⟨S1024x1, .i32⟩
  | .hbm, ⟨4, _⟩ => ⟨S_, .i32⟩
  | .hbm, ⟨5, _⟩ => ⟨S1024x1, .i32⟩
  | .hbm, ⟨6, _⟩ => ⟨S1024x1, .i1⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S1024x1, .i32⟩
  | .hbm, ⟨11, _⟩ => ⟨S1024x1x1, .i32⟩
  | .hbm, ⟨12, _⟩ => ⟨S1, .i32⟩
  | .hbm, ⟨13, _⟩ => ⟨S_, .i32⟩
  | .hbm, ⟨14, _⟩ => ⟨S1024x1x1, .i32⟩
  | .hbm, ⟨15, _⟩ => ⟨S1024x1x1, .i1⟩
  | .hbm, ⟨16, _⟩ => ⟨S1x1x1, .i32⟩
  | .hbm, ⟨17, _⟩ => ⟨S1024x1x1, .i32⟩
  | .hbm, ⟨18, _⟩ => ⟨S1024x1x1, .i1⟩
  | .hbm, ⟨19, _⟩ => ⟨S1024x1x1, .i1⟩
  | .hbm, ⟨20, _⟩ => ⟨S_, .i1⟩
  | .hbm, ⟨21, _⟩ => ⟨S1024x1, .i1⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S_, .f32⟩
  | .hbm, ⟨30, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Gather.lean ====
module

public import proofs.«01_k».proof.KernelIdeal.P01
public import Idealize.ShloMosaic.Lib.Batch
public import Idealize.ShloMosaic.Lib.Pipeline.FrameBody
public import Idealize.ShloMosaic.Lib.Pipeline.FrameSuffix
public import Idealize.ShloMosaic.Lib.Tactic

/-!
# The copies of the kernel

The kernel reads 1024 row numbers from a table, starts 1024 copies of 128 words each on one semaphore, every copy
from the row its number names into the row of its own of a scratch buffer, and then waits once for all of them.
-/

@[expose] public section

noncomputable section

namespace Cert.Gather

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Programs that return a known value -/

section Runs

variable {M : Type} [URA M] {Ef : Type → Type} {Mask : Type} (Fr : Mask → sProp M)
  (cl : Mask → ∀ ⦃β : Type⦄, Ef β → sWPT M β) (E : Mask) {α β : Type}

/-- From `I`, the program `p` returns `r` and leaves `J`. -/
def Runs (I : sProp M) (p : Prog Ef α) (r : α) (J : sProp M) : Prop :=
  ∀ Q : α → sProp M, (J ⊢ Q r) → (I ⊢ wp Fr cl E p Q)

variable {Fr cl E}

theorem Runs.ret {I : sProp M} {r : α} : Runs Fr cl E I (pure r) r I := fun _ h => by
  rw [wp_pure]; exact h.trans fupd_intro

theorem Runs.bind {I J L : sProp M} {p : Prog Ef α} {k : α → Prog Ef β} {r : α} {s : β}
    (h : Runs Fr cl E I p r J) (hk : Runs Fr cl E J (k r) s L) : Runs Fr cl E I (p >>= k) s L := fun Q hQ => by
  rw [wp_bind]; exact h _ (hk Q hQ)

/-- A rule for an effect at the head of a program, read as what the effect alone does beside what it does not touch. -/
theorem Runs.of_rule {I J R I' J' : sProp M} {p : Prog Ef α} {r : α}
    (h : ∀ Q : α → sProp M, I ⊢ iprop((J -∗ wp Fr cl E (pure r) Q) -∗ wp Fr cl E p Q))
    (hI : I' ⊢ iprop(I ∗ R)) (hJ : iprop(J ∗ R) ⊢ J') : Runs Fr cl E I' p r J' := fun Q hQ => by
  refine hI.trans ?_
  iintro ⟨HI, HR⟩
  iapply (h Q) $$ HI
  iintro HJ
  iapply (show Q r ⊢ wp Fr cl E (pure r) Q by rw [wp_pure]; exact fupd_intro)
  iapply (hJ.trans hQ)
  isplitl [HJ] <;> iassumption

end Runs

/-! ## Places -/

/-- Row `j` of the scratch buffer lies in it. -/
theorem row_inb (j : Fin 1024) : ∀ a, (![j.val, 0] : Fin 2 → ℕ) a + S1x128.size a ≤ S1024x128.size a := by
  intro a; fin_cases a
  · show j.val + 1 ≤ 1024; omega
  · show 0 + 128 ≤ 128; omega

/-- A row number below 100000 and a first column of at most 896 name 128 words of the array. -/
theorem off_ok {v : BitVec 32} {o : ℕ} (hv : v.toNat < 100000) (ho : o ≤ 896) :
    ∀ a, (![v.toNat, o] : Fin 2 → ℕ) a + S1x128.size a ≤ S100000x1024.size a := by
  intro a; fin_cases a
  · show v.toNat + 1 ≤ 100000; omega
  · show o + 128 ≤ 1024; omega

variable {F : FTy → Type} [FloatOps F]

local notation "𝕄" => MT nD τ sig Unit (Elt F) ℕ (Pipeline.UD sig nD τ) ℕ

/-- The array the copies read, and the buffer they fill. -/
abbrev src : Memref sig .tc .hbm S100000x1024 .f32 := Memref.whole main_v0
abbrev buf : Memref sig .tc .vmem S1024x128 .f32 := Memref.whole cc0_scratch0

abbrev SrcBuf (F : FTy → Type) (c : Dev nD) : Type := Buf (Elt F) (src.view.loc (c : Thread nD τ))
abbrev DstBuf (F : FTy → Type) (c : Dev nD) : Type := Buf (Elt F) (buf.view.loc (c : Thread nD τ))

/-- The 128 words a copy reads, at offsets `off`. -/
abbrev srcRow (off : Fin 2 → ℕ) (h : ∀ a, off a + S1x128.size a ≤ S100000x1024.size a) : Memref sig .tc .hbm S1x128 .f32 :=
  src.slice (Rect.unit (s := S100000x1024) off S1x128.size h) (fun _ => rfl)
/-- The row of the scratch buffer copy `j` fills. -/
abbrev dstRow (j : ℕ) (h : ∀ a, (![j, 0] : Fin 2 → ℕ) a + S1x128.size a ≤ S1024x128.size a) : Memref sig .tc .vmem S1x128 .f32 :=
  buf.slice (Rect.unit (s := S1024x128) ![j, 0] S1x128.size h) (fun _ => rfl)

/-- The first word copy `j` reads, for the row number `v`. -/
def firstOf (v : BitVec 32) (j : ℕ) : Fin 2 → ℕ := ![v.toNat, 128 * (j / 128)]

theorem firstOf_ok {v : BitVec 32} (hv : v.toNat < 100000) {j : ℕ} (hj : j < 1024) :
    ∀ a, firstOf v j a + S1x128.size a ≤ S100000x1024.size a := off_ok hv (by omega)

section Table

variable (T : ℕ → BitVec 32) (hT : ∀ i, (T i).toNat < 100000)

/-- The element of the array that copy `i` brings to lane `l`. -/
def srcIdx (i : Fin 1024) (l : Fin 128) : S100000x1024.Idx := fun a =>
  ⟨(![(T i).toNat, 128 * (i.val / 128) + l.val] : Fin 2 → ℕ) a, by
    fin_cases a
    · exact hT i
    · show 128 * (i.val / 128) + l.val < 1024; omega⟩

variable (c : Dev nD) (P : SrcBuf F c)

/-- The scratch buffer once every copy has landed. -/
def gathered : DstBuf F c := fun x => P (srcIdx T hT (x 0) (x 1))

/-- Copy `j`'s share of the array. -/
abbrev shareOf (j : Fin 1024) : PosShare TreeShare := Transfers.shareTok fullShare 1024 j

/-- What copy `j` reads, at its share. -/
def lent (j : Fin 1024) : sProp 𝕄 :=
  src.view.loc (c : Thread nD τ) ↦[(srcRow (firstOf (T j) j) (firstOf_ok (hT j) j.isLt)).view.set]{shareOf j} P
/-- The rest of the array at copy `j`'s share. -/
def unlent (j : Fin 1024) : sProp 𝕄 :=
  src.view.loc (c : Thread nD τ) ↦[Finset.univ \ (srcRow (firstOf (T j) j) (firstOf_ok (hT j) j.isLt)).view.set]{shareOf j} P
/-- Row `j` of the scratch buffer at contents `f`. -/
def rowAt (f : DstBuf F c) (j : Fin 1024) : sProp 𝕄 :=
  buf.view.loc (c : Thread nD τ) ↦[(dstRow j (row_inb j)).view.set]{fullShare} f

/-- What copy `j` delivers: its row filled, and the share of the array that it read. -/
def delivery (j : Fin 1024) : sProp 𝕄 := iprop(rowAt c (gathered T hT c P) j ∗ lent T hT c P j)

instance (j : Fin 1024) : Storable (upEmb : UEmb _ 𝕄) (delivery T hT c P j) := by
  unfold delivery rowAt lent; infer_instance

/-- The copy's row, written with what it read, is the gathered row. -/
theorem landed (j : Fin 1024) (f : DstBuf F c) :
    ∀ x ∈ (dstRow j (row_inb j)).view.set,
      (dstRow j (row_inb j)).view.write (Elt F) f
        ((srcRow (firstOf (T j) j) (firstOf_ok (hT j) j.isLt)).view.read (Elt F) P) Finset.univ x = gathered T hT c P x := by
  intro x hx
  obtain ⟨y, -, rfl⟩ := Finset.mem_map.mp hx
  rw [View.write_emb_of_mem (h := Finset.mem_univ y)]
  show P _ = P _
  congr 1
  funext a
  apply Fin.ext
  have h0 : (y 0).val = 0 := by have := (y 0).isLt; change (y 0).val < 1 at this; omega
  fin_cases a
  · show (T j).toNat + 1 * (y 0).val = (T (j.val + 1 * (y 0).val)).toNat
    rw [h0]; rfl
  · show 128 * (j.val / 128) + 1 * (y 1).val = 128 * ((j.val + 1 * (y 0).val) / 128) + (0 + 1 * (y 1).val)
    rw [h0]; omega

/-! ## Splitting what is held among the copies, and joining it again -/

/-- The elements of row `j`. -/
abbrev rowSet (j : Fin 1024) : Finset S1024x128.Idx := (dstRow j (row_inb j)).view.set

theorem rows_disjoint : ∀ i ∈ (Finset.univ : Finset (Fin 1024)), ∀ j ∈ (Finset.univ : Finset (Fin 1024)), i ≠ j →
    Disjoint (rowSet i) (rowSet j) := by
  intro i _ j _ hij
  refine Finset.disjoint_left.mpr fun x hx hx' => hij ?_
  obtain ⟨y, -, rfl⟩ := Finset.mem_map.mp hx
  obtain ⟨z, -, hz⟩ := Finset.mem_map.mp hx'
  have h0 : (y 0).val = 0 := by have := (y 0).isLt; change (y 0).val < 1 at this; omega
  have h1 : (z 0).val = 0 := by have := (z 0).isLt; change (z 0).val < 1 at this; omega
  have h : j.val + 1 * (z 0).val = i.val + 1 * (y 0).val := congrArg (fun w : S1024x128.Idx => (w 0).val) hz
  exact Fin.ext (by omega)

theorem mem_rowSet (x : S1024x128.Idx) : x ∈ rowSet (x 0) := by
  have hy : ∀ a, (![0, (x 1).val] : Fin 2 → ℕ) a < S1x128.size a := by
    intro a; fin_cases a
    · exact Nat.one_pos
    · exact (x 1).isLt
  have hx : (dstRow (x 0).val (row_inb (x 0))).view.emb (fun a => ⟨_, hy a⟩) = x := by
    funext a; apply Fin.ext
    fin_cases a
    · show (x 0).val + 1 * 0 = _; simp
    · show 0 + 1 * (x 1).val = _; simp
  exact Finset.mem_map.mpr ⟨_, Finset.mem_univ _, hx⟩

theorem rows_cover {S : Finset (Fin 1024)} (hS : ∀ i, i ∈ S) : S.biUnion rowSet = (Finset.univ : Finset S1024x128.Idx) := by
  refine Finset.eq_univ_of_forall fun x => ?_
  have h := mem_rowSet x
  rw [Finset.mem_biUnion]
  exact ⟨x 0, hS _, h⟩

/-- The scratch buffer is its rows. -/
theorem rows_eq (f : DstBuf F c) :
    (buf.view.loc (c : Thread nD τ) ↦{fullShare} f : sProp 𝕄) = bigSep Finset.univ (fun j => rowAt c f j) := by
  unfold rowAt
  rw [← rows_cover (S := Finset.univ) Finset.mem_univ]
  exact pointsTo_biUnion (ℓ := buf.view.loc (c : Thread nD τ)) Finset.univ rowSet rows_disjoint

theorem whole_share (j : Fin 1024) : (src.view.loc (c : Thread nD τ) ↦[Finset.univ]{shareOf j} P : sProp 𝕄)
      = iprop(lent T hT c P j ∗ unlent T hT c P j) :=
  have h := pointsTo_split_subset (ℓ := src.view.loc (c : Thread nD τ)) (q := shareOf j) (f := P) (Ix := Unit) (Name := ℕ) (U := Pipeline.UD sig nD τ) (Lvl := ℕ)
    (Finset.subset_univ (srcRow (firstOf (T j) j) (firstOf_ok (hT j) j.isLt)).view.set)
  Idealize.SL.BI.Entails.antisymm h.1 h.2

/-- The array is what the copies borrow, with what stays. -/
theorem shares_eq :
    (src.view.loc (c : Thread nD τ) ↦{fullShare} P : sProp 𝕄) ⊣⊢
      iprop((src.view.loc (c : Thread nD τ) ↦{Transfers.shareDrop fullShare 1024} P)
        ∗ bigSep Finset.univ (fun j => lent T hT c P j) ∗ bigSep Finset.univ (fun j => unlent T hT c P j)) := by
  refine (Transfers.pointsTo_toks fullShare 1024).trans ?_
  rw [show iprop(bigSep Finset.univ (fun j => lent T hT c P j) ∗ bigSep Finset.univ (fun j => unlent T hT c P j)) = bigSep Finset.univ (fun j => iprop(lent T hT c P j ∗ unlent T hT c P j)) from (bigSep_sep _ _ _).symm]
  rw [show (fun i : Fin 1024 => (src.view.loc (c : Thread nD τ) ↦[Finset.univ]{Transfers.shareTok fullShare 1024 i} P : sProp 𝕄))
    = fun j => iprop(lent T hT c P j ∗ unlent T hT c P j) from funext fun j => whole_share T hT c P j]

/-! ## The steps -/

variable {Λ : Labels} {defs : Defs nD τ sig (Elt F) Λ} {𝒱 : Variants} {bd : Option 𝒱.V}
variable (cell : DmaSem sig) (f : DstBuf F c)

abbrev EC : UEmb Counters 𝕄 := countersEmb (U := Pipeline.UD sig nD τ)

/-- The copies in flight, `j` of them started and none waited for. -/
def flight (j : ℕ) : sProp 𝕄 := Transfers.Batch EC (c : Thread nD τ) (.dma cell) () 16 (delivery T hT c P) j 0

/-- With copies `0 … j - 1` started: the copies in flight, what the others will borrow and fill, and the rest. -/
def Inv (R : sProp 𝕄) (j : ℕ) : sProp 𝕄 :=
  iprop(flight T hT c P cell j
    ∗ bigSep (Transfers.pending j) (fun t => lent T hT c P t) ∗ bigSep (Transfers.pending j) (fun t => rowAt c f t) ∗ R)

variable (defs 𝒱 bd) in
/-- `Runs` on the TensorCore of device `c`. -/
abbrev RunsAt {α : Type} (I : sProp 𝕄) (p : Prog (TpuEff nD τ sig (Elt F) Λ .tc) α) (r : α) (J : sProp 𝕄) : Prop :=
  Runs frame (wpE defs 𝒱 (c : Thread nD τ) bd) Set.univ I p r J

/-- A word read from a buffer that is held beside the rest. -/
theorem word_step {sh : Shape} {e : EltTy} {I : sProp 𝕄} (m : Memref sig .tc .smem sh e) (r : Rect sh) (h1 : r.shape.numel = 1) (hp : e.packing = 1)
    (q1 : PosShare TreeShare) (f1 : Buf (Elt F) (m.view.loc (c : Thread nD τ))) (R' : sProp 𝕄)
    (hI : I ⊣⊢ iprop((m.view.loc (c : Thread nD τ) ↦[m.view.set]{q1} f1) ∗ R')) :
    RunsAt c defs 𝒱 bd I (smemLoad m r h1 hp) ((m.access r).read (Elt F) f1 (Shape.Idx.first (h1.symm ▸ Nat.one_pos))) I := by
  refine Runs.of_rule (fun Q => ?_) hI.1 hI.2
  have hw := wp_smemLoadElt (defs := defs) (Q := Q) (k := fun x => Prog.ret x) (f := f1) (q := q1) (S := m.view.set) 𝒱 (c : Thread nD τ) bd Set.univ
    (m := m) (r := r) (hw := View.loads_smem_one hp h1) (x := Shape.Idx.first (h1.symm ▸ Nat.one_pos)) (Γ := .empty) (View.set_slice_subset _ _)
  exact hw

/-- Word `i` of the table. -/
theorem table_step {I : sProp 𝕄} (arg1 : Memref sig .tc .smem S1024 .i32) (q1 : PosShare TreeShare)
    (f1 : Buf (Elt F) (arg1.view.loc (c : Thread nD τ))) (R' : sProp 𝕄)
    (hI : I ⊣⊢ iprop((arg1.view.loc (c : Thread nD τ) ↦[arg1.view.set]{q1} f1) ∗ R'))
    (hT1 : ∀ x : S1024.Idx, arg1.view.read (Elt F) f1 x = T (x 0).val) (i : ℕ)
    (hinb : ∀ a, (![i] : Fin 1 → ℕ) a + S1.size a ≤ S1024.size a) (h1 : S1.numel = 1) :
    RunsAt c defs 𝒱 bd I (smemLoad arg1 (Rect.unit (s := S1024) ![i] S1.size hinb) h1 rfl) (T i) I := by
  have hx : 0 < (Rect.unit (s := S1024) ![i] S1.size hinb).shape.numel := h1.symm ▸ Nat.one_pos
  have hz : ((Shape.Idx.first hx) 0).val = 0 := Nat.lt_one_iff.mp (Fin.isLt _)
  have hv : (arg1.access (Rect.unit (s := S1024) ![i] S1.size hinb)).read (Elt F) f1 (Shape.Idx.first hx) = T i := by
    refine (hT1 ((Rect.unit (s := S1024) ![i] S1.size hinb).emb (Shape.Idx.first hx))).trans ?_
    refine congrArg T ?_
    change i + 1 * ((Shape.Idx.first hx) 0).val = i
    rw [hz]; rfl
  have h := word_step c (defs := defs) (𝒱 := 𝒱) (bd := bd) arg1 (Rect.unit (s := S1024) ![i] S1.size hinb) h1 rfl q1 f1 R' hI
  rw [hv] at h
  exact h

theorem assume_step {I : sProp 𝕄} (p : Prop) (d : Decidable p) (h : p) :
    RunsAt c defs 𝒱 bd I (Prog.lift (TpuEff.assume p d)) (PLift.up h) I := by
  intro Q hQ
  have hw := wp_assume_of (defs := defs) (k := fun x => Prog.ret x) (Q := Q) (d := d) 𝒱 (c : Thread nD τ) bd Set.univ h
  refine hQ.trans ?_
  unfold Prog.lift
  rw [hw, wp_ret]
  exact fupd_intro

/-- One copy started. -/
theorem issue_step (R : sProp 𝕄) (i j : ℕ) (off : Fin 2 → ℕ) (hoff : ∀ a, off a + S1x128.size a ≤ S100000x1024.size a)
    (hj : ∀ a, (![j, 0] : Fin 2 → ℕ) a + S1x128.size a ≤ S1024x128.size a)
    (s : Memref sig .tc .hbm S1x128 .f32) (d : Memref sig .tc .vmem S1x128 .f32)
    (h1 : s.view.WordExact) (h2 : d.view.WordExact)
    (h3 : (DmaTarget.here d : DmaTarget nD τ sig .tc .vmem S1x128 .f32).Typed .hbm (.dma cell))
    (hd : d = dstRow j hj) (hs : s = srcRow off hoff) (hij : i = j) (ho : off = firstOf (T j) j) :
    RunsAt c defs 𝒱 bd (Inv T hT c P cell f R i) (Prog.lift (.enqueueDma s (.here d) (.dma cell) h1 h2 h3)) PUnit.unit
      (Inv T hT c P cell f R ((j + 1))) := by
  subst hij ho hs hd
  have hi : i < 1024 := by have := hj 0; change i + 1 ≤ 1024 at this; omega
  refine Runs.of_rule (I := iprop(lent T hT c P ⟨i, hi⟩ ∗ rowAt c f ⟨i, hi⟩ ∗ flight T hT c P cell i))
    (J := flight T hT c P cell (i + 1))
    (R := iprop(bigSep (Transfers.pending (i + 1)) (fun t => lent T hT c P t)
      ∗ bigSep (Transfers.pending (i + 1)) (fun t => rowAt c f t) ∗ R)) (fun Q => ?_) ?_ ?_
  · have hw := Transfers.wp_dmaBatch (defs := defs) (Q := Q) EC 𝒱 (c : Thread nD τ) bd (D := delivery T hT c P) (j := i) (u := 0)
      (via := .same) (q := shareOf ⟨i, hi⟩) (fs := P) (fd := f) (k := fun x => Prog.ret x) (hsrc := h1) (hdst := h2) (hsem := h3)
      () 16 rfl (Finset.Subset.refl _) hi (Nat.zero_le _) ?_
    · exact hw
    · unfold delivery rowAt
      refine sep_mono_left (Entails.of_eq (pointsTo_congr (landed T hT c P ⟨i, hi⟩ f))) |>.trans ?_
      unfold lent
      exact .rfl
  · unfold Inv
    rw [Transfers.bigSep_pending_step _ i hi, Transfers.bigSep_pending_step _ i hi]
    iintro ⟨HB, ⟨Hl, Hls⟩, ⟨Hr, Hrs⟩, HR⟩
    isplitl [Hl Hr HB]
    · isplitl [Hl]; · iexact Hl
      isplitl [Hr]; · iexact Hr
      iexact HB
    isplitl [Hls]; · iexact Hls
    isplitl [Hrs]; · iexact Hrs
    iexact HR
  · unfold Inv
    iintro ⟨HB, Hls, Hrs, HR⟩
    isplitl [HB]; · iexact HB
    isplitl [Hls]; · iexact Hls
    isplitl [Hrs]; · iexact Hrs
    iexact HR

/-- A load of a buffer that is held beside the rest. -/
theorem read_step {cs : CoreSpace} {sh : Shape} {e : EltTy} {I : sProp 𝕄} (m : Memref sig .tc cs sh e) (r : Rect sh) (hl : m.view.LoadsAt r)
    (q1 : PosShare TreeShare) (f1 : Buf (Elt F) (m.view.loc (c : Thread nD τ))) (R' : sProp 𝕄)
    (hI : I ⊣⊢ iprop((m.view.loc (c : Thread nD τ) ↦[m.view.set]{q1} f1) ∗ R')) :
    RunsAt c defs 𝒱 bd I (Prog.lift (TpuEff.load m r hl)) ((m.access r).read (Elt F) f1) I := by
  refine Runs.of_rule (fun Q => ?_) hI.1 hI.2
  have hw := wp_load_rect (defs := defs) (Q := Q) (k := fun x => Prog.ret x) (f := f1) (q := q1) (S := m.view.set) 𝒱 (c : Thread nD τ) bd Set.univ
    (m := m) (r := r) (hl := hl) (Γ := .empty) (View.set_slice_subset _ _)
  exact hw

/-- A store of a buffer that is held beside the rest. -/
theorem write_step {cs : CoreSpace} {sh : Shape} {e : EltTy} {I J : sProp 𝕄} (m : Memref sig .tc cs sh e) (r : Rect sh)
    (w : r.shape.Idx → Elt F e) (hx : (m.access r).Stores Finset.univ) (hm : (Finset.univ : Finset r.shape.Idx) = Finset.univ ∨ ∀ a, r.stride a = 1)
    (f1 : Buf (Elt F) (m.view.loc (c : Thread nD τ))) (R' : sProp 𝕄)
    (hI : I ⊢ iprop((m.view.loc (c : Thread nD τ) ↦[m.view.set]{fullShare} f1) ∗ R'))
    (hJ : iprop((m.view.loc (c : Thread nD τ) ↦[m.view.set]{fullShare} ((m.access r).write (Elt F) f1 w Finset.univ)) ∗ R') ⊢ J) :
    RunsAt c defs 𝒱 bd I (Prog.lift (TpuEff.store m r w Finset.univ hx hm)) PUnit.unit J := by
  refine Runs.of_rule (fun Q => ?_) hI hJ
  have hw := wp_store (defs := defs) (Q := Q) (k := fun x => Prog.ret x) (f := f1) (S := m.view.set) 𝒱 (c : Thread nD τ) bd Set.univ
    (m := m) (r := r) (w := w) (Mk := Finset.univ) (hx := hx) (hm := hm) (Γ := .empty) (View.set_slice_subset _ _)
  exact hw

/-- The one wait: every copy has been delivered. -/
theorem wait_step (R : sProp 𝕄) {I J : sProp 𝕄} {sp' : Space} (s : Memref sig .tc sp' S1024x128 .f32) (d : Memref sig .tc .vmem S1024x128 .f32)
    (h1 : s.view.WordExact) (h2 : d.view.WordExact) (W : Waits sig Unit) (hd : d.view.dmaCredit = 16384)
    (hI : I ⊢ iprop(flight T hT c P cell 1024 ∗ owes (c : Thread nD τ) 0 W ∗ R))
    (hJ : iprop((bigSep Finset.univ (delivery T hT c P) ∗ semVal (c, .dma cell) 0 ∗ owes (c : Thread nD τ) 0 (insert (SemLoc.dma cell, ()) W)) ∗ R) ⊢ J) :
    RunsAt c defs 𝒱 bd I (Prog.lift (TpuEff.waitDma2 cell s d h1 h2)) PUnit.unit J := by
  refine Runs.of_rule (I := iprop(flight T hT c P cell 1024 ∗ owes (c : Thread nD τ) 0 W)) (R := R) (fun Q => ?_) (hI.trans ?_) hJ
  · have hw := Transfers.wp_waitBatchAll (defs := defs) (Q := Q) (k := fun x => Prog.ret x) EC 𝒱 (c : Thread nD τ) bd
      (D := delivery T hT c P) (srcw := s) (dstw := d) (hsrc := h1) (hdst := h2) (sem := cell) (u := 0) (N := 16) () hd (by decide) (by decide) (W := W)
    exact hw
  · iintro ⟨HB, HO, HR⟩
    isplitl [HB HO]
    · isplitl [HB] <;> iassumption
    iexact HR

/-! ## The states between the steps -/

/-- A buffer held beside the copies in flight is held beside the rest. -/
theorem inv_swap (A R : sProp 𝕄) (j : ℕ) : Inv T hT c P cell f iprop(A ∗ R) j ⊣⊢ iprop(A ∗ Inv T hT c P cell f R j) := by
  unfold Inv
  constructor
  · iintro ⟨H1, H2, H3, HA, HR⟩
    isplitl [HA]; · iexact HA
    isplitl [H1]; · iexact H1
    isplitl [H2]; · iexact H2
    isplitl [H3]; · iexact H3
    iexact HR
  · iintro ⟨HA, H1, H2, H3, HR⟩
    isplitl [H1]; · iexact H1
    isplitl [H2]; · iexact H2
    isplitl [H3]; · iexact H3
    isplitl [HA]; · iexact HA
    iexact HR

/-- What the copies leave of the array, while they are in flight. -/
def kept : sProp 𝕄 :=
  iprop((src.view.loc (c : Thread nD τ) ↦{Transfers.shareDrop fullShare 1024} P) ∗ bigSep Finset.univ (fun j => unlent T hT c P j))

/-- Before the first copy: the array whole, the buffer whole and the cell at zero are a run of copies with none started. -/
theorem inv_intro (R : sProp 𝕄) :
    iprop((src.view.loc (c : Thread nD τ) ↦{fullShare} P) ∗ (buf.view.loc (c : Thread nD τ) ↦{fullShare} f)
      ∗ semVal ((c : Thread nD τ), .dma cell) 0 ∗ R) ⊢ iprop(|={Set.univ}=> Inv T hT c P cell f iprop(kept T hT c P ∗ R) 0) := by
  have hs := (shares_eq T hT c P).1
  have hr := Entails.of_eq (rows_eq c f)
  have hb : (semVal ((c : Thread nD τ), .dma cell) 0 : sProp 𝕄) ⊢ iprop(|={Set.univ}=> flight T hT c P cell 0) :=
    Transfers.batch_alloc' EC (c : Thread nD τ) () 16 (delivery T hT c P)
  have hl := Transfers.bigSep_pending_zero (fun j => lent T hT c P j)
  have hw := Transfers.bigSep_pending_zero (fun j => rowAt c f j)
  iintro ⟨HS, HB, HV, HR⟩
  imod hb $$ HV with HF
  imodintro
  unfold Inv kept
  rw [← hl, ← hw]
  icases hs $$ HS with ⟨HD, HL, HU⟩
  isplitl [HF]; · iexact HF
  isplitl [HL]; · iexact HL
  isplitl [HB]
  · iapply hr
    iexact HB
  isplitl [HD HU]
  · isplitl [HD] <;> iassumption
  iexact HR

/-- After the wait: the array whole again, the buffer gathered. -/
theorem landed_all : iprop(bigSep Finset.univ (delivery T hT c P) ∗ kept T hT c P)
    ⊢ iprop((src.view.loc (c : Thread nD τ) ↦{fullShare} P) ∗ (buf.view.loc (c : Thread nD τ) ↦{fullShare} (gathered T hT c P))) := by
  have hs := (shares_eq T hT c P).2
  have hr := Entails.of_eq (rows_eq c (gathered T hT c P)).symm
  have hd : bigSep Finset.univ (delivery T hT c P)
      = iprop(bigSep Finset.univ (fun j => rowAt c (gathered T hT c P) j) ∗ bigSep Finset.univ (fun j => lent T hT c P j)) :=
    bigSep_sep _ _ _
  rw [hd]
  unfold kept
  iintro ⟨⟨HR, HL⟩, HD, HU⟩
  isplitl [HL HD HU]
  · iapply hs
    isplitl [HD]; · iexact HD
    isplitl [HL]; · iexact HL
    iexact HU
  · iapply hr
    iexact HR

end Table

end Cert.Gather
-- ==== Proof.Body.lean ====
module

public import proofs.«01_k».proof.KernelIdeal
public import proofs.«01_k».proof.Proof.Gather

/-!
# The run of the kernel's body

The body is a long sequence of the same three steps: read a row number, check it, start its copy. Each step has its
lemma, so the run is those lemmas one after another, in the order of the program.
-/

@[expose] public section

noncomputable section

namespace Cert.Gather

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
local notation "𝕄" => MT nD τ sig Unit (Elt F) ℕ (Pipeline.UD sig nD τ) ℕ

variable (T : ℕ → BitVec 32) (hT : ∀ i, (T i).toNat < 100000) (c : Dev nD) (P : SrcBuf F c) (f : DstBuf F c)
  {defs : Defs nD τ sig (Elt F) Λ₀} {𝒱 : Variants} {bd : Option 𝒱.V}
  (arg1 : Memref sig .tc .smem S1024 .i32) (h1 : arg1.IsWhole) (arg2 : Memref sig .tc .vmem S8x128 .f32) (h2 : arg2.IsWhole)
  (arg3 : Memref sig .tc .smem S1x1 .f32) (h3 : arg3.IsWhole) (hs : src.IsWhole) (hb : buf.IsWhole) (arg5 : DmaSems sig S_)
  (q1 : PosShare TreeShare) (f1 : Buf (Elt F) (arg1.view.loc (c : Thread nD τ)))

/-- The table, held at a share. -/
abbrev table : sProp 𝕄 := (arg1.view.loc (c : Thread nD τ) ↦[arg1.view.set]{q1} f1)

set_option maxHeartbeats 40000000 in
set_option maxRecDepth 20000 in
/-- The first 400 copies. -/
theorem first_runs (hT1 : ∀ x : S1024.Idx, arg1.view.read (Elt F) f1 x = T (x 0).val) (R : sProp 𝕄) :
    RunsAt c defs 𝒱 bd (Inv T hT c P arg5.sem f iprop(table c arg1 q1 f1 ∗ R) 0)
      (k0_part155 src hs arg1 h1 arg2 h2 arg3 h3 buf hb arg5) ⟨⟩ (Inv T hT c P arg5.sem f iprop(table c arg1 q1 f1 ∗ R) 400) := by
  have hload := fun j => table_step T c (defs := defs) (𝒱 := 𝒱) (bd := bd) arg1 q1 f1 _ (inv_swap T hT c P arg5.sem f (table c arg1 q1 f1) R j) hT1
  have hassume : ∀ (I : sProp 𝕄) p d h, RunsAt c defs 𝒱 bd I _ _ _ := fun I p d h => assume_step c (defs := defs) (𝒱 := 𝒱) (bd := bd) (I := I) p d h
  have hissue := issue_step T hT c P (defs := defs) (𝒱 := 𝒱) (bd := bd) arg5.sem f iprop(table c arg1 q1 f1 ∗ R)
  unfold k0_part155
  repeat' first
    | (with_reducible apply hload)
    | (with_reducible refine hassume _ _ _ ?_)
    | exact off_ok (hT _) (by decide)
    | (with_reducible eapply hissue)
    | (with_reducible exact Runs.ret)
    | (with_reducible rfl)
    | rfl
    | eapply Runs.bind

set_option maxHeartbeats 40000000 in
set_option maxRecDepth 20000 in
/-- The next 400 copies. -/
theorem next_runs (hT1 : ∀ x : S1024.Idx, arg1.view.read (Elt F) f1 x = T (x 0).val) (R : sProp 𝕄) :
    RunsAt c defs 𝒱 bd (Inv T hT c P arg5.sem f iprop(table c arg1 q1 f1 ∗ R) 400)
      (k0_part156 src hs arg1 h1 arg2 h2 arg3 h3 buf hb arg5) ⟨⟩ (Inv T hT c P arg5.sem f iprop(table c arg1 q1 f1 ∗ R) 800) := by
  have hload := fun j => table_step T c (defs := defs) (𝒱 := 𝒱) (bd := bd) arg1 q1 f1 _ (inv_swap T hT c P arg5.sem f (table c arg1 q1 f1) R j) hT1
  have hassume : ∀ (I : sProp 𝕄) p d h, RunsAt c defs 𝒱 bd I _ _ _ := fun I p d h => assume_step c (defs := defs) (𝒱 := 𝒱) (bd := bd) (I := I) p d h
  have hissue := issue_step T hT c P (defs := defs) (𝒱 := 𝒱) (bd := bd) arg5.sem f iprop(table c arg1 q1 f1 ∗ R)
  unfold k0_part156
  repeat' first
    | (with_reducible apply hload)
    | (with_reducible refine hassume _ _ _ ?_)
    | exact off_ok (hT _) (by decide)
    | (with_reducible eapply hissue)
    | (with_reducible exact Runs.ret)
    | (with_reducible rfl)
    | rfl
    | eapply Runs.bind

/-! ## The end of the body -/

open Facts Shapes3.Facts₀

/-- Of the gathered words `G` and the rewards `w`: of each block of 128 rows the diagonal, times the rewards, summed. -/
abbrev product (G : Vec F S1024x128 .f32) (w : Vec F S8x128 .f32) : FVec F S1 .f32 :=
  multiReduction .add [1, 2] S1
    (shapeCast S1x8x128
      (mulf
        (multiReduction .add [1] S8x128
          (select (cmpi .eq (iota .tc S8x128x128 32 [2] iota_S8x128x128_d2_w32) (iota .tc S8x128x128 32 [1] iota_S8x128x128_d1_w32))
            (shapeCast S8x128x128 G shapeCasts_S1024x128_S8x128x128)
            (broadcast S8x128x128 (Scalar.ofBits .f32 0x00000000#32 : F .f32)))
          0x00000000#32 reduces_S8x128x128_S8x128 (.inl rfl) rfl)
        (shapeCast S8x128 w shapeCasts_S8x128_S8x128))
      shapeCasts_S8x128_S1x8x128)
    0x00000000#32 reduces_S1x8x128_S1 (.inl rfl) rfl

/-- What the body computes: that sum subtracted from zero. -/
abbrev answer (G : Vec F S1024x128 .f32) (w : Vec F S8x128 .f32) : F .f32 :=
  Scalar.subf (Scalar.ofBits .f32 0x00000000#32)
    (extractAt ![0, 0, 0] (shapeCast S1x1x1 (product G w) shapeCasts_S1_S1x1x1) inpos_S1x1x1_p0_0_0)

variable (q2 : PosShare TreeShare) (f2 : Buf (Elt F) (arg2.view.loc (c : Thread nD τ))) (f3 : Buf (Elt F) (arg3.view.loc (c : Thread nD τ)))
  (W : Waits sig Unit)

/-- The rewards, held at a share. -/
abbrev rewards : sProp 𝕄 := (arg2.view.loc (c : Thread nD τ) ↦[arg2.view.set]{q2} f2)
/-- The result's word. -/
abbrev result (f3 : Buf (Elt F) (arg3.view.loc (c : Thread nD τ))) : sProp 𝕄 := (arg3.view.loc (c : Thread nD τ) ↦[arg3.view.set]{fullShare} f3)
/-- The scratch buffer, filled. -/
abbrev filled : sProp 𝕄 := (buf.view.loc (c : Thread nD τ) ↦[buf.view.set]{fullShare} gathered T hT c P)

/-- What is held beside the copies. -/
abbrev aside : sProp 𝕄 :=
  iprop(kept T hT c P ∗ owes (c : Thread nD τ) 0 W ∗ rewards c arg2 q2 f2 ∗ result c arg3 f3)

/-- What is held once the copies have landed. -/
abbrev after (f3 : Buf (Elt F) (arg3.view.loc (c : Thread nD τ))) : sProp 𝕄 :=
  iprop(result c arg3 f3 ∗ filled T hT c P ∗ rewards c arg2 q2 f2 ∗ table c arg1 q1 f1
    ∗ (src.view.loc (c : Thread nD τ) ↦{fullShare} P) ∗ semVal (c, .dma arg5.sem) 0 ∗ owes (c : Thread nD τ) 0 (insert (SemLoc.dma arg5.sem, ()) W))

/-- The gathered words as the body reads them. -/
abbrev words : Vec F S1024x128 .f32 :=
  (buf.access (Rect.unit (s := S1024x128) ![0, 0] S1024x128.size inb_S1024x128_S1024x128_0_0)).read (Elt F) (gathered T hT c P)
/-- The rewards as the body reads them. -/
abbrev wages : Vec F S8x128 .f32 :=
  (arg2.access (Rect.unit (s := S8x128) ![0, 0] S8x128.size inb_S8x128_S8x128_0_0)).read (Elt F) f2

/-- The result's word with the answer stored. -/
abbrev stored : Buf (Elt F) (arg3.view.loc (c : Thread nD τ)) :=
  (arg3.access (Rect.unit (s := S1x1) ![0, 0] S1x1.size inb_S1x1_S1x1_0_0)).write (Elt F) f3
    (fun _ => answer (words T hT c P) (wages c arg2 f2)) Finset.univ

/-- With every copy started, the one wait takes back all that they borrowed. -/
theorem wait_all (hb : buf.IsWhole) (s : Memref sig .tc .hbm S1024x128 .f32) (hs1 : s.view.WordExact) (hs2 : buf.view.WordExact) :
    RunsAt c defs 𝒱 bd (Inv T hT c P arg5.sem f iprop(table c arg1 q1 f1 ∗ aside T hT c P arg2 arg3 q2 f2 f3 W) 1024)
      (Prog.lift (TpuEff.waitDma2 arg5.sem s buf hs1 hs2)) PUnit.unit (after T hT c P arg1 arg2 arg3 arg5 q1 f1 q2 f2 W f3) := by
  have hl := landed_all T hT c P
  refine wait_step T hT c P arg5.sem (W := W) iprop(kept T hT c P ∗ table c arg1 q1 f1 ∗ rewards c arg2 q2 f2 ∗ result c arg3 f3) s buf hs1 hs2 rfl ?_ ?_
  · unfold Inv
    iintro ⟨HF, -, -, HT, HK, HO, HW, HR⟩
    isplitl [HF]; · iexact HF
    isplitl [HO]; · iexact HO
    isplitl [HK]; · iexact HK
    isplitl [HT]; · iexact HT
    isplitl [HW]; · iexact HW
    iexact HR
  · iintro ⟨⟨HD, HV, HO⟩, HK, HT, HW, HR⟩
    ihave H := hl $$ [HD HK]
    · isplitl [HD] <;> iassumption
    icases H with ⟨HS, HB⟩
    isplitl [HR]; · iexact HR
    isplitl [HB]; · unfold filled; rw [hb.set_eq_univ]; iexact HB
    isplitl [HW]; · iexact HW
    isplitl [HT]; · iexact HT
    isplitl [HS]; · iexact HS
    isplitl [HV]; · iexact HV
    iexact HO

omit [FloatOps F] [Facts] in
/-- The second holding first. -/
theorem second_first {A B R : sProp 𝕄} : iprop(A ∗ B ∗ R) ⊣⊢ iprop(B ∗ A ∗ R) := by
  constructor
  · iintro ⟨HA, HB, HR⟩
    isplitl [HB]; · iexact HB
    isplitl [HA]; · iexact HA
    iexact HR
  · iintro ⟨HB, HA, HR⟩
    isplitl [HA]; · iexact HA
    isplitl [HB]; · iexact HB
    iexact HR

omit [FloatOps F] [Facts] in
/-- The third holding first. -/
theorem third_first {A B C R : sProp 𝕄} : iprop(A ∗ B ∗ C ∗ R) ⊣⊢ iprop(C ∗ A ∗ B ∗ R) := by
  constructor
  · iintro ⟨HA, HB, HC, HR⟩
    isplitl [HC]; · iexact HC
    isplitl [HA]; · iexact HA
    isplitl [HB]; · iexact HB
    iexact HR
  · iintro ⟨HC, HA, HB, HR⟩
    isplitl [HA]; · iexact HA
    isplitl [HB]; · iexact HB
    isplitl [HC]; · iexact HC
    iexact HR

set_option maxHeartbeats 40000000 in
set_option maxRecDepth 20000 in
/-- The last four copies, the wait and the sum. -/
theorem last_runs (hT1 : ∀ x : S1024.Idx, arg1.view.read (Elt F) f1 x = T (x 0).val) :
    RunsAt c defs 𝒱 bd (Inv T hT c P arg5.sem f iprop(table c arg1 q1 f1 ∗ aside T hT c P arg2 arg3 q2 f2 f3 W) 1020)
      (k0_part154 src hs arg1 h1 arg2 h2 arg3 h3 buf hb arg5) (product (words T hT c P) (wages c arg2 f2))
      (after T hT c P arg1 arg2 arg3 arg5 q1 f1 q2 f2 W f3) := by
  have hload := fun j => table_step T c (defs := defs) (𝒱 := 𝒱) (bd := bd) arg1 q1 f1 _
    (inv_swap T hT c P arg5.sem f (table c arg1 q1 f1) (aside T hT c P arg2 arg3 q2 f2 f3 W) j) hT1
  have hassume : ∀ (I : sProp 𝕄) p d h, RunsAt c defs 𝒱 bd I _ _ _ := fun I p d h => assume_step c (defs := defs) (𝒱 := 𝒱) (bd := bd) (I := I) p d h
  have hissue := issue_step T hT c P (defs := defs) (𝒱 := 𝒱) (bd := bd) arg5.sem f iprop(table c arg1 q1 f1 ∗ aside T hT c P arg2 arg3 q2 f2 f3 W)
  have hwait := wait_all T hT c P f (defs := defs) (𝒱 := 𝒱) (bd := bd) arg1 arg2 arg3 arg5 q1 f1 q2 f2 f3 W hb
  have hread : ∀ (r : Rect S1024x128) hl, RunsAt c defs 𝒱 bd (after T hT c P arg1 arg2 arg3 arg5 q1 f1 q2 f2 W f3) (Prog.lift (TpuEff.load buf r.toLoadRect hl)) _ _ :=
    fun r hl => read_step c (defs := defs) (𝒱 := 𝒱) (bd := bd) buf r hl fullShare _ _ second_first
  have hread' : ∀ (r : Rect S8x128) hl, RunsAt c defs 𝒱 bd (after T hT c P arg1 arg2 arg3 arg5 q1 f1 q2 f2 W f3) (Prog.lift (TpuEff.load arg2 r.toLoadRect hl)) _ _ :=
    fun r hl => read_step c (defs := defs) (𝒱 := 𝒱) (bd := bd) arg2 r hl q2 _ _ third_first
  unfold k0_part154
  repeat' first
    | (with_reducible apply hload)
    | (with_reducible refine hassume _ _ _ ?_)
    | exact off_ok (hT _) (by decide)
    | (with_reducible eapply hissue)
    | (with_reducible exact Runs.ret)
    | (with_reducible rfl)
    | rfl
    | (with_reducible apply hwait)
    | (with_reducible apply hread)
    | (with_reducible apply hread')
    | eapply Runs.bind

set_option maxHeartbeats 40000000 in
set_option maxRecDepth 20000 in
/-- The whole body. -/
theorem body_runs (hT1 : ∀ x : S1024.Idx, arg1.view.read (Elt F) f1 x = T (x 0).val) :
    RunsAt c defs 𝒱 bd (Inv T hT c P arg5.sem f iprop(table c arg1 q1 f1 ∗ aside T hT c P arg2 arg3 q2 f2 f3 W) 0)
      (cc0__tc_kernel src hs arg1 h1 arg2 h2 arg3 h3 buf hb arg5) ⟨⟩
      (after T hT c P arg1 arg2 arg3 arg5 q1 f1 q2 f2 W (stored T hT c P arg2 arg3 f2 f3)) := by
  have hfirst := first_runs T hT c P f (defs := defs) (𝒱 := 𝒱) (bd := bd) arg1 h1 arg2 h2 arg3 h3 hs hb arg5 q1 f1 hT1 (aside T hT c P arg2 arg3 q2 f2 f3 W)
  have hnext := next_runs T hT c P f (defs := defs) (𝒱 := 𝒱) (bd := bd) arg1 h1 arg2 h2 arg3 h3 hs hb arg5 q1 f1 hT1 (aside T hT c P arg2 arg3 q2 f2 f3 W)
  have hlast := last_runs T hT c P f (defs := defs) (𝒱 := 𝒱) (bd := bd) arg1 h1 arg2 h2 arg3 h3 hs hb arg5 q1 f1 q2 f2 f3 W hT1
  have hload := fun j => table_step T c (defs := defs) (𝒱 := 𝒱) (bd := bd) arg1 q1 f1 _
    (inv_swap T hT c P arg5.sem f (table c arg1 q1 f1) (aside T hT c P arg2 arg3 q2 f2 f3 W) j) hT1
  have hassume : ∀ (I : sProp 𝕄) p d h, RunsAt c defs 𝒱 bd I _ _ _ := fun I p d h => assume_step c (defs := defs) (𝒱 := 𝒱) (bd := bd) (I := I) p d h
  have hissue := issue_step T hT c P (defs := defs) (𝒱 := 𝒱) (bd := bd) arg5.sem f iprop(table c arg1 q1 f1 ∗ aside T hT c P arg2 arg3 q2 f2 f3 W)
  have hword : ∀ r h1 hp, RunsAt c defs 𝒱 bd (after T hT c P arg1 arg2 arg3 arg5 q1 f1 q2 f2 W f3) (smemLoad arg3 r h1 hp) _ _ :=
    fun r h1 hp => word_step c (defs := defs) (𝒱 := 𝒱) (bd := bd) arg3 r h1 hp fullShare f3 _ .rfl
  have hwrite : ∀ r w hx hm, RunsAt c defs 𝒱 bd (after T hT c P arg1 arg2 arg3 arg5 q1 f1 q2 f2 W f3) (Prog.lift (TpuEff.store arg3 r w Finset.univ hx hm)) _
      (after T hT c P arg1 arg2 arg3 arg5 q1 f1 q2 f2 W ((arg3.access r).write (Elt F) f3 w Finset.univ)) :=
    fun r w hx hm => write_step c (defs := defs) (𝒱 := 𝒱) (bd := bd) arg3 r w hx hm f3 _ .rfl .rfl
  unfold cc0__tc_kernel
  repeat' first
    | (with_reducible apply hload)
    | (with_reducible refine hassume _ _ _ ?_)
    | exact off_ok (hT _) (by decide)
    | (with_reducible eapply hissue)
    | (with_reducible exact Runs.ret)
    | (with_reducible rfl)
    | rfl
    | (with_reducible exact hfirst)
    | (with_reducible exact hnext)
    | (with_reducible exact hlast)
    | (with_reducible apply hwrite)
    | eapply Runs.bind
  exact hword _ _ _

end Cert.Gather
-- ==== Proof.Frame.lean ====
module

public import proofs.«01_k».proof.Proof.Body
public import proofs.«01_k».proof.Proof.Gen.KernelIdeal
public import proofs.«01_k».proof.Proof.Gen.KernelIdeal.Frame

/-!
# The run of the kernel's program

The host transposes the array and reshapes the rewards, the region runs the body once, and the host reshapes the word
that it wrote. The run ends with every semaphore at zero and the arguments as they were, and the result is `answer`.
-/

@[expose] public section

noncomputable section

namespace Cert.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄" => MT nD τ sig Unit (Elt F) ℕ (Pipeline.UD sig nD τ) ℕ

/-! ## Blocks read and written whole -/

section Whole

variable {κ : Kind} {sp : Space} {s : Shape} {e : EltTy} (M : Memref sig κ sp s e) {off : Fin s.rank → ℕ}
  (inb : ∀ a, off a + s.size a ≤ s.size a)

theorem unit_emb (x : s.Idx) : (Rect.unit (s := s) off s.size inb).emb x = x := by
  funext a
  apply Fin.ext
  have h := inb a
  show off a + 1 * (x a).val = (x a).val
  omega

/-- The rectangle of the whole block reads the block. -/
theorem read_all (g : M.view.ty.Contents (Elt F)) : (M.access (Rect.unit (s := s) off s.size inb)).read (Elt F) g = M.view.read (Elt F) g := by
  funext x
  exact congrArg (M.view.read (Elt F) g) (unit_emb inb x)

/-- A block written whole reads as what was written. -/
theorem read_stored (g : M.view.ty.Contents (Elt F)) (w : s.Idx → Elt F e) :
    M.view.read (Elt F) ((M.access (Rect.unit (s := s) off s.size inb)).write (Elt F) g w Finset.univ) = w := by
  rw [← read_all M inb]
  exact View.read_write_univ _ _

end Whole

variable (m : (ℓ : Loc nD τ sig) → Buf (Elt F) ℓ) (ρ : Dev nD → PrngReg)

/-- Place `i` of a table of 1024 words. -/
def place (i : ℕ) : S1024.Idx := fun a => ⟨i % 1024, by fin_cases a; exact Nat.mod_lt _ (by decide)⟩

/-- The row numbers of core `c`. -/
def rowNumber (c : Dev nD) (i : ℕ) : BitVec 32 := (m ((c : Thread nD τ).loc main_arg1) : S1024.Idx → BitVec 32) (place i)

/-- Every row number names a row. -/
def InRange : Prop := ∀ (c : Dev nD) (i : ℕ), (rowNumber m c i).toNat < 100000

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The kernel's own semaphore, and the array it copies from. -/
abbrev osem : Fin 1 → SemLoc sig := fun _ => SemLoc.dma cc0_scratch1.sem
def own : Finset (Ref sig .tc) := {main_v0}

theorem ownSemFacts : Pipeline.OwnSemFacts spec0 osem := by decide
theorem own_sub : own ⊆ Pipeline.restRefs sig spec0 := by decide

/-- The host line after the region touches neither the array nor anything else the kernel moves. -/
theorem tail_sub : ∀ ops ∈ ([hostOps1] : List (List (HloOp τ sig (Elt F)))), ∀ op ∈ ops,
    op.bufs ⊆ Pipeline.tailRefsBut sig Pipeline.Prefetch.none spec0 own := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  rw [own, Finset.mem_singleton] at hb
  subst hb
  simp only [StableHlo.reshape_bufs, Finset.mem_insert, Finset.mem_singleton, not_or]
  exact ⟨StableHlo.devRef_ne_of_ne (by decide), StableHlo.devRef_ne_of_ne (by decide)⟩

variable (hT : InRange m)

/-- What the region leaves in the result's word. -/
def outcome (c : Dev nD) (t : Fin cfg0.N) : Vec F S1x1 .f32 :=
  fun _ => answer (gathered (rowNumber m c) (hT c) c (V m c main_v0)) (iblk m c 1 t)

/-- The region: its arrays as it finds them, what the body leaves in each window, and what is held beside them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outcome m hT c t
  Φ _ := Pipeline.ΦD osem spec0 own (V m) c
  q _ := fullShare
  owed _ := 0

theorem A_eq (c : Dev nD) (w : Fin cfg0.W) : (dats m hT 0 c).A w = V m c (Pipeline.arrRef spec0 w) := by
  dsimp only [dats]

theorem before_0 (c : Dev nD) (t : Fin cfg0.N) : ∀ d, (dats m hT 0 c).before 0 t d = iblk m c 0 t := fun d =>
  (dats m hT 0 c).before_in_eq_fetched 0 rfl (fun _ => rfl) (fun _ _ _ => rfl) (fun _ => rfl) t d
theorem before_1 (c : Dev nD) (t : Fin cfg0.N) : ∀ d, (dats m hT 0 c).before 1 t d = iblk m c 1 t := fun d =>
  (dats m hT 0 c).before_in_eq_fetched 1 rfl (fun _ => rfl) (fun _ _ _ => rfl) (fun _ => rfl) t d

/-- The table's block is the table. -/
theorem table_block (c : Dev nD) (t : Fin cfg0.N) (x : S1024.Idx) : (iblk m c 0 t : Vec F S1024 .i32) x = rowNumber m c (x 0).val := by
  have h : iblk m c 0 t = V m c main_arg1 := by
    unfold iblk
    exact read_all (F := F) (Memref.whole main_arg1) _ _
  rw [h, V_main_arg1]
  unfold rowNumber
  refine congrArg _ ?_
  funext a
  apply Fin.ext
  have hx := (x 0).isLt
  change (x 0).val < 1024 at hx
  fin_cases a
  exact (Nat.mod_eq_of_lt hx).symm

/-- What is held beside the copies, in another order. -/
theorem inv_reorder {T : ℕ → BitVec 32} {hT : ∀ i, (T i).toNat < 100000} {c : Dev nD} {P : SrcBuf F c} {cell : DmaSem sig} {f : DstBuf F c} {j : ℕ}
    {A B R : sProp 𝕄} : Inv T hT c P cell f iprop(A ∗ B ∗ R) j ⊢ Inv T hT c P cell f iprop(B ∗ A ∗ R) j := by
  unfold Inv
  iintro ⟨H1, H2, H3, HA, HB, HR⟩
  isplitl [H1]; · iexact H1
  isplitl [H2]; · iexact H2
  isplitl [H3]; · iexact H3
  isplitl [HB]; · iexact HB
  isplitl [HA]; · iexact HA
  iexact HR

theorem held_eq (c : Dev nD) :
    (Pipeline.ΦD osem spec0 own (V m) c : sProp 𝕄)
      = iprop((∃ f, buf.view.loc (c : Thread nD τ) ↦{fullShare} f) ∗ (∃ r, prngReg c r)
          ∗ semVal ((c : Thread nD τ), SemLoc.dma cc0_scratch1.sem) 0 ∗ (src.view.loc (c : Thread nD τ) ↦{fullShare} V m c main_v0)) := by
  rw [Pipeline.ΦD_eq, scopedRest0_eq, Pipeline.ownSems0_eq_of_list c osem [0] (by decide) (by decide)]
  unfold own
  rw [bigSep_singleton]
  rfl

def bodyPre (c : Dev nD) (t : Fin cfg0.N) : sProp 𝕄 :=
  iprop((dats m hT 0 c).Φ t.castSucc ∗ (dats m hT 0 c).owesAt () t.castSucc
    ∗ (∃ d, owns (c : Thread nD τ) (st0_0 t) fullShare ((dats m hT 0 c).before 0 t d))
    ∗ (∃ d, owns (c : Thread nD τ) (st0_1 t) fullShare ((dats m hT 0 c).before 1 t d))
    ∗ (∃ d, owns (c : Thread nD τ) (st0_2 t) fullShare ((dats m hT 0 c).before 2 t d)))
def bodyPost (c : Dev nD) (t : Fin cfg0.N) : sProp 𝕄 :=
  iprop((dats m hT 0 c).Φ t.succ ∗ (dats m hT 0 c).owesAt () t.succ
    ∗ owns (c : Thread nD τ) (st0_0 t) fullShare ((dats m hT 0 c).after 0 t)
    ∗ owns (c : Thread nD τ) (st0_1 t) fullShare ((dats m hT 0 c).after 1 t)
    ∗ owns (c : Thread nD τ) (st0_2 t) fullShare ((dats m hT 0 c).after 2 t))

/-- What the run leaves is what the pipeline asks for. -/
theorem body_ends (c : Dev nD) (t : Fin cfg0.N) (f1 : Buf (Elt F) ((st0_0 t).view.loc (c : Thread nD τ)))
    (f2 : Buf (Elt F) ((st0_1 t).view.loc (c : Thread nD τ))) (f3 : Buf (Elt F) ((st0_2 t).view.loc (c : Thread nD τ))) (W : Waits sig Unit)
    (e1 : (st0_0 t).view.read (Elt F) f1 = iblk m c 0 t) (e2 : (st0_1 t).view.read (Elt F) f2 = iblk m c 1 t) :
    iprop(after (rowNumber m c) (hT c) c (V m c main_v0) (st0_0 t) (st0_1 t) (st0_2 t) cc0_scratch1 fullShare f1 fullShare f2 W
        (stored (rowNumber m c) (hT c) c (V m c main_v0) (st0_1 t) (st0_2 t) f2 f3) ∗ (∃ r, prngReg c r)) ⊢ bodyPost m hT c t := by
  unfold bodyPost
  rw [show (dats m hT 0 c).Φ t.succ = Pipeline.ΦD osem spec0 own (V m) c from rfl, held_eq]
  rw [show (dats m hT 0 c).after 0 t = iblk m c 0 t from rfl, show (dats m hT 0 c).after 1 t = iblk m c 1 t from rfl,
    show (dats m hT 0 c).after 2 t = outcome m hT c t from rfl]
  unfold Dat.owesAt Pipeline.owesWithin
  rw [show (dats m hT 0 c).owed t.succ = 0 from rfl]
  unfold owns
  iintro ⟨⟨H3, HB, H2, H1, HS, HV, HO⟩, HG⟩
  isplitl [HB HG HV HS]
  · isplitl [HB]
    · iexists _
      unfold filled
      rw [(Memref.isWhole_whole cc0_scratch0).set_eq_univ]
      iexact HB
    isplitl [HG]; · iexact HG
    isplitl [HV]; · iexact HV
    iexact HS
  isplitl [HO]
  · iexists _
    isplitr
    swap
    · iexact HO
    ipureintro; exact fun _ _ => Or.inl trivial
  isplitl [H1]
  · iexists f1
    isplitr
    · ipureintro; exact e1
    iexact H1
  isplitl [H2]
  · iexists f2
    isplitr
    · ipureintro; exact e2
    iexact H2
  iexists _
  isplitr
  swap
  · iexact H3
  ipureintro
  refine (read_stored (F := F) (st0_2 t) _ _ _).trans ?_
  unfold outcome words wages
  rw [read_all, read_all, e2]
  rfl

/-- A run beside something it does not touch. -/
theorem run_beside {c : Dev nD} {A A' B G : sProp 𝕄} {p : Prog (TpuEff nD τ sig (Elt F) Λ₀ .tc) PUnit} {Q : sProp 𝕄}
    (start : A ⊢ iprop(|={Set.univ}=> A')) (run : RunsAt c (defs₀ (F := F)) Variants.none none A' p ⟨⟩ B) (post : iprop(B ∗ G) ⊢ Q) :
    iprop(A ∗ G) ⊢ wp frame (wpE (defs₀ (F := F)) Variants.none c none) Set.univ p (fun _ => Q) := by
  have h := wp_of_fupd _ _ _ start (run (fun _ => B) .rfl)
  exact (sep_mono_left h).trans ((wp_frame_r _ _ _).trans (wp_mono _ _ _ fun _ => post))

/-- The body's run at the pipeline's one point. -/
theorem body_at (c : Dev nD) (t : Fin cfg0.N) (f : DstBuf F c) (f1 : Buf (Elt F) ((st0_0 t).view.loc (c : Thread nD τ)))
    (f2 : Buf (Elt F) ((st0_1 t).view.loc (c : Thread nD τ))) (f3 : Buf (Elt F) ((st0_2 t).view.loc (c : Thread nD τ))) (W : Waits sig Unit)
    (e1 : (st0_0 t).view.read (Elt F) f1 = iblk m c 0 t) :
    RunsAt c (defs₀ (F := F)) Variants.none none
      (Inv (rowNumber m c) (hT c) c (V m c main_v0) cc0_scratch1.sem f iprop(table c (st0_0 t) fullShare f1
        ∗ aside (rowNumber m c) (hT c) c (V m c main_v0) (st0_1 t) (st0_2 t) fullShare f2 f3 W) 0)
      (bodyAt0 t) ⟨⟩
      (after (rowNumber m c) (hT c) c (V m c main_v0) (st0_0 t) (st0_1 t) (st0_2 t) cc0_scratch1 fullShare f1 fullShare f2 W
        (stored (rowNumber m c) (hT c) c (V m c main_v0) (st0_1 t) (st0_2 t) f2 f3)) :=
  body_runs (rowNumber m c) (hT c) c (V m c main_v0) f (win0_0.stage (cfg0.slots t 0)) (hstage0_0 0) (win0_1.stage (cfg0.slots t 1)) (hstage0_1 0)
    (win0_2.stage (cfg0.slots t 2)) (hstage0_2 0) (Memref.isWhole_whole _) (Memref.isWhole_whole _) cc0_scratch1
    fullShare f1 fullShare f2 f3 W (fun x => (congrFun e1 x).trans (table_block m c t x))

/-- A program with that run, at the pipeline's one point. -/
theorem sound_of (c : Dev nD) (t : Fin cfg0.N) (p : Prog (TpuEff nD τ sig (Elt F) Λ₀ .tc) PUnit)
    (hp : ∀ (f : DstBuf F c) (f1 : Buf (Elt F) ((st0_0 t).view.loc (c : Thread nD τ))) (f2 : Buf (Elt F) ((st0_1 t).view.loc (c : Thread nD τ)))
      (f3 : Buf (Elt F) ((st0_2 t).view.loc (c : Thread nD τ))) (W : Waits sig Unit), (st0_0 t).view.read (Elt F) f1 = iblk m c 0 t →
      RunsAt c (defs₀ (F := F)) Variants.none none
        (Inv (rowNumber m c) (hT c) c (V m c main_v0) cc0_scratch1.sem f iprop(table c (st0_0 t) fullShare f1
          ∗ aside (rowNumber m c) (hT c) c (V m c main_v0) (st0_1 t) (st0_2 t) fullShare f2 f3 W) 0)
        p ⟨⟩
        (after (rowNumber m c) (hT c) c (V m c main_v0) (st0_0 t) (st0_1 t) (st0_2 t) cc0_scratch1 fullShare f1 fullShare f2 W
          (stored (rowNumber m c) (hT c) c (V m c main_v0) (st0_1 t) (st0_2 t) f2 f3))) :
    bodyPre m hT c t ⊢ wp frame (wpE (defs₀ (F := F)) Variants.none c none) Set.univ p (fun _ => bodyPost m hT c t) := by
  unfold bodyPre
  rw [show (dats m hT 0 c).Φ t.castSucc = Pipeline.ΦD osem spec0 own (V m) c from rfl, held_eq]
  simp only [before_0, before_1]
  unfold Dat.owesAt Pipeline.owesWithin
  rw [show (dats m hT 0 c).owed t.castSucc = 0 from rfl]
  unfold owns
  iintro ⟨⟨⟨%f, HB⟩, HG, HV, HS⟩, ⟨%W, -, HO⟩, ⟨%d0, %f1, %e1, H1⟩, ⟨%d1, %f2, %e2, H2⟩, ⟨%d2, %f3, -, H3⟩⟩
  have run := hp f f1 f2 f3 W e1
  have start := inv_intro (rowNumber m c) (hT c) c (V m c main_v0) cc0_scratch1.sem f
    iprop(table c (st0_0 t) fullShare f1 ∗ owes (c : Thread nD τ) 0 W ∗ rewards c (st0_1 t) fullShare f2 ∗ result c (st0_2 t) f3)
  have main := run_beside (start.trans (fupd_mono inv_reorder)) run (body_ends m hT c t f1 f2 f3 W e1 e2)
  iapply main
  isplitr [HG]
  · isplitl [HS]; · iexact HS
    isplitl [HB]; · iexact HB
    isplitl [HV]; · iexact HV
    isplitl [H1]; · iexact H1
    isplitl [HO]; · iexact HO
    isplitl [H2]; · iexact H2
    iexact H3
  iexact HG

/-- The body at the pipeline's one point. -/
theorem sound_body (c : Dev nD) (t : Fin cfg0.N) :
    bodyPre m hT c t ⊢ wp frame (wpE (defs₀ (F := F)) Variants.none c none) Set.univ (bodyAt0 t) (fun _ => bodyPost m hT c t) :=
  sound_of m hT c t _ (body_at m hT c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hT 0 c) (defs₀ (F := F)) Variants.none () Set.univ := fun t => by
  rw [bigSep_W0, bigSep_W0, defs₀_row]
  exact triple_restated (sound_body m hT c t) rfl .rfl fun _ => .rfl

set_option backward.isDefEq.respectTransparency.types false in
/-- The run, with what it leaves in the result. -/
theorem run_main : θ_run defs (onTc (τ := τ) (main (F := F))) (s₀ m ρ)
    (fun r => Pipeline.FramePost cfgs (dats m hT) 0 (Pipeline.afterTail₀ cfgs (dats m hT) 0 (V0 m) [hostOps1]) r ∧ r.2.sem = fun _ => 0) :=
  Pipeline.θ_run_frame_dma_around (Q' := _) cfgs (dats m hT) (0 : Fin 1) launch0 osem defs₀ Variants.none ownSemFacts own own_sub m ρ main
    (hbody := fun c => (body_obligation m hT c).loose) (hshare := fun c => (dats m hT 0 c).share_full fun _ => rfl)
    (howed := fun _ _ => rfl) (V₀ := V0 m) (opss := [hostOps1]) (hsub := tail_sub) (hfresh := sfx_fresh) (hkeep := sfx_keeps)
    (hmain := hmain m Variants.none) (hA := A_eq m hT) (hin := fun _ => .rfl) (hout := fun _ => .rfl)

end Cert.Gather
-- ==== Proof.Result.lean ====
/- What the kernel's run leaves behind, for any float values: the arguments as they were, every semaphore at zero, and
   in the result the answer computed from the gathered rows. -/
module

public import proofs.«01_k».proof.Proof.Frame
public import proofs.«01_k».proof.Proof.Gen.Pre_in_range
public import Idealize.ShloMosaic.Lib.ReduceAll
public import Idealize.ShloMosaic.Lib.Pipeline.ValueKit.Geometry

@[expose] public section

noncomputable section

namespace Cert.Gather

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The precondition -/

/-- A word that is at least 0 and below 100000, both as signed numbers, is below 100000 as an unsigned one. -/
theorem word_lt {w : BitVec 32} (h₀ : (0#32 : BitVec 32).sle w = true) (h₁ : w.slt 100000#32 = true) : w.toNat < 100000 := by
  simp only [BitVec.sle, BitVec.slt, decide_eq_true_eq] at h₀ h₁
  have e₀ : (0#32 : BitVec 32).toInt = 0 := by decide
  have e₁ : (100000#32 : BitVec 32).toInt = 100000 := by decide
  rw [e₀] at h₀
  rw [e₁] at h₁
  rw [BitVec.toInt_eq_toNat_cond] at h₀ h₁
  split at h₁ <;> omega

/-- Where the precondition is all ones, every row number names a row. -/
theorem lt_of_pre {a : FVec F Cert.Pre_in_range.S1024x100000 .f32} {T : IVec Cert.Pre_in_range.S1024 32} {b : FVec F Cert.Pre_in_range.S1024 .f32}
    (h : Cert.Pre_in_range.fn a T b = fun _ => 1#1) (x : Cert.Pre_in_range.S1024.Idx) : (T x).toNat < 100000 := by
  have : Subsingleton Cert.Pre_in_range.S_.Idx := ⟨fun i j => funext fun k => k.elim0⟩
  have hx := congrFun h (fun k => k.elim0)
  unfold Cert.Pre_in_range.fn at hx
  obtain ⟨h₀, h₁⟩ := IntOp.andi_eq_one.1 (Host.reduce_andi_all _ _ _ _ _ hx x)
  refine word_lt (w := T x) ?_ ?_
  · replace h₀ : BitVec.ofBool ((0#32 : BitVec 32).sle (T x)) = 1#1 := h₀
    revert h₀
    cases (0#32 : BitVec 32).sle (T x) <;> decide
  · replace h₁ : BitVec.ofBool ((T x).slt 100000#32) = 1#1 := h₁
    revert h₁
    cases (T x).slt 100000#32 <;> decide

/-! ## The arguments and the result -/

variable (hT : InRange m)

/-- A buffer that is no array of the region and not the result ends as the region found it. -/
theorem ends_as (c : Dev nD) (b : Ref sig .tc) (hb : ∀ w, Pipeline.arrRef spec0 w ≠ b) (hr : b ≠ main_v3) :
    Pipeline.afterTail₀ cfgs (dats m hT) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hr)),
    Pipeline.withArrays_of_ne _ c (V0 m c) _ b hb]

/-- The result's array after the run. -/
theorem written (c : Dev nD) : (dats m hT 0 c).arrAt 2 cfg0.N = outcome m hT c t0_0 :=
  (dats m hT 0 c).arrAt_eq_of_after_last 2 t0_0 (by decide +kernel) (outcome m hT c t0_0) fun _ => rfl

/-- The answer of core `c`. -/
def final (c : Dev nD) : F .f32 := answer (gathered (rowNumber m c) (hT c) c (V m c main_v0)) (iblk m c 1 t0_0)

theorem result_ends (c : Dev nD) :
    Pipeline.afterTail₀ cfgs (dats m hT) 0 (V0 m) [hostOps1] c main_v3 = fun _ => final m hT c := by
  unfold Pipeline.afterTail₀
  simp only [hostOps1, List.flatten_cons, List.flatten_nil, List.append_nil, StableHlo.after_cons, StableHlo.after_nil]
  rw [StableHlo.reshape_result']
  have h := (Pipeline.withArrays_arr spec0 (by decide) c (V0 m c) (fun w => (dats m hT 0 c).arrAt w cfg0.N) 2).trans (written m hT c)
  funext i
  exact congrFun h _

/-- The run: the arguments end as they were, the result holds the answer, every semaphore is at zero. -/
theorem ends : θ_run defs (onTc (τ := τ) (main (F := F))) ⟨m, fun _ => 0, ρ⟩ (fun r => (∀ c : Dev nD,
      r.2.mem ((c.tc : Thread nD τ).loc main_v3) = (fun _ => final m hT c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_v3 (Pipeline.mem_restRefs_of main_v3 (by decide) (by decide))).trans (result_ends m hT c),
      ((h.1 c).2 main_arg0 (Pipeline.mem_restRefs_of main_arg0 (by decide) (by decide))).trans ((ends_as m hT c main_arg0 (by decide) (by decide)).trans (V_main_arg0 m c)),
      ((h.1 c).1 0).trans (((dats m hT 0 c).arrAt_in 0 rfl _).trans ((A_eq m hT c 0).trans (V_main_arg1 m c))),
      ((h.1 c).2 main_arg2 (Pipeline.mem_restRefs_of main_arg2 (by decide) (by decide))).trans ((ends_as m hT c main_arg2 (by decide) (by decide)).trans (V_main_arg2 m c))⟩, h.2⟩)
    (run_main m ρ hT)

end Cert.Gather

end
-- ==== Proof.Twin.lean ====
/- The two programs, the one read at words and the idealized one, have the same text: they are equal, for any float
   values. -/
module

public import proofs.«01_k».proof.Proof.Gen.Kernel
public import proofs.«01_k».proof.Proof.Gen.KernelIdeal

@[expose] public section

noncomputable section

namespace Cert.Twin

open Idealize.ShloMosaic Idealize.SL.Sem

variable {F : FTy → Type} [FloatOps F]

set_option maxHeartbeats 4000000 in
/-- The kernels' bodies are the same. -/
theorem body_eq : @Cert.Kernel.cc0__tc_kernel F _ Cert.Kernel.Gen.facts = @Cert.KernelIdeal.cc0__tc_kernel F _ Cert.KernelIdeal.Gen.facts := by rfl

section
open Cert.Kernel Cert.Kernel.K0.Facts₀

/-- The table of one body `k`, run on the region's blocks. -/
def tableOf (k : (a : Memref sig .tc .hbm S100000x1024 .f32) → a.IsWhole → (b : Memref sig .tc .smem S1024 .i32) → b.IsWhole →
      (w : Memref sig .tc .vmem S8x128 .f32) → w.IsWhole → (o : Memref sig .tc .smem S1x1 .f32) → o.IsWhole →
      (v : Memref sig .tc .vmem S1024x128 .f32) → v.IsWhole → DmaSems sig S_ → Prog (TpuEff nD τ sig (Elt F) Λ₀ .tc) PUnit) :
    Defs nD τ sig (Elt F) Λ₀ := Defs.onTc fun
  | 0, (_, s) => k (Memref.whole main_v0) (Memref.isWhole_whole _) (win0_0.stage (s 0)) (hstage0_0 0) (win0_1.stage (s 1)) (hstage0_1 0) (win0_2.stage (s 2)) (hstage0_2 0) (Memref.whole cc0_scratch0) (Memref.isWhole_whole _) cc0_scratch1
  | ⟨_ + 1, h⟩, _ => absurd h (Nat.not_lt.2 (Nat.le_add_left _ _))

end

theorem table_eq : Cert.Kernel.defs₀ (F := F) = tableOf (@Cert.Kernel.cc0__tc_kernel F _ Cert.Kernel.Gen.facts) := by
  unfold Cert.Kernel.defs₀ tableOf
  congr 1
  funext l x
  match l, x with
  | 0, (_, _) => rfl
  | ⟨_ + 1, h⟩, _ => exact absurd h (Nat.not_lt.2 (Nat.le_add_left _ _))
theorem table_ideal_eq : Cert.KernelIdeal.defs₀ (F := F) = tableOf (@Cert.KernelIdeal.cc0__tc_kernel F _ Cert.KernelIdeal.Gen.facts) := by
  unfold Cert.KernelIdeal.defs₀ tableOf
  refine congrArg Defs.onTc ?_
  funext l x
  match l, x with
  | 0, (_, _) => rfl
  | ⟨_ + 1, h⟩, _ => exact absurd h (Nat.not_lt.2 (Nat.le_add_left _ _))

theorem defs₀_eq : Cert.Kernel.defs₀ (F := F) = Cert.KernelIdeal.defs₀ (F := F) :=
  table_eq.trans ((congrArg tableOf body_eq).trans table_ideal_eq.symm)

/-- The programs' tables are the same. -/
theorem defs_eq : Cert.Kernel.defs (F := F) = Cert.KernelIdeal.defs (F := F) :=
  congrArg (Pipeline.defs Cert.Kernel.pcfgs) defs₀_eq

omit [FloatOps F] in
/-- The programs are the same. -/
theorem main_eq : Cert.Kernel.main (F := F) = Cert.KernelIdeal.main (F := F) := by rfl

end Cert.Twin

end
-- ==== Proof.Sum.lean ====
/- What the two programs compute over the extended reals: both are minus the sum, over the rows, of the picked
   probability times the reward. -/
module

public import proofs.«01_k».proof.Proof.Result
public import Idealize.ShloMosaic.Lib.ValueIdx
public import Idealize.ShloMosaic.Lib.IdealHost
public import Idealize.ShloMosaic.Lib.Pointwise.Reduce
public import Idealize.ShloMosaic.PureOps.Ideal.Laws

@[expose] public section

noncomputable section

namespace Cert.Gather

open Cert.KernelIdeal
open Idealize.ShloMosaic Idealize.ShloMosaic.TcCoe

/-! ## The kernel's side -/

/-- Row `g * 128 + l`. -/
def rowOf (g : Fin 8) (l : Fin 128) : Fin 1024 := ⟨g.val * 128 + l.val, by omega⟩

/-- A sum over the rows, block by block. -/
theorem sum_rows {M : Type} [AddCommMonoid M] (f : Fin 1024 → M) : ∑ g : Fin 8, ∑ l : Fin 128, f (rowOf g l) = ∑ i, f i := by
  rw [← Fintype.sum_prod_type']
  refine Fintype.sum_equiv (finProdFinEquiv (m := 8) (n := 128)) _ _ fun x => congrArg f (Fin.ext ?_)
  show x.1.val * 128 + x.2.val = x.2.val + 128 * x.1.val
  omega

section
open Facts Shapes3.Facts₀
/-- Lane `l` of a block's masked rows: row `l` keeps its lane `l`, every other row gives zero. -/
theorem masked (G : Vec Ideal S1024x128 .f32) (g : Fin 8) (k l : Fin 128) :
    (select (cmpi .eq (iota .tc S8x128x128 32 [2] iota_S8x128x128_d2_w32) (iota .tc S8x128x128 32 [1] iota_S8x128x128_d1_w32))
        (shapeCast S8x128x128 G shapeCasts_S1024x128_S8x128x128)
        (broadcast S8x128x128 (Scalar.ofBits .f32 0x00000000#32 : Ideal .f32)) : FVec Ideal S8x128x128 .f32) (ix3 g k l)
      = if k = l then (G (ix2 (rowOf g k) l) : EReal) else 0 := by
  have hz : (Scalar.ofBits .f32 0x00000000#32 : Ideal .f32) = (0 : EReal) := Ideal.ofBits_zero_f32
  have hc : cmpi .eq (iota .tc S8x128x128 32 [2] iota_S8x128x128_d2_w32) (iota .tc S8x128x128 32 [1] iota_S8x128x128_d1_w32) (ix3 g k l)
      = BitVec.ofBool (BitVec.ofNat 32 l.val == BitVec.ofNat 32 k.val) := by
    show BitVec.ofBool (_ == _) = _
    rw [iota_single_apply, iota_single_apply]
    rfl
  have hv : shapeCast S8x128x128 G shapeCasts_S1024x128_S8x128x128 (ix3 g k l) = G (ix2 (rowOf g k) l) :=
    shapeCast_apply _ _ _ _ (by rw [Shape.rowMajor_val_two, Shape.rowMajor_val_three]; rfl)
  show (if _ = 1#1 then _ else (Scalar.ofBits .f32 0x00000000#32 : Ideal .f32)) = _
  rw [hc, hv, hz]
  have hk : (BitVec.ofBool (BitVec.ofNat 32 l.val == BitVec.ofNat 32 k.val) = 1#1) ↔ k = l := by
    have hb : ∀ b : Bool, BitVec.ofBool b = 1#1 ↔ b = true := by decide
    rw [hb, beq_iff_eq]
    constructor
    · intro h
      have h' := congrArg BitVec.toNat h
      simp only [BitVec.toNat_ofNat] at h'
      exact Fin.ext (by omega)
    · rintro rfl; rfl
  simp only [hk]

/-- The kernel's answer, as a sum over the rows. -/
theorem answer_eq (G : Vec Ideal S1024x128 .f32) (w : Vec Ideal S8x128 .f32) :
    (answer G w : EReal) = -∑ g : Fin 8, ∑ l : Fin 128, (G (ix2 (rowOf g l) l) : EReal) * (w (ix2 g l) : EReal) := by
  have hz : (Scalar.ofBits .f32 0x00000000#32 : Ideal .f32) = (0 : EReal) := Ideal.ofBits_zero_f32
  unfold answer
  rw [Ideal.scalar_subf_def, hz]
  refine (zero_sub _).trans (congrArg Neg.neg ?_)
  unfold extractAt
  rw [shapeCast_apply _ _ _ (ix1 0 : S1.Idx) (by rw [Shape.rowMajor_val_one, Shape.rowMajor_val_three]; rfl)]
  unfold product
  refine (Ideal.reduceAdd_r3_a12 reduces_S1x8x128_S1 _ _).trans ?_
  refine Finset.sum_congr rfl fun g _ => Finset.sum_congr rfl fun l _ => ?_
  rw [shapeCast_addUnit_apply]
  refine Eq.trans (b := (_ : EReal) * _) rfl ?_
  refine congr (congrArg HMul.hMul ?_) ?_
  · refine (Ideal.reduceAdd_r3_a1 reduces_S8x128x128_S8x128 _ _).trans ?_
    refine (Finset.sum_congr rfl fun k _ => masked G g k l).trans ?_
    simp only [Finset.sum_ite_eq', Finset.mem_univ, if_true]
  · exact shapeCast_apply _ _ _ _ rfl

end

variable (m : (ℓ : Loc nD τ sig) → Buf (Elt Ideal) ℓ) (hT : InRange m) (c : Dev nD)

/-- The probabilities, the row numbers and the rewards as launched. -/
abbrev probs : FVec Ideal S1024x100000 .f32 := m ((c : Thread nD τ).loc main_arg0)
abbrev targets : IVec S1024 32 := m ((c : Thread nD τ).loc main_arg1)
abbrev wages0 : FVec Ideal S1024 .f32 := m ((c : Thread nD τ).loc main_arg2)

/-- The region finds the array transposed. -/
theorem found_probs (i : Fin 1024) (j : Fin 100000) : (Gen.V m c main_v0 : Vec Ideal S100000x1024 .f32) (ix2 j i) = probs m c (ix2 i j) := by
  have h : Gen.V m c main_v0 = transpose S100000x1024 [1, 0] (probs m c) (Gen.transposes_S1024x100000_S100000x1024_1_0) := by
    show StableHlo.after _ _ _ = _
    simp only [Gen.hostOps0, List.flatten_cons, List.flatten_nil, List.append_nil]
    after_results
  rw [h]
  refine transpose_apply _ _ _ _ _ ?_
  intro a; fin_cases a <;> rfl

/-- The region finds the rewards in eight blocks. -/
theorem found_wages (g : Fin 8) (l : Fin 128) : (Gen.iblk m c 1 Gen.t0_0 : Vec Ideal S8x128 .f32) (ix2 g l) = wages0 m c (ix1 (rowOf g l)) := by
  have h₀ : Gen.iblk m c 1 Gen.t0_0 = Gen.V m c main_v1 := by
    unfold Gen.iblk
    exact read_all (F := Ideal) (Memref.whole main_v1) _ _
  have h : Gen.V m c main_v1 = shapeCast S8x128 (wages0 m c) Gen.shapeCasts_S1024_S8x128 := by
    show StableHlo.after _ _ _ = _
    simp only [Gen.hostOps0, List.flatten_cons, List.flatten_nil, List.append_nil]
    after_results
    rfl
  rw [h₀, h]
  exact shapeCast_apply _ _ _ _ (by rw [Shape.rowMajor_val_one, Shape.rowMajor_val_two]; rfl)

/-- The row number of row `i` is its word. -/
theorem number_eq (i : Fin 1024) : rowNumber m c i.val = targets m c (ix1 i) := by
  unfold rowNumber
  refine congrArg _ (funext fun a => Fin.ext ?_)
  fin_cases a
  exact Nat.mod_eq_of_lt i.isLt

/-- The kernel's result: minus the sum over the rows of the picked probability times the reward. -/
theorem final_eq (hw : ∀ x, (targets m c x).toNat < 100000) : (final m hT c : EReal)
    = -∑ i : Fin 1024, (probs m c (ix2 i ⟨(targets m c (ix1 i)).toNat, hw _⟩) : EReal) * (wages0 m c (ix1 i) : EReal) := by
  unfold final
  rw [answer_eq, ← sum_rows]
  refine congrArg Neg.neg (Finset.sum_congr rfl fun g _ => Finset.sum_congr rfl fun l _ => ?_)
  refine congr (congrArg HMul.hMul ?_) (found_wages m c g l)
  refine Eq.trans ?_ (found_probs m c _ _)
  refine congrArg (Gen.V m c main_v0 : Vec Ideal S100000x1024 .f32) (funext fun a => Fin.ext ?_)
  fin_cases a
  · show (rowNumber m c (rowOf g l).val).toNat = (targets m c (ix1 (rowOf g l))).toNat
    rw [number_eq]
  · show 128 * ((g.val * 128 + l.val) / 128) + l.val = g.val * 128 + l.val
    have := l.isLt
    omega

end Cert.Gather

end
-- ==== Proof.Picked.lean ====
/- The reference's value: with every row number in range, minus the sum over the rows of the picked probability times
   the reward. -/
module

public import proofs.«01_k».proof.Proof.Gen.ReferenceIdeal
public import Idealize.ShloMosaic.Lib.ValueIdx
public import Idealize.ShloMosaic.Lib.IdealHost
public import Idealize.ShloMosaic.Lib.Pointwise.Reduce
public import Idealize.ShloMosaic.Lib.Pipeline.Value
public import Idealize.ShloMosaic.Lib.ReduceAll
public import Idealize.ShloMosaic.PureOps.Ideal.Laws

@[expose] public section

noncomputable section

namespace Cert.Picked

open Cert.ReferenceIdeal
open Idealize.ShloMosaic

/-! ## Words in range -/

theorem toInt_of_lt {v : BitVec 32} (hv : v.toNat < 100000) : v.toInt = v.toNat := by
  rw [BitVec.toInt_eq_toNat_cond]
  split <;> omega

/-- A word in range is not negative, and it is at most 99999. -/
theorem word_facts {v : BitVec 32} (hv : v.toNat < 100000) :
    v.slt 0#32 = false ∧ (0#32 : BitVec 32).sle v = true ∧ v.sle 99999#32 = true ∧ min v.toInt.toNat 99999 = v.toNat := by
  have e := toInt_of_lt hv
  have e₀ : (0#32 : BitVec 32).toInt = 0 := by decide
  have e₁ : (99999#32 : BitVec 32).toInt = 99999 := by decide
  simp only [BitVec.slt, BitVec.sle, e, e₀, e₁, decide_eq_false_iff_not, decide_eq_true_eq]
  omega

section
open Facts₀
variable (P : FVec Ideal S1024x100000 .f32) (T : IVec S1024 32) (w : FVec Ideal S1024 .f32)

/-- The row numbers as a column. -/
abbrev column : IVec S1024x1 32 := broadcastInDim S1024x1 ![0] bcast_S1024_S1024x1_0 T

/-- The column of row numbers, a negative one counted from the end. -/
abbrev wrapped : IVec S1024x1 32 :=
  select (cmpi .slt (column T) (broadcastInDim S1024x1 ![] bcast_S_S1024x1 (constantI S_ 32 0#32)))
    (addi (column T) (broadcastInDim S1024x1 ![] bcast_S_S1024x1 (constantI S_ 32 100000#32))) (column T)

/-- The same, with one more axis. -/
abbrev starts : IVec S1024x1x1 32 := shapeCast S1024x1x1 (wrapped T) shapeCasts_S1024x1_S1024x1x1

/-- Where the row numbers are in range. -/
abbrev inside : IVec S1024x1x1 1 :=
  andi (cmpi .sge (starts T) (broadcastInDim S1024x1x1 ![] bcast_S_S1024x1x1 (constantI S_ 32 0#32)))
    (cmpi .sle (starts T) (broadcastInDim S1024x1x1 ![0, 1, 2] bcast_S1x1x1_S1024x1x1_0_1_2
      (broadcastInDim S1x1x1 ![2] bcast_S1_S1x1x1_2 (constantI S1 32 99999#32))))

/-- The picked probabilities, and the constant for a row number out of range. -/
abbrev taken : FVec Ideal S1024x1 .f32 :=
  select (Host.reduce IntOp.andi (inside T) (constantI S_ 1 1#1) reducesTo_S1024x1x1_S1024x1_d2 h_S_)
    (Host.gather gather_S1024x100000_S1024x1x1_S1024x1_n_1_0_0_1_2_11 P (starts T))
    (broadcastInDim S1024x1 ![] bcast_S_S1024x1 (constant S_ .f32 0x7FC00000#32))

/-- The reference's result. -/
abbrev value : FVec Ideal S_ .f32 :=
  Host.negf (Host.reduceAdd (mulf (shapeCast S1024 (taken P T) shapeCasts_S1024x1_S1024) w) (constant S_ .f32 0x00000000#32)
    reducesTo_S1024_S_d0 h_S_)

variable (hw : ∀ x, (T x).toNat < 100000)

theorem select_one {α : Type} {s : Shape} (q : IVec s 1) (a b : s.Idx → α) (j : s.Idx) (h : q j = 1#1) : select q a b j = a j := if_pos h

theorem select_other {α : Type} {s : Shape} (q : IVec s 1) (a b : s.Idx → α) (j : s.Idx) (h : q j ≠ 1#1) : select q a b j = b j := if_neg h

theorem column_apply (i : Fin 1024) : column T (ix2 i 0) = T (ix1 i) := by
  refine congrArg T (funext fun a => ?_)
  fin_cases a
  rfl

include hw in
theorem starts_apply (i : Fin 1024) : starts T (ix3 i 0 0) = T (ix1 i) := by
  refine (shapeCast_apply (wrapped T) _ _ (ix2 i 0) (by rw [Shape.rowMajor_val_two, Shape.rowMajor_val_three]; show i.val * 1 + 0 = (i.val * 1 + 0) * 1 + 0; omega)).trans ?_
  refine (select_other _ _ _ _ ?_).trans (column_apply T i)
  show BitVec.ofBool ((column T (ix2 i 0)).slt 0#32) ≠ 1#1
  rw [column_apply, (word_facts (hw _)).1]
  decide

/-- An index of the three-axis column is a row. -/
theorem starts_idx (x : S1024x1x1.Idx) : ∃ i : Fin 1024, x = ix3 i 0 0 := by
  refine ⟨x 0, ?_⟩
  funext a
  fin_cases a
  · rfl
  · exact Subsingleton.elim (α := Fin 1) _ _
  · exact Subsingleton.elim (α := Fin 1) _ _

include hw in
theorem inside_apply (x : S1024x1x1.Idx) : inside T x = 1#1 := by
  obtain ⟨i, rfl⟩ := starts_idx x
  show BitVec.ofBool ((0#32 : BitVec 32).sle (starts T (ix3 i 0 0))) &&& BitVec.ofBool ((starts T (ix3 i 0 0)).sle 99999#32) = 1#1
  obtain ⟨-, h₁, h₂, -⟩ := word_facts (hw (ix1 i))
  rw [starts_apply T hw, h₁, h₂]
  rfl

/-- The gather: row `i` gives the element of row `i` at the column of its row number. -/
theorem gather_apply (s : IVec S1024x1x1 32) (i : Fin 1024) :
    Host.gather gather_S1024x100000_S1024x1x1_S1024x1_n_1_0_0_1_2_11 P s (ix2 i 0)
      = P (ix2 i ⟨min (s (ix3 i 0 0)).toInt.toNat 99999, by omega⟩) := by
  unfold Host.gather
  refine congrArg P (funext fun a => Fin.ext ?_)
  show gather_S1024x100000_S1024x1x1_S1024x1_n_1_0_0_1_2_11.start (ix2 i 0) s a
    + gather_S1024x100000_S1024x1x1_S1024x1_n_1_0_0_1_2_11.batchCoord (ix2 i 0) a
    + gather_S1024x100000_S1024x1x1_S1024x1_n_1_0_0_1_2_11.offCoord (ix2 i 0) a = _
  have ha : a = 0 ∨ a = 1 := by fin_cases a <;> simp
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    have hm : (0 : Fin 2) ∈ gather_S1024x100000_S1024x1x1_S1024x1_n_1_0_0_1_2_11.operandBatchingDims := List.mem_singleton.mpr rfl
    rw [dif_pos hm]
    rfl
  · have hm : (1 : Fin 2) ∈ gather_S1024x100000_S1024x1x1_S1024x1_n_1_0_0_1_2_11.startIndexMap := List.mem_singleton.mpr rfl
    have hs : gather_S1024x100000_S1024x1x1_S1024x1_n_1_0_0_1_2_11.siIdx (ix2 i 0)
        ⟨_, List.idxOf_lt_length_iff.2 hm⟩ = ix3 i 0 0 := by
      funext b
      fin_cases b <;> rfl
    rw [GatherDims.batchCoord_eq_zero _ _ _ (fun h => by have := List.mem_singleton.mp h; revert this; decide),
      GatherDims.offCoord_eq_zero _ _ _ (fun h => ((GatherDims.mem_sKept _ _).mp h).1 (List.mem_singleton.mpr rfl)), Nat.add_zero]
    unfold GatherDims.start
    rw [dif_pos hm, hs]
    rfl

theorem taken_apply (i : Fin 1024) : taken P T (ix2 i 0) = P (ix2 i ⟨(T (ix1 i)).toNat, hw _⟩) := by
  refine (select_one _ _ _ _ (Host.reduce_andi_one _ _ _ _ _ rfl (inside_apply T hw))).trans ((gather_apply P (starts T) i).trans ?_)
  refine congrArg P (congrArg (ix2 i) (Fin.ext ?_))
  show min (starts T (ix3 i 0 0)).toInt.toNat 99999 = _
  rw [starts_apply T hw]
  exact (word_facts (hw _)).2.2.2

theorem negf_apply (v : FVec Ideal S_ .f32) (x : S_.Idx) : (Host.negf v x : EReal) = -(v x : EReal) := rfl

/-- The sum over the rows. -/
theorem sum_eq (v : FVec Ideal S1024 .f32) (x : S_.Idx) :
    (Host.reduceAdd v (constant S_ .f32 0x00000000#32) reducesTo_S1024_S_d0 h_S_ x : EReal) = ∑ i : Fin 1024, (v (ix1 i) : EReal) := by
  refine (Ideal.hostReduceAdd_total reducesTo_S1024_S_d0 (fun b => b.elim0) _ _ x).trans ?_
  have hz : (constant S_ .f32 0x00000000#32 : FVec Ideal S_ .f32) (Shape.Idx.first h_S_) = (0 : EReal) := Ideal.ofBits_zero_f32
  rw [hz, zero_add]
  exact sum_idx1 (M := EReal) v

theorem mulf_apply (a b : FVec Ideal S1024 .f32) (x : S1024.Idx) : (mulf a b x : EReal) = (a x : EReal) * (b x : EReal) := rfl

/-- The reference's result: minus the sum over the rows of the picked probability times the reward. -/
theorem value_eq (x : S_.Idx) : (value P T w x : EReal)
    = -∑ i : Fin 1024, (P (ix2 i ⟨(T (ix1 i)).toNat, hw _⟩) : EReal) * (w (ix1 i) : EReal) := by
  refine (negf_apply _ x).trans ?_
  rw [sum_eq]
  refine congrArg Neg.neg (Finset.sum_congr rfl fun i _ => ?_)
  rw [mulf_apply]
  refine congrArg (· * (w (ix1 i) : EReal)) ?_
  exact (shapeCast_apply (taken P T) _ _ (ix2 i 0) (by rw [Shape.rowMajor_val_one, Shape.rowMajor_val_two]; show i.val * 1 + 0 = i.val; omega)).trans (taken_apply P T hw i)

end

end Cert.Picked

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Result
public import proofs.«01_k».proof.Proof.Twin
public import proofs.«01_k».proof.Proof.Sum
public import proofs.«01_k».proof.Proof.Picked
public import Idealize.ShloMosaic.Adequacy
public import Idealize.ShloMosaic.Init

@[expose] public section

noncomputable section

namespace Cert.Proof

open Idealize.ShloMosaic Idealize.SL.Sem

/-- The kernel, read at words: its text is the idealized one's, so its run is that one. -/
theorem frame_kernel : Cert.quiescent_Kernel := fun m ρ h => by
  rw [Cert.Twin.defs_eq, Cert.Twin.main_eq]
  exact (θ_run Cert.KernelIdeal.defs _ _).mono (fun _ h => ⟨fun c => (h.1 c).2, h.2⟩)
    (Cert.Gather.ends (F := Bits) m ρ fun c _ => Cert.Gather.lt_of_pre (h c) _)

/-- The kernel, read at extended reals. -/
theorem frame_ideal : Cert.quiescent_KernelIdeal := fun m ρ h =>
  (θ_run Cert.KernelIdeal.defs _ _).mono (fun _ h => ⟨fun c => (h.1 c).2, h.2⟩)
    (Cert.Gather.ends (F := Ideal) m ρ fun c _ => Cert.Gather.lt_of_pre (h c) _)

/-- The reference: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Both programs end with the same result: minus the sum over the rows of the picked probability times the reward. -/
theorem equal : Cert.algebraic_KernelIdeal_ReferenceIdeal := fun m g m' g' h hm => by
  have hT : Cert.Gather.InRange m := fun c _ => Cert.Gather.lt_of_pre (h c) _
  refine ⟨fun c _ => Cert.Gather.final m hT c,
    (θ_run Cert.KernelIdeal.defs _ _).mono (fun _ h => h.1) (Cert.Gather.ends (F := Ideal) m g hT),
    (θ_run Cert.ReferenceIdeal.defs _ _).mono (fun _ hr c => ⟨(hr c).1.trans ?_, (hr c).2⟩) (Cert.ReferenceIdeal.Value.run m' g')⟩
  obtain ⟨h₀, h₁, h₂⟩ := hm c
  have hw : ∀ x, (Cert.Gather.targets m c x).toNat < 100000 := fun x => Cert.Gather.lt_of_pre (h c) x
  funext x
  rw [h₀, h₁, h₂]
  exact (Cert.Picked.value_eq (Cert.Gather.probs m c) (Cert.Gather.targets m c) (Cert.Gather.wages0 m c) hw x).trans
    (Cert.Gather.final_eq m hT c hw).symm

theorem claim : Cert.Claim := ⟨Cert.Kernel.Gen.facts, Cert.KernelIdeal.Gen.facts, Cert.ReferenceIdeal.Gen.facts, Cert.Pre_in_range.Gen.facts,
  frame_kernel, frame_ideal, frame_reference, trivial, equal⟩

end Cert.Proof

end
